-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_on_rows_in_use [hKernel2Ideal : Cert.Kernel2Ideal.Facts] [hReference2Ideal : Cert.Reference2Ideal.Facts] [hPre_tables_in_range : Cert.Pre_tables_in_range.Facts] [hOn_rows_in_use : Cert.On_rows_in_use.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![229376, 1024]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![229376, 1024]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v35) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_on_rows_in_use [hKernel3Ideal : Cert.Kernel3Ideal.Facts] [hReference3Ideal : Cert.Reference3Ideal.Facts] [hPre_tables_in_range : Cert.Pre_tables_in_range.Facts] [hOn_rows_in_use : Cert.On_rows_in_use.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![229376, 1024]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![229376, 1024]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) i = 1#1 → r.2.mem ((c.tc : Thread Cert.Reference3Ideal.nD Cert.Reference3Ideal.τ).loc Cert.Reference3Ideal.main_v35) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)) (v3 : (c : Dev Cert.Kernel6Ideal.nD) → Buf (Elt Ideal) ((c.tc : Thread Cert.Kernel6Ideal.nD Cert.Kernel6Ideal.τ).loc Cert.Kernel6Ideal.main_v18_3)) (v4 : (c : Dev Cert.Kernel6Ideal.nD) → Buf (Elt Ideal) ((c.tc : Thread Cert.Kernel6Ideal.nD Cert.Kernel6Ideal.τ).loc Cert.Kernel6Ideal.main_v18_4)) (v5 : (c : Dev Cert.Kernel6Ideal.nD) → Buf (Elt Ideal) ((c.tc : Thread Cert.Kernel6Ideal.nD Cert.Kernel6Ideal.τ).loc Cert.Kernel6Ideal.main_v18_6)) (v6 : (c : Dev Cert.Kernel6Ideal.nD) → Buf (Elt Ideal) ((c.tc : Thread Cert.Kernel6Ideal.nD Cert.Kernel6Ideal.τ).loc Cert.Kernel6Ideal.main_v18_7)) (v7 : (c : Dev Cert.Kernel6Ideal.nD) → Buf (Elt Ideal) ((c.tc : Thread Cert.Kernel6Ideal.nD Cert.Kernel6Ideal.τ).loc Cert.Kernel6Ideal.main_v18_8)) (v8 : (c : Dev Cert.Kernel6Ideal.nD) → Buf (Elt Ideal) ((c.tc : Thread Cert.Kernel6Ideal.nD Cert.Kernel6Ideal.τ).loc Cert.Kernel6Ideal.main_v18_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_v18_3) = v3 c
          ∧ r.2.mem ((c.tc : Thread Cert.Kernel6Ideal.nD Cert.Kernel6Ideal.τ).loc Cert.Kernel6Ideal.main_v18_4) = v4 c
          ∧ r.2.mem ((c.tc : Thread Cert.Kernel6Ideal.nD Cert.Kernel6Ideal.τ).loc Cert.Kernel6Ideal.main_v18_6) = v5 c
          ∧ r.2.mem ((c.tc : Thread Cert.Kernel6Ideal.nD Cert.Kernel6Ideal.τ).loc Cert.Kernel6Ideal.main_v18_7) = v6 c
          ∧ r.2.mem ((c.tc : Thread Cert.Kernel6Ideal.nD Cert.Kernel6Ideal.τ).loc Cert.Kernel6Ideal.main_v18_8) = v7 c
          ∧ r.2.mem ((c.tc : Thread Cert.Kernel6Ideal.nD Cert.Kernel6Ideal.τ).loc Cert.Kernel6Ideal.main_v18_9) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v61) = v1 c
          ∧ r.2.mem ((c.tc : Thread Cert.Reference6Ideal.nD Cert.Reference6Ideal.τ).loc Cert.Reference6Ideal.main_v109) = v2 c
          ∧ r.2.mem ((c.tc : Thread Cert.Reference6Ideal.nD Cert.Reference6Ideal.τ).loc Cert.Reference6Ideal.main_v107) = v3 c
          ∧ r.2.mem ((c.tc : Thread Cert.Reference6Ideal.nD Cert.Reference6Ideal.τ).loc Cert.Reference6Ideal.main_v63) = v4 c
          ∧ r.2.mem ((c.tc : Thread Cert.Reference6Ideal.nD Cert.Reference6Ideal.τ).loc Cert.Reference6Ideal.main_v90) = v5 c
          ∧ r.2.mem ((c.tc : Thread Cert.Reference6Ideal.nD Cert.Reference6Ideal.τ).loc Cert.Reference6Ideal.main_v98) = v6 c
          ∧ r.2.mem ((c.tc : Thread Cert.Reference6Ideal.nD Cert.Reference6Ideal.τ).loc Cert.Reference6Ideal.main_v29) = v7 c
          ∧ r.2.mem ((c.tc : Thread Cert.Reference6Ideal.nD Cert.Reference6Ideal.τ).loc Cert.Reference6Ideal.main_v28) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v13_8)) (v1 : (c : Dev Cert.Kernel7Ideal.nD) → Buf (Elt Ideal) ((c.tc : Thread Cert.Kernel7Ideal.nD Cert.Kernel7Ideal.τ).loc Cert.Kernel7Ideal.main_v13_9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_8) = v0 c
          ∧ r.2.mem ((c.tc : Thread Cert.Kernel7Ideal.nD Cert.Kernel7Ideal.τ).loc Cert.Kernel7Ideal.main_v13_9) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)) →
    ∃ (v0 : (c : Dev Cert.Kernel8Ideal.nD) → Buf (Elt Ideal) ((c.tc : Thread Cert.Kernel8Ideal.nD Cert.Kernel8Ideal.τ).loc Cert.Kernel8Ideal.main_v30_0)) (v1 : (c : Dev Cert.Kernel8Ideal.nD) → Buf (Elt Ideal) ((c.tc : Thread Cert.Kernel8Ideal.nD Cert.Kernel8Ideal.τ).loc Cert.Kernel8Ideal.main_v30_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30_0) = v0 c
          ∧ r.2.mem ((c.tc : Thread Cert.Kernel8Ideal.nD Cert.Kernel8Ideal.τ).loc Cert.Kernel8Ideal.main_v30_3) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v125) = v0 c
          ∧ r.2.mem ((c.tc : Thread Cert.Reference8Ideal.nD Cert.Reference8Ideal.τ).loc Cert.Reference8Ideal.main_v89) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v10_0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v12_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_tables_in_range : Cert.Pre_tables_in_range.Facts) (hOn_rows_in_use : Cert.On_rows_in_use.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal) (hPre_tables_in_range := hPre_tables_in_range)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal) (hPre_tables_in_range := hPre_tables_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_rows_in_use (hKernel2Ideal := hKernel2Ideal) (hReference2Ideal := hReference2Ideal) (hPre_tables_in_range := hPre_tables_in_range) (hOn_rows_in_use := hOn_rows_in_use)
    ∧ preserves_Kernel3_Kernel3Ideal
    ∧ algebraic_Kernel3Ideal_Reference3Ideal_on_rows_in_use (hKernel3Ideal := hKernel3Ideal) (hReference3Ideal := hReference3Ideal) (hPre_tables_in_range := hPre_tables_in_range) (hOn_rows_in_use := hOn_rows_in_use)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== On_rows_in_use.lean ====
abbrev S256 : Shape := ⟨1, ![256]⟩
abbrev S1024 : Shape := ⟨1, ![1024]⟩
abbrev S229376x1152 : Shape := ⟨2, ![229376, 1152]⟩
abbrev S2x64x1024x256 : Shape := ⟨4, ![2, 64, 1024, 256]⟩
abbrev S2x64x256x1024 : Shape := ⟨4, ![2, 64, 256, 1024]⟩
abbrev S229376x1024 : Shape := ⟨2, ![229376, 1024]⟩
abbrev S1 : Shape := ⟨1, ![1]⟩
abbrev S_ : Shape := ⟨0, ![]⟩

class Facts : Prop where
  slices_S1024_S1_256 : S1024.Slices ![256] S1
  shapeCasts_S1_S_ : S1.ShapeCasts S_
  bcast_S_S229376x1024 : S_.BroadcastsInDim S229376x1024 (![] : Fin 0 → Fin S229376x1024.rank)

variable [Facts]

def fn {F : FTy → Type} [FloatOps F] (main_arg0 : IVec S256 32) (main_arg1 : IVec S1024 32) (main_arg2 : FVec F S229376x1152 .bf16) (main_arg3 : FVec F S2x64x1024x256 .f32) (main_arg4 : FVec F S2x64x1024x256 .f32) (main_arg5 : FVec F S2x64x256x1024 .f32) : IVec S229376x1024 1 :=
  let main_v0 : IVec S229376x1024 32 := iotaInDim S229376x1024 32 0
  let main_v1 : IVec S1 32 := (extractStridedSlice S1 ![256] · slices_S1024_S1_256) main_arg1
  let main_v2 : IVec S_ 32 := shapeCast S_ main_v1 shapeCasts_S1_S_
  let main_c : IVec S_ 32 := constantI S_ 32 1024#32
  let main_v3 : IVec S_ 32 := muli main_v2 main_c
  let main_v4 : IVec S229376x1024 32 := broadcastInDim S229376x1024 ![] bcast_S_S229376x1024 main_v3
  let main_v5 : IVec S229376x1024 1 := cmpi .slt main_v0 main_v4
  main_v5
-- ==== Pre_tables_in_range.lean ====
abbrev S256 : Shape := ⟨1, ![256]⟩
abbrev S1024 : Shape := ⟨1, ![1024]⟩
abbrev S229376x1152 : Shape := ⟨2, ![229376, 1152]⟩
abbrev S2x64x1024x256 : Shape := ⟨4, ![2, 64, 1024, 256]⟩
abbrev S2x64x256x1024 : Shape := ⟨4, ![2, 64, 256, 1024]⟩
abbrev S1 : Shape := ⟨1, ![1]⟩
abbrev S_ : Shape := ⟨0, ![]⟩

class Facts : Prop where
  slices_S1024_S1_256 : S1024.Slices ![256] S1
  shapeCasts_S1_S_ : S1.ShapeCasts S_
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : IVec S256 32) (main_arg1 : IVec S1024 32) (main_arg2 : FVec F S229376x1152 .bf16) (main_arg3 : FVec F S2x64x1024x256 .f32) (main_arg4 : FVec F S2x64x1024x256 .f32) (main_arg5 : FVec F S2x64x256x1024 .f32) : IVec S_ 1 :=
  let main_v0 : IVec S1 32 := (extractStridedSlice S1 ![256] · slices_S1024_S1_256) main_arg1
  let main_v1 : IVec S_ 32 := shapeCast S_ main_v0 shapeCasts_S1_S_
  let main_c : IVec S_ 32 := constantI S_ 32 0#32
  let main_v2 : IVec S256 32 := broadcastInDim S256 ![] bcast_S_S256 main_c
  let main_v3 : IVec S256 1 := cmpi .sge main_arg0 main_v2
  let main_c_0 : IVec S_ 32 := constantI S_ 32 64#32
  let main_v4 : IVec S256 32 := broadcastInDim S256 ![] bcast_S_S256 main_c_0
  let main_v5 : IVec S256 1 := cmpi .slt main_arg0 main_v4
  let main_v6 : IVec S256 1 := andi main_v3 main_v5
  let main_c_1 : IVec S_ 1 := constantI S_ 1 1#1
  let main_v7 : IVec S_ 1 := (fun x v => Host.reduce IntOp.andi x v reducesTo_S256_S_d0 h_S_) main_v6 main_c_1
  let main_c_2 : IVec S_ 32 := constantI S_ 32 1#32
  let main_v8 : IVec S_ 1 := cmpi .sge main_v1 main_c_2
  let main_v9 : IVec S_ 1 := andi main_v7 main_v8
  let main_c_3 : IVec S_ 32 := constantI S_ 32 224#32
  let main_v10 : IVec S_ 1 := cmpi .sle main_v1 main_c_3
  let main_v11 : IVec S_ 1 := andi main_v9 main_v10
  main_v11
-- ==== Kernel.lean ====
abbrev S1x128x8x64x64 : Shape := ⟨5, ![1, 128, 8, 64, 64]⟩
abbrev S128x512 : Shape := ⟨2, ![128, 512]⟩
abbrev S1x8x64 : Shape := ⟨3, ![1, 8, 64]⟩
abbrev S1x512 : Shape := ⟨2, ![1, 512]⟩
abbrev S1024x1x64 : Shape := ⟨3, ![1024, 1, 64]⟩
abbrev S8x64 : Shape := ⟨2, ![8, 64]⟩
abbrev S512 : Shape := ⟨1, ![512]⟩
abbrev S8x1x64 : Shape := ⟨3, ![8, 1, 64]⟩
abbrev S128x8x64x64 : Shape := ⟨4, ![128, 8, 64, 64]⟩
abbrev S1024x64x64 : Shape := ⟨3, ![1024, 64, 64]⟩
abbrev S1x8x1x1x1x64 : Shape := ⟨6, ![1, 8, 1, 1, 1, 64]⟩
abbrev S8x8x1x1x1x64 : Shape := ⟨6, ![8, 8, 1, 1, 1, 64]⟩
abbrev S64x1x64 : Shape := ⟨3, ![64, 1, 64]⟩
abbrev S64x64x64 : Shape := ⟨3, ![64, 64, 64]⟩
abbrev S1x64x64 : Shape := ⟨3, ![1, 64, 64]⟩
abbrev S64x64 : Shape := ⟨2, ![64, 64]⟩
abbrev S64x64x1 : Shape := ⟨3, ![64, 64, 1]⟩
abbrev S64x1 : Shape := ⟨2, ![64, 1]⟩
abbrev S64x1x1 : Shape := ⟨3, ![64, 1, 1]⟩

abbrev nBuf : Space → Nat
  | .hbm => 37
  | .vmem => 23
  | .smem => 0
  | _ => 0

abbrev bufTy : (tb : Table) → Fin (tcTables nBuf tb) → BufTy
  | .hbm, ⟨0, _⟩ => ⟨S1x128x8x64x64, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S1x8x64, .f32⟩
  | .hbm, ⟨9, _⟩ => ⟨S1x512, .f32⟩
  | .hbm, ⟨10, _⟩ => ⟨S1x512, .f32⟩
  | .hbm, ⟨11, _⟩ => ⟨S1024x1x64, .f32⟩
  | .hbm, ⟨12, _⟩ => ⟨S1024x1x64, .f32⟩
  | .hbm, ⟨13, _⟩ => ⟨S1024x1x64, .f32⟩
  | .hbm, ⟨14, _⟩ => ⟨S1024x1x64, .f32⟩
  | .hbm, ⟨15, _⟩ => ⟨S1024x1x64, .f32⟩
  | .hbm, ⟨16, _⟩ => ⟨S1024x1x64, .f32⟩
  | .hbm, ⟨17, _⟩ => ⟨S1024x1x64, .f32⟩
  | .hbm, ⟨18, _⟩ => ⟨S8x64, .f32⟩
  | .hbm, ⟨19, _⟩ => ⟨S512, .f32⟩
  | .hbm, ⟨20, _⟩ => ⟨S512, .f32⟩
  | .hbm, ⟨21, _⟩ => ⟨S8x1x64, .f32⟩
  | .hbm, ⟨22, _⟩ => ⟨S8x1x64, .f32⟩
  | .hbm, ⟨23, _⟩ => ⟨S8x1x64, .f32⟩
  | .hbm, ⟨24, _⟩ => ⟨S128x8x64x64, .f32⟩
  | .hbm, ⟨25, _⟩ => ⟨S1024x64x64, .f32⟩
  | .hbm, ⟨26, _⟩ => ⟨S1x8x1x1x1x64, .f32⟩
  | .hbm, ⟨27, _⟩ => ⟨S8x8x1x1x1x64, .f32⟩
  | .hbm, ⟨28, _⟩ => ⟨S64x1x64, .f32⟩
  | .hbm, ⟨29, _⟩ => ⟨S1x8x1x1x1x64, .f32⟩
  | .hbm, ⟨30, _⟩ => ⟨S8x8x1x1x1x64, .f32⟩
  | .hbm, ⟨31, _⟩ => ⟨S64x1x64, .f32⟩
  | .hbm, ⟨32, _⟩ => ⟨S1x8x1x1x1x64, .f32⟩
  | .hbm, ⟨33, _⟩ => ⟨S8x8x1x1x1x64, .f32⟩
  | .hbm, ⟨34, _⟩ => ⟨S64x1x64, .f32⟩
  | .hbm, ⟨35, _⟩ => ⟨S1024x1x64, .f32⟩
  | .hbm, ⟨36, _⟩ => ⟨S1024x64x64, .f32⟩
  | .local _ .vmem, ⟨0, _⟩ => ⟨S64x64x64, .f32⟩
  | .local _ .vmem, ⟨1, _⟩ => ⟨S64x64x64, .f32⟩
  | .local _ .vmem, ⟨2, _⟩ => ⟨S64x1x64, .f32⟩
  | .local _ .vmem, ⟨3, _⟩ => ⟨S64x1x64, .f32⟩
  | .local _ .vmem, ⟨4, _⟩ => ⟨S64x1x64, .f32⟩
  | .local _ .vmem, ⟨5, _⟩ => ⟨S64x1x64, .f32⟩
  | .local _ .vmem, ⟨6, _⟩ => ⟨S64x1x64, .f32⟩
  | .local _ .vmem, ⟨7, _⟩ => ⟨S64x1x64, .f32⟩
  | .local _ .vmem, ⟨8, _⟩ => ⟨S64x1x64, .f32⟩
  | .local _ .vmem, ⟨9, _⟩ => ⟨S64x1x64, .f32⟩
  | .local _ .vmem, ⟨10, _⟩ => ⟨S64x1x64, .f32⟩
  | .local _ .vmem, ⟨11, _⟩ => ⟨S64x1x64, .f32⟩
  | .local _ .vmem, ⟨12, _⟩ => ⟨S64x1x64, .f32⟩
  | .local _ .vmem, ⟨13, _⟩ => ⟨S64x1x64, .f32⟩
  | .local _ .vmem, ⟨14, _⟩ => ⟨S64x1x64, .f32⟩
  | .local _ .vmem, ⟨15, _⟩ => ⟨S64x1x64, .f32⟩
  | .local _ .vmem, ⟨16, _⟩ => ⟨S64x1x64, .f32⟩
  | .local _ .vmem, ⟨17, _⟩ => ⟨S64x1x64, .f32⟩
  | .local _ .vmem, ⟨18, _⟩ => ⟨S64x1x64, .f32⟩
  | .local _ .vmem, ⟨19, _⟩ => ⟨S64x1x64, .f32⟩
  | .local _ .vmem, ⟨20, _⟩ => ⟨S64x1x64, .f32⟩
  | .local _ .vmem, ⟨21, _⟩ => ⟨S64x64x64, .f32⟩
  | .local _ .vmem, ⟨22, _⟩ => ⟨S64x64x64, .f32⟩
  | _, _ => ⟨S1x128x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x1x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S1x128x8x64x64 : Shape := ⟨5, ![1, 128, 8, 64, 64]⟩
abbrev S128x512 : Shape := ⟨2, ![128, 512]⟩
abbrev S1x8x64 : Shape := ⟨3, ![1, 8, 64]⟩
abbrev S1x512 : Shape := ⟨2, ![1, 512]⟩
abbrev S128x8x64x64 : Shape := ⟨4, ![128, 8, 64, 64]⟩
abbrev S128x8x64 : Shape := ⟨3, ![128, 8, 64]⟩
abbrev S128x8x1x64 : Shape := ⟨4, ![128, 8, 1, 64]⟩
abbrev S128x8x64x1 : Shape := ⟨4, ![128, 8, 64, 1]⟩
abbrev S_ : Shape := ⟨0, ![]⟩
abbrev S128x8 : Shape := ⟨2, ![128, 8]⟩
abbrev S128x8x1 : Shape := ⟨3, ![128, 8, 1]⟩
abbrev S512 : Shape := ⟨1, ![512]⟩
abbrev S8x64 : Shape := ⟨2, ![8, 64]⟩
abbrev S1024x1x64 : Shape := ⟨3, ![1024, 1, 64]⟩
abbrev S1024x64x64 : Shape := ⟨3, ![1024, 64, 64]⟩

abbrev nBuf : Space → Nat
  | .hbm => 85
  | .vmem => 0
  | .smem => 0
  | _ => 0

abbrev bufTy : (tb : Table) → Fin (tcTables nBuf tb) → BufTy
  | .hbm, ⟨0, _⟩ => ⟨S1x128x8x64x64, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S1x8x64, .f32⟩
  | .hbm, ⟨9, _⟩ => ⟨S1x512, .f32⟩
  | .hbm, ⟨10, _⟩ => ⟨S1x512, .f32⟩
  | .hbm, ⟨11, _⟩ => ⟨S128x8x64x64, .f32⟩
  | .hbm, ⟨12, _⟩ => ⟨S128x8x64, .f32⟩
  | .hbm, ⟨13, _⟩ => ⟨S128x8x64, .f32⟩
  | .hbm, ⟨14, _⟩ => ⟨S128x8x64, .f32⟩
  | .hbm, ⟨15, _⟩ => ⟨S128x8x64, .f32⟩
  | .hbm, ⟨16, _⟩ => ⟨S128x8x64, .f32⟩
  | .hbm, ⟨17, _⟩ => ⟨S128x8x64, .f32⟩
  | .hbm, ⟨18, _⟩ => ⟨S128x8x64, .f32⟩
  | .hbm, ⟨19, _⟩ => ⟨S128x8x64, .f32⟩
  | .hbm, ⟨20, _⟩ => ⟨S128x8x1x64, .f32⟩
  | .hbm, ⟨21, _⟩ => ⟨S128x8x64x64, .f32⟩
  | .hbm, ⟨22, _⟩ => ⟨S128x8x64x64, .f32⟩
  | .hbm, ⟨23, _⟩ => ⟨S128x8x64x1, .f32⟩
  | .hbm, ⟨24, _⟩ => ⟨S128x8x64, .f32⟩
  | .hbm, ⟨25, _⟩ => ⟨S128x8x1x64, .f32⟩
  | .hbm, ⟨26, _⟩ => ⟨S128x8x64x64, .f32⟩
  | .hbm, ⟨27, _⟩ => ⟨S128x8x64x64, .f32⟩
  | .hbm, ⟨28, _⟩ => ⟨S128x8x64x64, .f32⟩
  | .hbm, ⟨29, _⟩ => ⟨S128x8x64x64, .f32⟩
  | .hbm, ⟨30, _⟩ => ⟨S128x8x64x1, .f32⟩
  | .hbm, ⟨31, _⟩ => ⟨S128x8x1x64, .f32⟩
  | .hbm, ⟨32, _⟩ => ⟨S128x8x64x64, .f32⟩
  | .hbm, ⟨33, _⟩ => ⟨S128x8x64x64, .f32⟩
  | .hbm, ⟨34, _⟩ => ⟨S128x8x64x64, .f32⟩
  | .hbm, ⟨35, _⟩ => ⟨S128x8x64x64, .f32⟩
  | .hbm, ⟨36, _⟩ => ⟨S128x8x64, .f32⟩
  | .hbm, ⟨37, _⟩ => ⟨S_, .f32⟩
  | .hbm, ⟨38, _⟩ => ⟨S128x8, .f32⟩
  | .hbm, ⟨39, _⟩ => ⟨S128x8x1, .f32⟩
  | .hbm, ⟨40, _⟩ => ⟨S_, .f32⟩
  | .hbm, ⟨41, _⟩ => ⟨S128x8x1, .f32⟩
  | .hbm, ⟨42, _⟩ => ⟨S128x8x1, .f32⟩
  | .hbm, ⟨43, _⟩ => ⟨S128x8x64, .f32⟩
  | .hbm, ⟨44, _⟩ => ⟨S128x8x64, .f32⟩
  | .hbm, ⟨45, _⟩ => ⟨S128x8x64, .f32⟩
  | .hbm, ⟨46, _⟩ => ⟨S_, .f32⟩
  | .hbm, ⟨47, _⟩ => ⟨S128x8, .f32⟩
  | .hbm, ⟨48, _⟩ => ⟨S128x8x1, .f32⟩
  | .hbm, ⟨49, _⟩ => ⟨S_, .f32⟩
  | .hbm, ⟨50, _⟩ => ⟨S128x8x1, .f32⟩
  | .hbm, ⟨51, _⟩ => ⟨S128x8x1, .f32⟩
  | .hbm, ⟨52, _⟩ => ⟨S128x8x64, .f32⟩
  | .hbm, ⟨53, _⟩ => ⟨S128x8x64, .f32⟩
  | .hbm, ⟨54, _⟩ => ⟨S_, .f32⟩
  | .hbm, ⟨55, _⟩ => ⟨S128x8x1, .f32⟩
  | .hbm, ⟨56, _⟩ => ⟨S128x8x1, .f32⟩
  | .hbm, ⟨57, _⟩ => ⟨S128x8x1, .f32⟩
  | .hbm, ⟨58, _⟩ => ⟨S128x8x64, .f32⟩
  | .hbm, ⟨59, _⟩ => ⟨S128x8x64, .f32⟩
  | .hbm, ⟨60, _⟩ => ⟨S512, .f32⟩
  | .hbm, ⟨61, _⟩ => ⟨S8x64, .f32⟩
  | .hbm, ⟨62, _⟩ => ⟨S1x8x64, .f32⟩
  | .hbm, ⟨63, _⟩ => ⟨S128x8x64, .f32⟩
  | .hbm, ⟨64, _⟩ => ⟨S128x8x64, .f32⟩
  | .hbm, ⟨65, _⟩ => ⟨S512, .f32⟩
  | .hbm, ⟨66, _⟩ => ⟨S8x64, .f32⟩
  | .hbm, ⟨67, _⟩ => ⟨S1x8x64, .f32⟩
  | .hbm, ⟨68, _⟩ => ⟨S128x8x64, .f32⟩
  | .hbm, ⟨69, _⟩ => ⟨S128x8x64, .f32⟩
  | .hbm, ⟨70, _⟩ => ⟨S128x8x64, .f32⟩
  | .hbm, ⟨71, _⟩ => ⟨S8x64, .f32⟩
  | .hbm, ⟨72, _⟩ => ⟨S1x8x64, .f32⟩
  | .hbm, ⟨73, _⟩ => ⟨S128x8x64, .f32⟩
  | .hbm, ⟨74, _⟩ => ⟨S128x8x64, .f32⟩
  | .hbm, ⟨75, _⟩ => ⟨S_, .f32⟩
  | .hbm, ⟨76, _⟩ => ⟨S128x8, .f32⟩
  | .hbm, ⟨77, _⟩ => ⟨S128x8x1, .f32⟩
  | .hbm, ⟨78, _⟩ => ⟨S128x8x64, .f32⟩
  | .hbm, ⟨79, _⟩ => ⟨S128x8x64, .f32⟩
  | .hbm, ⟨80, _⟩ => ⟨S128x8x64, .f32⟩
  | .hbm, ⟨81, _⟩ => ⟨S128x512, .f32⟩
  | .hbm, ⟨82, _⟩ => ⟨S128x512, .f32⟩
  | .hbm, ⟨83, _⟩ => ⟨S1024x1x64, .f32⟩
  | .hbm, ⟨84, _⟩ => ⟨S1024x64x64, .f32⟩
  | _, _ => ⟨S1x128x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel2.lean ====
abbrev S256 : Shape := ⟨1, ![256]⟩
abbrev S1024 : Shape := ⟨1, ![1024]⟩
abbrev S229376x1152 : Shape := ⟨2, ![229376, 1152]⟩
abbrev S2x64x1024x256 : Shape := ⟨4, ![2, 64, 1024, 256]⟩
abbrev S2x64x256x1024 : Shape := ⟨4, ![2, 64, 256, 1024]⟩
abbrev S229376x1024 : Shape := ⟨2, ![229376, 1024]⟩
abbrev S1x1x1024x256 : Shape := ⟨4, ![1, 1, 1024, 256]⟩
abbrev S1 : Shape := ⟨1, ![1]⟩
abbrev S1x1x256x1024 : Shape := ⟨4, ![1, 1, 256, 1024]⟩
abbrev S1024x1024 : Shape := ⟨2, ![1024, 1024]⟩
abbrev S1024x256 : Shape := ⟨2, ![1024, 256]⟩
abbrev S256x1024 : Shape := ⟨2, ![256, 1024]⟩
abbrev S3x1024x1152 : Shape := ⟨3, ![3, 1024, 1152]⟩
abbrev S3 : Shape := ⟨1, ![3]⟩
abbrev S_ : Shape := ⟨0, ![]⟩
abbrev S1x1024x1152 : Shape := ⟨3, ![1, 1024, 1152]⟩
abbrev S1024x1152 : Shape := ⟨2, ![1024, 1152]⟩
abbrev S1024x1 : Shape := ⟨2, ![1024, 1]⟩

abbrev nBuf : Space → Nat
  | .hbm => 5
  | .vmem => 12
  | .smem => 2
  | _ => 0

abbrev bufTy : (tb : Table) → Fin (tcTables nBuf tb) → BufTy
  | .hbm, ⟨0, _⟩ => ⟨S229376x1152, .bf16⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S229376x1024, .bf16⟩
  | .local _ .vmem, ⟨0, _⟩ => ⟨S1x1x1024x256, .f32⟩
  | .local _ .vmem, ⟨1, _⟩ => ⟨S1x1x1024x256, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S3x1024x1152, .bf16⟩
  | .local _ .smem, ⟨0, _⟩ => ⟨S256, .i32⟩
  | .local _ .smem, ⟨1, _⟩ => ⟨S1024, .i32⟩
  | _, _ => ⟨S229376x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![224], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_5 : BitVec 32 := 0#32
  c0_i32_5
def k0_mult2 : BitVec 32 :=
  let c1024_i32 : BitVec 32 := 1024#32
  c1024_i32
def k0_mult3 (i : grid0.Coords) : BitVec 32 :=
  let arg0 : BitVec 32 := BitVec.ofNat 32 (i 0).val
  let c2_i32 : BitVec 32 := 2#32
  let v7 : BitVec 32 := Scalar.addi arg0 c2_i32
  let c1024_i32_29 : BitVec 32 := 1024#32
  let v57 : BitVec 32 := Scalar.muli v7 c1024_i32_29
  v57
def k0_off2 (i : grid0.Coords) : Fin 1 → Nat :=
  let arg0 : BitVec 32 := BitVec.ofNat 32 (i 0).val
  let c2_i32 : BitVec 32 := 2#32
  let v7 : BitVec 32 := Scalar.addi arg0 c2_i32
  let c3_i32_28 : BitVec 32 := 3#32
  let v56 : BitVec 32 := Scalar.remsi v7 c3_i32_28
  ![v56.toNat]
def k0_off3 (i : grid0.Coords) : Fin 3 → Nat :=
  let arg0 : BitVec 32 := BitVec.ofNat 32 (i 0).val
  let c2_i32 : BitVec 32 := 2#32
  let v7 : BitVec 32 := Scalar.addi arg0 c2_i32
  let c3_i32_28 : BitVec 32 := 3#32
  let v56 : BitVec 32 := Scalar.remsi v7 c3_i32_28
  let c0_i32_30 : BitVec 32 := 0#32
  let c0_i32_31 : BitVec 32 := 0#32
  ![v56.toNat, 0, 0]
def k0_off4 (i : grid0.Coords) : Fin 2 → Nat :=
  let arg0 : BitVec 32 := BitVec.ofNat 32 (i 0).val
  let c2_i32 : BitVec 32 := 2#32
  let v7 : BitVec 32 := Scalar.addi arg0 c2_i32
  let c1024_i32_29 : BitVec 32 := 1024#32
  let v57 : BitVec 32 := Scalar.muli v7 c1024_i32_29
  let v58 : BitVec 32 := v57
  let c0_i32_32 : BitVec 32 := 0#32
  ![v58.toNat, 0]
def k0_cond4 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_cond5 (i : grid0.Coords) (v0 : BitVec 32) : BitVec 1 :=
  let arg0 : BitVec 32 := BitVec.ofNat 32 (i 0).val
  let c2_i32 : BitVec 32 := 2#32
  let v7 : BitVec 32 := Scalar.addi arg0 c2_i32
  let v8 : BitVec 1 := Scalar.cmpi .slt v7 v0
  let v9 : BitVec 32 := Scalar.extui v8
  let c0_i32_2 : BitVec 32 := 0#32
  let v10 : BitVec 1 := Scalar.cmpi .ne v9 c0_i32_2
  v10

def k0_chk1 (i : grid0.Coords) (v0 : BitVec 32) : Prop :=
  (∀ (k0_h4 : k0_cond4 i v0 = 1#1), ∀ (k0_h5 : k0_cond5 i v0 = 1#1), ∀ a, (k0_off4 i) a + S1024x1152.size a ≤ S229376x1152.size a) ∧
  (∀ (k0_h4 : k0_cond4 i v0 = 1#1), ∀ (k0_h5 : k0_cond5 i v0 = 1#1), ∀ (hinb : ∀ a, (k0_off4 i) a + S1024x1152.size a ≤ S229376x1152.size a), (Rect.unit (s := S229376x1152) (k0_off4 i) S1024x1152.size hinb).WholeWords (EltTy.packing .bf16))
theorem k0_off4_inb : ∀ (i : grid0.Coords) (v0 : BitVec 32) (k0_hw1 : k0_chk1 i v0), ∀ (k0_h4 : k0_cond4 i v0 = 1#1), ∀ (k0_h5 : k0_cond5 i v0 = 1#1), ∀ a, (k0_off4 i) a + S1024x1152.size a ≤ S229376x1152.size a := fun i v0 k0_hw1 k0_h4 k0_h5 => k0_hw1.1 k0_h4 k0_h5
theorem k0_off4_wordsbf16 : ∀ (i : grid0.Coords) (v0 : BitVec 32) (k0_hw1 : k0_chk1 i v0), ∀ (k0_h4 : k0_cond4 i v0 = 1#1), ∀ (k0_h5 : k0_cond5 i v0 = 1#1), (Rect.unit (s := S229376x1152) (k0_off4 i) S1024x1152.size (k0_off4_inb i v0 k0_hw1 k0_h4 k0_h5)).WholeWords (EltTy.packing .bf16) := fun i v0 k0_hw1 k0_h4 k0_h5 => k0_hw1.2 k0_h4 k0_h5 (k0_off4_inb i v0 k0_hw1 k0_h4 k0_h5)

def k0_off5 (i : grid0.Coords) : Fin 1 → Nat :=
  let arg0 : BitVec 32 := BitVec.ofNat 32 (i 0).val
  let v12 : Index := Scalar.indexCast arg0
  ![v12.toNat]
def k0_off6 (i : grid0.Coords) : Fin 1 → Nat :=
  let arg0 : BitVec 32 := BitVec.ofNat 32 (i 0).val
  let c1_i32 : BitVec 32 := 1#32
  let v14 : BitVec 32 := Scalar.subi arg0 c1_i32
  let c0_i32_4 : BitVec 32 := 0#32
  let v15 : BitVec 32 := Scalar.maxsi v14 c0_i32_4
  let v16 : Index := Scalar.indexCast v15
  ![v16.toNat]
def k0_mult4 (i : grid0.Coords) : BitVec 32 :=
  let arg0 : BitVec 32 := BitVec.ofNat 32 (i 0).val
  let c1024_i32 : BitVec 32 := 1024#32
  let v23 : BitVec 32 := Scalar.muli arg0 c1024_i32
  v23
def k0_off7 (i : grid0.Coords) : Fin 1 → Nat :=
  let arg0 : BitVec 32 := BitVec.ofNat 32 (i 0).val
  let c3_i32 : BitVec 32 := 3#32
  let v22 : BitVec 32 := Scalar.remsi arg0 c3_i32
  ![v22.toNat]
def k0_off8 (i : grid0.Coords) : Fin 3 → Nat :=
  let arg0 : BitVec 32 := BitVec.ofNat 32 (i 0).val
  let c3_i32 : BitVec 32 := 3#32
  let v22 : BitVec 32 := Scalar.remsi arg0 c3_i32
  let c0_i32_6 : BitVec 32 := 0#32
  let c0_i32_7 : BitVec 32 := 0#32
  ![v22.toNat, 0, 0]
def k0_off9 (i : grid0.Coords) : Fin 2 → Nat :=
  let arg0 : BitVec 32 := BitVec.ofNat 32 (i 0).val
  let c1024_i32 : BitVec 32 := 1024#32
  let v23 : BitVec 32 := Scalar.muli arg0 c1024_i32
  let v24 : BitVec 32 := v23
  let c0_i32_8 : BitVec 32 := 0#32
  ![v24.toNat, 0]
def cc0_transform_1 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1024_S1_256 : ∀ a, (![256] : Fin 1 → Nat) a + S1.size a ≤ S1024.size a) (numel1_S1 : S1.numel = 1) (pf : pre0.Contents (Elt F)) (i : grid0.Coords) : Fin 2 → Nat :=
  let arg0 : BitVec 32 := BitVec.ofNat 32 (i 0).val
  let c256 : Index := 256#32
  let v0 : BitVec 32 := pf.at 1 (Rect.unit (s := S1024) ![256] S1.size inb_S1024_S1_256) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S256 : Shape := ⟨1, ![256]⟩
abbrev S1024 : Shape := ⟨1, ![1024]⟩
abbrev S229376x1152 : Shape := ⟨2, ![229376, 1152]⟩
abbrev S2x64x1024x256 : Shape := ⟨4, ![2, 64, 1024, 256]⟩
abbrev S2x64x256x1024 : Shape := ⟨4, ![2, 64, 256, 1024]⟩
abbrev S229376x1024 : Shape := ⟨2, ![229376, 1024]⟩
abbrev S229376x1 : Shape := ⟨2, ![229376, 1]⟩
abbrev S229376 : Shape := ⟨1, ![229376]⟩
abbrev S224 : Shape := ⟨1, ![224]⟩
abbrev S224x1 : Shape := ⟨2, ![224, 1]⟩
abbrev S224x1024 : Shape := ⟨2, ![224, 1024]⟩
abbrev S64 : Shape := ⟨1, ![64]⟩
abbrev S1x64 : Shape := ⟨2, ![1, 64]⟩
abbrev S229376x64 : Shape := ⟨2, ![229376, 64]⟩
abbrev S_ : Shape := ⟨0, ![]⟩
abbrev S1x64x1024x256 : Shape := ⟨4, ![1, 64, 1024, 256]⟩
abbrev S64x1024x256 : Shape := ⟨3, ![64, 1024, 256]⟩
abbrev S229376x64x256 : Shape := ⟨3, ![229376, 64, 256]⟩
abbrev S229376x64x1 : Shape := ⟨3, ![229376, 64, 1]⟩
abbrev S1x64x256x1024 : Shape := ⟨4, ![1, 64, 256, 1024]⟩
abbrev S64x256x1024 : Shape := ⟨3, ![64, 256, 1024]⟩

abbrev nBuf : Space → Nat
  | .hbm => 54
  | .vmem => 0
  | .smem => 0
  | _ => 0

abbrev bufTy : (tb : Table) → Fin (tcTables nBuf tb) → BufTy
  | .hbm, ⟨0, _⟩ => ⟨S256, .i32⟩
  | .hbm, ⟨1, _⟩ => ⟨S1024, .i32⟩
  | .hbm, ⟨2, _⟩ => ⟨S229376x1152, .bf16⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S229376x1024, .bf16⟩
  | .hbm, ⟨7, _⟩ => ⟨S229376x1024, .f32⟩
  | .hbm, ⟨8, _⟩ => ⟨S229376x1, .bf16⟩
  | .hbm, ⟨9, _⟩ => ⟨S229376, .bf16⟩
  | .hbm, ⟨10, _⟩ => ⟨S229376, .f32⟩
  | .hbm, ⟨11, _⟩ => ⟨S229376x1, .bf16⟩
  | .hbm, ⟨12, _⟩ => ⟨S229376, .bf16⟩
  | .hbm, ⟨13, _⟩ => ⟨S229376, .f32⟩
  | .hbm, ⟨14, _⟩ => ⟨S229376, .f32⟩
  | .hbm, ⟨15, _⟩ => ⟨S224, .i32⟩
  | .hbm, ⟨16, _⟩ => ⟨S224x1, .i32⟩
  | .hbm, ⟨17, _⟩ => ⟨S224x1024, .i32⟩
  | .hbm, ⟨18, _⟩ => ⟨S229376, .i32⟩
  | .hbm, ⟨19, _⟩ => ⟨S229376x1, .i32⟩
  | .hbm, ⟨20, _⟩ => ⟨S64, .i32⟩
  | .hbm, ⟨21, _⟩ => ⟨S1x64, .i32⟩
  | .hbm, ⟨22, _⟩ => ⟨S229376x64, .i32⟩
  | .hbm, ⟨23, _⟩ => ⟨S229376x64, .i32⟩
  | .hbm, ⟨24, _⟩ => ⟨S229376x64, .i1⟩
  | .hbm, ⟨25, _⟩ => ⟨S229376x1, .f32⟩
  | .hbm, ⟨26, _⟩ => ⟨S_, .f32⟩
  | .hbm, ⟨27, _⟩ => ⟨S_, .f32⟩
  | .hbm, ⟨28, _⟩ => ⟨S229376x64, .f32⟩
  | .hbm, ⟨29, _⟩ => ⟨S229376x64, .f32⟩
  | .hbm, ⟨30, _⟩ => ⟨S229376x64, .f32⟩
  | .hbm, ⟨31, _⟩ => ⟨S1x64x1024x256, .f32⟩
  | .hbm, ⟨32, _⟩ => ⟨S64x1024x256, .f32⟩
  | .hbm, ⟨33, _⟩ => ⟨S229376x64x256, .f32⟩
  | .hbm, ⟨34, _⟩ => ⟨S1x64x1024x256, .f32⟩
  | .hbm, ⟨35, _⟩ => ⟨S64x1024x256, .f32⟩
  | .hbm, ⟨36, _⟩ => ⟨S229376x64x256, .f32⟩
  | .hbm, ⟨37, _⟩ => ⟨S229376x64x256, .f32⟩
  | .hbm, ⟨38, _⟩ => ⟨S229376x64x256, .f32⟩
  | .hbm, ⟨39, _⟩ => ⟨S_, .f32⟩
  | .hbm, ⟨40, _⟩ => ⟨S229376x64x256, .f32⟩
  | .hbm, ⟨41, _⟩ => ⟨S229376x64x256, .f32⟩
  | .hbm, ⟨42, _⟩ => ⟨S_, .f32⟩
  | .hbm, ⟨43, _⟩ => ⟨S229376x64x256, .f32⟩
  | .hbm, ⟨44, _⟩ => ⟨S229376x64x256, .f32⟩
  | .hbm, ⟨45, _⟩ => ⟨S229376x64x256, .f32⟩
  | .hbm, ⟨46, _⟩ => ⟨S229376x64x256, .f32⟩
  | .hbm, ⟨47, _⟩ => ⟨S229376x64x1, .f32⟩
  | .hbm, ⟨48, _⟩ => ⟨S229376x64x256, .f32⟩
  | .hbm, ⟨49, _⟩ => ⟨S229376x64x256, .f32⟩
  | .hbm, ⟨50, _⟩ => ⟨S1x64x256x1024, .f32⟩
  | .hbm, ⟨51, _⟩ => ⟨S64x256x1024, .f32⟩
  | .hbm, ⟨52, _⟩ => ⟨S229376x1024, .f32⟩
  | .hbm, ⟨53, _⟩ => ⟨S229376x1024, .bf16⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Kernel3.lean ====
abbrev S256 : Shape := ⟨1, ![256]⟩
abbrev S1024 : Shape := ⟨1, ![1024]⟩
abbrev S229376x1152 : Shape := ⟨2, ![229376, 1152]⟩
abbrev S2x64x1024x256 : Shape := ⟨4, ![2, 64, 1024, 256]⟩
abbrev S2x64x256x1024 : Shape := ⟨4, ![2, 64, 256, 1024]⟩
abbrev S229376x1024 : Shape := ⟨2, ![229376, 1024]⟩
abbrev S1x1x1024x256 : Shape := ⟨4, ![1, 1, 1024, 256]⟩
abbrev S1 : Shape := ⟨1, ![1]⟩
abbrev S1x1x256x1024 : Shape := ⟨4, ![1, 1, 256, 1024]⟩
abbrev S1024x1024 : Shape := ⟨2, ![1024, 1024]⟩
abbrev S1024x256 : Shape := ⟨2, ![1024, 256]⟩
abbrev S256x1024 : Shape := ⟨2, ![256, 1024]⟩
abbrev S3x1024x1152 : Shape := ⟨3, ![3, 1024, 1152]⟩
abbrev S3 : Shape := ⟨1, ![3]⟩
abbrev S_ : Shape := ⟨0, ![]⟩
abbrev S1x1024x1152 : Shape := ⟨3, ![1, 1024, 1152]⟩
abbrev S1024x1152 : Shape := ⟨2, ![1024, 1152]⟩
abbrev S1024x1 : Shape := ⟨2, ![1024, 1]⟩

abbrev nBuf : Space → Nat
  | .hbm => 5
  | .vmem => 12
  | .smem => 2
  | _ => 0

abbrev bufTy : (tb : Table) → Fin (tcTables nBuf tb) → BufTy
  | .hbm, ⟨0, _⟩ => ⟨S229376x1152, .bf16⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S229376x1024, .bf16⟩
  | .local _ .vmem, ⟨0, _⟩ => ⟨S1x1x1024x256, .f32⟩
  | .local _ .vmem, ⟨1, _⟩ => ⟨S1x1x1024x256, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S3x1024x1152, .bf16⟩
  | .local _ .smem, ⟨0, _⟩ => ⟨S256, .i32⟩
  | .local _ .smem, ⟨1, _⟩ => ⟨S1024, .i32⟩
  | _, _ => ⟨S229376x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![224], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_5 : BitVec 32 := 0#32
  c0_i32_5
def k0_mult2 : BitVec 32 :=
  let c1024_i32 : BitVec 32 := 1024#32
  c1024_i32
def k0_mult3 (i : grid0.Coords) : BitVec 32 :=
  let arg0 : BitVec 32 := BitVec.ofNat 32 (i 0).val
  let c2_i32 : BitVec 32 := 2#32
  let v7 : BitVec 32 := Scalar.addi arg0 c2_i32
  let c1024_i32_29 : BitVec 32 := 1024#32
  let v57 : BitVec 32 := Scalar.muli v7 c1024_i32_29
  v57
def k0_off2 (i : grid0.Coords) : Fin 1 → Nat :=
  let arg0 : BitVec 32 := BitVec.ofNat 32 (i 0).val
  let c2_i32 : BitVec 32 := 2#32
  let v7 : BitVec 32 := Scalar.addi arg0 c2_i32
  let c3_i32_28 : BitVec 32 := 3#32
  let v56 : BitVec 32 := Scalar.remsi v7 c3_i32_28
  ![v56.toNat]
def k0_off3 (i : grid0.Coords) : Fin 3 → Nat :=
  let arg0 : BitVec 32 := BitVec.ofNat 32 (i 0).val
  let c2_i32 : BitVec 32 := 2#32
  let v7 : BitVec 32 := Scalar.addi arg0 c2_i32
  let c3_i32_28 : BitVec 32 := 3#32
  let v56 : BitVec 32 := Scalar.remsi v7 c3_i32_28
  let c0_i32_30 : BitVec 32 := 0#32
  let c0_i32_31 : BitVec 32 := 0#32
  ![v56.toNat, 0, 0]
def k0_off4 (i : grid0.Coords) : Fin 2 → Nat :=
  let arg0 : BitVec 32 := BitVec.ofNat 32 (i 0).val
  let c2_i32 : BitVec 32 := 2#32
  let v7 : BitVec 32 := Scalar.addi arg0 c2_i32
  let c1024_i32_29 : BitVec 32 := 1024#32
  let v57 : BitVec 32 := Scalar.muli v7 c1024_i32_29
  let v58 : BitVec 32 := v57
  let c0_i32_32 : BitVec 32 := 0#32
  ![v58.toNat, 0]
def k0_cond4 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_cond5 (i : grid0.Coords) (v0 : BitVec 32) : BitVec 1 :=
  let arg0 : BitVec 32 := BitVec.ofNat 32 (i 0).val
  let c2_i32 : BitVec 32 := 2#32
  let v7 : BitVec 32 := Scalar.addi arg0 c2_i32
  let v8 : BitVec 1 := Scalar.cmpi .slt v7 v0
  let v9 : BitVec 32 := Scalar.extui v8
  let c0_i32_2 : BitVec 32 := 0#32
  let v10 : BitVec 1 := Scalar.cmpi .ne v9 c0_i32_2
  v10

def k0_chk1 (i : grid0.Coords) (v0 : BitVec 32) : Prop :=
  (∀ (k0_h4 : k0_cond4 i v0 = 1#1), ∀ (k0_h5 : k0_cond5 i v0 = 1#1), ∀ a, (k0_off4 i) a + S1024x1152.size a ≤ S229376x1152.size a) ∧
  (∀ (k0_h4 : k0_cond4 i v0 = 1#1), ∀ (k0_h5 : k0_cond5 i v0 = 1#1), ∀ (hinb : ∀ a, (k0_off4 i) a + S1024x1152.size a ≤ S229376x1152.size a), (Rect.unit (s := S229376x1152) (k0_off4 i) S1024x1152.size hinb).WholeWords (EltTy.packing .bf16))
theorem k0_off4_inb : ∀ (i : grid0.Coords) (v0 : BitVec 32) (k0_hw1 : k0_chk1 i v0), ∀ (k0_h4 : k0_cond4 i v0 = 1#1), ∀ (k0_h5 : k0_cond5 i v0 = 1#1), ∀ a, (k0_off4 i) a + S1024x1152.size a ≤ S229376x1152.size a := fun i v0 k0_hw1 k0_h4 k0_h5 => k0_hw1.1 k0_h4 k0_h5
theorem k0_off4_wordsbf16 : ∀ (i : grid0.Coords) (v0 : BitVec 32) (k0_hw1 : k0_chk1 i v0), ∀ (k0_h4 : k0_cond4 i v0 = 1#1), ∀ (k0_h5 : k0_cond5 i v0 = 1#1), (Rect.unit (s := S229376x1152) (k0_off4 i) S1024x1152.size (k0_off4_inb i v0 k0_hw1 k0_h4 k0_h5)).WholeWords (EltTy.packing .bf16) := fun i v0 k0_hw1 k0_h4 k0_h5 => k0_hw1.2 k0_h4 k0_h5 (k0_off4_inb i v0 k0_hw1 k0_h4 k0_h5)

def k0_off5 (i : grid0.Coords) : Fin 1 → Nat :=
  let arg0 : BitVec 32 := BitVec.ofNat 32 (i 0).val
  let v12 : Index := Scalar.indexCast arg0
  ![v12.toNat]
def k0_off6 (i : grid0.Coords) : Fin 1 → Nat :=
  let arg0 : BitVec 32 := BitVec.ofNat 32 (i 0).val
  let c1_i32 : BitVec 32 := 1#32
  let v14 : BitVec 32 := Scalar.subi arg0 c1_i32
  let c0_i32_4 : BitVec 32 := 0#32
  let v15 : BitVec 32 := Scalar.maxsi v14 c0_i32_4
  let v16 : Index := Scalar.indexCast v15
  ![v16.toNat]
def k0_mult4 (i : grid0.Coords) : BitVec 32 :=
  let arg0 : BitVec 32 := BitVec.ofNat 32 (i 0).val
  let c1024_i32 : BitVec 32 := 1024#32
  let v23 : BitVec 32 := Scalar.muli arg0 c1024_i32
  v23
def k0_off7 (i : grid0.Coords) : Fin 1 → Nat :=
  let arg0 : BitVec 32 := BitVec.ofNat 32 (i 0).val
  let c3_i32 : BitVec 32 := 3#32
  let v22 : BitVec 32 := Scalar.remsi arg0 c3_i32
  ![v22.toNat]
def k0_off8 (i : grid0.Coords) : Fin 3 → Nat :=
  let arg0 : BitVec 32 := BitVec.ofNat 32 (i 0).val
  let c3_i32 : BitVec 32 := 3#32
  let v22 : BitVec 32 := Scalar.remsi arg0 c3_i32
  let c0_i32_6 : BitVec 32 := 0#32
  let c0_i32_7 : BitVec 32 := 0#32
  ![v22.toNat, 0, 0]
def k0_off9 (i : grid0.Coords) : Fin 2 → Nat :=
  let arg0 : BitVec 32 := BitVec.ofNat 32 (i 0).val
  let c1024_i32 : BitVec 32 := 1024#32
  let v23 : BitVec 32 := Scalar.muli arg0 c1024_i32
  let v24 : BitVec 32 := v23
  let c0_i32_8 : BitVec 32 := 0#32
  ![v24.toNat, 0]
def cc0_transform_1 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (inb_S1024_S1_256 : ∀ a, (![256] : Fin 1 → Nat) a + S1.size a ≤ S1024.size a) (numel1_S1 : S1.numel = 1) (pf : pre0.Contents (Elt F)) (i : grid0.Coords) : Fin 2 → Nat :=
  let arg0 : BitVec 32 := BitVec.ofNat 32 (i 0).val
  let c256 : Index := 256#32
  let v0 : BitVec 32 := pf.at 1 (Rect.unit (s := S1024) ![256] S1.size inb_S1024_S1_256) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S256 : Shape := ⟨1, ![256]⟩
abbrev S1024 : Shape := ⟨1, ![1024]⟩
abbrev S229376x1152 : Shape := ⟨2, ![229376, 1152]⟩
abbrev S2x64x1024x256 : Shape := ⟨4, ![2, 64, 1024, 256]⟩
abbrev S2x64x256x1024 : Shape := ⟨4, ![2, 64, 256, 1024]⟩
abbrev S229376x1024 : Shape := ⟨2, ![229376, 1024]⟩
abbrev S229376x1 : Shape := ⟨2, ![229376, 1]⟩
abbrev S229376 : Shape := ⟨1, ![229376]⟩
abbrev S224 : Shape := ⟨1, ![224]⟩
abbrev S224x1 : Shape := ⟨2, ![224, 1]⟩
abbrev S224x1024 : Shape := ⟨2, ![224, 1024]⟩
abbrev S64 : Shape := ⟨1, ![64]⟩
abbrev S1x64 : Shape := ⟨2, ![1, 64]⟩
abbrev S229376x64 : Shape := ⟨2, ![229376, 64]⟩
abbrev S_ : Shape := ⟨0, ![]⟩
abbrev S1x64x1024x256 : Shape := ⟨4, ![1, 64, 1024, 256]⟩
abbrev S64x1024x256 : Shape := ⟨3, ![64, 1024, 256]⟩
abbrev S229376x64x256 : Shape := ⟨3, ![229376, 64, 256]⟩
abbrev S229376x64x1 : Shape := ⟨3, ![229376, 64, 1]⟩
abbrev S1x64x256x1024 : Shape := ⟨4, ![1, 64, 256, 1024]⟩
abbrev S64x256x1024 : Shape := ⟨3, ![64, 256, 1024]⟩

abbrev nBuf : Space → Nat
  | .hbm => 54
  | .vmem => 0
  | .smem => 0
  | _ => 0

abbrev bufTy : (tb : Table) → Fin (tcTables nBuf tb) → BufTy
  | .hbm, ⟨0, _⟩ => ⟨S256, .i32⟩
  | .hbm, ⟨1, _⟩ => ⟨S1024, .i32⟩
  | .hbm, ⟨2, _⟩ => ⟨S229376x1152, .bf16⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S229376x1024, .bf16⟩
  | .hbm, ⟨7, _⟩ => ⟨S229376x1024, .f32⟩
  | .hbm, ⟨8, _⟩ => ⟨S229376x1, .bf16⟩
  | .hbm, ⟨9, _⟩ => ⟨S229376, .bf16⟩
  | .hbm, ⟨10, _⟩ => ⟨S229376, .f32⟩
  | .hbm, ⟨11, _⟩ => ⟨S229376x1, .bf16⟩
  | .hbm, ⟨12, _⟩ => ⟨S229376, .bf16⟩
  | .hbm, ⟨13, _⟩ => ⟨S229376, .f32⟩
  | .hbm, ⟨14, _⟩ => ⟨S229376, .f32⟩
  | .hbm, ⟨15, _⟩ => ⟨S224, .i32⟩
  | .hbm, ⟨16, _⟩ => ⟨S224x1, .i32⟩
  | .hbm, ⟨17, _⟩ => ⟨S224x1024, .i32⟩
  | .hbm, ⟨18, _⟩ => ⟨S229376, .i32⟩
  | .hbm, ⟨19, _⟩ => ⟨S229376x1, .i32⟩
  | .hbm, ⟨20, _⟩ => ⟨S64, .i32⟩
  | .hbm, ⟨21, _⟩ => ⟨S1x64, .i32⟩
  | .hbm, ⟨22, _⟩ => ⟨S229376x64, .i32⟩
  | .hbm, ⟨23, _⟩ => ⟨S229376x64, .i32⟩
  | .hbm, ⟨24, _⟩ => ⟨S229376x64, .i1⟩
  | .hbm, ⟨25, _⟩ => ⟨S229376x1, .f32⟩
  | .hbm, ⟨26, _⟩ => ⟨S_, .f32⟩
  | .hbm, ⟨27, _⟩ => ⟨S_, .f32⟩
  | .hbm, ⟨28, _⟩ => ⟨S229376x64, .f32⟩
  | .hbm, ⟨29, _⟩ => ⟨S229376x64, .f32⟩
  | .hbm, ⟨30, _⟩ => ⟨S229376x64, .f32⟩
  | .hbm, ⟨31, _⟩ => ⟨S1x64x1024x256, .f32⟩
  | .hbm, ⟨32, _⟩ => ⟨S64x1024x256, .f32⟩
  | .hbm, ⟨33, _⟩ => ⟨S229376x64x256, .f32⟩
  | .hbm, ⟨34, _⟩ => ⟨S1x64x1024x256, .f32⟩
  | .hbm, ⟨35, _⟩ => ⟨S64x1024x256, .f32⟩
  | .hbm, ⟨36, _⟩ => ⟨S229376x64x256, .f32⟩
  | .hbm, ⟨37, _⟩ => ⟨S229376x64x256, .f32⟩
  | .hbm, ⟨38, _⟩ => ⟨S229376x64x256, .f32⟩
  | .hbm, ⟨39, _⟩ => ⟨S_, .f32⟩
  | .hbm, ⟨40, _⟩ => ⟨S229376x64x256, .f32⟩
  | .hbm, ⟨41, _⟩ => ⟨S229376x64x256, .f32⟩
  | .hbm, ⟨42, _⟩ => ⟨S_, .f32⟩
  | .hbm, ⟨43, _⟩ => ⟨S229376x64x256, .f32⟩
  | .hbm, ⟨44, _⟩ => ⟨S229376x64x256, .f32⟩
  | .hbm, ⟨45, _⟩ => ⟨S229376x64x256, .f32⟩
  | .hbm, ⟨46, _⟩ => ⟨S229376x64x256, .f32⟩
  | .hbm, ⟨47, _⟩ => ⟨S229376x64x1, .f32⟩
  | .hbm, ⟨48, _⟩ => ⟨S229376x64x256, .f32⟩
  | .hbm, ⟨49, _⟩ => ⟨S229376x64x256, .f32⟩
  | .hbm, ⟨50, _⟩ => ⟨S1x64x256x1024, .f32⟩
  | .hbm, ⟨51, _⟩ => ⟨S64x256x1024, .f32⟩
  | .hbm, ⟨52, _⟩ => ⟨S229376x1024, .f32⟩
  | .hbm, ⟨53, _⟩ => ⟨S229376x1024, .bf16⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Kernel4.lean ====
abbrev S16384x1024 : Shape := ⟨2, ![16384, 1024]⟩
abbrev S16896x1024 : Shape := ⟨2, ![16896, 1024]⟩
abbrev S8x6x1x1024 : Shape := ⟨4, ![8, 6, 1, 1024]⟩
abbrev S2x4x1024 : Shape := ⟨3, ![2, 4, 1024]⟩
abbrev S1x4x1024 : Shape := ⟨3, ![1, 4, 1024]⟩
abbrev S4x1024 : Shape := ⟨2, ![4, 1024]⟩
abbrev S512x1024 : Shape := ⟨2, ![512, 1024]⟩
abbrev S1x6x1x1024 : Shape := ⟨4, ![1, 6, 1, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16896x1024, .f32⟩
  | .hbm, ⟨2, _⟩ => ⟨S8x6x1x1024, .f32⟩
  | .hbm, ⟨3, _⟩ => ⟨S2x4x1024, .f32⟩
  | .hbm, ⟨4, _⟩ => ⟨S1x4x1024, .f32⟩
  | .hbm, ⟨5, _⟩ => ⟨S4x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1x1024, .f32⟩
  | .local _ .vmem, ⟨5, _⟩ => ⟨S1x6x1x1024, .f32⟩
  | .local _ .vmem, ⟨6, _⟩ => ⟨S4x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x1024 : Shape := ⟨2, ![16384, 1024]⟩
abbrev S16896x1024 : Shape := ⟨2, ![16896, 1024]⟩
abbrev S8x6x1x1024 : Shape := ⟨4, ![8, 6, 1, 1024]⟩
abbrev S2x4x1024 : Shape := ⟨3, ![2, 4, 1024]⟩
abbrev S8x2048x1024 : Shape := ⟨3, ![8, 2048, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16896x1024, .f32⟩
  | .hbm, ⟨2, _⟩ => ⟨S8x6x1x1024, .f32⟩
  | .hbm, ⟨3, _⟩ => ⟨S2x4x1024, .f32⟩
  | .hbm, ⟨4, _⟩ => ⟨S16384x1024, .f32⟩
  | .hbm, ⟨5, _⟩ => ⟨S8x2048x1024, .f32⟩
  | .hbm, ⟨6, _⟩ => ⟨S8x2048x1024, .f32⟩
  | .hbm, ⟨7, _⟩ => ⟨S8x1x1x1024, .f32⟩
  | .hbm, ⟨8, _⟩ => ⟨S8x1x1024, .f32⟩
  | .hbm, ⟨9, _⟩ => ⟨S1x1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel5.lean ====
abbrev S128x1024 : Shape := ⟨2, ![128, 1024]⟩
abbrev S16896x1024 : Shape := ⟨2, ![16896, 1024]⟩
abbrev S1x6x128x1024 : Shape := ⟨4, ![1, 6, 128, 1024]⟩
abbrev S2x4x1024 : Shape := ⟨3, ![2, 4, 1024]⟩
abbrev S1x4x1024 : Shape := ⟨3, ![1, 4, 1024]⟩
abbrev S4x1024 : Shape := ⟨2, ![4, 1024]⟩
abbrev S1x1x128x1024 : Shape := ⟨4, ![1, 1, 128, 1024]⟩
abbrev S1x1024 : Shape := ⟨2, ![1, 1024]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S16896x1024, .f32⟩
  | .hbm, ⟨2, _⟩ => ⟨S1x6x128x1024, .f32⟩
  | .hbm, ⟨3, _⟩ => ⟨S2x4x1024, .f32⟩
  | .hbm, ⟨4, _⟩ => ⟨S1x4x1024, .f32⟩
  | .hbm, ⟨5, _⟩ => ⟨S4x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1x6x128x1024, .f32⟩
  | .local _ .vmem, ⟨3, _⟩ => ⟨S4x1024, .f32⟩
  | .local _ .vmem, ⟨4, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference5Ideal.lean ====
abbrev S128x1024 : Shape := ⟨2, ![128, 1024]⟩
abbrev S16896x1024 : Shape := ⟨2, ![16896, 1024]⟩
abbrev S1x6x128x1024 : Shape := ⟨4, ![1, 6, 128, 1024]⟩
abbrev S2x4x1024 : Shape := ⟨3, ![2, 4, 1024]⟩
abbrev S1x1x128x1024 : Shape := ⟨4, ![1, 1, 128, 1024]⟩
abbrev S1x1x1024 : Shape := ⟨3, ![1, 1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S16896x1024, .f32⟩
  | .hbm, ⟨2, _⟩ => ⟨S1x6x128x1024, .f32⟩
  | .hbm, ⟨3, _⟩ => ⟨S2x4x1024, .f32⟩
  | .hbm, ⟨4, _⟩ => ⟨S128x1024, .f32⟩
  | .hbm, ⟨5, _⟩ => ⟨S1x1x128x1024, .f32⟩
  | .hbm, ⟨6, _⟩ => ⟨S128x1024, .f32⟩
  | .hbm, ⟨7, _⟩ => ⟨S1x1x1024, .f32⟩
  | .hbm, ⟨8, _⟩ => ⟨S1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S128x1024 : Shape := ⟨2, ![128, 1024]⟩
abbrev S1x6x128x1024 : Shape := ⟨4, ![1, 6, 128, 1024]⟩
abbrev S2x4x1024 : Shape := ⟨3, ![2, 4, 1024]⟩
abbrev S1x1024x3328 : Shape := ⟨3, ![1, 1024, 3328]⟩
abbrev S1x3x512 : Shape := ⟨3, ![1, 3, 512]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x128x2x512 : Shape := ⟨4, ![1, 128, 2, 512]⟩
abbrev S1x128x1792 : Shape := ⟨3, ![1, 128, 1792]⟩
abbrev S3x512 : Shape := ⟨2, ![3, 512]⟩
abbrev S64x512 : Shape := ⟨2, ![64, 512]⟩
abbrev S_ : Shape := ⟨0, ![]⟩
abbrev S128x512 : Shape := ⟨2, ![128, 512]⟩
abbrev S1x128x1x512 : Shape := ⟨4, ![1, 128, 1, 512]⟩
abbrev S128x1792 : Shape := ⟨2, ![128, 1792]⟩
abbrev S1x4x1024 : Shape := ⟨3, ![1, 4, 1024]⟩
abbrev S4x1024 : Shape := ⟨2, ![4, 1024]⟩
abbrev S1024x3328 : Shape := ⟨2, ![1024, 3328]⟩
abbrev S1x1024 : Shape := ⟨2, ![1, 1024]⟩
abbrev S128 : Shape := ⟨1, ![128]⟩
abbrev S128x1 : Shape := ⟨2, ![128, 1]⟩
abbrev S1x1x128x1024 : Shape := ⟨4, ![1, 1, 128, 1024]⟩
abbrev S128x3328 : Shape := ⟨2, ![128, 3328]⟩
abbrev S128x128 : Shape := ⟨2, ![128, 128]⟩
abbrev S512x512 : Shape := ⟨2, ![512, 512]⟩
abbrev S1024x512 : Shape := ⟨2, ![1024, 512]⟩

abbrev nBuf : Space → Nat
  | .hbm => 47
  | .vmem => 26
  | .smem => 0
  | _ => 0

abbrev bufTy : (tb : Table) → Fin (tcTables nBuf tb) → BufTy
  | .hbm, ⟨0, _⟩ => ⟨S128x1024, .f32⟩
  | .hbm, ⟨1, _⟩ => ⟨S1x6x128x1024, .f32⟩
  | .hbm, ⟨2, _⟩ => ⟨S2x4x1024, .f32⟩
  | .hbm, ⟨3, _⟩ => ⟨S1x1024x3328, .f32⟩
  | .hbm, ⟨4, _⟩ => ⟨S1x3x512, .f32⟩
  | .hbm, ⟨5, _⟩ => ⟨S1x1792, .f32⟩
  | .hbm, ⟨6, _⟩ => ⟨S1x512, .f32⟩
  | .hbm, ⟨7, _⟩ => ⟨S1x64x512, .f32⟩
  | .hbm, ⟨8, _⟩ => ⟨S1x512, .f32⟩
  | .hbm, ⟨9, _⟩ => ⟨S1x64x512, .f32⟩
  | .hbm, ⟨10, _⟩ => ⟨S1x128x512, .f32⟩
  | .hbm, ⟨11, _⟩ => ⟨S1x512, .f32⟩
  | .hbm, ⟨12, _⟩ => ⟨S1x512, .f32⟩
  | .hbm, ⟨13, _⟩ => ⟨S1x128x2x512, .f32⟩
  | .hbm, ⟨14, _⟩ => ⟨S1x128x1792, .f32⟩
  | .hbm, ⟨15, _⟩ => ⟨S3x512, .f32⟩
  | .hbm, ⟨16, _⟩ => ⟨S64x512, .f32⟩
  | .hbm, ⟨17, _⟩ => ⟨S_, .i32⟩
  | .hbm, ⟨18, _⟩ => ⟨S_, .f32⟩
  | .hbm, ⟨19, _⟩ => ⟨S128x512, .f32⟩
  | .hbm, ⟨20, _⟩ => ⟨S128x512, .bf16⟩
  | .hbm, ⟨21, _⟩ => ⟨S64x512, .f32⟩
  | .hbm, ⟨22, _⟩ => ⟨S_, .i32⟩
  | .hbm, ⟨23, _⟩ => ⟨S_, .f32⟩
  | .hbm, ⟨24, _⟩ => ⟨S128x512, .f32⟩
  | .hbm, ⟨25, _⟩ => ⟨S128x512, .bf16⟩
  | .hbm, ⟨26, _⟩ => ⟨S128x512, .f32⟩
  | .hbm, ⟨27, _⟩ => ⟨S128x512, .bf16⟩
  | .hbm, ⟨28, _⟩ => ⟨S1x128x1x512, .f32⟩
  | .hbm, ⟨29, _⟩ => ⟨S128x512, .f32⟩
  | .hbm, ⟨30, _⟩ => ⟨S1x128x1x512, .f32⟩
  | .hbm, ⟨31, _⟩ => ⟨S128x512, .f32⟩
  | .hbm, ⟨32, _⟩ => ⟨S128x1792, .f32⟩
  | .hbm, ⟨33, _⟩ => ⟨S1x4x1024, .f32⟩
  | .hbm, ⟨34, _⟩ => ⟨S4x1024, .f32⟩
  | .hbm, ⟨35, _⟩ => ⟨S1024x3328, .f32⟩
  | .hbm, ⟨36, _⟩ => ⟨S1024x3328, .bf16⟩
  | .hbm, ⟨37, _⟩ => ⟨S128x512, .bf16⟩
  | .hbm, ⟨38, _⟩ => ⟨S128x512, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S128x1792, .f32⟩
  | .local _ .vmem, ⟨0, _⟩ => ⟨S128x1024, .f32⟩
  | .local _ .vmem, ⟨1, _⟩ => ⟨S1x6x128x1024, .f32⟩
  | .local _ .vmem, ⟨2, _⟩ => ⟨S4x1024, .f32⟩
  | .local _ .vmem, ⟨3, _⟩ => ⟨S1024x3328, .bf16⟩
  | .local _ .vmem, ⟨4, _⟩ => ⟨S3x512, .f32⟩
  | .local _ .vmem, ⟨5, _⟩ => ⟨S1x1792, .f32⟩
  | .local _ .vmem, ⟨6, _⟩ => ⟨S1x512, .f32⟩
  | .local _ .vmem, ⟨7, _⟩ => ⟨S128x512, .bf16⟩
  | .local _ .vmem, ⟨8, _⟩ => ⟨S1x512, .f32⟩
  | .local _ .vmem, ⟨9, _⟩ => ⟨S128x512, .bf16⟩
  | .local _ .vmem, ⟨10, _⟩ => ⟨S128x512, .bf16⟩
  | .local _ .vmem, ⟨11, _⟩ => ⟨S1x512, .f32⟩
  | .local _ .vmem, ⟨12, _⟩ => ⟨S1x512, .f32⟩
  | .local _ .vmem, ⟨13, _⟩ => ⟨S128x512, .f32⟩
  | .local _ .vmem, ⟨14, _⟩ => ⟨S128x512, .f32⟩
  | .local _ .vmem, ⟨15, _⟩ => ⟨S128x1792, .f32⟩
  | .local _ .vmem, ⟨16, _⟩ => ⟨S128x512, .bf16⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x1792, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_v18_5 : Ref sig .tc := ⟨.hbm, 42, rfl⟩
abbrev main_v18_6 : Ref sig .tc := ⟨.hbm, 43, rfl⟩
abbrev main_v18_7 : Ref sig .tc := ⟨.hbm, 44, rfl⟩
abbrev main_v18_8 : Ref sig .tc := ⟨.hbm, 45, rfl⟩
abbrev main_v18_9 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S128x1792 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S128x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]

abbrev stage0_21 : Fin 1 → Memref sig .tc .vmem S128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, true]

abbrev stage0_22 : Fin 1 → Memref sig .tc .vmem S128x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true, true]

abbrev stage0_23 : Fin 1 → Memref sig .tc .vmem S128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true, true]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true, false]

abbrev stage0_25 : Fin 1 → Memref sig .tc .vmem S128x1792 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true, false]
-- ==== Reference6Ideal.lean ====
abbrev S128x1024 : Shape := ⟨2, ![128, 1024]⟩
abbrev S1x6x128x1024 : Shape := ⟨4, ![1, 6, 128, 1024]⟩
abbrev S2x4x1024 : Shape := ⟨3, ![2, 4, 1024]⟩
abbrev S1x1024x3328 : Shape := ⟨3, ![1, 1024, 3328]⟩
abbrev S1x3x512 : Shape := ⟨3, ![1, 3, 512]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x128x2x512 : Shape := ⟨4, ![1, 128, 2, 512]⟩
abbrev S1x128x1792 : Shape := ⟨3, ![1, 128, 1792]⟩
abbrev S1x1x1024 : Shape := ⟨3, ![1, 1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S1x1x128x1024 : Shape := ⟨4, ![1, 1, 128, 1024]⟩
abbrev S1024x3328 : Shape := ⟨2, ![1024, 3328]⟩
abbrev S128x3328 : Shape := ⟨2, ![128, 3328]⟩
abbrev S128x512 : Shape := ⟨2, ![128, 512]⟩
abbrev S128x1792 : Shape := ⟨2, ![128, 1792]⟩
abbrev S3x512 : Shape := ⟨2, ![3, 512]⟩
abbrev S1x128x1x512 : Shape := ⟨4, ![1, 128, 1, 512]⟩
abbrev S512 : Shape := ⟨1, ![512]⟩
abbrev S1792 : Shape := ⟨1, ![1792]⟩
abbrev S128x64 : Shape := ⟨2, ![128, 64]⟩
abbrev S128x128 : Shape := ⟨2, ![128, 128]⟩
abbrev S64x512 : Shape := ⟨2, ![64, 512]⟩

abbrev nBuf : Space → Nat
  | .hbm => 149
  | .vmem => 0
  | .smem => 0
  | _ => 0

abbrev hbmTy0_0 (i : Nat) : BufTy := match i % 128 with
  | 0 => ⟨S128x1024, .f32⟩
  | 1 => ⟨S1x6x128x1024, .f32⟩
  | 2 => ⟨S2x4x1024, .f32⟩
  | 3 => ⟨S1x1024x3328, .f32⟩
  | 4 => ⟨S1x3x512, .f32⟩
  | 5 => ⟨S1x1792, .f32⟩
  | 6 => ⟨S1x512, .f32⟩
  | 7 => ⟨S1x64x512, .f32⟩
  | 8 => ⟨S1x512, .f32⟩
  | 9 => ⟨S1x64x512, .f32⟩
  | 10 => ⟨S1x128x512, .f32⟩
  | 11 => ⟨S1x512, .f32⟩
  | 12 => ⟨S1x512, .f32⟩
  | 13 => ⟨S1x128x2x512, .f32⟩
  | 14 => ⟨S1x128x1792, .f32⟩
  | 15 => ⟨S1x1x1024, .f32⟩
  | 16 => ⟨S1024, .f32⟩
  | 17 => ⟨S128x1024, .f32⟩
  | 18 => ⟨S_, .f32⟩
  | 19 => ⟨S128, .f32⟩
  | 20 => ⟨S128x1, .f32⟩
  | 21 => ⟨S_, .f32⟩
  | 22 => ⟨S128x1, .f32⟩
  | 23 => ⟨S128x1, .f32⟩
  | 24 => ⟨S_, .f32⟩
  | 25 => ⟨S128x1, .f32⟩
  | 26 => ⟨S128x1, .f32⟩
  | 27 => ⟨S128x1, .f32⟩
  | 28 => ⟨S128x1024, .f32⟩
  | 29 => ⟨S128x1024, .f32⟩
  | 30 => ⟨S1x1024, .f32⟩
  | 31 => ⟨S128x1024, .f32⟩
  | 32 => ⟨S128x1024, .f32⟩
  | 33 => ⟨S1x1x128x1024, .f32⟩
  | 34 => ⟨S128x1024, .f32⟩
  | 35 => ⟨S_, .f32⟩
  | 36 => ⟨S128x1024, .f32⟩
  | 37 => ⟨S128x1024, .f32⟩
  | 38 => ⟨S128x1024, .f32⟩
  | 39 => ⟨S1x1x128x1024, .f32⟩
  | 40 => ⟨S128x1024, .f32⟩
  | 41 => ⟨S128x1024, .f32⟩
  | 42 => ⟨S1024x3328, .f32⟩
  | 43 => ⟨S128x3328, .f32⟩
  | 44 => ⟨S128x512, .f32⟩
  | 45 => ⟨S128x512, .f32⟩
  | 46 => ⟨S128x512, .f32⟩
  | 47 => ⟨S128x1792, .f32⟩
  | 48 => ⟨S128x512, .f32⟩
  | 49 => ⟨S3x512, .f32⟩
  | 50 => ⟨S1x128x1x512, .f32⟩
  | 51 => ⟨S128x512, .f32⟩
  | 52 => ⟨S1x512, .f32⟩
  | 53 => ⟨S512, .f32⟩
  | 54 => ⟨S1x512, .f32⟩
  | 55 => ⟨S128x512, .f32⟩
  | 56 => ⟨S128x512, .f32⟩
  | 57 => ⟨S1x128x1x512, .f32⟩
  | 58 => ⟨S128x512, .f32⟩
  | 59 => ⟨S1x512, .f32⟩
  | 60 => ⟨S512, .f32⟩
  | 61 => ⟨S1x512, .f32⟩
  | 62 => ⟨S128x512, .f32⟩
  | 63 => ⟨S128x512, .f32⟩
  | 64 => ⟨S128x512, .f32⟩
  | 65 => ⟨S1x512, .f32⟩
  | 66 => ⟨S512, .f32⟩
  | 67 => ⟨S1x512, .f32⟩
  | 68 => ⟨S128x512, .f32⟩
  | 69 => ⟨S128x512, .f32⟩
  | 70 => ⟨S128x512, .f32⟩
  | 71 => ⟨S128x512, .f32⟩
  | 72 => ⟨S128x512, .bf16⟩
  | 73 => ⟨S128x1792, .f32⟩
  | 74 => ⟨S128x1792, .f32⟩
  | 75 => ⟨S1792, .f32⟩
  | 76 => ⟨S1x1792, .f32⟩
  | 77 => ⟨S128x1792, .f32⟩
  | 78 => ⟨S128x1792, .f32⟩
  | 79 => ⟨S128x1792, .f32⟩
  | 80 => ⟨S128x512, .f32⟩
  | 81 => ⟨S128x512, .f32⟩
  | 82 => ⟨S128x512, .f32⟩
  | 83 => ⟨S128x64, .f32⟩
  | 84 => ⟨S128x64, .f32⟩
  | 85 => ⟨S128x128, .f32⟩
  | 86 => ⟨S512, .f32⟩
  | 87 => ⟨S128x64, .f32⟩
  | 88 => ⟨S64x512, .f32⟩
  | 89 => ⟨S128x512, .f32⟩
  | 90 => ⟨S1x512, .f32⟩
  | 91 => ⟨S128x512, .f32⟩
  | 92 => ⟨S128x512, .f32⟩
  | 93 => ⟨S128x512, .f32⟩
  | 94 => ⟨S_, .f32⟩
  | 95 => ⟨S128x512, .f32⟩
  | 96 => ⟨S128x512, .f32⟩
  | 97 => ⟨S128x512, .f32⟩
  | 98 => ⟨S128x512, .f32⟩
  | 99 => ⟨S128x512, .i1⟩
  | 100 => ⟨S128x512, .f32⟩
  | 101 => ⟨S128x512, .f32⟩
  | 102 => ⟨S128x512, .f32⟩
  | 103 => ⟨S128x512, .f32⟩
  | 104 => ⟨S128x512, .f32⟩
  | 105 => ⟨S128x512, .f32⟩
  | 106 => ⟨S128x512, .f32⟩
  | 107 => ⟨S128x512, .f32⟩
  | 108 => ⟨S128x512, .f32⟩
  | 109 => ⟨S_, .f32⟩
  | 110 => ⟨S128x512, .f32⟩
  | 111 => ⟨S128x512, .f32⟩
  | 112 => ⟨S512, .f32⟩
  | 113 => ⟨S64x512, .f32⟩
  | 114 => ⟨S128x512, .f32⟩
  | 115 => ⟨S1x512, .f32⟩
  | 116 => ⟨S128x512, .f32⟩
  | 117 => ⟨S128x512, .f32⟩
  | 118 => ⟨S128x512, .f32⟩
  | 119 => ⟨S128x512, .f32⟩
  | 120 => ⟨S_, .f32⟩
  | 121 => ⟨S128x512, .f32⟩
  | 122 => ⟨S128x512, .f32⟩
  | 123 => ⟨S_, .f32⟩
  | 124 => ⟨S128x512, .f32⟩
  | 125 => ⟨S128x512, .f32⟩
  | 126 => ⟨S128x128, .f32⟩
  | 127 => ⟨S128x128, .f32⟩
  | _ => ⟨S128x1024, .f32⟩

abbrev hbmTy0_1 (i : Nat) : BufTy := match i % 128 with
  | 0 => ⟨S_, .f32⟩
  | 1 => ⟨S128x128, .f32⟩
  | 2 => ⟨S128x128, .f32⟩
  | 3 => ⟨S_, .f32⟩
  | 4 => ⟨S128x128, .f32⟩
  | 5 => ⟨S128x128, .f32⟩
  | 6 => ⟨S128x512, .f32⟩
  | 7 => ⟨S128x512, .f32⟩
  | 8 => ⟨S_, .f32⟩
  | 9 => ⟨S128x512, .f32⟩
  | 10 => ⟨S128x512, .f32⟩
  | 11 => ⟨S512, .f32⟩
  | 12 => ⟨S1x512, .f32⟩
  | 13 => ⟨S128x512, .f32⟩
  | 14 => ⟨S128x512, .f32⟩
  | 15 => ⟨S_, .f32⟩
  | 16 => ⟨S128x512, .f32⟩
  | 17 => ⟨S128x512, .f32⟩
  | 18 => ⟨S128x512, .f32⟩
  | 19 => ⟨S128x512, .f32⟩
  | 20 => ⟨S128x512, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_v8 : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_v75 : Ref sig .tc := ⟨.hbm, 107, rfl⟩
abbrev main_v76 : Ref sig .tc := ⟨.hbm, 108, rfl⟩
abbrev main_cst_3 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_4 : Ref sig .tc := ⟨.hbm, 120, rfl⟩
abbrev main_v87 : Ref sig .tc := ⟨.hbm, 121, rfl⟩
abbrev main_v88 : Ref sig .tc := ⟨.hbm, 122, rfl⟩
abbrev main_cst_5 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_6 : Ref sig .tc := ⟨.hbm, 128, rfl⟩
abbrev main_v93 : Ref sig .tc := ⟨.hbm, 129, rfl⟩
abbrev main_v94 : Ref sig .tc := ⟨.hbm, 130, rfl⟩
abbrev main_cst_7 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_8 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_9 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== Kernel7.lean ====
abbrev S16384x1024 : Shape := ⟨2, ![16384, 1024]⟩
abbrev S8x6x1x1024 : Shape := ⟨4, ![8, 6, 1, 1024]⟩
abbrev S2x4x1024 : Shape := ⟨3, ![2, 4, 1024]⟩
abbrev S1x1024x3328 : Shape := ⟨3, ![1, 1024, 3328]⟩
abbrev S1x3x512 : Shape := ⟨3, ![1, 3, 512]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S3x512 : Shape := ⟨2, ![3, 512]⟩
abbrev S64x512 : Shape := ⟨2, ![64, 512]⟩
abbrev S_ : Shape := ⟨0, ![]⟩
abbrev S128x512 : Shape := ⟨2, ![128, 512]⟩
abbrev S1x4x1024 : Shape := ⟨3, ![1, 4, 1024]⟩
abbrev S4x1024 : Shape := ⟨2, ![4, 1024]⟩
abbrev S1024x3328 : Shape := ⟨2, ![1024, 3328]⟩
abbrev S16384x512 : Shape := ⟨2, ![16384, 512]⟩
abbrev S64x1792 : Shape := ⟨2, ![64, 1792]⟩
abbrev S512x1024 : Shape := ⟨2, ![512, 1024]⟩
abbrev S1x6x1x1024 : Shape := ⟨4, ![1, 6, 1, 1024]⟩
abbrev S512x512 : Shape := ⟨2, ![512, 512]⟩
abbrev S8x512 : Shape := ⟨2, ![8, 512]⟩
abbrev S8x1792 : Shape := ⟨2, ![8, 1792]⟩
abbrev S1x1024 : Shape := ⟨2, ![1, 1024]⟩
abbrev S512 : Shape := ⟨1, ![512]⟩
abbrev S512x1 : Shape := ⟨2, ![512, 1]⟩
abbrev S1x1x1x1024 : Shape := ⟨4, ![1, 1, 1, 1024]⟩
abbrev S512x3328 : Shape := ⟨2, ![512, 3328]⟩
abbrev S512x1792 : Shape := ⟨2, ![512, 1792]⟩
abbrev S512x128 : Shape := ⟨2, ![512, 128]⟩
abbrev S1024x512 : Shape := ⟨2, ![1024, 512]⟩

abbrev nBuf : Space → Nat
  | .hbm => 40
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S8x6x1x1024, .f32⟩
  | .hbm, ⟨2, _⟩ => ⟨S2x4x1024, .f32⟩
  | .hbm, ⟨3, _⟩ => ⟨S1x1024x3328, .f32⟩
  | .hbm, ⟨4, _⟩ => ⟨S1x3x512, .f32⟩
  | .hbm, ⟨5, _⟩ => ⟨S1x1792, .f32⟩
  | .hbm, ⟨6, _⟩ => ⟨S1x512, .f32⟩
  | .hbm, ⟨7, _⟩ => ⟨S1x64x512, .f32⟩
  | .hbm, ⟨8, _⟩ => ⟨S1x512, .f32⟩
  | .hbm, ⟨9, _⟩ => ⟨S1x64x512, .f32⟩
  | .hbm, ⟨10, _⟩ => ⟨S1x128x512, .f32⟩
  | .hbm, ⟨11, _⟩ => ⟨S1x512, .f32⟩
  | .hbm, ⟨12, _⟩ => ⟨S1x512, .f32⟩
  | .hbm, ⟨13, _⟩ => ⟨S3x512, .f32⟩
  | .hbm, ⟨14, _⟩ => ⟨S64x512, .f32⟩
  | .hbm, ⟨15, _⟩ => ⟨S_, .i32⟩
  | .hbm, ⟨16, _⟩ => ⟨S_, .f32⟩
  | .hbm, ⟨17, _⟩ => ⟨S128x512, .f32⟩
  | .hbm, ⟨18, _⟩ => ⟨S128x512, .bf16⟩
  | .hbm, ⟨19, _⟩ => ⟨S64x512, .f32⟩
  | .hbm, ⟨20, _⟩ => ⟨S_, .i32⟩
  | .hbm, ⟨21, _⟩ => ⟨S_, .f32⟩
  | .hbm, ⟨22, _⟩ => ⟨S128x512, .f32⟩
  | .hbm, ⟨23, _⟩ => ⟨S128x512, .bf16⟩
  | .hbm, ⟨24, _⟩ => ⟨S128x512, .f32⟩
  | .hbm, ⟨25, _⟩ => ⟨S128x512, .bf16⟩
  | .hbm, ⟨26, _⟩ => ⟨S1x4x1024, .f32⟩
  | .hbm, ⟨27, _⟩ => ⟨S4x1024, .f32⟩
  | .hbm, ⟨28, _⟩ => ⟨S1024x3328, .f32⟩
  | .hbm, ⟨29, _⟩ => ⟨S1024x3328, .bf16⟩
  | .hbm, ⟨30, _⟩ => ⟨S16384x512, .bf16⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S64x512, .f32⟩
  | .hbm, ⟨39, _⟩ => ⟨S64x1792, .f32⟩
  | .local _ .vmem, ⟨0, _⟩ => ⟨S512x1024, .f32⟩
  | .local _ .vmem, ⟨1, _⟩ => ⟨S512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S4x1024, .f32⟩
  | .local _ .vmem, ⟨5, _⟩ => ⟨S1024x3328, .bf16⟩
  | .local _ .vmem, ⟨6, _⟩ => ⟨S3x512, .f32⟩
  | .local _ .vmem, ⟨7, _⟩ => ⟨S1x1792, .f32⟩
  | .local _ .vmem, ⟨8, _⟩ => ⟨S1x512, .f32⟩
  | .local _ .vmem, ⟨9, _⟩ => ⟨S128x512, .bf16⟩
  | .local _ .vmem, ⟨10, _⟩ => ⟨S1x512, .f32⟩
  | .local _ .vmem, ⟨11, _⟩ => ⟨S128x512, .bf16⟩
  | .local _ .vmem, ⟨12, _⟩ => ⟨S128x512, .bf16⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S8x512, .f32⟩
  | .local _ .vmem, ⟨32, _⟩ => ⟨S8x512, .f32⟩
  | .local _ .vmem, ⟨33, _⟩ => ⟨S8x1792, .f32⟩
  | .local _ .vmem, ⟨34, _⟩ => ⟨S8x1792, .f32⟩
  | .local _ .vmem, ⟨35, _⟩ => ⟨S8x512, .f32⟩
  | .local _ .vmem, ⟨36, _⟩ => ⟨S8x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v13_5 : Ref sig .tc := ⟨.hbm, 35, rfl⟩
abbrev main_v13_6 : Ref sig .tc := ⟨.hbm, 36, rfl⟩
abbrev main_v13_7 : Ref sig .tc := ⟨.hbm, 37, rfl⟩
abbrev main_v13_8 : Ref sig .tc := ⟨.hbm, 38, rfl⟩
abbrev main_v13_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S8x1792 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== Reference7Ideal.lean ====
abbrev S16384x1024 : Shape := ⟨2, ![16384, 1024]⟩
abbrev S8x6x1x1024 : Shape := ⟨4, ![8, 6, 1, 1024]⟩
abbrev S2x4x1024 : Shape := ⟨3, ![2, 4, 1024]⟩
abbrev S1x1024x3328 : Shape := ⟨3, ![1, 1024, 3328]⟩
abbrev S1x3x512 : Shape := ⟨3, ![1, 3, 512]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S8x2048x1024 : Shape := ⟨3, ![8, 2048, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S8x1x1x1024 : Shape := ⟨4, ![8, 1, 1, 1024]⟩
abbrev S8x1x1024 : Shape := ⟨3, ![8, 1, 1024]⟩
abbrev S1024x3328 : Shape := ⟨2, ![1024, 3328]⟩
abbrev S8x2048x3328 : Shape := ⟨3, ![8, 2048, 3328]⟩
abbrev S8x2048x512 : Shape := ⟨3, ![8, 2048, 512]⟩
abbrev S8x2048x1792 : Shape := ⟨3, ![8, 2048, 1792]⟩
abbrev S8x8x512 : Shape := ⟨3, ![8, 8, 512]⟩
abbrev S64x512 : Shape := ⟨2, ![64, 512]⟩
abbrev S8x8x1792 : Shape := ⟨3, ![8, 8, 1792]⟩
abbrev S64x1792 : Shape := ⟨2, ![64, 1792]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1x1024, .f32⟩
  | .hbm, ⟨2, _⟩ => ⟨S2x4x1024, .f32⟩
  | .hbm, ⟨3, _⟩ => ⟨S1x1024x3328, .f32⟩
  | .hbm, ⟨4, _⟩ => ⟨S1x3x512, .f32⟩
  | .hbm, ⟨5, _⟩ => ⟨S1x1792, .f32⟩
  | .hbm, ⟨6, _⟩ => ⟨S1x512, .f32⟩
  | .hbm, ⟨7, _⟩ => ⟨S1x64x512, .f32⟩
  | .hbm, ⟨8, _⟩ => ⟨S1x512, .f32⟩
  | .hbm, ⟨9, _⟩ => ⟨S1x64x512, .f32⟩
  | .hbm, ⟨10, _⟩ => ⟨S1x128x512, .f32⟩
  | .hbm, ⟨11, _⟩ => ⟨S1x512, .f32⟩
  | .hbm, ⟨12, _⟩ => ⟨S1x512, .f32⟩
  | .hbm, ⟨13, _⟩ => ⟨S8x2048x1024, .f32⟩
  | .hbm, ⟨14, _⟩ => ⟨S1x1x1024, .f32⟩
  | .hbm, ⟨15, _⟩ => ⟨S1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x1x1x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x1x1x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S1024x3328, .f32⟩
  | .hbm, ⟨44, _⟩ => ⟨S8x2048x3328, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S8x2048x1792, .f32⟩
  | .hbm, ⟨49, _⟩ => ⟨S8x2048x512, .f32⟩
  | .hbm, ⟨50, _⟩ => ⟨S8x8x512, .f32⟩
  | .hbm, ⟨51, _⟩ => ⟨S64x512, .f32⟩
  | .hbm, ⟨52, _⟩ => ⟨S8x8x1792, .f32⟩
  | .hbm, ⟨53, _⟩ => ⟨S64x1792, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Kernel8.lean ====
abbrev S128x1024 : Shape := ⟨2, ![128, 1024]⟩
abbrev S16896x1024 : Shape := ⟨2, ![16896, 1024]⟩
abbrev S1x6x128x1024 : Shape := ⟨4, ![1, 6, 128, 1024]⟩
abbrev S2x4x1024 : Shape := ⟨3, ![2, 4, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x64 : Shape := ⟨3, ![2, 1024, 64]⟩
abbrev S2x64 : Shape := ⟨2, ![2, 64]⟩
abbrev S16896x128 : Shape := ⟨2, ![16896, 128]⟩
abbrev S1024x2048 : Shape := ⟨2, ![1024, 2048]⟩
abbrev S2048 : Shape := ⟨1, ![2048]⟩
abbrev S1024 : Shape := ⟨1, ![1024]⟩
abbrev S1x8x1x1 : Shape := ⟨4, ![1, 8, 1, 1]⟩
abbrev S8 : Shape := ⟨1, ![8]⟩
abbrev S8x128 : Shape := ⟨2, ![8, 128]⟩
abbrev S1x8x1 : Shape := ⟨3, ![1, 8, 1]⟩
abbrev S1024x1024 : Shape := ⟨2, ![1024, 1024]⟩
abbrev S1x1024x64 : Shape := ⟨3, ![1, 1024, 64]⟩
abbrev S1024x64 : Shape := ⟨2, ![1024, 64]⟩
abbrev S64x1024 : Shape := ⟨2, ![64, 1024]⟩
abbrev S1x64 : Shape := ⟨2, ![1, 64]⟩
abbrev S64 : Shape := ⟨1, ![64]⟩
abbrev S64x1 : Shape := ⟨2, ![64, 1]⟩
abbrev S1x4x1024 : Shape := ⟨3, ![1, 4, 1024]⟩
abbrev S4x1024 : Shape := ⟨2, ![4, 1024]⟩
abbrev S128x128 : Shape := ⟨2, ![128, 128]⟩
abbrev S1x1x128x1024 : Shape := ⟨4, ![1, 1, 128, 1024]⟩
abbrev S128 : Shape := ⟨1, ![128]⟩
abbrev S128x1 : Shape := ⟨2, ![128, 1]⟩
abbrev S128x2048 : Shape := ⟨2, ![128, 2048]⟩
abbrev S64x3072 : Shape := ⟨2, ![64, 3072]⟩
abbrev S128x3072 : Shape := ⟨2, ![128, 3072]⟩
abbrev S64x128 : Shape := ⟨2, ![64, 128]⟩
abbrev S1x128 : Shape := ⟨2, ![1, 128]⟩

abbrev nBuf : Space → Nat
  | .hbm => 50
  | .vmem => 19
  | .smem => 0
  | _ => 0

abbrev bufTy : (tb : Table) → Fin (tcTables nBuf tb) → BufTy
  | .hbm, ⟨0, _⟩ => ⟨S128x1024, .f32⟩
  | .hbm, ⟨1, _⟩ => ⟨S16896x1024, .f32⟩
  | .hbm, ⟨2, _⟩ => ⟨S1x6x128x1024, .f32⟩
  | .hbm, ⟨3, _⟩ => ⟨S1x6x128x1024, .f32⟩
  | .hbm, ⟨4, _⟩ => ⟨S2x4x1024, .f32⟩
  | .hbm, ⟨5, _⟩ => ⟨S1x1024x2048, .f32⟩
  | .hbm, ⟨6, _⟩ => ⟨S1x2048, .f32⟩
  | .hbm, ⟨7, _⟩ => ⟨S1x1024, .f32⟩
  | .hbm, ⟨8, _⟩ => ⟨S1x1024, .f32⟩
  | .hbm, ⟨9, _⟩ => ⟨S1x8x128x128, .f32⟩
  | .hbm, ⟨10, _⟩ => ⟨S1x8x128, .f32⟩
  | .hbm, ⟨11, _⟩ => ⟨S1x1024x1024, .f32⟩
  | .hbm, ⟨12, _⟩ => ⟨S2x1024x64, .f32⟩
  | .hbm, ⟨13, _⟩ => ⟨S2x64, .f32⟩
  | .hbm, ⟨14, _⟩ => ⟨S16896x1024, .bf16⟩
  | .hbm, ⟨15, _⟩ => ⟨S16896x128, .f32⟩
  | .hbm, ⟨16, _⟩ => ⟨S1024x2048, .f32⟩
  | .hbm, ⟨17, _⟩ => ⟨S1024x2048, .bf16⟩
  | .hbm, ⟨18, _⟩ => ⟨S2048, .f32⟩
  | .hbm, ⟨19, _⟩ => ⟨S1x2048, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x8x1x1, .f32⟩
  | .hbm, ⟨25, _⟩ => ⟨S8, .f32⟩
  | .hbm, ⟨26, _⟩ => ⟨S8x128, .f32⟩
  | .hbm, ⟨27, _⟩ => ⟨S1024, .f32⟩
  | .hbm, ⟨28, _⟩ => ⟨S1x1024, .f32⟩
  | .hbm, ⟨29, _⟩ => ⟨S1x8x1, .f32⟩
  | .hbm, ⟨30, _⟩ => ⟨S8, .f32⟩
  | .hbm, ⟨31, _⟩ => ⟨S8x128, .f32⟩
  | .hbm, ⟨32, _⟩ => ⟨S1024, .f32⟩
  | .hbm, ⟨33, _⟩ => ⟨S1x1024, .f32⟩
  | .hbm, ⟨34, _⟩ => ⟨S1024x1024, .f32⟩
  | .hbm, ⟨35, _⟩ => ⟨S1024x1024, .bf16⟩
  | .hbm, ⟨36, _⟩ => ⟨S1x1024x64, .f32⟩
  | .hbm, ⟨37, _⟩ => ⟨S1024x64, .f32⟩
  | .hbm, ⟨38, _⟩ => ⟨S64x1024, .f32⟩
  | .hbm, ⟨39, _⟩ => ⟨S1x64, .f32⟩
  | .hbm, ⟨40, _⟩ => ⟨S64, .f32⟩
  | .hbm, ⟨41, _⟩ => ⟨S64x1, .f32⟩
  | .hbm, ⟨42, _⟩ => ⟨S1x4x1024, .f32⟩
  | .hbm, ⟨43, _⟩ => ⟨S4x1024, .f32⟩
  | .hbm, ⟨44, _⟩ => ⟨S1x4x1024, .f32⟩
  | .hbm, ⟨45, _⟩ => ⟨S4x1024, .f32⟩
  | .hbm, ⟨46, _⟩ => ⟨S128x1024, .f32⟩
  | .hbm, ⟨47, _⟩ => ⟨S16896x1024, .bf16⟩
  | .hbm, ⟨48, _⟩ => ⟨S16896x128, .f32⟩
  | .hbm, ⟨49, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1x6x128x1024, .f32⟩
  | .local _ .vmem, ⟨3, _⟩ => ⟨S4x1024, .f32⟩
  | .local _ .vmem, ⟨4, _⟩ => ⟨S1x6x128x1024, .f32⟩
  | .local _ .vmem, ⟨5, _⟩ => ⟨S4x1024, .f32⟩
  | .local _ .vmem, ⟨6, _⟩ => ⟨S1024x2048, .bf16⟩
  | .local _ .vmem, ⟨7, _⟩ => ⟨S1x2048, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S64x1024, .f32⟩
  | .local _ .vmem, ⟨14, _⟩ => ⟨S64x1, .f32⟩
  | .local _ .vmem, ⟨15, _⟩ => ⟨S128x1024, .f32⟩
  | .local _ .vmem, ⟨16, _⟩ => ⟨S128x1024, .bf16⟩
  | .local _ .vmem, ⟨17, _⟩ => ⟨S128x128, .f32⟩
  | .local _ .vmem, ⟨18, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v30_2 : Ref sig .tc := ⟨.hbm, 48, rfl⟩
abbrev main_v30_3 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]
-- ==== Reference8Ideal.lean ====
abbrev S128x1024 : Shape := ⟨2, ![128, 1024]⟩
abbrev S16896x1024 : Shape := ⟨2, ![16896, 1024]⟩
abbrev S1x6x128x1024 : Shape := ⟨4, ![1, 6, 128, 1024]⟩
abbrev S2x4x1024 : Shape := ⟨3, ![2, 4, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x64 : Shape := ⟨3, ![2, 1024, 64]⟩
abbrev S2x64 : Shape := ⟨2, ![2, 64]⟩
abbrev S16896x128 : Shape := ⟨2, ![16896, 128]⟩
abbrev S1x1x128x1024 : Shape := ⟨4, ![1, 1, 128, 1024]⟩
abbrev S1x1x1024 : Shape := ⟨3, ![1, 1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x2048 : Shape := ⟨2, ![1024, 2048]⟩
abbrev S128x2048 : Shape := ⟨2, ![128, 2048]⟩
abbrev S2048 : Shape := ⟨1, ![2048]⟩
abbrev S128x8x128 : Shape := ⟨3, ![128, 8, 128]⟩
abbrev S1x8x1x1 : Shape := ⟨4, ![1, 8, 1, 1]⟩
abbrev S8 : Shape := ⟨1, ![8]⟩
abbrev S8x1 : Shape := ⟨2, ![8, 1]⟩
abbrev S1x8x1 : Shape := ⟨3, ![1, 8, 1]⟩
abbrev S1024x1024 : Shape := ⟨2, ![1024, 1024]⟩

abbrev nBuf : Space → Nat
  | .hbm => 161
  | .vmem => 0
  | .smem => 0
  | _ => 0

abbrev hbmTy0_0 (i : Nat) : BufTy := match i % 128 with
  | 0 => ⟨S128x1024, .f32⟩
  | 1 => ⟨S16896x1024, .f32⟩
  | 2 => ⟨S1x6x128x1024, .f32⟩
  | 3 => ⟨S1x6x128x1024, .f32⟩
  | 4 => ⟨S2x4x1024, .f32⟩
  | 5 => ⟨S1x1024x2048, .f32⟩
  | 6 => ⟨S1x2048, .f32⟩
  | 7 => ⟨S1x1024, .f32⟩
  | 8 => ⟨S1x1024, .f32⟩
  | 9 => ⟨S1x8x128x128, .f32⟩
  | 10 => ⟨S1x8x128, .f32⟩
  | 11 => ⟨S1x1024x1024, .f32⟩
  | 12 => ⟨S2x1024x64, .f32⟩
  | 13 => ⟨S2x64, .f32⟩
  | 14 => ⟨S16896x1024, .bf16⟩
  | 15 => ⟨S16896x128, .f32⟩
  | 16 => ⟨S1x1x128x1024, .f32⟩
  | 17 => ⟨S128x1024, .f32⟩
  | 18 => ⟨S128x1024, .f32⟩
  | 19 => ⟨S1x1x1024, .f32⟩
  | 20 => ⟨S1024, .f32⟩
  | 21 => ⟨S128x1024, .f32⟩
  | 22 => ⟨S_, .f32⟩
  | 23 => ⟨S128, .f32⟩
  | 24 => ⟨S128x1, .f32⟩
  | 25 => ⟨S_, .f32⟩
  | 26 => ⟨S128x1, .f32⟩
  | 27 => ⟨S128x1, .f32⟩
  | 28 => ⟨S_, .f32⟩
  | 29 => ⟨S128x1, .f32⟩
  | 30 => ⟨S128x1, .f32⟩
  | 31 => ⟨S128x1, .f32⟩
  | 32 => ⟨S128x1024, .f32⟩
  | 33 => ⟨S128x1024, .f32⟩
  | 34 => ⟨S1x1024, .f32⟩
  | 35 => ⟨S128x1024, .f32⟩
  | 36 => ⟨S128x1024, .f32⟩
  | 37 => ⟨S128x1024, .f32⟩
  | 38 => ⟨S128x1024, .f32⟩
  | 39 => ⟨S1x1x1024, .f32⟩
  | 40 => ⟨S1024, .f32⟩
  | 41 => ⟨S128x1024, .f32⟩
  | 42 => ⟨S_, .f32⟩
  | 43 => ⟨S128, .f32⟩
  | 44 => ⟨S128x1, .f32⟩
  | 45 => ⟨S_, .f32⟩
  | 46 => ⟨S128x1, .f32⟩
  | 47 => ⟨S128x1, .f32⟩
  | 48 => ⟨S_, .f32⟩
  | 49 => ⟨S128x1, .f32⟩
  | 50 => ⟨S128x1, .f32⟩
  | 51 => ⟨S128x1, .f32⟩
  | 52 => ⟨S128x1024, .f32⟩
  | 53 => ⟨S128x1024, .f32⟩
  | 54 => ⟨S1x1024, .f32⟩
  | 55 => ⟨S128x1024, .f32⟩
  | 56 => ⟨S128x1024, .f32⟩
  | 57 => ⟨S1x1x128x1024, .f32⟩
  | 58 => ⟨S128x1024, .f32⟩
  | 59 => ⟨S_, .f32⟩
  | 60 => ⟨S128x1024, .f32⟩
  | 61 => ⟨S128x1024, .f32⟩
  | 62 => ⟨S128x1024, .f32⟩
  | 63 => ⟨S1x1x128x1024, .f32⟩
  | 64 => ⟨S128x1024, .f32⟩
  | 65 => ⟨S128x1024, .f32⟩
  | 66 => ⟨S1024x2048, .f32⟩
  | 67 => ⟨S128x2048, .f32⟩
  | 68 => ⟨S2048, .f32⟩
  | 69 => ⟨S1x2048, .f32⟩
  | 70 => ⟨S128x2048, .f32⟩
  | 71 => ⟨S128x2048, .f32⟩
  | 72 => ⟨S128x2048, .f32⟩
  | 73 => ⟨S128x2048, .f32⟩
  | 74 => ⟨S_, .f32⟩
  | 75 => ⟨S128x2048, .f32⟩
  | 76 => ⟨S128x2048, .f32⟩
  | 77 => ⟨S128x2048, .f32⟩
  | 78 => ⟨S_, .f32⟩
  | 79 => ⟨S128x2048, .f32⟩
  | 80 => ⟨S128x2048, .f32⟩
  | 81 => ⟨S128x2048, .f32⟩
  | 82 => ⟨S_, .f32⟩
  | 83 => ⟨S128x2048, .f32⟩
  | 84 => ⟨S128x2048, .f32⟩
  | 85 => ⟨S_, .f32⟩
  | 86 => ⟨S128x2048, .f32⟩
  | 87 => ⟨S128x2048, .f32⟩
  | 88 => ⟨S128x2048, .f32⟩
  | 89 => ⟨S128x1024, .f32⟩
  | 90 => ⟨S128x1024, .f32⟩
  | 91 => ⟨S_, .f32⟩
  | 92 => ⟨S128, .f32⟩
  | 93 => ⟨S128x1, .f32⟩
  | 94 => ⟨S_, .f32⟩
  | 95 => ⟨S128x1, .f32⟩
  | 96 => ⟨S128x1, .f32⟩
  | 97 => ⟨S128x1024, .f32⟩
  | 98 => ⟨S128x1024, .f32⟩
  | 99 => ⟨S128x1024, .f32⟩
  | 100 => ⟨S_, .f32⟩
  | 101 => ⟨S128, .f32⟩
  | 102 => ⟨S128x1, .f32⟩
  | 103 => ⟨S_, .f32⟩
  | 104 => ⟨S128x1, .f32⟩
  | 105 => ⟨S128x1, .f32⟩
  | 106 => ⟨S128x1024, .f32⟩
  | 107 => ⟨S128x1024, .f32⟩
  | 108 => ⟨S_, .f32⟩
  | 109 => ⟨S128x1, .f32⟩
  | 110 => ⟨S128x1, .f32⟩
  | 111 => ⟨S128x1, .f32⟩
  | 112 => ⟨S128x1024, .f32⟩
  | 113 => ⟨S128x1024, .f32⟩
  | 114 => ⟨S1024, .f32⟩
  | 115 => ⟨S1x1024, .f32⟩
  | 116 => ⟨S128x1024, .f32⟩
  | 117 => ⟨S128x1024, .f32⟩
  | 118 => ⟨S1024, .f32⟩
  | 119 => ⟨S1x1024, .f32⟩
  | 120 => ⟨S128x1024, .f32⟩
  | 121 => ⟨S128x1024, .f32⟩
  | 122 => ⟨S128x8x128, .f32⟩
  | 123 => ⟨S1x8x1x1, .f32⟩
  | 124 => ⟨S8, .f32⟩
  | 125 => ⟨S8x1, .f32⟩
  | 126 => ⟨S1x8x1, .f32⟩
  | 127 => ⟨S128x8x128, .f32⟩
  | _ => ⟨S128x1024, .f32⟩

abbrev hbmTy0_1 (i : Nat) : BufTy := match i % 128 with
  | 0 => ⟨S128x8x128, .f32⟩
  | 1 => ⟨S1x8x1, .f32⟩
  | 2 => ⟨S8, .f32⟩
  | 3 => ⟨S8x1, .f32⟩
  | 4 => ⟨S1x8x1, .f32⟩
  | 5 => ⟨S128x8x128, .f32⟩
  | 6 => ⟨S128x8x128, .f32⟩
  | 7 => ⟨S128x1024, .f32⟩
  | 8 => ⟨S128x1024, .f32⟩
  | 9 => ⟨S1024x1024, .f32⟩
  | 10 => ⟨S128x1024, .f32⟩
  | 11 => ⟨S1x1x128x1024, .f32⟩
  | 12 => ⟨S128x1024, .f32⟩
  | 13 => ⟨S1x1x1024, .f32⟩
  | 14 => ⟨S1024, .f32⟩
  | 15 => ⟨S128x1024, .f32⟩
  | 16 => ⟨S_, .f32⟩
  | 17 => ⟨S128, .f32⟩
  | 18 => ⟨S128x1, .f32⟩
  | 19 => ⟨S_, .f32⟩
  | 20 => ⟨S128x1, .f32⟩
  | 21 => ⟨S128x1, .f32⟩
  | 22 => ⟨S_, .f32⟩
  | 23 => ⟨S128x1, .f32⟩
  | 24 => ⟨S128x1, .f32⟩
  | 25 => ⟨S128x1, .f32⟩
  | 26 => ⟨S128x1024, .f32⟩
  | 27 => ⟨S128x1024, .f32⟩
  | 28 => ⟨S1x1024, .f32⟩
  | 29 => ⟨S128x1024, .f32⟩
  | 30 => ⟨S128x1024, .f32⟩
  | 31 => ⟨S128x1024, .f32⟩
  | 32 => ⟨S128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_15 : Ref sig .tc := ⟨.hbm, 144, rfl⟩
abbrev main_v112 : Ref sig .tc := ⟨.hbm, 145, rfl⟩
abbrev main_v113 : Ref sig .tc := ⟨.hbm, 146, rfl⟩
abbrev main_cst_16 : Ref sig .tc := ⟨.hbm, 147, rfl⟩
abbrev main_v114 : Ref sig .tc := ⟨.hbm, 148, rfl⟩
abbrev main_v115 : Ref sig .tc := ⟨.hbm, 149, rfl⟩
abbrev main_cst_17 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Kernel9.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x136x6144 : Shape := ⟨3, ![2, 136, 6144]⟩
abbrev S1x1024x512 : Shape := ⟨3, ![1, 1024, 512]⟩
abbrev S1x1x512 : Shape := ⟨3, ![1, 1, 512]⟩
abbrev S1x136x512 : Shape := ⟨3, ![1, 136, 512]⟩
abbrev S1024x512 : Shape := ⟨2, ![1024, 512]⟩
abbrev S136x512 : Shape := ⟨2, ![136, 512]⟩
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x136x6144, .f32⟩
  | .local _ .vmem, ⟨0, _⟩ => ⟨S136x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x136x512, .f32⟩
  | .local _ .vmem, ⟨6, _⟩ => ⟨S1x136x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S_ : Shape := ⟨0, ![]⟩
abbrev S1x1024x6144 : Shape := ⟨3, ![1, 1024, 6144]⟩
abbrev S1024x6144 : Shape := ⟨2, ![1024, 6144]⟩
abbrev S136x6144 : Shape := ⟨2, ![136, 6144]⟩
abbrev S1x6144 : Shape := ⟨2, ![1, 6144]⟩
abbrev S6144 : Shape := ⟨1, ![6144]⟩
abbrev S1x136x6144 : Shape := ⟨3, ![1, 136, 6144]⟩
abbrev S2x136x6144 : Shape := ⟨3, ![2, 136, 6144]⟩

abbrev nBuf : Space → Nat
  | .hbm => 42
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S136x1024, .f32⟩
  | .hbm, ⟨6, _⟩ => ⟨S136x1024, .f32⟩
  | .hbm, ⟨7, _⟩ => ⟨S_, .f32⟩
  | .hbm, ⟨8, _⟩ => ⟨S136x1024, .f32⟩
  | .hbm, ⟨9, _⟩ => ⟨S136x1024, .f32⟩
  | .hbm, ⟨10, _⟩ => ⟨S_, .f32⟩
  | .hbm, ⟨11, _⟩ => ⟨S136x1024, .f32⟩
  | .hbm, ⟨12, _⟩ => ⟨S136x1024, .f32⟩
  | .hbm, ⟨13, _⟩ => ⟨S136x1024, .f32⟩
  | .hbm, ⟨14, _⟩ => ⟨S1x1024x6144, .f32⟩
  | .hbm, ⟨15, _⟩ => ⟨S1024x6144, .f32⟩
  | .hbm, ⟨16, _⟩ => ⟨S136x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S136x6144, .f32⟩
  | .hbm, ⟨21, _⟩ => ⟨S136x6144, .f32⟩
  | .hbm, ⟨22, _⟩ => ⟨S136x1024, .f32⟩
  | .hbm, ⟨23, _⟩ => ⟨S136x1024, .f32⟩
  | .hbm, ⟨24, _⟩ => ⟨S_, .f32⟩
  | .hbm, ⟨25, _⟩ => ⟨S136x1024, .f32⟩
  | .hbm, ⟨26, _⟩ => ⟨S136x1024, .f32⟩
  | .hbm, ⟨27, _⟩ => ⟨S_, .f32⟩
  | .hbm, ⟨28, _⟩ => ⟨S136x1024, .f32⟩
  | .hbm, ⟨29, _⟩ => ⟨S136x1024, .f32⟩
  | .hbm, ⟨30, _⟩ => ⟨S136x1024, .f32⟩
  | .hbm, ⟨31, _⟩ => ⟨S1x1024x6144, .f32⟩
  | .hbm, ⟨32, _⟩ => ⟨S1024x6144, .f32⟩
  | .hbm, ⟨33, _⟩ => ⟨S136x6144, .f32⟩
  | .hbm, ⟨34, _⟩ => ⟨S1x6144, .f32⟩
  | .hbm, ⟨35, _⟩ => ⟨S6144, .f32⟩
  | .hbm, ⟨36, _⟩ => ⟨S1x6144, .f32⟩
  | .hbm, ⟨37, _⟩ => ⟨S136x6144, .f32⟩
  | .hbm, ⟨38, _⟩ => ⟨S136x6144, .f32⟩
  | .hbm, ⟨39, _⟩ => ⟨S1x136x6144, .f32⟩
  | .hbm, ⟨40, _⟩ => ⟨S1x136x6144, .f32⟩
  | .hbm, ⟨41, _⟩ => ⟨S2x136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Kernel10.lean ====
abbrev S16384x512 : Shape := ⟨2, ![16384, 512]⟩
abbrev S16384x1024 : Shape := ⟨2, ![16384, 1024]⟩
abbrev S8x6x1x1024 : Shape := ⟨4, ![8, 6, 1, 1024]⟩
abbrev S2x4x1024 : Shape := ⟨3, ![2, 4, 1024]⟩
abbrev S1x1024x1024 : Shape := ⟨3, ![1, 1024, 1024]⟩
abbrev S2x1024x64 : Shape := ⟨3, ![2, 1024, 64]⟩
abbrev S2x64 : Shape := ⟨2, ![2, 64]⟩
abbrev S16896x1024 : Shape := ⟨2, ![16896, 1024]⟩
abbrev S16896x128 : Shape := ⟨2, ![16896, 128]⟩
abbrev S1x4x1024 : Shape := ⟨3, ![1, 4, 1024]⟩
abbrev S4x1024 : Shape := ⟨2, ![4, 1024]⟩
abbrev S1024x1024 : Shape := ⟨2, ![1024, 1024]⟩
abbrev S1x1024x64 : Shape := ⟨3, ![1, 1024, 64]⟩
abbrev S1024x64 : Shape := ⟨2, ![1024, 64]⟩
abbrev S64x1024 : Shape := ⟨2, ![64, 1024]⟩
abbrev S1x64 : Shape := ⟨2, ![1, 64]⟩
abbrev S64 : Shape := ⟨1, ![64]⟩
abbrev S64x1 : Shape := ⟨2, ![64, 1]⟩
abbrev S512x512 : Shape := ⟨2, ![512, 512]⟩
abbrev S512x1024 : Shape := ⟨2, ![512, 1024]⟩
abbrev S1x6x1x1024 : Shape := ⟨4, ![1, 6, 1, 1024]⟩
abbrev S512x128 : Shape := ⟨2, ![512, 128]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S64x3072 : Shape := ⟨2, ![64, 3072]⟩
abbrev S512x3072 : Shape := ⟨2, ![512, 3072]⟩
abbrev S64x512 : Shape := ⟨2, ![64, 512]⟩
abbrev S8x512 : Shape := ⟨2, ![8, 512]⟩
abbrev S1x512 : Shape := ⟨2, ![1, 512]⟩
abbrev S128x512 : Shape := ⟨2, ![128, 512]⟩

abbrev nBuf : Space → Nat
  | .hbm => 23
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S8x6x1x1024, .f32⟩
  | .hbm, ⟨4, _⟩ => ⟨S2x4x1024, .f32⟩
  | .hbm, ⟨5, _⟩ => ⟨S1x1024x1024, .f32⟩
  | .hbm, ⟨6, _⟩ => ⟨S2x1024x64, .f32⟩
  | .hbm, ⟨7, _⟩ => ⟨S2x64, .f32⟩
  | .hbm, ⟨8, _⟩ => ⟨S16896x1024, .bf16⟩
  | .hbm, ⟨9, _⟩ => ⟨S16896x128, .f32⟩
  | .hbm, ⟨10, _⟩ => ⟨S1x4x1024, .f32⟩
  | .hbm, ⟨11, _⟩ => ⟨S4x1024, .f32⟩
  | .hbm, ⟨12, _⟩ => ⟨S1024x1024, .f32⟩
  | .hbm, ⟨13, _⟩ => ⟨S1024x1024, .bf16⟩
  | .hbm, ⟨14, _⟩ => ⟨S1x1024x64, .f32⟩
  | .hbm, ⟨15, _⟩ => ⟨S1024x64, .f32⟩
  | .hbm, ⟨16, _⟩ => ⟨S64x1024, .f32⟩
  | .hbm, ⟨17, _⟩ => ⟨S1x64, .f32⟩
  | .hbm, ⟨18, _⟩ => ⟨S64, .f32⟩
  | .hbm, ⟨19, _⟩ => ⟨S64x1, .f32⟩
  | .hbm, ⟨20, _⟩ => ⟨S16384x1024, .f32⟩
  | .hbm, ⟨21, _⟩ => ⟨S16896x1024, .bf16⟩
  | .hbm, ⟨22, _⟩ => ⟨S16896x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x6x1x1024, .f32⟩
  | .local _ .vmem, ⟨7, _⟩ => ⟨S1x6x1x1024, .f32⟩
  | .local _ .vmem, ⟨8, _⟩ => ⟨S4x1024, .f32⟩
  | .local _ .vmem, ⟨9, _⟩ => ⟨S1024x1024, .bf16⟩
  | .local _ .vmem, ⟨10, _⟩ => ⟨S64x1024, .f32⟩
  | .local _ .vmem, ⟨11, _⟩ => ⟨S64x1, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference10Ideal.lean ====
abbrev S16384x512 : Shape := ⟨2, ![16384, 512]⟩
abbrev S16384x1024 : Shape := ⟨2, ![16384, 1024]⟩
abbrev S8x6x1x1024 : Shape := ⟨4, ![8, 6, 1, 1024]⟩
abbrev S2x4x1024 : Shape := ⟨3, ![2, 4, 1024]⟩
abbrev S1x1024x1024 : Shape := ⟨3, ![1, 1024, 1024]⟩
abbrev S2x1024x64 : Shape := ⟨3, ![2, 1024, 64]⟩
abbrev S2x64 : Shape := ⟨2, ![2, 64]⟩
abbrev S16896x1024 : Shape := ⟨2, ![16896, 1024]⟩
abbrev S16896x128 : Shape := ⟨2, ![16896, 128]⟩
abbrev S8x2048x1024 : Shape := ⟨3, ![8, 2048, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S8x6x1x1024, .f32⟩
  | .hbm, ⟨4, _⟩ => ⟨S2x4x1024, .f32⟩
  | .hbm, ⟨5, _⟩ => ⟨S1x1024x1024, .f32⟩
  | .hbm, ⟨6, _⟩ => ⟨S2x1024x64, .f32⟩
  | .hbm, ⟨7, _⟩ => ⟨S2x64, .f32⟩
  | .hbm, ⟨8, _⟩ => ⟨S16896x1024, .bf16⟩
  | .hbm, ⟨9, _⟩ => ⟨S16896x128, .f32⟩
  | .hbm, ⟨10, _⟩ => ⟨S16384x1024, .bf16⟩
  | .hbm, ⟨11, _⟩ => ⟨S16384x1024, .f32⟩
  | .hbm, ⟨12, _⟩ => ⟨S8x2048x1024, .f32⟩
  | .hbm, ⟨13, _⟩ => ⟨S1024x1024, .f32⟩
  | .hbm, ⟨14, _⟩ => ⟨S8x2048x1024, .f32⟩
  | .hbm, ⟨15, _⟩ => ⟨S8x2048x1024, .f32⟩
  | .hbm, ⟨16, _⟩ => ⟨S8x1x1x1024, .f32⟩
  | .hbm, ⟨17, _⟩ => ⟨S8x1x1024, .f32⟩
  | .hbm, ⟨18, _⟩ => ⟨S1x1x1024, .f32⟩
  | .hbm, ⟨19, _⟩ => ⟨S1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel11.lean ====
abbrev S128x512 : Shape := ⟨2, ![128, 512]⟩
abbrev S1024x1x64 : Shape := ⟨3, ![1024, 1, 64]⟩
abbrev S128x1024 : Shape := ⟨2, ![128, 1024]⟩
abbrev S1x6x128x1024 : Shape := ⟨4, ![1, 6, 128, 1024]⟩
abbrev S2x4x1024 : Shape := ⟨3, ![2, 4, 1024]⟩
abbrev S1x1024x1024 : Shape := ⟨3, ![1, 1024, 1024]⟩
abbrev S2x1024x64 : Shape := ⟨3, ![2, 1024, 64]⟩
abbrev S2x64 : Shape := ⟨2, ![2, 64]⟩
abbrev S16896x1024 : Shape := ⟨2, ![16896, 1024]⟩
abbrev S16896x128 : Shape := ⟨2, ![16896, 128]⟩
abbrev S1x4x1024 : Shape := ⟨3, ![1, 4, 1024]⟩
abbrev S4x1024 : Shape := ⟨2, ![4, 1024]⟩
abbrev S1024x1024 : Shape := ⟨2, ![1024, 1024]⟩
abbrev S1x1024x64 : Shape := ⟨3, ![1, 1024, 64]⟩
abbrev S1024x64 : Shape := ⟨2, ![1024, 64]⟩
abbrev S64x1024 : Shape := ⟨2, ![64, 1024]⟩
abbrev S1x64 : Shape := ⟨2, ![1, 64]⟩
abbrev S64 : Shape := ⟨1, ![64]⟩
abbrev S64x1 : Shape := ⟨2, ![64, 1]⟩
abbrev S128x128 : Shape := ⟨2, ![128, 128]⟩
abbrev S512x1024 : Shape := ⟨2, ![512, 1024]⟩
abbrev S1x1x128x1024 : Shape := ⟨4, ![1, 1, 128, 1024]⟩
abbrev S1x1024 : Shape := ⟨2, ![1, 1024]⟩
abbrev S128 : Shape := ⟨1, ![128]⟩
abbrev S128x1 : Shape := ⟨2, ![128, 1]⟩
abbrev S64x3072 : Shape := ⟨2, ![64, 3072]⟩
abbrev S128x3072 : Shape := ⟨2, ![128, 3072]⟩
abbrev S64x128 : Shape := ⟨2, ![64, 128]⟩
abbrev S8x128 : Shape := ⟨2, ![8, 128]⟩
abbrev S1x128 : Shape := ⟨2, ![1, 128]⟩

abbrev nBuf : Space → Nat
  | .hbm => 25
  | .vmem => 11
  | .smem => 0
  | _ => 0

abbrev bufTy : (tb : Table) → Fin (tcTables nBuf tb) → BufTy
  | .hbm, ⟨0, _⟩ => ⟨S128x512, .bf16⟩
  | .hbm, ⟨1, _⟩ => ⟨S1024x1x64, .f32⟩
  | .hbm, ⟨2, _⟩ => ⟨S128x1024, .f32⟩
  | .hbm, ⟨3, _⟩ => ⟨S1x6x128x1024, .f32⟩
  | .hbm, ⟨4, _⟩ => ⟨S2x4x1024, .f32⟩
  | .hbm, ⟨5, _⟩ => ⟨S1x1024x1024, .f32⟩
  | .hbm, ⟨6, _⟩ => ⟨S2x1024x64, .f32⟩
  | .hbm, ⟨7, _⟩ => ⟨S2x64, .f32⟩
  | .hbm, ⟨8, _⟩ => ⟨S16896x1024, .bf16⟩
  | .hbm, ⟨9, _⟩ => ⟨S16896x128, .f32⟩
  | .hbm, ⟨10, _⟩ => ⟨S128x512, .f32⟩
  | .hbm, ⟨11, _⟩ => ⟨S128x512, .bf16⟩
  | .hbm, ⟨12, _⟩ => ⟨S1x4x1024, .f32⟩
  | .hbm, ⟨13, _⟩ => ⟨S4x1024, .f32⟩
  | .hbm, ⟨14, _⟩ => ⟨S1024x1024, .f32⟩
  | .hbm, ⟨15, _⟩ => ⟨S1024x1024, .bf16⟩
  | .hbm, ⟨16, _⟩ => ⟨S1x1024x64, .f32⟩
  | .hbm, ⟨17, _⟩ => ⟨S1024x64, .f32⟩
  | .hbm, ⟨18, _⟩ => ⟨S64x1024, .f32⟩
  | .hbm, ⟨19, _⟩ => ⟨S1x64, .f32⟩
  | .hbm, ⟨20, _⟩ => ⟨S64, .f32⟩
  | .hbm, ⟨21, _⟩ => ⟨S64x1, .f32⟩
  | .hbm, ⟨22, _⟩ => ⟨S128x1024, .f32⟩
  | .hbm, ⟨23, _⟩ => ⟨S16896x1024, .bf16⟩
  | .hbm, ⟨24, _⟩ => ⟨S16896x128, .f32⟩
  | .local _ .vmem, ⟨0, _⟩ => ⟨S128x512, .bf16⟩
  | .local _ .vmem, ⟨1, _⟩ => ⟨S128x512, .bf16⟩
  | .local _ .vmem, ⟨2, _⟩ => ⟨S128x1024, .f32⟩
  | .local _ .vmem, ⟨3, _⟩ => ⟨S1x6x128x1024, .f32⟩
  | .local _ .vmem, ⟨4, _⟩ => ⟨S4x1024, .f32⟩
  | .local _ .vmem, ⟨5, _⟩ => ⟨S1024x1024, .bf16⟩
  | .local _ .vmem, ⟨6, _⟩ => ⟨S64x1024, .f32⟩
  | .local _ .vmem, ⟨7, _⟩ => ⟨S64x1, .f32⟩
  | .local _ .vmem, ⟨8, _⟩ => ⟨S128x1024, .f32⟩
  | .local _ .vmem, ⟨9, _⟩ => ⟨S128x1024, .bf16⟩
  | .local _ .vmem, ⟨10, _⟩ => ⟨S128x128, .f32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== Reference11Ideal.lean ====
abbrev S128x512 : Shape := ⟨2, ![128, 512]⟩
abbrev S1024x1x64 : Shape := ⟨3, ![1024, 1, 64]⟩
abbrev S128x1024 : Shape := ⟨2, ![128, 1024]⟩
abbrev S1x6x128x1024 : Shape := ⟨4, ![1, 6, 128, 1024]⟩
abbrev S2x4x1024 : Shape := ⟨3, ![2, 4, 1024]⟩
abbrev S1x1024x1024 : Shape := ⟨3, ![1, 1024, 1024]⟩
abbrev S2x1024x64 : Shape := ⟨3, ![2, 1024, 64]⟩
abbrev S2x64 : Shape := ⟨2, ![2, 64]⟩
abbrev S16896x1024 : Shape := ⟨2, ![16896, 1024]⟩
abbrev S16896x128 : Shape := ⟨2, ![16896, 128]⟩
abbrev S1024x1024 : Shape := ⟨2, ![1024, 1024]⟩
abbrev S1x1x128x1024 : Shape := ⟨4, ![1, 1, 128, 1024]⟩
abbrev S1x1x1024 : Shape := ⟨3, ![1, 1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S1024x1x64, .f32⟩
  | .hbm, ⟨2, _⟩ => ⟨S128x1024, .f32⟩
  | .hbm, ⟨3, _⟩ => ⟨S1x6x128x1024, .f32⟩
  | .hbm, ⟨4, _⟩ => ⟨S2x4x1024, .f32⟩
  | .hbm, ⟨5, _⟩ => ⟨S1x1024x1024, .f32⟩
  | .hbm, ⟨6, _⟩ => ⟨S2x1024x64, .f32⟩
  | .hbm, ⟨7, _⟩ => ⟨S2x64, .f32⟩
  | .hbm, ⟨8, _⟩ => ⟨S16896x1024, .bf16⟩
  | .hbm, ⟨9, _⟩ => ⟨S16896x128, .f32⟩
  | .hbm, ⟨10, _⟩ => ⟨S128x512, .f32⟩
  | .hbm, ⟨11, _⟩ => ⟨S128x512, .f32⟩
  | .hbm, ⟨12, _⟩ => ⟨S128x1024, .f32⟩
  | .hbm, ⟨13, _⟩ => ⟨S1024x1024, .f32⟩
  | .hbm, ⟨14, _⟩ => ⟨S128x1024, .f32⟩
  | .hbm, ⟨15, _⟩ => ⟨S1x1x128x1024, .f32⟩
  | .hbm, ⟨16, _⟩ => ⟨S128x1024, .f32⟩
  | .hbm, ⟨17, _⟩ => ⟨S1x1x1024, .f32⟩
  | .hbm, ⟨18, _⟩ => ⟨S1024, .f32⟩
  | .hbm, ⟨19, _⟩ => ⟨S128x1024, .f32⟩
  | .hbm, ⟨20, _⟩ => ⟨S_, .f32⟩
  | .hbm, ⟨21, _⟩ => ⟨S128, .f32⟩
  | .hbm, ⟨22, _⟩ => ⟨S128x1, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S128x1024, .f32⟩
  | .hbm, ⟨31, _⟩ => ⟨S128x1024, .f32⟩
  | .hbm, ⟨32, _⟩ => ⟨S1x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x1024, .f32⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Step.Math.lean ====
/-
  The decoding step of the recurrence for one head of one sample, over the extended reals: its new state, its raw
  output, and the output after the group norm, the bonus and the gate.
-/
module

public import Idealize.ShloMosaic.Lib.Pointwise

@[expose] public section

noncomputable section

namespace Cert.Step

open Idealize.ShloMosaic

/-- The new state: the old one decayed column by column, less the part that the removal vector reads out, plus the
    outer product of the value with the key. -/
def newState (S : Fin 64 → Fin 64 → EReal) (lw k v kk a : Fin 64 → EReal) (i j : Fin 64) : EReal :=
  S i j * Ideal.exp (lw j) - (∑ l : Fin 64, S i l * kk l) * (kk j * a j) + v i * k j

/-- What the receptance vector reads out of a state. -/
def readOut (S : Fin 64 → Fin 64 → EReal) (r : Fin 64 → EReal) (i : Fin 64) : EReal := ∑ l : Fin 64, S i l * r l

/-- The mean over the head's 64 lanes. -/
def mean (o : Fin 64 → EReal) : EReal := Ideal.div (∑ l : Fin 64, o l) (Ideal.ofBits .f32 0x42800000#32)

/-- The group norm of one head. -/
def norm (o gain bias : Fin 64 → EReal) (i : Fin 64) : EReal :=
  (o i - mean o) * Ideal.rsqrt (mean (fun l => (o l - mean o) * (o l - mean o)) + Ideal.ofBits .f32 0x3A27C5AC#32) * gain i + bias i

/-- The head's output: the norm, the bonus of the current token, the gate. -/
def out (o r k v g rk gain bias : Fin 64 → EReal) (i : Fin 64) : EReal :=
  (norm o gain bias i + (∑ l : Fin 64, r l * k l * rk l) * v i) * g i

/-- A row of the unit matrix picks out one entry, infinite entries included: zero times anything is zero here. -/
theorem sum_pick (f e : Fin 64 → EReal) (i : Fin 64) (he : ∀ l, e l = if l = i then 1 else 0) :
    ∑ l : Fin 64, e l * f l = f i := by
  simp only [he, ite_mul, one_mul, zero_mul, Finset.sum_ite_eq', Finset.mem_univ, if_true]

end Cert.Step

end
-- ==== Proof.Step.Block.lean ====
/-
  What one grid point of the decoding step leaves in its two output blocks, read at an index.
-/
module

public import proofs.«01_k».proof.Proof.Gen.KernelIdeal.Value
public import Idealize.ShloMosaic.Lib.Pipeline.ValueKit.Acc
public import proofs.«01_k».proof.Proof.Step.Math

@[expose] public section

set_option maxRecDepth 16384

noncomputable section

namespace Cert.Step

open Idealize.ShloMosaic Cert.KernelIdeal Cert.KernelIdeal.Gen

variable (x0 : Vec Ideal S64x64x64 .f32) (x1 x2 x3 x4 x5 x6 x7 x8 x9 x10 : Vec Ideal S64x1x64 .f32)

/-- An entry of the unit matrix that the body makes of two counts along the axes. -/
theorem unit_entry (i l : Fin 64) :
    FloatOps.sitofp (F := Ideal) .f32 (BitVec.setWidth 32 (IntOp.cmpi CmpIPredicate.eq (BitVec.ofNat 32 i.val) (BitVec.ofNat 32 l.val)))
      = (if l = i then (1 : EReal) else 0) := by
  by_cases h : l = i
  · subst h
    simp [IntOp.cmpi, FloatOps.sitofp]
  · have h' : ¬ (BitVec.ofNat 32 i.val = BitVec.ofNat 32 l.val) := by
      intro e
      have e' := congrArg BitVec.toNat e
      simp only [BitVec.toNat_ofNat] at e'
      have := i.isLt; have := l.isLt
      exact h (Fin.ext (by omega))
    have h'' : (BitVec.ofNat 32 i.val == BitVec.ofNat 32 l.val) = false := beq_eq_false_iff_ne.mpr h'
    simp [IntOp.cmpi, FloatOps.sitofp, h, h'']

/-- A row of the unit matrix against a vector is one entry of the vector, by the second axis and by the first. -/
theorem unit_row (f : Fin 64 → EReal) (i : Fin 64) :
    ∑ l : Fin 64, FloatOps.sitofp (F := Ideal) .f32 (BitVec.setWidth 32 (IntOp.cmpi CmpIPredicate.eq (BitVec.ofNat 32 i.val) (BitVec.ofNat 32 l.val))) * f l
      = f i :=
  sum_pick f _ i fun l => unit_entry i l

theorem unit_column (f : Fin 64 → EReal) (i : Fin 64) :
    ∑ l : Fin 64, FloatOps.sitofp (F := Ideal) .f32 (BitVec.setWidth 32 (IntOp.cmpi CmpIPredicate.eq (BitVec.ofNat 32 l.val) (BitVec.ofNat 32 i.val))) * f l
      = f i :=
  sum_pick f _ i fun l => (unit_entry l i).trans (by simp only [eq_comm])

/-- The state's output block. -/
theorem out12_apply (q i j : Fin 64) :
    out0_12 x0 x1 x2 x3 x4 x5 x6 x7 x8 x9 x10 (ix3 q i j)
      = newState (fun i l => x0 (ix3 q i l)) (fun l => x2 (ix3 q 0 l)) (fun l => x3 (ix3 q 0 l)) (fun l => x4 (ix3 q 0 l))
          (fun l => x5 (ix3 q 0 l)) (fun l => x6 (ix3 q 0 l)) i j := by
  unfold_out out0_12
  frame_out
  unfold_payloads
  pointwise [newState]
  rw [unit_row (fun l => x4 (ix3 q 0 l)) i]

/-- The output's block. -/
theorem out11_apply (q i : Fin 64) :
    out0_11 x0 x1 x2 x3 x4 x5 x6 x7 x8 x9 x10 (ix3 q 0 i)
      = out (readOut (newState (fun i l => x0 (ix3 q i l)) (fun l => x2 (ix3 q 0 l)) (fun l => x3 (ix3 q 0 l))
            (fun l => x4 (ix3 q 0 l)) (fun l => x5 (ix3 q 0 l)) (fun l => x6 (ix3 q 0 l))) (fun l => x1 (ix3 q 0 l)))
          (fun l => x1 (ix3 q 0 l)) (fun l => x3 (ix3 q 0 l)) (fun l => x4 (ix3 q 0 l)) (fun l => x7 (ix3 q 0 l))
          (fun l => x8 (ix3 q 0 l)) (fun l => x9 (ix3 q 0 l)) (fun l => x10 (ix3 q 0 l)) i := by
  unfold_out out0_11
  frame_out
  unfold_payloads
  pointwise [out, norm, mean, readOut, newState]
  have hv (i : Fin 64) := unit_row (fun l => x4 (ix3 q 0 l)) i
  have ho (f : Fin 64 → EReal) (i : Fin 64) := unit_column f i
  simp only [hv]
  simp only [ho]

end Cert.Step

end
-- ==== Proof.Step.Arrays.lean ====
/-
  The two arrays that the decoding step leaves after its sixteen grid points, read at an index of the whole array.
-/
module

public import Idealize.ShloMosaic.Lib.Pipeline.ValueKit
public import Idealize.ShloMosaic.Lib.Claim
public import proofs.«01_k».proof.Proof.Step.Block

@[expose] public section

set_option maxRecDepth 16384

noncomputable section

namespace Cert.Step

open Idealize.ShloMosaic Idealize.ShloMosaic.TcCoe Cert.KernelIdeal Cert.KernelIdeal.Gen

/-! Row `n` of the flattened arrays is head `n % 8` of sample `n / 8`. -/

/-- That head's state. -/
def stateOf (A : FVec Ideal S1x128x8x64x64 .f32) (n : Fin 1024) (i l : Fin 64) : EReal :=
  A (ix5 0 ⟨n.val / 8, by omega⟩ ⟨n.val % 8, by omega⟩ i l)

/-- That head's part of a projected vector. -/
def rowOf (A : FVec Ideal S128x512 .f32) (n : Fin 1024) (l : Fin 64) : EReal :=
  A (ix2 ⟨n.val / 8, by omega⟩ ⟨n.val % 8 * 64 + l.val, by omega⟩)

/-- That head's part of a parameter that all samples share. -/
def sharedOf (A : FVec Ideal S1x512 .f32) (n : Fin 1024) (l : Fin 64) : EReal :=
  A (ix2 0 ⟨n.val % 8 * 64 + l.val, by omega⟩)

def bonusOf (A : FVec Ideal S1x8x64 .f32) (n : Fin 1024) (l : Fin 64) : EReal :=
  A (ix3 0 ⟨n.val % 8, by omega⟩ l)

/-- The new states of all heads of all samples. -/
def stateArr (a0 : FVec Ideal S1x128x8x64x64 .f32) (a2 a3 a4 a5 a6 : FVec Ideal S128x512 .f32) (n : Fin 1024) : Fin 64 → Fin 64 → EReal :=
  newState (stateOf a0 n) (rowOf a2 n) (rowOf a3 n) (rowOf a4 n) (rowOf a5 n) (rowOf a6 n)

/-- The outputs of all heads of all samples. -/
def outArr (a0 : FVec Ideal S1x128x8x64x64 .f32) (a1 a2 a3 a4 a5 a6 a7 : FVec Ideal S128x512 .f32) (a8 : FVec Ideal S1x8x64 .f32)
    (a9 a10 : FVec Ideal S1x512 .f32) (n : Fin 1024) : Fin 64 → EReal :=
  out (readOut (stateArr a0 a2 a3 a4 a5 a6 n) (rowOf a1 n)) (rowOf a1 n) (rowOf a3 n) (rowOf a4 n) (rowOf a7 n)
    (bonusOf a8 n) (sharedOf a9 n) (sharedOf a10 n)

variable (m : (ℓ : Loc nD τ sig) → Buf (Elt Ideal) ℓ) (c : Dev nD)

/-- The windows' block indices: the states, the vectors and the two outputs move with the point, the parameters stay. -/
theorem idx : ∀ t : Fin cfg0.N,
    win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![0, 0, 0]
    ∧ win0_9.index t = ![0, 0, 0] ∧ win0_10.index t = ![0, 0, 0] ∧ win0_11.index t = ![t.val, 0, 0]
    ∧ win0_12.index t = ![t.val, 0, 0] :=
  (by decide +kernel : ∀ t : Fin grid0.N, _)

/-- The row of the whole array that row `q` of point `t`'s block is. -/
def row (t : Fin cfg0.N) (q : Fin 64) : Fin 1024 :=
  ⟨t.val * 64 + q.val, by have := t.isLt; have : cfg0.N = 16 := rfl; omega⟩

theorem blk0 (t : Fin cfg0.N) (q i l : Fin 64) : iblk m c 0 t (ix3 q i l) = stateOf (m ((c.tc : Thread nD τ).loc main_arg0)) (row t q) i l := by
  unfold stateOf row
  blk_ext! [iblk, V, idx t]

theorem blk1 (t : Fin cfg0.N) (q l : Fin 64) : iblk m c 1 t (ix3 q 0 l) = rowOf (m ((c.tc : Thread nD τ).loc main_arg1)) (row t q) l := by
  unfold rowOf row
  blk_ext! [iblk, V, idx t]

theorem blk2 (t : Fin cfg0.N) (q l : Fin 64) : iblk m c 2 t (ix3 q 0 l) = rowOf (m ((c.tc : Thread nD τ).loc main_arg2)) (row t q) l := by
  unfold rowOf row
  blk_ext! [iblk, V, idx t]

theorem blk3 (t : Fin cfg0.N) (q l : Fin 64) : iblk m c 3 t (ix3 q 0 l) = rowOf (m ((c.tc : Thread nD τ).loc main_arg3)) (row t q) l := by
  unfold rowOf row
  blk_ext! [iblk, V, idx t]

theorem blk4 (t : Fin cfg0.N) (q l : Fin 64) : iblk m c 4 t (ix3 q 0 l) = rowOf (m ((c.tc : Thread nD τ).loc main_arg4)) (row t q) l := by
  unfold rowOf row
  blk_ext! [iblk, V, idx t]

theorem blk5 (t : Fin cfg0.N) (q l : Fin 64) : iblk m c 5 t (ix3 q 0 l) = rowOf (m ((c.tc : Thread nD τ).loc main_arg5)) (row t q) l := by
  unfold rowOf row
  blk_ext! [iblk, V, idx t]

theorem blk6 (t : Fin cfg0.N) (q l : Fin 64) : iblk m c 6 t (ix3 q 0 l) = rowOf (m ((c.tc : Thread nD τ).loc main_arg6)) (row t q) l := by
  unfold rowOf row
  blk_ext! [iblk, V, idx t]

theorem blk7 (t : Fin cfg0.N) (q l : Fin 64) : iblk m c 7 t (ix3 q 0 l) = rowOf (m ((c.tc : Thread nD τ).loc main_arg7)) (row t q) l := by
  unfold rowOf row
  blk_ext! [iblk, V, idx t]

theorem blk8 (t : Fin cfg0.N) (q l : Fin 64) : iblk m c 8 t (ix3 q 0 l) = bonusOf (m ((c.tc : Thread nD τ).loc main_arg8)) (row t q) l := by
  unfold bonusOf row
  blk_ext! [iblk, V, idx t]

theorem blk9 (t : Fin cfg0.N) (q l : Fin 64) : iblk m c 9 t (ix3 q 0 l) = sharedOf (m ((c.tc : Thread nD τ).loc main_arg9)) (row t q) l := by
  unfold sharedOf row
  blk_ext! [iblk, V, idx t]

theorem blk10 (t : Fin cfg0.N) (q l : Fin 64) : iblk m c 10 t (ix3 q 0 l) = sharedOf (m ((c.tc : Thread nD τ).loc main_arg10)) (row t q) l := by
  unfold sharedOf row
  blk_ext! [iblk, V, idx t]

/-- The state array after the run. -/
theorem final12 : (dats m 0 c).arrAt 12 cfg0.N = fun i : S1024x64x64.Idx =>
    stateArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2) := by
  refine (dats m 0 c).arrAt_eq_of_covers 12 _ (by decide +kernel) fun t hf y => ?_
  blk_simp
  rw [after0_12]
  obtain ⟨q, i, j, rfl⟩ : ∃ (q i j : Fin 64), y = ix3 q i j := ⟨y 0, y 1, y 2, eq_ix3 y⟩
  have e0 : (win0_12.blk t).view.emb (ix3 q i j) 0 = row t q := by
    refine Fin.ext ?_; unfold row; blk_simp [idx t]
  have e1 : (win0_12.blk t).view.emb (ix3 q i j) 1 = i := by
    refine Fin.ext ?_; blk_simp [idx t]
  have e2 : (win0_12.blk t).view.emb (ix3 q i j) 2 = j := by
    refine Fin.ext ?_; blk_simp [idx t]
  refine (out12_apply _ _ _ _ _ _ _ _ _ _ _ q i j).trans ?_
  rw [e0, e1, e2]
  simp only [stateArr, blk0, blk2, blk3, blk4, blk5, blk6]

/-- The output array after the run. -/
theorem final11 : (dats m 0 c).arrAt 11 cfg0.N = fun i : S1024x1x64.Idx =>
    outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 2) := by
  refine (dats m 0 c).arrAt_eq_of_covers 11 _ (by decide +kernel) fun t hf y => ?_
  blk_simp
  rw [after0_11]
  obtain ⟨q, j, rfl⟩ : ∃ (q j : Fin 64), y = ix3 q 0 j := ⟨y 0, y 2, by
    have h := eq_ix3 y; have h1 : y 1 = (0 : Fin 1) := Subsingleton.elim (α := Fin 1) _ _; rw [h1] at h; exact h⟩
  have e0 : (win0_11.blk t).view.emb (ix3 q 0 j) 0 = row t q := by
    refine Fin.ext ?_; unfold row; blk_simp [idx t]
  have e2 : (win0_11.blk t).view.emb (ix3 q 0 j) 2 = j := by
    refine Fin.ext ?_; blk_simp [idx t]
  refine (out11_apply _ _ _ _ _ _ _ _ _ _ _ q j).trans ?_
  rw [e0, e2]
  simp only [outArr, stateArr, blk0, blk1, blk2, blk3, blk4, blk5, blk6, blk7, blk8, blk9, blk10]

end Cert.Step

end
-- ==== Proof.Step.Reference.lean ====
/-
  The reference's two results of the decoding step, read at an index: the same functions of the arguments.
-/
module

public import Idealize.ShloMosaic.Lib.Tactic.CleanTypes
public import proofs.«01_k».proof.Proof.Gen.ReferenceIdeal.Run
public import proofs.«01_k».proof.Proof.Step.Arrays

@[expose] public section

set_option maxRecDepth 16384

noncomputable section

namespace Cert.Step

open Idealize.ShloMosaic Idealize.ShloMosaic.TcCoe Cert.ReferenceIdeal Cert.ReferenceIdeal.Gen Cert.ReferenceIdeal.Value

variable (m : (ℓ : Loc nD τ sig) → Buf (Elt Ideal) ℓ) (c : Dev nD)

/-- The reference's new states. -/
theorem ref_state (a0 : FVec Ideal S1x128x8x64x64 .f32) (a2 a3 a4 a5 a6 : FVec Ideal S128x512 .f32) (n : Fin 1024) (i j : Fin 64) :
    (shapeCast _ (addf (subf (mulf (shapeCast _ a0 shapeCasts_S1x128x8x64x64_S128x8x64x64) (broadcastInDim S128x8x64x64 ![0, 1, 2, 3] bcast_S128x8x1x64_S128x8x64x64_0_1_2_3 (broadcastInDim S128x8x1x64 ![0, 1, 3] bcast_S128x8x64_S128x8x1x64_0_1_3 (Host.exp (shapeCast _ a2 shapeCasts_S128x512_S128x8x64))))) (mulf (broadcastInDim S128x8x64x64 ![0, 1, 2, 3] bcast_S128x8x64x1_S128x8x64x64_0_1_2_3 (broadcastInDim S128x8x64x1 ![0, 1, 2] bcast_S128x8x64_S128x8x64x1_0_1_2 (Host.dotGeneral dot_S128x8x64x64_S128x8x64_S128x8x64_3_2_2_n_01_01 none (shapeCast _ a0 shapeCasts_S1x128x8x64x64_S128x8x64x64) (shapeCast _ a5 shapeCasts_S128x512_S128x8x64)))) (broadcastInDim S128x8x64x64 ![0, 1, 2, 3] bcast_S128x8x1x64_S128x8x64x64_0_1_2_3 (broadcastInDim S128x8x1x64 ![0, 1, 3] bcast_S128x8x64_S128x8x1x64_0_1_3 (mulf (shapeCast _ a5 shapeCasts_S128x512_S128x8x64) (shapeCast _ a6 shapeCasts_S128x512_S128x8x64)))))) (mulf (broadcastInDim S128x8x64x64 ![0, 1, 2, 3] bcast_S128x8x64x1_S128x8x64x64_0_1_2_3 (broadcastInDim S128x8x64x1 ![0, 1, 2] bcast_S128x8x64_S128x8x64x1_0_1_2 (shapeCast _ a4 shapeCasts_S128x512_S128x8x64))) (broadcastInDim S128x8x64x64 ![0, 1, 2, 3] bcast_S128x8x1x64_S128x8x64x64_0_1_2_3 (broadcastInDim S128x8x1x64 ![0, 1, 3] bcast_S128x8x64_S128x8x1x64_0_1_3 (shapeCast _ a3 shapeCasts_S128x512_S128x8x64))))) shapeCasts_S128x8x64x64_S1024x64x64 : FVec Ideal S1024x64x64 .f32) (ix3 n i j)
      = stateArr a0 a2 a3 a4 a5 a6 n i j := by
  pointwise [stateArr, newState, stateOf, rowOf]

/-- The reference's outputs. -/
theorem ref_out (n : Fin 1024) (i : Fin 64) : (res_main_v66 m c : FVec Ideal S1024x1x64 .f32) (ix3 n 0 i)
      = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) n i := by
  unfold res_main_v66
  change (shapeCast S1024x1x64 _ Gen.shapeCasts_S128x512_S1024x1x64 : FVec Ideal S1024x1x64 .f32) (ix3 n 0 i) = _
  clean_types
  pointwise [outArr, out, norm, mean, readOut, bonusOf, sharedOf, stateArr, newState, stateOf, rowOf]
  have h : (n.val % 8 * 64 + i.val) / 64 = n.val % 8 := by omega
  have h' : (n.val % 8 * 64 + i.val) % 64 = i.val := by omega
  simp only [h, h', Fin.eta]

end Cert.Step

end
-- ==== Proof.Step.Claims.lean ====
/-
  The claims about the decoding step of the recurrence.
-/
module

public import proofs.«01_k».proof.Defs
public import proofs.«01_k».proof.Proof.Gen.Kernel.Frame
public import proofs.«01_k».proof.Proof.Step.Reference

@[expose] public section

set_option maxRecDepth 16384

noncomputable section

namespace Cert.Step

open Idealize.ShloMosaic Idealize.ShloMosaic.TcCoe Idealize.SL.Sem

theorem frame : Cert.quiescent_Kernel := fun m ρ _ => Cert.Kernel.Gen.frame m ρ

theorem frameIdeal : Cert.quiescent_KernelIdeal := fun m ρ _ => Cert.KernelIdeal.Gen.frame m ρ

/-- The reference is host operations only: it keeps its arguments and declares no semaphore. -/
theorem frameReference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal := trivial

/-- Both runs end with the new states and the outputs of all heads of all samples. -/
theorem algebraic : Cert.algebraic_KernelIdeal_ReferenceIdeal := by
  intro m ρ m' ρ' _ hagree
  refine ⟨fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    refine Eq.trans ?_ (final11 m c).symm
    funext i
    obtain ⟨n, j, rfl⟩ : ∃ (n : Fin 1024) (j : Fin 64), i = ix3 n 0 j := ⟨i 0, i 2, by
      have h := eq_ix3 i; have h1 : i 1 = (0 : Fin 1) := Subsingleton.elim (α := Fin 1) _ _; rw [h1] at h; exact h⟩
    refine (ref_out m' c n j).trans ?_
    rw [e0, e1, e2, e3, e4, e5, e6, e7, e8, e9, e10]
    rfl
  · obtain ⟨e0, e1, e2, e3, e4, e5, e6, e7, e8, e9, e10⟩ := hagree c
    refine Eq.trans ?_ (final12 m c).symm
    funext i
    obtain ⟨n, k, j, rfl⟩ : ∃ (n : Fin 1024) (k j : Fin 64), i = ix3 n k j := ⟨i 0, i 1, i 2, eq_ix3 i⟩
    refine (ref_state _ _ _ _ _ _ n k j).trans ?_
    rw [e0, e2, e3, e4, e5, e6]
    rfl

end Cert.Step

end
-- ==== Proof.Experts.Kernel2Ideal.Ring.lean ====
/-
  The token tiles in flight. The kernel keeps three tiles of the sorted tokens in on-chip memory: while one is used,
  the next two are on their way. This module names the three slots, the tiles and the three semaphores, says what it
  means that a slot is free or has a tile on its way, and states what the launch gives the ring and takes back.
  The tokens are lent to the copies by read share: one share for each slot, so that two copies never meet.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance : NeZero grid0.N := ⟨by rw [N_0]; decide⟩

/-! ## Buffers and their names -/

/-- The three cast weights, the three slots, the sorted tokens, the two tables: whole buffers. -/
abbrev gateM : Memref sig .tc .vmem S1024x256 .bf16 := Memref.whole cc0_scratch0
abbrev upM : Memref sig .tc .vmem S1024x256 .bf16 := Memref.whole cc0_scratch1
abbrev downM : Memref sig .tc .vmem S256x1024 .bf16 := Memref.whole cc0_scratch2
abbrev slotsM : Memref sig .tc .vmem S3x1024x1152 .bf16 := Memref.whole cc0_scratch3
abbrev tokM : Memref sig .tc .hbm S229376x1152 .bf16 := Memref.whole main_arg2
abbrev expM : Memref sig .tc .smem S256 .i32 := Memref.whole main_arg0
abbrev miscM : Memref sig .tc .smem S1024 .i32 := Memref.whole main_arg1

/-- What a memref's buffer holds on core `c`. -/
abbrev Held (c : Dev nD) {sp : Space} {S : Shape} {e : EltTy} (M : Memref sig .tc sp S e) : Type := Buf (Elt F) (M.view.loc (c : Thread nD τ))
/-- The whole buffer of `M`, held at `f`. -/
abbrev wholeAt (c : Dev nD) {sp : Space} {S : Shape} {e : EltTy} (M : Memref sig .tc sp S e) (f : Held (F := F) c M) : sProp 𝕄 :=
  M.view.loc (c : Thread nD τ) ↦{fullShare} f

theorem inb_slot (s : Fin 3) : ∀ a, (![s.val, 0, 0] : Fin 3 → Nat) a + S1x1024x1152.size a ≤ S3x1024x1152.size a := by
  have := s.isLt; intro a; fin_cases a <;> simp <;> omega
theorem inb_tile (b : Fin 224) : ∀ a, (![1024 * b.val, 0] : Fin 2 → Nat) a + S1024x1152.size a ≤ S229376x1152.size a := by
  have := b.isLt; intro a; fin_cases a <;> simp <;> omega
theorem inb_sem (s : Fin 3) : ∀ a, (![s.val] : Fin 1 → Nat) a + S1.size a ≤ S3.size a := by
  have := s.isLt; intro a; fin_cases a <;> simp <;> omega

/-- Slot `s`. -/
def slotM (s : Fin 3) : Memref sig .tc .vmem S1024x1152 .bf16 :=
  (slotsM.slice (Rect.unit (s := S3x1024x1152) ![s.val, 0, 0] S1x1024x1152.size (inb_slot s)) (fun _ => rfl)).squeeze S1024x1152 squeezes_S1x1024x1152_S1024x1152
/-- Tile `b` of the tokens. -/
def tileM (b : Fin 224) : Memref sig .tc .hbm S1024x1152 .bf16 :=
  tokM.slice (Rect.unit (s := S229376x1152) ![1024 * b.val, 0] S1024x1152.size (inb_tile b)) (fun _ => rfl)
/-- The semaphore of slot `s`. -/
def semM (s : Fin 3) : DmaSems sig S_ := (cc0_scratch4.slice (Rect.unit (s := S3) ![s.val] S1.size (inb_sem s))).squeeze S_ squeezes_S1_S_
abbrev semLoc (s : Fin 3) : SemLoc sig := SemLoc.dma (semM s).sem
theorem semLoc_0 : semLoc 0 = SemLoc.dma 8 := by decide
theorem semLoc_1 : semLoc 1 = SemLoc.dma 9 := by decide
theorem semLoc_2 : semLoc 2 = SemLoc.dma 10 := by decide

/-! ## Free slots and tiles on their way -/

section Families
variable (c : Dev nD) (W : Held (F := F) c tokM)

/-- Slot `s`'s share of the tokens: the left half, the left quarter of the right half, the rest. -/
abbrev lent (s : Fin 3) : PosShare TreeShare :=
  if s.val = 0 then fullShare.left else if s.val = 1 then fullShare.right.left else fullShare.right.right
/-- Slot `s` held at `f`. -/
abbrev slotP (s : Fin 3) (f : Held (F := F) c (slotM s)) : sProp 𝕄 := (slotM s).view.loc (c : Thread nD τ) ↦[(slotM s).view.set]{fullShare} f
/-- The semaphore of slot `s` at zero. -/
abbrev semP (s : Fin 3) : sProp 𝕄 := semVal ((c : Thread nD τ), semLoc s) 0
/-- Tile `b` of the copy of the tokens lent to slot `s`, -/
abbrev tileP (s : Fin 3) (b : Fin 224) : sProp 𝕄 := (tileM b).view.loc (c : Thread nD τ) ↦[(tileM b).view.set]{lent s} W
/-- the tokens outside that tile, -/
def othersP (s : Fin 3) (b : Fin 224) : sProp 𝕄 := ((c : Thread nD τ).loc main_arg2) ↦[Finset.univ \ (tileM b).view.set]{lent s} W
/-- and the whole copy. -/
abbrev copyP (s : Fin 3) : sProp 𝕄 := ((c : Thread nD τ).loc main_arg2) ↦[Finset.univ]{lent s} W
/-- What slot `s` holds once tile `b` has arrived over `f`. -/
abbrev arrived (s : Fin 3) (b : Fin 224) (f : Held (F := F) c (slotM s)) : Held (F := F) c (slotM s) :=
  (slotM s).view.writes (Elt F) f [⟨Rect.whole S1024x1152, ReadAs.same.apply ((tileM b).view.read (Elt F) W)⟩]
/-- Tile `b` on its way into slot `s`. -/
abbrev wayP (s : Fin 3) (b : Fin 224) (f : Held (F := F) c (slotM s)) : sProp 𝕄 :=
  Transfers.Flight countersEmb (c : Thread nD τ) (semLoc s) default ((slotM s).view.amount (semLoc s))
    iprop(slotP c s (arrived c W s b f) ∗ tileP c W s b)
/-- A slot at rest carries its copy of the tokens whole; -/
abbrev restP (s : Fin 3) (f : Held (F := F) c (slotM s)) : sProp 𝕄 := iprop(slotP c s f ∗ copyP c W s)
/-- a slot with a tile on its way carries the tokens outside that tile. -/
abbrev flyP (s : Fin 3) (b : Fin 224) (f : Held (F := F) c (slotM s)) : sProp 𝕄 := iprop(wayP c W s b f ∗ othersP c W s b)
/-- Slot `s` is free; -/
abbrev freeP (s : Fin 3) : sProp 𝕄 := Ring.free (semP c) (restP c W) s
/-- tile `b` is on its way into slot `s`. -/
abbrev comingP (s : Fin 3) (b : Fin 224) : sProp 𝕄 := Ring.inflight (flyP c W) s b
/-- Slot `k + j` before step `k`: tile `k + j` is on its way if it is one of the `n` tiles in use. -/
def roleP (n k j : ℕ) : sProp 𝕄 :=
  if k + j < n then comingP c W (Ring.sl 3 (k + j)) (Ring.bk 224 (k + j)) else freeP c W (Ring.sl 3 (k + j))
/-- The ring before step `k` of `n`: nothing on its way before the first step; from then on the tiles `k` and `k + 1`,
    as far as they are in use. -/
def ringP (n k : ℕ) : sProp 𝕄 :=
  if k = 0 then iprop(freeP c W 0 ∗ freeP c W 1 ∗ freeP c W 2)
  else iprop(roleP c W n k 0 ∗ roleP c W n k 1 ∗ freeP c W (Ring.sl 3 (k + 2)))

omit [FloatOps F] in
theorem semP_0 : semP (F := F) c 0 = semVal ((c : Thread nD τ), SemLoc.dma 8) 0 := congrArg (fun x => (semVal ((c : Thread nD τ), x) 0 : sProp 𝕄)) semLoc_0
omit [FloatOps F] in
theorem semP_1 : semP (F := F) c 1 = semVal ((c : Thread nD τ), SemLoc.dma 9) 0 := congrArg (fun x => (semVal ((c : Thread nD τ), x) 0 : sProp 𝕄)) semLoc_1
omit [FloatOps F] in
theorem semP_2 : semP (F := F) c 2 = semVal ((c : Thread nD τ), SemLoc.dma 10) 0 := congrArg (fun x => (semVal ((c : Thread nD τ), x) 0 : sProp 𝕄)) semLoc_2

omit [FloatOps F] in
theorem roleP_in {n k j : ℕ} (h : k + j < n) :
    roleP c W n k j = comingP c W (Ring.sl 3 (k + j)) (Ring.bk 224 (k + j)) := if_pos h
omit [FloatOps F] in
theorem roleP_out {n k j : ℕ} (h : ¬k + j < n) : roleP c W n k j = freeP c W (Ring.sl 3 (k + j)) := if_neg h
omit [FloatOps F] in
theorem ringP_zero (n : ℕ) : ringP c W n 0 = iprop(freeP c W 0 ∗ freeP c W 1 ∗ freeP c W 2) := if_pos rfl
omit [FloatOps F] in
theorem ringP_pos (n : ℕ) {k : ℕ} (h : k ≠ 0) :
    ringP c W n k = iprop(roleP c W n k 0 ∗ roleP c W n k 1 ∗ freeP c W (Ring.sl 3 (k + 2))) := if_neg h

/-! ## The three slots are the scratch -/

abbrev slotSet (s : Fin 3) : Finset S3x1024x1152.Idx := (Rect.unit (s := S3x1024x1152) ![s.val, 0, 0] S1x1024x1152.size (inb_slot s)).set
theorem slotSet_eq (s : Fin 3) : (slotM s).view.set = slotSet s := by
  simp only [slotM, Memref.view_squeeze, View.set_reshape]; exact View.set_slice_whole _ _
theorem slots_disjoint (s s' : Fin 3) (h : s ≠ s') : Disjoint (slotSet s) (slotSet s') :=
  Ring.lead_disjoint (s := S3x1024x1152) (0 : Fin 3) 1 (fun s : Fin 3 => (![s.val, 0, 0] : Fin 3 → Nat)) S1x1024x1152.size inb_slot (fun s => by simp) rfl s s' h
theorem slots_cover : Finset.univ.biUnion slotSet = Finset.univ :=
  Ring.lead_cover (s := S3x1024x1152) (0 : Fin 3) 1 (fun s : Fin 3 => (![s.val, 0, 0] : Fin 3 → Nat)) S1x1024x1152.size inb_slot (fun s => by simp)
    (fun s a ha => by fin_cases a <;> first | exact absurd rfl ha | rfl) rfl (fun a ha => by fin_cases a <;> first | exact absurd rfl ha | rfl) rfl
omit [FloatOps F] in
theorem slotP_eq (s : Fin 3) (f) : slotP (F := F) c s f = (((c : Thread nD τ).loc cc0_scratch3) ↦[slotSet s]{fullShare} f : sProp 𝕄) := by
  unfold slotP; rw [slotSet_eq]; rfl
omit [FloatOps F] in
/-- A copy of the tokens is a tile and the others. -/
theorem copy_split (s : Fin 3) (b : Fin 224) : copyP (F := F) c W s ⊣⊢ iprop(tileP c W s b ∗ othersP c W s b) := by
  unfold othersP; exact pointsTo_split_subset (Finset.subset_univ _)
omit [FloatOps F] in
/-- The tokens, whole, are the three copies. -/
theorem tokens_split : (wholeAt c tokM W : sProp 𝕄) ⊣⊢ iprop(copyP c W 0 ∗ copyP c W 1 ∗ copyP c W 2) := by
  constructor
  · iintro H
    ihave H' := (pointsTo_share (PosShare.mem_left_op_right fullShare)).1 $$ H
    icases H' with ⟨HA, HR⟩
    ihave H'' := (pointsTo_share (PosShare.mem_left_op_right fullShare.right)).1 $$ HR
    icases H'' with ⟨HB, HC⟩
    isplitl [HA]; · iexact HA
    isplitl [HB]; · iexact HB
    iexact HC
  · iintro ⟨HA, HB, HC⟩
    iapply (pointsTo_share (PosShare.mem_left_op_right fullShare)).2
    isplitl [HA]; · iexact HA
    iapply (pointsTo_share (PosShare.mem_left_op_right fullShare.right)).2
    isplitl [HB]; · iexact HB
    iexact HC
set_option maxHeartbeats 1000000 in
omit [FloatOps F] in
theorem slots_in : (iprop(∃ f, ((c : Thread nD τ).loc cc0_scratch3) ↦{fullShare} f) : sProp 𝕄)
    ⊢ iprop((∃ f, slotP (F := F) c 0 f) ∗ (∃ f, slotP (F := F) c 1 f) ∗ ∃ f, slotP (F := F) c 2 f) :=
  Ring.slots3_split (U := Pipeline.UD sig nD τ) (ℓ := (c : Thread nD τ).loc cc0_scratch3) (q := fullShare) slotSet slots_disjoint slots_cover
    (slotP c 0) (slotP c 1) (slotP c 2) (slotP_eq c 0) (slotP_eq c 1) (slotP_eq c 2)
set_option maxHeartbeats 1000000 in
omit [FloatOps F] in
theorem slots_out : (iprop((∃ f, slotP (F := F) c 0 f) ∗ (∃ f, slotP (F := F) c 1 f) ∗ ∃ f, slotP (F := F) c 2 f) : sProp 𝕄)
    ⊢ iprop(∃ f, ((c : Thread nD τ).loc cc0_scratch3) ↦{fullShare} f) :=
  Ring.slots3_join (U := Pipeline.UD sig nD τ) (ℓ := (c : Thread nD τ).loc cc0_scratch3) (q := fullShare) slotSet slots_disjoint slots_cover
    (slotP c 0) (slotP c 1) (slotP c 2) (slotP_eq c 0) (slotP_eq c 1) (slotP_eq c 2)

/-- The three semaphores at zero. -/
abbrev semsP : sProp 𝕄 :=
  iprop(semVal ((c : Thread nD τ), SemLoc.dma 8) 0 ∗ semVal ((c : Thread nD τ), SemLoc.dma 9) 0 ∗ semVal ((c : Thread nD τ), SemLoc.dma 10) 0)

omit [FloatOps F] in
/-- What the launch gives is three free slots, -/
theorem ring_in :
    iprop((∃ f, ((c : Thread nD τ).loc cc0_scratch3) ↦{fullShare} f) ∗ semsP (F := F) c ∗ wholeAt c tokM W)
      ⊢ iprop(freeP c W 0 ∗ freeP c W 1 ∗ freeP c W 2) := by
  unfold freeP Ring.free
  rw [semP_0, semP_1, semP_2]
  iintro ⟨HS, ⟨H0, H1, H2⟩, HW⟩
  ihave HS' := (slots_in (F := F) c) $$ HS
  icases HS' with ⟨⟨%d0, HS0⟩, ⟨%d1, HS1⟩, ⟨%d2, HS2⟩⟩
  ihave HW' := (tokens_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
omit [FloatOps F] in
/-- and three free slots give it back. -/
theorem ring_out :
    iprop(freeP c W 0 ∗ freeP c W 1 ∗ freeP c W 2)
      ⊢ iprop((∃ f, ((c : Thread nD τ).loc cc0_scratch3) ↦{fullShare} f) ∗ semsP (F := F) c ∗ wholeAt c tokM W) := by
  unfold freeP Ring.free
  rw [semP_0, semP_1, semP_2]
  iintro ⟨⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (tokens_split (F := F) c W).2; isplitl [HW0]; · iexact HW0
    isplitl [HW1]; · iexact HW1
    iexact HW2

omit [FloatOps F] in
/-- After the last tile in use nothing is on its way, whichever slot is named first. -/
theorem ring_last {n : ℕ} (hn : 1 ≤ n) :
    ringP c W n n ⊢ iprop(freeP c W 0 ∗ freeP c W 1 ∗ freeP c W 2) := by
  rw [ringP_pos c W n (by omega), roleP_out c W (by omega), roleP_out c W (by omega)]
  have h3 : n % 3 = 0 ∨ n % 3 = 1 ∨ n % 3 = 2 := by omega
  have e (j : ℕ) (s : Fin 3) (h : (n + j) % 3 = s.val) : Ring.sl 3 (n + j) = s := Fin.ext h
  rcases h3 with h | h | h
  · rw [e 0 0 (by simp; omega), e 1 1 (by simp; omega), e 2 2 (by simp; omega)]
  · rw [e 0 1 (by simp; omega), e 1 2 (by simp; omega), e 2 0 (by simp; omega)]
    iintro ⟨HA, HB, HC⟩
    isplitl [HC]; · iexact HC
    isplitl [HA]; · iexact HA
    iexact HB
  · rw [e 0 2 (by simp; omega), e 1 0 (by simp; omega), e 2 1 (by simp; omega)]
    iintro ⟨HA, HB, HC⟩
    isplitl [HB]; · iexact HB
    isplitl [HC]; · iexact HC
    iexact HA
end Families

end Cert.Kernel2Ideal.Experts

end
-- ==== Proof.Experts.Kernel2Ideal.Names.lean ====
/-
  The body's own names for slots, tiles and semaphores, which it computes from the grid point, are the ring's names.
-/
module

public import proofs.«01_k».proof.Proof.Experts.Kernel2Ideal.Ring

@[expose] public section

set_option maxRecDepth 16384
set_option synthInstance.maxSize 4096

noncomputable section

namespace Cert.Kernel2Ideal.Experts

open Cert.Kernel2Ideal Cert.Kernel2Ideal.Gen
open Idealize.ShloMosaic Idealize.ShloMosaic.TcCoe Idealize.ShloMosaic.Tactic

/-! ## Offsets -/

theorem off_ahead_sem : ∀ t : Fin grid0.N, k0_off2 (grid0.coords t) = ![(Ring.sl 3 (t.val + 2)).val] := by decide +kernel
theorem off_ahead_slot : ∀ t : Fin grid0.N, k0_off3 (grid0.coords t) = ![(Ring.sl 3 (t.val + 2)).val, 0, 0] := by decide +kernel
theorem off_ahead_tile : ∀ t : Fin grid0.N, t.val + 2 < 224 → k0_off4 (grid0.coords t) = ![1024 * (Ring.bk 224 (t.val + 2)).val, 0] := by decide +kernel
theorem off_now_sem : ∀ t : Fin grid0.N, k0_off7 (grid0.coords t) = ![(Ring.sl 3 t.val).val] := by decide +kernel
theorem off_now_slot : ∀ t : Fin grid0.N, k0_off8 (grid0.coords t) = ![(Ring.sl 3 t.val).val, 0, 0] := by decide +kernel
theorem off_now_tile : ∀ t : Fin grid0.N, k0_off9 (grid0.coords t) = ![1024 * (Ring.bk 224 t.val).val, 0] := by decide +kernel
theorem off_first_slot : ∀ t : Fin grid0.N, t.val = 0 → (![0, 0, 0] : Fin 3 → Nat) = ![(Ring.sl 3 t.val).val, 0, 0] := by decide +kernel
theorem off_first_sem : ∀ t : Fin grid0.N, t.val = 0 → (![0] : Fin 1 → Nat) = ![(Ring.sl 3 t.val).val] := by decide +kernel
theorem off_first_tile : ∀ t : Fin grid0.N, t.val = 0 → (![0, 0] : Fin 2 → Nat) = ![1024 * (Ring.bk 224 t.val).val, 0] := by decide +kernel
theorem off_second_slot : ∀ t : Fin grid0.N, t.val = 0 → (![1, 0, 0] : Fin 3 → Nat) = ![(Ring.sl 3 (t.val + 1)).val, 0, 0] := by decide +kernel
theorem off_second_sem : ∀ t : Fin grid0.N, t.val = 0 → (![1] : Fin 1 → Nat) = ![(Ring.sl 3 (t.val + 1)).val] := by decide +kernel
theorem off_second_tile : ∀ t : Fin grid0.N, t.val = 0 → (![1024, 0] : Fin 2 → Nat) = ![1024 * (Ring.bk 224 (t.val + 1)).val, 0] := by decide +kernel

/-! ## Memrefs -/

@[sl_canon] theorem ahead_slot (t : Fin grid0.N) :
    (slotsM.slice (Rect.unit (s := S3x1024x1152) (k0_off3 (grid0.coords t)) S1x1024x1152.size (k0_off3_inb (grid0.coords t))) (fun _ => rfl)).squeeze S1024x1152 squeezes_S1x1024x1152_S1024x1152 = slotM (Ring.sl 3 (t.val + 2)) :=
  congrArg (fun M : Memref sig .tc .vmem S1x1024x1152 .bf16 => M.squeeze S1024x1152 squeezes_S1x1024x1152_S1024x1152) (Memref.slice_unit_congr _ (off_ahead_slot t) _ _ (fun _ => rfl) (fun _ => rfl))
@[sl_canon] theorem ahead_sem (t : Fin grid0.N) :
    (cc0_scratch4.slice (Rect.unit (s := S3) (k0_off2 (grid0.coords t)) S1.size (k0_off2_inb (grid0.coords t)))).squeeze S_ squeezes_S1_S_ = semM (Ring.sl 3 (t.val + 2)) :=
  congrArg (fun A : DmaSems sig S1 => A.squeeze S_ squeezes_S1_S_) (SemArray.slice_unit_congr _ (off_ahead_sem t) _ _)
@[sl_canon] theorem ahead_tile (t : Fin grid0.N) (v : BitVec 32) (hw : k0_chk1 (grid0.coords t) v) (h4 : k0_cond4 (grid0.coords t) v = 1#1) (h5 : k0_cond5 (grid0.coords t) v = 1#1) (ht : t.val + 2 < 224) :
    tokM.slice (Rect.unit (s := S229376x1152) (k0_off4 (grid0.coords t)) S1024x1152.size (k0_off4_inb (grid0.coords t) v hw h4 h5)) (fun _ => rfl) = tileM (Ring.bk 224 (t.val + 2)) :=
  Memref.slice_unit_congr _ (off_ahead_tile t ht) _ _ (fun _ => rfl) (fun _ => rfl)
@[sl_canon] theorem now_slot (t : Fin grid0.N) :
    (slotsM.slice (Rect.unit (s := S3x1024x1152) (k0_off8 (grid0.coords t)) S1x1024x1152.size (k0_off8_inb (grid0.coords t))) (fun _ => rfl)).squeeze S1024x1152 squeezes_S1x1024x1152_S1024x1152 = slotM (Ring.sl 3 t.val) :=
  congrArg (fun M : Memref sig .tc .vmem S1x1024x1152 .bf16 => M.squeeze S1024x1152 squeezes_S1x1024x1152_S1024x1152) (Memref.slice_unit_congr _ (off_now_slot t) _ _ (fun _ => rfl) (fun _ => rfl))
@[sl_canon] theorem now_sem (t : Fin grid0.N) :
    (cc0_scratch4.slice (Rect.unit (s := S3) (k0_off7 (grid0.coords t)) S1.size (k0_off7_inb (grid0.coords t)))).squeeze S_ squeezes_S1_S_ = semM (Ring.sl 3 t.val) :=
  congrArg (fun A : DmaSems sig S1 => A.squeeze S_ squeezes_S1_S_) (SemArray.slice_unit_congr _ (off_now_sem t) _ _)
@[sl_canon] theorem now_tile (t : Fin grid0.N) :
    tokM.slice (Rect.unit (s := S229376x1152) (k0_off9 (grid0.coords t)) S1024x1152.size (k0_off9_inb (grid0.coords t))) (fun _ => rfl) = tileM (Ring.bk 224 t.val) :=
  Memref.slice_unit_congr _ (off_now_tile t) _ _ (fun _ => rfl) (fun _ => rfl)

@[sl_canon] theorem first_slot (t : Fin grid0.N) (h : t.val = 0) :
    (slotsM.slice (Rect.unit (s := S3x1024x1152) ![0, 0, 0] S1x1024x1152.size inb_S3x1024x1152_S1x1024x1152_0_0_0) (fun _ => rfl)).squeeze S1024x1152 squeezes_S1x1024x1152_S1024x1152 = slotM (Ring.sl 3 t.val) :=
  congrArg (fun M : Memref sig .tc .vmem S1x1024x1152 .bf16 => M.squeeze S1024x1152 squeezes_S1x1024x1152_S1024x1152) (Memref.slice_unit_congr _ (off_first_slot t h) _ _ (fun _ => rfl) (fun _ => rfl))
@[sl_canon] theorem first_sem (t : Fin grid0.N) (h : t.val = 0) :
    (cc0_scratch4.slice (Rect.unit (s := S3) ![0] S1.size inb_S3_S1_0)).squeeze S_ squeezes_S1_S_ = semM (Ring.sl 3 t.val) :=
  congrArg (fun A : DmaSems sig S1 => A.squeeze S_ squeezes_S1_S_) (SemArray.slice_unit_congr _ (off_first_sem t h) _ _)
@[sl_canon] theorem first_tile (t : Fin grid0.N) (h : t.val = 0) :
    tokM.slice (Rect.unit (s := S229376x1152) ![0, 0] S1024x1152.size inb_S229376x1152_S1024x1152_0_0) (fun _ => rfl) = tileM (Ring.bk 224 t.val) :=
  Memref.slice_unit_congr _ (off_first_tile t h) _ _ (fun _ => rfl) (fun _ => rfl)
@[sl_canon] theorem second_slot (t : Fin grid0.N) (h : t.val = 0) :
    (slotsM.slice (Rect.unit (s := S3x1024x1152) ![1, 0, 0] S1x1024x1152.size inb_S3x1024x1152_S1x1024x1152_1_0_0) (fun _ => rfl)).squeeze S1024x1152 squeezes_S1x1024x1152_S1024x1152 = slotM (Ring.sl 3 (t.val + 1)) :=
  congrArg (fun M : Memref sig .tc .vmem S1x1024x1152 .bf16 => M.squeeze S1024x1152 squeezes_S1x1024x1152_S1024x1152) (Memref.slice_unit_congr _ (off_second_slot t h) _ _ (fun _ => rfl) (fun _ => rfl))
@[sl_canon] theorem second_sem (t : Fin grid0.N) (h : t.val = 0) :
    (cc0_scratch4.slice (Rect.unit (s := S3) ![1] S1.size inb_S3_S1_1)).squeeze S_ squeezes_S1_S_ = semM (Ring.sl 3 (t.val + 1)) :=
  congrArg (fun A : DmaSems sig S1 => A.squeeze S_ squeezes_S1_S_) (SemArray.slice_unit_congr _ (off_second_sem t h) _ _)
@[sl_canon] theorem second_tile (t : Fin grid0.N) (h : t.val = 0) :
    tokM.slice (Rect.unit (s := S229376x1152) ![1024, 0] S1024x1152.size inb_S229376x1152_S1024x1152_1024_0) (fun _ => rfl) = tileM (Ring.bk 224 (t.val + 1)) :=
  Memref.slice_unit_congr _ (off_second_tile t h) _ _ (fun _ => rfl) (fun _ => rfl)

end Cert.Kernel2Ideal.Experts

end
-- ==== Proof.Experts.Kernel2Ideal.Point.lean ====
/-
  What one grid point reads and leaves: the words it reads from the two tables, the tile of tokens it takes, and the
  block of results it writes, as a function of the tile and of the three cast weights.
-/
module

public import proofs.«01_k».proof.Proof.Experts.Kernel2Ideal.Names
public import Idealize.ShloMosaic.Lib.VecWindow

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The number of tiles in use, as the body reads it; -/
abbrev usedW (T1 : S1024.Idx → Elt F .i32) : Elt F .i32 :=
  View.readAt (Elt F) miscM.view (Rect.unit (s := S1024) ![256] S1.size inb_S1024_S1_256).toLoadRect T1 (Shape.Idx.first (numel1_S1.symm ▸ Nat.one_pos))
/-- the expert of this point's tile, -/
abbrev hereW (i : grid0.Coords) (T0 : S256.Idx → Elt F .i32) : Elt F .i32 :=
  View.readAt (Elt F) expM.view (Rect.unit (s := S256) (k0_off5 i) S1.size (k0_off5_inb i)).toLoadRect T0 (Shape.Idx.first (numel1_S1.symm ▸ Nat.one_pos))
/-- and of the tile before it. -/
abbrev beforeW (i : grid0.Coords) (T0 : S256.Idx → Elt F .i32) : Elt F .i32 :=
  View.readAt (Elt F) expM.view (Rect.unit (s := S256) (k0_off6 i) S1.size (k0_off6_inb i)).toLoadRect T0 (Shape.Idx.first (numel1_S1.symm ▸ Nat.one_pos))
/-- The point casts its expert's weights: it is the first point, or the expert is another than the one before. -/
abbrev loadsW (i : grid0.Coords) (T0 : S256.Idx → Elt F .i32) : Prop :=
  Scalar.cmpi .ne (Scalar.extui (Scalar.ori (Scalar.cmpi .eq (BitVec.ofNat 32 (i 0).val) 0#32) (Scalar.cmpi .ne (hereW i T0) (beforeW i T0)))) 0#32 = 1#1
/-- More than `k` tiles are in use, as the body asks. -/
abbrev moreW (T1 : S1024.Idx → Elt F .i32) (k : BitVec 32) : Prop :=
  Scalar.cmpi .ne (Scalar.extui (Scalar.cmpi .sgt (usedW T1) k)) 0#32 = 1#1

/-- The two tables, each held by half. -/
def expertsP (c : Dev nD) (T : S256.Idx → Elt F .i32) : sProp 𝕄 := expM.view.loc (c : Thread nD τ) ↦{fullShare.right} T
def miscP (c : Dev nD) (T : S1024.Idx → Elt F .i32) : sProp 𝕄 := miscM.view.loc (c : Thread nD τ) ↦{fullShare.right} T

/-- Tile `b` of the tokens. -/
def tileV (c : Dev nD) (W : Held (F := F) c tokM) (b : Fin 224) : Vec F S1024x1152 .bf16 := (tileM b).view.read (Elt F) W

/-- A tile's columns: 0 to 1023 are the tokens, -/
def mainV (X : Vec F S1024x1152 .bf16) : Vec F S1024x1024 .bf16 :=
  fun j => X ((Rect.unit (s := S1024x1152) ![0, 0] S1024x1024.size inb_S1024x1152_S1024x1024_0_0).toLoadRect.idx j)
/-- columns 1024 and 1088 are the two parts of their combine weights. -/
def highV (X : Vec F S1024x1152 .bf16) : Vec F S1024x1 .bf16 :=
  fun j => X ((Rect.unit (s := S1024x1152) ![0, 1024] S1024x1.size inb_S1024x1152_S1024x1_0_1024).toLoadRect.idx j)
def lowV (X : Vec F S1024x1152 .bf16) : Vec F S1024x1 .bf16 :=
  fun j => X ((Rect.unit (s := S1024x1152) ![0, 1088] S1024x1.size inb_S1024x1152_S1024x1_0_1088).toLoadRect.idx j)

/-- The block written for a tile `X` under the cast weights `g`, `u`, `d`. -/
def outV (X : Vec F S1024x1152 .bf16) (g u : Vec F S1024x256 .bf16) (d : Vec F S256x1024 .bf16) : Vec F S1024x1024 .bf16 :=
  k0_pay1 (mainV X) (k0_pay5 (highV X)) (k0_pay6 (lowV X)) g u d

theorem outV_of (X : Vec F S1024x1152 .bf16) {g u : Vec F S1024x256 .bf16} {d : Vec F S256x1024 .bf16}
    {v32 : Vec F S1024x1024 .bf16} {v35 v39 : Vec F S1024x1 .bf16} {v42 v46 : Vec F S1024x256 .bf16} {v52 : Vec F S256x1024 .bf16}
    (h32 : v32 = mainV X) (h35 : v35 = highV X) (h39 : v39 = lowV X) (h42 : v42 = g) (h46 : v46 = u) (h52 : v52 = d) :
    k0_pay1 v32 (k0_pay5 v35) (k0_pay6 v39) v42 v46 v52 = outV X g u d := by
  unfold outV; rw [h32, h35, h39, h42, h46, h52]

/-- A load from a view into which `X` has arrived reads `X`. -/
theorem arrived_load {Val : EltTy → Type} [∀ e, Nonempty (Val e)] {κ : Kind} {sp : Space} {s : Shape} {e : EltTy} (v : View sig κ sp s e)
    (X : s.Idx → Val e) (B : LoadRect s) : v.readCov [⟨Rect.whole s, X⟩] B = fun j => X (B.idx j) := by
  funext j
  show v.read Val (v.writes Val v.junk [⟨Rect.whole s, X⟩]) (B.idx j) = X (B.idx j)
  rw [View.read_writes_whole]

end Cert.Kernel2Ideal.Experts

end
-- ==== Proof.Experts.Kernel2Ideal.Words.lean ====
/-
  What the body's tests and the two tables' words say as numbers: the number of tiles in use, the expert of a tile, and
  which of the body's branches a grid point takes.
-/
module

public import proofs.«01_k».proof.Proof.Experts.Kernel2Ideal.Point
public import Idealize.ShloMosaic.Lib.WordCmp
public import Idealize.ShloMosaic.Lib.Affine
public import Idealize.ShloMosaic.Lib.Pointwise.Index

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic

variable {F : FTy → Type} [FloatOps F]

/-- The two tables' ranges: every expert below 64, and from 1 to 224 tiles in use. -/
structure Ranges (T0 : S256.Idx → BitVec 32) (T1 : S1024.Idx → BitVec 32) : Prop where
  expert : ∀ k, (T0 k).toNat < 64
  used_pos : 1 ≤ (T1 (ix1 256)).toNat
  used_le : (T1 (ix1 256)).toNat ≤ 224

/-- A grid point's number is its coordinate. -/
theorem coord_val (t : Fin grid0.N) : ((grid0.coords t) 0).val = t.val := by
  revert t; decide +kernel

theorem point_lt (t : Fin grid0.N) : t.val < 224 := t.isLt

/-- The number of tiles in use is the second table's word 256. -/
theorem usedW_eq (T1 : S1024.Idx → Elt F .i32) : usedW T1 = T1 (ix1 256) := by
  show T1 _ = T1 _
  congr 1
  funext a; match a with | ⟨0, _⟩ => rfl

theorem off5_eq (t : Fin grid0.N) : k0_off5 (grid0.coords t) 0 = t.val := by revert t; decide +kernel
theorem off6_eq (t : Fin grid0.N) : k0_off6 (grid0.coords t) 0 = t.val - 1 := by revert t; decide +kernel
theorem off1_eq (t : Fin grid0.N) : k0_off1 (grid0.coords t) 0 = t.val := by revert t; decide +kernel

/-- The expert of a point's tile is the first table's word there. -/
theorem hereW_eq (t : Fin grid0.N) (T0 : S256.Idx → Elt F .i32) :
    hereW (grid0.coords t) T0 = T0 (ix1 ⟨t.val, by have := point_lt t; omega⟩) := by
  show T0 _ = T0 _
  congr 1
  funext a; match a with | ⟨0, _⟩ => exact Fin.ext (by show k0_off5 _ 0 + 0 * 1 = _; rw [off5_eq]; rfl)
theorem beforeW_eq (t : Fin grid0.N) (T0 : S256.Idx → Elt F .i32) :
    beforeW (grid0.coords t) T0 = T0 (ix1 ⟨t.val - 1, by have := point_lt t; omega⟩) := by
  show T0 _ = T0 _
  congr 1
  funext a; match a with | ⟨0, _⟩ => exact Fin.ext (by show k0_off6 _ 0 + 0 * 1 = _; rw [off6_eq]; rfl)

theorem cond1_iff (t : Fin grid0.N) : k0_cond1 (grid0.coords t) = 1#1 ↔ t.val = 0 := by
  revert t; decide +kernel

theorem bit_ne (b : BitVec 1) : Scalar.cmpi .ne (Scalar.extui b : BitVec 32) 0#32 = 1#1 ↔ b = 1#1 := by
  revert b; decide

theorem cond4_iff (t : Fin grid0.N) (v : BitVec 32) (hv : v.toNat ≤ 224) :
    k0_cond4 (grid0.coords t) v = 1#1 ↔ t.val < v.toNat := by
  have ht := point_lt t
  show Scalar.cmpi .ne (Scalar.extui (IntOp.cmpi .slt (BitVec.ofNat 32 ((grid0.coords t) 0).val) v) : BitVec 32) 0#32 = 1#1 ↔ _
  rw [bit_ne, coord_val, WordCmp.cmpi_slt_eq, WordCmp.ofBool_decide_eq_one_iff, WordCmp.toInt_ofNat_of_lt (by omega), WordCmp.toInt_eq_toNat_of_lt_half (by omega)]
  omega

theorem cond5_iff (t : Fin grid0.N) (v : BitVec 32) (hv : v.toNat ≤ 224) :
    k0_cond5 (grid0.coords t) v = 1#1 ↔ t.val + 2 < v.toNat := by
  have ht := point_lt t
  show Scalar.cmpi .ne (Scalar.extui (IntOp.cmpi .slt (BitVec.ofNat 32 ((grid0.coords t) 0).val + 2#32) v) : BitVec 32) 0#32 = 1#1 ↔ _
  rw [bit_ne, coord_val, show (2#32 : BitVec 32) = BitVec.ofNat 32 2 from rfl, ← BitVec.ofNat_add, WordCmp.cmpi_slt_eq, WordCmp.ofBool_decide_eq_one_iff,
    WordCmp.toInt_ofNat_of_lt (by omega), WordCmp.toInt_eq_toNat_of_lt_half (by omega)]
  omega

theorem moreW_iff (T1 : S1024.Idx → Elt F .i32) (k : ℕ) (hk : k < 224) (hv : (T1 (ix1 256) : BitVec 32).toNat ≤ 224) :
    moreW T1 (BitVec.ofNat 32 k) ↔ k < (T1 (ix1 256) : BitVec 32).toNat := by
  show Scalar.cmpi .ne (Scalar.extui (IntOp.cmpi .sgt (usedW T1) _) : BitVec 32) 0#32 = 1#1 ↔ _
  rw [bit_ne, usedW_eq, WordCmp.cmpi_sgt_eq, WordCmp.ofBool_decide_eq_one_iff, WordCmp.toInt_ofNat_of_lt (by omega), WordCmp.toInt_eq_toNat_of_lt_half (by omega)]
  omega

/-- A point casts its expert's weights when it is the first or its expert is not the last tile's. -/
theorem loadsW_iff (t : Fin grid0.N) (T0 : S256.Idx → Elt F .i32) :
    loadsW (grid0.coords t) T0 ↔ t.val = 0 ∨ (T0 (ix1 ⟨t.val, by have := point_lt t; omega⟩) : BitVec 32) ≠ T0 (ix1 ⟨t.val - 1, by have := point_lt t; omega⟩) := by
  have ht := point_lt t
  show Scalar.cmpi .ne (Scalar.extui (IntOp.ori (IntOp.cmpi .eq (BitVec.ofNat 32 ((grid0.coords t) 0).val) 0#32) (IntOp.cmpi .ne (hereW (grid0.coords t) T0) (beforeW (grid0.coords t) T0))) : BitVec 32) 0#32 = 1#1 ↔ _
  rw [bit_ne, coord_val, hereW_eq, beforeW_eq, WordCmp.cmpi_eq_eq, WordCmp.cmpi_ne_eq, WordCmp.ori_ofBool, WordCmp.ofBool_eq_one_iff, Bool.or_eq_true, decide_eq_true_iff, decide_eq_true_iff,
    show (0#32 : BitVec 32) = BitVec.ofNat 32 0 from rfl, WordCmp.ofNat_eq_ofNat_iff (by omega) (by omega)]

theorem off4_eq (t : Fin grid0.N) (h : t.val < 222) : k0_off4 (grid0.coords t) 0 = (t.val + 2) * 1024 ∧ k0_off4 (grid0.coords t) 1 = 0 := by
  revert h; revert t; decide +kernel

/-- Every tile a point starts fetching lies inside the tokens. -/
theorem chk1_of (t : Fin grid0.N) (v : BitVec 32) (hv : v.toNat ≤ 224) : k0_chk1 (grid0.coords t) v := by
  refine ⟨fun _ h5 a => ?_, fun _ h5 hinb => ?_⟩
  · have h := (cond5_iff t v hv).mp h5
    obtain ⟨e0, e1⟩ := off4_eq t (by omega)
    match a with
    | ⟨0, _⟩ => show k0_off4 _ 0 + 1024 ≤ 229376; rw [e0]; omega
    | ⟨1, _⟩ => show k0_off4 _ 1 + 1152 ≤ 1152; rw [e1]
  · have h := (cond5_iff t v hv).mp h5
    obtain ⟨e0, e1⟩ := off4_eq t (by omega)
    exact Affine.words_of_packed (Affine.packed_dvd (by decide) (by
      show 2 ∣ k0_off4 _ 0
      rw [e0]; exact Dvd.dvd.mul_left (by decide) _) (by decide))

end Cert.Kernel2Ideal.Experts

end
-- ==== Proof.Experts.Kernel2Ideal.Tables.lean ====
/-
  The two tables a run is launched with, and what they make of the windows: which block each window holds at a grid
  point, that every block lies inside its array, where the result's window is left untouched and where it is written back.
-/
module

public import proofs.«01_k».proof.Proof.Experts.Kernel2Ideal.Words
public import Idealize.ShloMosaic.Lib.Pipeline.TableIdle
public import Idealize.ShloMosaic.Lib.Pipeline.FrameBody

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic

variable {F : FTy → Type} [FloatOps F]

/-- The experts' table and the second table, as the memory at launch holds them. -/
def T0of (m : (ℓ : Loc nD τ sig) → Buf (Elt F) ℓ) : S256.Idx → Elt F .i32 := m (((0 : Dev nD) : Thread nD τ).loc main_arg0)
def T1of (m : (ℓ : Loc nD τ sig) → Buf (Elt F) ℓ) : S1024.Idx → Elt F .i32 := m (((0 : Dev nD) : Thread nD τ).loc main_arg1)

/-- Their words are in range. -/
abbrev InRange (m : (ℓ : Loc nD τ sig) → Buf (Elt F) ℓ) : Prop := Ranges (T0of m) (T1of m)

/-- The number of tiles in use, and the expert of a tile. -/
def used (m : (ℓ : Loc nD τ sig) → Buf (Elt F) ℓ) : ℕ := (T1of m (ix1 256) : BitVec 32).toNat
def expertOf (m : (ℓ : Loc nD τ sig) → Buf (Elt F) ℓ) (t : Fin 224) : ℕ := (T0of m (ix1 ⟨t.val, by omega⟩) : BitVec 32).toNat

/-- The two tables together. -/
def tabs (m : (ℓ : Loc nD τ sig) → Buf (Elt F) ℓ) : pre0.Contents (Elt F) :=
  fun | ⟨0, _⟩ => T0of m | ⟨1, _⟩ => T1of m | ⟨_ + 2, h⟩ => absurd h (by simp)

variable (m : (ℓ : Loc nD τ sig) → Buf (Elt F) ℓ)

/-- The word the weights' index maps read is the expert of the point's tile. -/
theorem word0_eq (t : Fin grid0.N) :
    ((tabs m).at 0 (Rect.unit (s := S256) (k0_off1 (grid0.coords t)) S1.size (k0_off1_inb (grid0.coords t))) numel1_S1 : BitVec 32).toNat = expertOf m t := by
  show (T0of m _ : BitVec 32).toNat = (T0of m _ : BitVec 32).toNat
  congr 2
  funext a; match a with | ⟨0, _⟩ => exact Fin.ext (by show k0_off1 _ 0 + 0 * 1 = _; rw [off1_eq]; rfl)

theorem word1_eq : (tabs m).at 1 (Rect.unit (s := S1024) ![256] S1.size inb_S1024_S1_256) numel1_S1 = T1of m (ix1 256) := by
  show T1of m _ = T1of m _
  congr 1
  funext a; match a with | ⟨0, _⟩ => rfl

/-- The three weights' blocks at a point are its expert's; -/
theorem map1_eq (t : Fin grid0.N) : cc0_transform_1 k0_off1_inb numel1_S1 (tabs m) (grid0.coords t) = ![0, expertOf m t, 0, 0] := by
  rw [← word0_eq m t]; rfl
theorem map2_eq (t : Fin grid0.N) : cc0_transform_2 k0_off1_inb numel1_S1 (tabs m) (grid0.coords t) = ![0, expertOf m t, 0, 0] := by
  rw [← word0_eq m t]; rfl
theorem map3_eq (t : Fin grid0.N) : cc0_transform_3 k0_off1_inb numel1_S1 (tabs m) (grid0.coords t) = ![0, expertOf m t, 0, 0] := by
  rw [← word0_eq m t]; rfl

theorem min_word (t : ℕ) (ht : t < 224) (v : BitVec 32) (h1 : 1 ≤ v.toNat) (h2 : v.toNat ≤ 224) :
    (IntOp.minsi (BitVec.ofNat 32 t) (v - 1#32)).toNat = min t (v.toNat - 1) := by
  have e : (v - 1#32).toNat = v.toNat - 1 := by
    rw [BitVec.toNat_sub]; show (2 ^ 32 - 1 + v.toNat) % 2 ^ 32 = _; omega
  have et : (BitVec.ofNat 32 t).toNat = t := WordCmp.toNat_ofNat_of_lt (by omega)
  unfold IntOp.minsi
  have hs : (BitVec.ofNat 32 t).slt (v - 1#32) = decide (t < v.toNat - 1) := by
    show decide ((BitVec.ofNat 32 t).toInt < (v - 1#32).toInt) = _
    rw [WordCmp.toInt_ofNat_of_lt (by omega), WordCmp.toInt_eq_toNat_of_lt_half (by omega), e]
    exact decide_eq_decide.mpr (by omega)
  rw [hs]
  by_cases h : t < v.toNat - 1
  · simp only [h, decide_true, ↓reduceIte, et]; omega
  · simp only [h, decide_false, Bool.false_eq_true, ↓reduceIte, e]; omega

/-- and the result's block is the point's tile, or the last one in use. -/
theorem map4_eq (hr : InRange m) (t : Fin grid0.N) :
    cc0_transform_4 inb_S1024_S1_256 numel1_S1 (tabs m) (grid0.coords t) = ![min t.val (used m - 1), 0] := by
  show ![(IntOp.minsi (BitVec.ofNat 32 ((grid0.coords t) 0).val) (Scalar.subi ((tabs m).at 1 (Rect.unit (s := S1024) ![256] S1.size inb_S1024_S1_256) numel1_S1) 1#32)).toNat, 0] = _
  rw [word1_eq, coord_val]
  exact congrArg (fun k => ![k, 0]) (min_word t.val (point_lt t) _ hr.used_pos hr.used_le)

/-- Every point's coordinates are those of a point number. -/
theorem exists_point (i : grid0.Coords) : ∃ t : Fin grid0.N, i = grid0.coords t :=
  ⟨⟨(i 0).val, (i 0).isLt⟩, by
    funext a; match a with | ⟨0, _⟩ => exact Fin.ext (coord_val ⟨(i 0).val, (i 0).isLt⟩).symm⟩

theorem expertOf_lt (hr : InRange m) (t : Fin 224) : expertOf m t < 64 := hr.expert _

/-- Every block of every window lies inside its array. -/
theorem ok_tabs (hr : InRange m) : ok0 (F := F) (tabs m) := by
  refine ⟨fun i => ?_, fun i => ?_, fun i => ?_, fun i => ?_⟩ <;> obtain ⟨t, rfl⟩ := exists_point i
  · have he := expertOf_lt m hr t
    refine ⟨?_, .inl rfl⟩
    rw [map1_eq]
    intro a; match a with
    | ⟨0, _⟩ => show (0 + 1) * 1 ≤ 2; omega
    | ⟨1, _⟩ => show (expertOf m t + 1) * 1 ≤ 64; omega
    | ⟨2, _⟩ => show (0 + 1) * 1024 ≤ 1024; omega
    | ⟨3, _⟩ => show (0 + 1) * 256 ≤ 256; omega
  · have he := expertOf_lt m hr t
    refine ⟨?_, .inl rfl⟩
    rw [map2_eq]
    intro a; match a with
    | ⟨0, _⟩ => show (0 + 1) * 1 ≤ 2; omega
    | ⟨1, _⟩ => show (expertOf m t + 1) * 1 ≤ 64; omega
    | ⟨2, _⟩ => show (0 + 1) * 1024 ≤ 1024; omega
    | ⟨3, _⟩ => show (0 + 1) * 256 ≤ 256; omega
  · have he := expertOf_lt m hr t
    refine ⟨?_, .inl rfl⟩
    rw [map3_eq]
    intro a; match a with
    | ⟨0, _⟩ => show (0 + 1) * 1 ≤ 2; omega
    | ⟨1, _⟩ => show (expertOf m t + 1) * 1 ≤ 64; omega
    | ⟨2, _⟩ => show (0 + 1) * 256 ≤ 256; omega
    | ⟨3, _⟩ => show (0 + 1) * 1024 ≤ 1024; omega
  · have ht := point_lt t
    refine ⟨?_, .inr (Affine.block_words_dvd (s := S229376x1024) (p := EltTy.packing .bf16) (by decide) (by decide))⟩
    rw [map4_eq m hr]
    intro a; match a with
    | ⟨0, _⟩ => show (min t.val (used m - 1) + 1) * 1024 ≤ 229376; omega
    | ⟨1, _⟩ => show (0 + 1) * 1024 ≤ 1024; omega

/-- The pipeline at these tables. -/
def adm (hr : InRange m) : (pcfg0 (F := F)).Adm := ⟨tabs m, ok_tabs m hr⟩
abbrev cfgA (hr : InRange m) : Pipeline.Cfg sig Λ₀ := cfg0 (F := F) (adm m hr)

theorem used_le (hr : InRange m) : used m ≤ 224 := hr.used_le
theorem used_pos (hr : InRange m) : 1 ≤ used m := hr.used_pos

/-- The result's window is left untouched from the first tile not in use. -/
theorem idle3 (hr : InRange m) (t : Fin (cfgA m hr).N) :
    (cfgA m hr).idle (3 : Fin 4) ((cfgA m hr).grid.coords t) = decide (used m ≤ t.val) := by
  show (!(k0_cond4 (grid0.coords t) ((tabs m).atD 1 ![256]) == 1#1)) = _
  have e : (tabs m).atD 1 ![256] = (T1of m (ix1 256) : BitVec 32) := by
    refine (dif_pos (by decide)).trans ?_
    show T1of m _ = T1of m _
    congr 1
    funext a; match a with | ⟨0, _⟩ => rfl
  rw [e]
  have h := cond4_iff t (T1of m (ix1 256) : BitVec 32) hr.used_le
  by_cases hu : used m ≤ t.val
  · have : ¬ k0_cond4 (grid0.coords t) (T1of m (ix1 256) : BitVec 32) = 1#1 := fun hc => by
      have := h.mp hc; unfold used at hu; omega
    rw [beq_eq_false_iff_ne.mpr this, decide_eq_true hu]; rfl
  · have : k0_cond4 (grid0.coords t) (T1of m (ix1 256) : BitVec 32) = 1#1 := h.mpr (by unfold used at hu; omega)
    rw [this, decide_eq_false hu]; rfl

theorem index3 (hr : InRange m) (t : Fin (cfgA m hr).N) : ((cfgA m hr).win (3 : Fin 4)).index t = ![min t.val (used m - 1), 0] := map4_eq m hr t

/-- It is written back after the tiles in use but the last, and at the end. -/
theorem flush3 (hr : InRange m) (t : Fin (cfgA m hr).N) :
    ((cfgA m hr).win (3 : Fin 4)).flush t = decide (t.val + 1 < used m ∨ t.val = 223) := by
  have hu := used_le m hr
  have hp := used_pos m hr
  have ht : t.val < 224 := t.isLt
  show (true && _) = _
  rw [Bool.true_and]
  by_cases h : t.val + 1 = 224
  · rw [decide_eq_true (show t.val + 1 = (cfgA m hr).grid.N from h), Bool.true_or, decide_eq_true (Or.inr (by omega))]
  · rw [decide_eq_false (show ¬ t.val + 1 = (cfgA m hr).grid.N from h), Bool.false_or]
    refine decide_eq_decide.mpr ⟨fun ⟨h', hne⟩ => ?_, fun h' => ⟨by show t.val + 1 < 224; omega, fun he => ?_⟩⟩
    · left
      rw [index3, index3] at hne
      by_contra hc
      exact hne (by show ![min (t.val + 1) _, 0] = _; rw [show min (t.val + 1) (used m - 1) = min t.val (used m - 1) by omega])
    · rw [index3, index3] at he
      have := congrFun he 0
      have : min (t.val + 1) (used m - 1) = min t.val (used m - 1) := this
      omega

/-- What it holds is junk after such a write-back and at the start. -/
theorem fresh3 (hr : InRange m) (n : ℕ) (hn : n ≤ (cfgA m hr).N) :
    (cfgA m hr).fresh (3 : Fin 4) n = decide (n < used m ∨ n = 224) := by
  have hu := used_le m hr
  have hp := used_pos m hr
  refine Pipeline.Cfg.fresh_tab (cfgA m hr) (3 : Fin 4) (fun n => decide (n < used m ∨ n = 224)) (decide_eq_true (by omega)) (fun t => ?_) n hn
  have ht : t.val < 224 := t.isLt
  rw [flush3, idle3, ← Bool.decide_and, ← Bool.decide_or]
  exact decide_eq_decide.mpr (by omega)

end Cert.Kernel2Ideal.Experts

end
-- ==== Proof.Experts.Kernel2Ideal.Data.lean ====
/-
  What the run holds between grid points, and what each window holds after one: the cast weights of the last point's
  expert, the ring of token tiles, the tables; each weight's block; the result of the last tile in use so far.
-/
module

public import proofs.«01_k».proof.Proof.Experts.Kernel2Ideal.Tables
public import Idealize.ShloMosaic.Lib.Pipeline.Kit

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hr : InRange m)

/-- Window `w`'s block at a point, read off its array as the run is launched. -/
def iblk (c : Dev nD) (w : Fin (cfgA m hr).W) (t : Fin (cfgA m hr).N) :
    (((cfgA m hr).win w).xblock ((cfgA m hr).grid.coords t)).Idx → Elt F ((cfgA m hr).win w).elt :=
  (((cfgA m hr).win w).blk t).view.read (Elt F) (m (((cfgA m hr).win w).arr.view.loc (c : Thread nD τ)))

/-- The three weights' blocks at a point, -/
def gateB (c : Dev nD) (t : Fin (cfgA m hr).N) : Vec F S1x1x1024x256 .f32 := iblk m hr c (0 : Fin 4) t
def upB (c : Dev nD) (t : Fin (cfgA m hr).N) : Vec F S1x1x1024x256 .f32 := iblk m hr c (1 : Fin 4) t
def downB (c : Dev nD) (t : Fin (cfgA m hr).N) : Vec F S1x1x256x1024 .f32 := iblk m hr c (2 : Fin 4) t

/-- the tokens, as the run is launched, -/
def tokW (c : Dev nD) : Held (F := F) c tokM := m (tokM.view.loc (c : Thread nD τ))

/-- and the block of the result for tile `t` of them. -/
def blockV (c : Dev nD) (t : Fin (cfgA m hr).N) : Vec F S1024x1024 .bf16 :=
  outV (tileV c (tokW m c) (Ring.bk 224 t.val)) (k0_pay2 (gateB m hr c t)) (k0_pay3 (upB m hr c t)) (k0_pay4 (downB m hr c t))

/-- The last tile in use up to point `k`. -/
def upto (k : ℕ) : Fin (cfgA m hr).N :=
  ⟨min k (used m - 1), by have := used_le m hr; have := used_pos m hr; show min k (used m - 1) < 224; omega⟩

theorem upto_val (k : ℕ) : (upto m hr k).val = min k (used m - 1) := rfl

/-- The cast weights before point `k`: anything before the first, then those of the last tile in use. -/
def weightsP (c : Dev nD) (k : ℕ) : sProp 𝕄 :=
  if k = 0 then iprop((∃ d, owns (c : Thread nD τ) gateM fullShare d) ∗ (∃ d, owns (c : Thread nD τ) upM fullShare d) ∗ (∃ d, owns (c : Thread nD τ) downM fullShare d))
  else iprop(owns (c : Thread nD τ) gateM fullShare (k0_pay2 (gateB m hr c (upto m hr (k - 1))))
    ∗ owns (c : Thread nD τ) upM fullShare (k0_pay3 (upB m hr c (upto m hr (k - 1))))
    ∗ owns (c : Thread nD τ) downM fullShare (k0_pay4 (downB m hr c (upto m hr (k - 1)))))

/-- What is held before point `k`. -/
def stateP (c : Dev nD) (k : ℕ) : sProp 𝕄 :=
  iprop(weightsP m hr c k ∗ (∃ r, prngReg c r) ∗ ringP c (tokW m c) (used m) (min k (used m)) ∗ expertsP c (T0of m) ∗ miscP c (T1of m))

/-- The proof data of the run. -/
def dats (_ : Fin 1) (c : Dev nD) : Dat τ (Elt F) Unit ℕ (Pipeline.UD sig nD τ) ℕ (cfgA m hr) c where
  A w := m (((cfgA m hr).win w).arr.view.loc (c : Thread nD τ))
  after w t := match w with
    | ⟨0, _⟩ => iblk m hr c (0 : Fin 4) t
    | ⟨1, _⟩ => iblk m hr c (1 : Fin 4) t
    | ⟨2, _⟩ => iblk m hr c (2 : Fin 4) t
    | ⟨3, _⟩ => blockV m hr c (upto m hr t.val)
  Φ t := stateP m hr c t.val
  q _ := fullShare
  owed _ := 0

theorem after0 (c : Dev nD) (t : Fin (cfgA m hr).N) : (dats m hr 0 c).after (0 : Fin 4) t = iblk m hr c (0 : Fin 4) t := rfl
theorem after1 (c : Dev nD) (t : Fin (cfgA m hr).N) : (dats m hr 0 c).after (1 : Fin 4) t = iblk m hr c (1 : Fin 4) t := rfl
theorem after2 (c : Dev nD) (t : Fin (cfgA m hr).N) : (dats m hr 0 c).after (2 : Fin 4) t = iblk m hr c (2 : Fin 4) t := rfl
theorem after3 (c : Dev nD) (t : Fin (cfgA m hr).N) : (dats m hr 0 c).after (3 : Fin 4) t = blockV m hr c (upto m hr t.val) := rfl

/-- A weight's window holds its block at every point, fetched there or not. -/
theorem before0 (c : Dev nD) (t : Fin (cfgA m hr).N) (d) : (dats m hr 0 c).before (0 : Fin 4) t d = iblk m hr c (0 : Fin 4) t :=
  ((dats m hr 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA m hr).N) (d) : (dats m hr 0 c).before (1 : Fin 4) t d = iblk m hr c (1 : Fin 4) t :=
  ((dats m hr 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA m hr).N) (d) : (dats m hr 0 c).before (2 : Fin 4) t d = iblk m hr c (2 : Fin 4) t :=
  ((dats m hr 0 c).before_in_eq_fetched (2 : Fin 4) rfl (fun _ => rfl) (fun _ _ _ => rfl) (fun t => by rw [after2]; unfold Dat.blockOf iblk; rfl) t d).trans
    (by unfold Dat.fetched Dat.blockOf iblk; rfl)

/-- The last block in use, once written, is what the result's window goes on holding. -/
theorem upto_idle (t : Fin (cfgA m hr).N) (h : used m ≤ t.val) : upto m hr (t.val - 1) = upto m hr t.val :=
  Fin.ext (by have := used_pos m hr; rw [upto_val, upto_val]; omega)

theorem before3 (c : Dev nD) (t : Fin (cfgA m hr).N) (h : used m ≤ t.val) (d) :
    (dats m hr 0 c).before (3 : Fin 4) t d = blockV m hr c (upto m hr t.val) := by
  have hu := used_pos m hr
  have ht : t.val < 224 := t.isLt
  rw [(dats m hr 0 c).before_out_traj (3 : Fin 4) rfl (fun _ _ => rfl) (fun t ht hi _ => ?_) t.val t rfl d,
    fresh3 m hr t.val (Nat.le_of_lt t.isLt), decide_eq_false (by omega)]
  · show (dats m hr 0 c).after (3 : Fin 4) _ = _
    rw [after3]
    exact congrArg _ (upto_idle m hr t h)
  · rw [idle3, decide_eq_true_iff] at hi
    rw [after3, after3]
    exact congrArg _ (upto_idle m hr t hi).symm

/-- Two points with the same expert have the same weights' blocks. -/
theorem iblk_same (c : Dev nD) (t t' : Fin (cfgA m hr).N) (h : expertOf m t = expertOf m t') :
    gateB m hr c t = gateB m hr c t' ∧ upB m hr c t = upB m hr c t' ∧ downB m hr c t = downB m hr c t' := by
  refine ⟨?_, ?_, ?_⟩
  · exact (dats m hr 0 c).fetched_congr (0 : Fin 4) (t := t) (t' := t')
      (by show cc0_transform_1 _ _ (tabs m) (grid0.coords t) = cc0_transform_1 _ _ (tabs m) (grid0.coords t'); rw [map1_eq, map1_eq, h]) (by rfl) (gateB m hr c t)
  · exact (dats m hr 0 c).fetched_congr (1 : Fin 4) (t := t) (t' := t')
      (by show cc0_transform_2 _ _ (tabs m) (grid0.coords t) = cc0_transform_2 _ _ (tabs m) (grid0.coords t'); rw [map2_eq, map2_eq, h]) (by rfl) (upB m hr c t)
  · exact (dats m hr 0 c).fetched_congr (2 : Fin 4) (t := t) (t' := t')
      (by show cc0_transform_3 _ _ (tabs m) (grid0.coords t) = cc0_transform_3 _ _ (tabs m) (grid0.coords t'); rw [map3_eq, map3_eq, h]) (by rfl) (downB m hr c t)

end Cert.Kernel2Ideal.Experts

end
-- ==== Proof.Experts.Kernel2Ideal.RunFirst.lean ====
/-
  The body at the first point, which starts the first tiles and casts the first weights.
-/
module

public import proofs.«01_k».proof.Proof.Experts.Kernel2Ideal.Point

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- One tile in use. -/
theorem run_first_one (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : k0_cond1 (grid0.coords t) = 1#1) (hm0 : moreW T1 0#32) (hm1 : ¬moreW T1 1#32) (h0 : t.val = 0) (h4 : k0_cond4 (grid0.coords t) (usedW T1) = 1#1) (h5 : ¬k0_cond5 (grid0.coords t) (usedW T1) = 1#1) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ freeP c W (Ring.sl 3 t.val) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val = 0) := ⟨h0⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := first_slot t h0
  have hcanon1 := first_sem t h0
  have hcanon2 := first_tile t h0
  have hcanon3 := second_slot t h0
  have hcanon4 := second_sem t h0
  have hcanon5 := second_tile t h0
  have hcanon6 := now_slot t
  unfold owns expertsP miscP freeP Ring.free
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨Hc0, ⟨%ff0, Hs0, Hw0⟩⟩, HW, Hk⟩
  ihave Hsp0 := (copy_split c W (Ring.sl 3 t.val) (Ring.bk 224 t.val)).1 $$ Hw0
  icases Hsp0 with ⟨Hh0, Hr0⟩
  obtain rfl := harg4.eq_unread hf0; obtain rfl := harg5.eq_unread hf1; obtain rfl := harg6.eq_unread hf2
  sl_exec (disch := first | sl_exact hw | sl_exact h1 | sl_exact hm0 | sl_exact hm1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hc0 Hs0 Hh0 Hr0]
  · isplitl [Hc0]; · iexact Hc0
    iexists _; isplitl [Hs0]; · iexact Hs0
    iapply (copy_split c W (Ring.sl 3 t.val) (Ring.bk 224 t.val)).2; isplitl [Hh0]; · iexact Hh0
    iexact Hr0
  iexists _; iexact HW

set_option maxHeartbeats 8000000 in
/-- Two tiles in use. -/
theorem run_first_two (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : k0_cond1 (grid0.coords t) = 1#1) (hm0 : moreW T1 0#32) (hm1 : moreW T1 1#32) (h0 : t.val = 0) (h4 : k0_cond4 (grid0.coords t) (usedW T1) = 1#1) (h5 : ¬k0_cond5 (grid0.coords t) (usedW T1) = 1#1) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ freeP c W (Ring.sl 3 t.val) ∗ freeP c W (Ring.sl 3 (t.val + 1)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ comingP c W (Ring.sl 3 (t.val + 1)) (Ring.bk 224 (t.val + 1)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val = 0) := ⟨h0⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := first_slot t h0
  have hcanon1 := first_sem t h0
  have hcanon2 := first_tile t h0
  have hcanon3 := second_slot t h0
  have hcanon4 := second_sem t h0
  have hcanon5 := second_tile t h0
  have hcanon6 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨Hc0, ⟨%ff0, Hs0, Hw0⟩⟩, ⟨Hc1, ⟨%ff1, Hs1, Hw1⟩⟩, HW, Hk⟩
  ihave Hsp0 := (copy_split c W (Ring.sl 3 t.val) (Ring.bk 224 t.val)).1 $$ Hw0
  icases Hsp0 with ⟨Hh0, Hr0⟩
  ihave Hsp1 := (copy_split c W (Ring.sl 3 (t.val + 1)) (Ring.bk 224 (t.val + 1))).1 $$ Hw1
  icases Hsp1 with ⟨Hh1, Hr1⟩
  obtain rfl := harg4.eq_unread hf0; obtain rfl := harg5.eq_unread hf1; obtain rfl := harg6.eq_unread hf2
  sl_exec (disch := first | sl_exact hw | sl_exact h1 | sl_exact hm0 | sl_exact hm1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hc0 Hs0 Hh0 Hr0]
  · isplitl [Hc0]; · iexact Hc0
    iexists _; isplitl [Hs0]; · iexact Hs0
    iapply (copy_split c W (Ring.sl 3 t.val) (Ring.bk 224 t.val)).2; isplitl [Hh0]; · iexact Hh0
    iexact Hr0
  isplitl [Hc1 Hr1]
  · iexists _; isplitl [Hc1]; · iexact Hc1
    iexact Hr1
  iexists _; iexact HW

set_option maxHeartbeats 8000000 in
/-- Three tiles or more in use. -/
theorem run_first_more (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : k0_cond1 (grid0.coords t) = 1#1) (hm0 : moreW T1 0#32) (hm1 : moreW T1 1#32) (h0 : t.val = 0) (h4 : k0_cond4 (grid0.coords t) (usedW T1) = 1#1) (h5 : k0_cond5 (grid0.coords t) (usedW T1) = 1#1) (ht : t.val + 2 < 224) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ freeP c W (Ring.sl 3 t.val) ∗ freeP c W (Ring.sl 3 (t.val + 1)) ∗ freeP c W (Ring.sl 3 (t.val + 2)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ comingP c W (Ring.sl 3 (t.val + 1)) (Ring.bk 224 (t.val + 1)) ∗ comingP c W (Ring.sl 3 (t.val + 2)) (Ring.bk 224 (t.val + 2)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val + 2 < 224) := ⟨ht⟩
  haveI : Fact (t.val = 0) := ⟨h0⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := first_slot t h0
  have hcanon1 := first_sem t h0
  have hcanon2 := first_tile t h0
  have hcanon3 := second_slot t h0
  have hcanon4 := second_sem t h0
  have hcanon5 := second_tile t h0
  have hcanon6 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨Hc0, ⟨%ff0, Hs0, Hw0⟩⟩, ⟨Hc1, ⟨%ff1, Hs1, Hw1⟩⟩, ⟨Hc2, ⟨%ff2, Hs2, Hw2⟩⟩, HW, Hk⟩
  ihave Hsp0 := (copy_split c W (Ring.sl 3 t.val) (Ring.bk 224 t.val)).1 $$ Hw0
  icases Hsp0 with ⟨Hh0, Hr0⟩
  ihave Hsp1 := (copy_split c W (Ring.sl 3 (t.val + 1)) (Ring.bk 224 (t.val + 1))).1 $$ Hw1
  icases Hsp1 with ⟨Hh1, Hr1⟩
  ihave Hsp2 := (copy_split c W (Ring.sl 3 (t.val + 2)) (Ring.bk 224 (t.val + 2))).1 $$ Hw2
  icases Hsp2 with ⟨Hh2, Hr2⟩
  obtain rfl := harg4.eq_unread hf0; obtain rfl := harg5.eq_unread hf1; obtain rfl := harg6.eq_unread hf2
  sl_exec (disch := first | sl_exact hw | sl_exact h1 | sl_exact hm0 | sl_exact hm1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hc0 Hs0 Hh0 Hr0]
  · isplitl [Hc0]; · iexact Hc0
    iexists _; isplitl [Hs0]; · iexact Hs0
    iapply (copy_split c W (Ring.sl 3 t.val) (Ring.bk 224 t.val)).2; isplitl [Hh0]; · iexact Hh0
    iexact Hr0
  isplitl [Hc1 Hr1]
  · iexists _; isplitl [Hc1]; · iexact Hc1
    iexact Hr1
  isplitl [Hc2 Hr2]
  · iexists _; isplitl [Hc2]; · iexact Hc2
    iexact Hr2
  iexists _; iexact HW

end Cert.Kernel2Ideal.Experts

end
-- ==== Proof.Experts.Kernel2Ideal.RunMid.lean ====
/-
  The body at a point in the middle: the tile two ahead is started, this tile is waited for.
-/
module

public import proofs.«01_k».proof.Proof.Experts.Kernel2Ideal.Point

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- Another expert than at the point before: its weights are cast first. -/
theorem run_mid_load (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : k0_cond5 (grid0.coords t) (usedW T1) = 1#1) (ht : t.val + 2 < 224) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ comingP c W (Ring.sl 3 t.val) (Ring.bk 224 t.val) ∗ freeP c W (Ring.sl 3 (t.val + 2)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ comingP c W (Ring.sl 3 (t.val + 2)) (Ring.bk 224 (t.val + 2)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val + 2 < 224) := ⟨ht⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨%ff0, Hf0, Hrf0⟩, ⟨Hc2, ⟨%ff2, Hs2, Hw2⟩⟩, HW, Hk⟩
  ihave Hsp2 := (copy_split c W (Ring.sl 3 (t.val + 2)) (Ring.bk 224 (t.val + 2))).1 $$ Hw2
  icases Hsp2 with ⟨Hh2, Hr2⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  isplitl [Hc2 Hr2]
  · iexists _; isplitl [Hc2]; · iexact Hc2
    iexact Hr2
  iexists _; iexact HW

set_option maxHeartbeats 8000000 in
/-- The same expert as at the point before: the cast weights are used again. -/
theorem run_mid_keep (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : k0_cond5 (grid0.coords t) (usedW T1) = 1#1) (ht : t.val + 2 < 224) (hl : ¬loadsW (grid0.coords t) T0)
    (x0 : Vec F S1x1x1024x256 .f32) (x1 : Vec F S1x1x1024x256 .f32) (x2 : Vec F S1x1x256x1024 .f32) (W : Held (F := F) c tokM) (g u : Vec F S1024x256 .bf16) (d : Vec F S256x1024 .bf16) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ owns (c : Thread nD τ) gateM fullShare g ∗ owns (c : Thread nD τ) upM fullShare u ∗ owns (c : Thread nD τ) downM fullShare d ∗ comingP c W (Ring.sl 3 t.val) (Ring.bk 224 t.val) ∗ freeP c W (Ring.sl 3 (t.val + 2)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) g u d) ∗ expertsP c T0 ∗ miscP c T1 ∗ owns (c : Thread nD τ) gateM fullShare g ∗ owns (c : Thread nD τ) upM fullShare u ∗ owns (c : Thread nD τ) downM fullShare d ∗ freeP c W (Ring.sl 3 t.val) ∗ comingP c W (Ring.sl 3 (t.val + 2)) (Ring.bk 224 (t.val + 2)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val + 2 < 224) := ⟨ht⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%fs0, %hs0, HS0⟩, ⟨%fs1, %hs1, HS1⟩, ⟨%fs2, %hs2, HS2⟩, ⟨%ff0, Hf0, Hrf0⟩, ⟨Hc2, ⟨%ff2, Hs2, Hw2⟩⟩, HW, Hk⟩
  ihave Hsp2 := (copy_split c W (Ring.sl 3 (t.val + 2)) (Ring.bk 224 (t.val + 2))).1 $$ Hw2
  icases Hsp2 with ⟨Hh2, Hr2⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readAt_full _ _ _).trans hs0) ((View.readAt_full _ _ _).trans hs1) ((View.readAt_full _ _ _).trans hs2))
  isplitl [HT0]; · iexact HT0
  isplitl [HT1]; · iexact HT1
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  isplitl [Hc2 Hr2]
  · iexists _; isplitl [Hc2]; · iexact Hc2
    iexact Hr2
  iexists _; iexact HW

end Cert.Kernel2Ideal.Experts

end
-- ==== Proof.Experts.Kernel2Ideal.RunLate.lean ====
/-
  The body at the last two tiles in use, where nothing more is started.
-/
module

public import proofs.«01_k».proof.Proof.Experts.Kernel2Ideal.Point

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- Another expert than at the point before: its weights are cast first. -/
theorem run_late_load (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : ¬k0_cond5 (grid0.coords t) (usedW T1) = 1#1) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ comingP c W (Ring.sl 3 t.val) (Ring.bk 224 t.val) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨%ff0, Hf0, Hrf0⟩, HW, Hk⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  iexists _; iexact HW

set_option maxHeartbeats 8000000 in
/-- The same expert as at the point before: the cast weights are used again. -/
theorem run_late_keep (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : ¬k0_cond5 (grid0.coords t) (usedW T1) = 1#1) (hl : ¬loadsW (grid0.coords t) T0)
    (x0 : Vec F S1x1x1024x256 .f32) (x1 : Vec F S1x1x1024x256 .f32) (x2 : Vec F S1x1x256x1024 .f32) (W : Held (F := F) c tokM) (g u : Vec F S1024x256 .bf16) (d : Vec F S256x1024 .bf16) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ owns (c : Thread nD τ) gateM fullShare g ∗ owns (c : Thread nD τ) upM fullShare u ∗ owns (c : Thread nD τ) downM fullShare d ∗ comingP c W (Ring.sl 3 t.val) (Ring.bk 224 t.val) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) g u d) ∗ expertsP c T0 ∗ miscP c T1 ∗ owns (c : Thread nD τ) gateM fullShare g ∗ owns (c : Thread nD τ) upM fullShare u ∗ owns (c : Thread nD τ) downM fullShare d ∗ freeP c W (Ring.sl 3 t.val) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%fs0, %hs0, HS0⟩, ⟨%fs1, %hs1, HS1⟩, ⟨%fs2, %hs2, HS2⟩, ⟨%ff0, Hf0, Hrf0⟩, HW, Hk⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readAt_full _ _ _).trans hs0) ((View.readAt_full _ _ _).trans hs1) ((View.readAt_full _ _ _).trans hs2))
  isplitl [HT0]; · iexact HT0
  isplitl [HT1]; · iexact HT1
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  iexists _; iexact HW

end Cert.Kernel2Ideal.Experts

end
-- ==== Proof.Experts.Kernel2Ideal.RunIdle.lean ====
/-
  The body past the tiles in use: it reads the number of tiles and does nothing.
-/
module

public import proofs.«01_k».proof.Proof.Experts.Kernel2Ideal.Point

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A point past the tiles in use. -/
theorem run_idle (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : ¬k0_cond4 (grid0.coords t) (usedW T1) = 1#1)
    :
      ∀ (Ws : Waits sig Unit) (K : PUnit → sProp 𝕄),
        iprop(expertsP c T0 ∗ miscP c T1 ∗ owes (c : Thread nD τ) 0 Ws
            ∗ (iprop(expertsP c T0 ∗ miscP c T1 ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  have hT0 : expM.IsWhole := Memref.isWhole_whole _
  have hT1 : miscM.IsWhole := Memref.isWhole_whole _
  simp only [cc0_moe_ffn_eq_skeleton]; unfold cc0_moe_ffn_skel
  simp only [k0_part1_eq_skeleton]
  unfold expertsP miscP
  iintro ⟨HT0, HT1, HW, Hk⟩
  sl_exec (disch := first | sl_exact hw | sl_exact h1 | sl_exact h4)
  sl_step
  iapply Hk
  isplitl [HT0]; · iexact HT0
  isplitl [HT1]; · iexact HT1
  iexists _; iexact HW

end Cert.Kernel2Ideal.Experts

end
-- ==== Proof.Experts.Kernel2Ideal.Body.lean ====
/-
  One grid point's step: from what is held before a point, the body runs to what is held after it, on each of the
  paths its tests can take.
-/
module

public import proofs.«01_k».proof.Proof.Experts.Kernel2Ideal.Data
public import proofs.«01_k».proof.Proof.Experts.Kernel2Ideal.RunFirst
public import proofs.«01_k».proof.Proof.Experts.Kernel2Ideal.RunMid
public import proofs.«01_k».proof.Proof.Experts.Kernel2Ideal.RunLate
public import proofs.«01_k».proof.Proof.Experts.Kernel2Ideal.RunIdle

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hr : InRange m)

/-! ## The ring and the weights at a point -/

omit [FloatOps F] in
theorem ring_first (c : Dev nD) (W : Held (F := F) c tokM) (n k : ℕ) (h : k = 0) :
    ringP c W n (min k n) = iprop(freeP c W (Ring.sl 3 k) ∗ freeP c W (Ring.sl 3 (k + 1)) ∗ freeP c W (Ring.sl 3 (k + 2))) := by
  subst h; rw [Nat.zero_min, ringP_zero]; rfl
omit [FloatOps F] in
theorem ring_here (c : Dev nD) (W : Held (F := F) c tokM) (n k : ℕ) (h : k ≠ 0) (hk : k < n) :
    ringP c W n (min k n) = iprop(comingP c W (Ring.sl 3 k) (Ring.bk 224 k) ∗ roleP c W n k 1 ∗ freeP c W (Ring.sl 3 (k + 2))) := by
  rw [Nat.min_eq_left (Nat.le_of_lt hk), ringP_pos c W n h, roleP_in c W (by omega)]; rfl
omit [FloatOps F] in
theorem ring_next (c : Dev nD) (W : Held (F := F) c tokM) (n k : ℕ) (hk : k < n) :
    ringP c W n (min (k + 1) n) = iprop(roleP c W n k 1 ∗ roleP c W n k 2 ∗ freeP c W (Ring.sl 3 k)) := by
  rw [Nat.min_eq_left hk, ringP_pos c W n (by omega), show Ring.sl 3 (k + 1 + 2) = Ring.sl 3 k from Fin.ext (by show (k + 1 + 2) % 3 = k % 3; omega)]
  rfl

theorem upto_here (t : Fin (cfgA m hr).N) (h : t.val < used m) : upto m hr t.val = t :=
  Fin.ext (by rw [upto_val]; omega)

theorem weights_any (c : Dev nD) (k : ℕ) : weightsP m hr c k
    ⊢ iprop((∃ d, owns (c : Thread nD τ) gateM fullShare d) ∗ (∃ d, owns (c : Thread nD τ) upM fullShare d) ∗ (∃ d, owns (c : Thread nD τ) downM fullShare d)) := by
  unfold weightsP
  split
  · exact .rfl
  · iintro ⟨H0, H1, H2⟩
    isplitl [H0]; · iexists _; iexact H0
    isplitl [H1]; · iexists _; iexact H1
    iexists _; iexact H2

theorem weights_next (c : Dev nD) (t : Fin (cfgA m hr).N) (h : t.val < used m) : weightsP m hr c (t.val + 1)
    = iprop(owns (c : Thread nD τ) gateM fullShare (k0_pay2 (gateB m hr c t)) ∗ owns (c : Thread nD τ) upM fullShare (k0_pay3 (upB m hr c t)) ∗ owns (c : Thread nD τ) downM fullShare (k0_pay4 (downB m hr c t))) := by
  unfold weightsP
  rw [if_neg (by omega), Nat.add_sub_cancel, upto_here m hr t h]

/-- Where a point casts no weights its expert is the last point's. -/
theorem same_expert (t : Fin (cfgA m hr).N) (h : t.val < used m) (hl : ¬loadsW (grid0.coords t) (T0of m)) :
    t.val ≠ 0 ∧ expertOf m t = expertOf m (upto m hr (t.val - 1)) := by
  rw [loadsW_iff, not_or, not_not] at hl
  refine ⟨hl.1, ?_⟩
  have e : (upto m hr (t.val - 1)).val = t.val - 1 := by rw [upto_val]; omega
  unfold expertOf
  rw [hl.2]
  simp only [e]

theorem weights_keep (c : Dev nD) (t : Fin (cfgA m hr).N) (h : t.val < used m) (hl : ¬loadsW (grid0.coords t) (T0of m)) : weightsP m hr c t.val
    = iprop(owns (c : Thread nD τ) gateM fullShare (k0_pay2 (gateB m hr c t)) ∗ owns (c : Thread nD τ) upM fullShare (k0_pay3 (upB m hr c t)) ∗ owns (c : Thread nD τ) downM fullShare (k0_pay4 (downB m hr c t))) := by
  obtain ⟨h0, he⟩ := same_expert m hr t h hl
  obtain ⟨e0, e1, e2⟩ := iblk_same m hr c t (upto m hr (t.val - 1)) he
  unfold weightsP
  rw [if_neg h0, e0, e1, e2]

theorem weights_idle (c : Dev nD) (t : Fin (cfgA m hr).N) (h : used m ≤ t.val) : weightsP m hr c (t.val + 1) = weightsP m hr c t.val := by
  have hp := used_pos m hr
  unfold weightsP
  rw [if_neg (by omega), if_neg (by omega), Nat.add_sub_cancel, upto_idle m hr t h]

/-! ## The body at a point -/

abbrev ms0 (t : Fin (cfgA m hr).N) : Memref sig .tc .vmem S1x1x1024x256 .f32 := spec0_0.stage ((cfgA m hr).slots t (0 : Fin 4))
abbrev hs0 (t : Fin (cfgA m hr).N) : (ms0 m hr t).IsWhole := hstage0_0 (((cfgA m hr).slots t (0 : Fin 4)).cast nbuf0_0)
abbrev ms1 (t : Fin (cfgA m hr).N) : Memref sig .tc .vmem S1x1x1024x256 .f32 := spec0_1.stage ((cfgA m hr).slots t (1 : Fin 4))
abbrev hs1 (t : Fin (cfgA m hr).N) : (ms1 m hr t).IsWhole := hstage0_1 (((cfgA m hr).slots t (1 : Fin 4)).cast nbuf0_1)
abbrev ms2 (t : Fin (cfgA m hr).N) : Memref sig .tc .vmem S1x1x256x1024 .f32 := spec0_2.stage ((cfgA m hr).slots t (2 : Fin 4))
abbrev hs2 (t : Fin (cfgA m hr).N) : (ms2 m hr t).IsWhole := hstage0_2 (((cfgA m hr).slots t (2 : Fin 4)).cast nbuf0_2)
abbrev ms3 (t : Fin (cfgA m hr).N) : Memref sig .tc .vmem S1024x1024 .bf16 := spec0_3.stage ((cfgA m hr).slots t (3 : Fin 4))
abbrev hs3 (t : Fin (cfgA m hr).N) : (ms3 m hr t).IsWhole := hstage0_3 (((cfgA m hr).slots t (3 : Fin 4)).cast nbuf0_3)

abbrev bodyAt (t : Fin (cfgA m hr).N) : Prog (TpuEff nD τ sig (Elt F) Λ₀ .tc) PUnit :=
  cc0_moe_ffn (grid0.coords t) expM (Memref.isWhole_whole _) miscM (Memref.isWhole_whole _) tokM (Memref.isWhole_whole _) (ms0 m hr t) (hs0 m hr t) (ms1 m hr t) (hs1 m hr t) (ms2 m hr t) (hs2 m hr t) (ms3 m hr t) (hs3 m hr t) gateM (Memref.isWhole_whole _) upM (Memref.isWhole_whole _) downM (Memref.isWhole_whole _) slotsM (Memref.isWhole_whole _) cc0_scratch4

/-- What the four windows hold as the body starts, -/
def winsPre (c : Dev nD) (t : Fin (cfgA m hr).N) : sProp 𝕄 :=
  iprop(owns (c : Thread nD τ) (ms0 m hr t) fullShare (gateB m hr c t) ∗ owns (c : Thread nD τ) (ms1 m hr t) fullShare (upB m hr c t)
    ∗ owns (c : Thread nD τ) (ms2 m hr t) fullShare (downB m hr c t) ∗ (∃ d, owns (c : Thread nD τ) (ms3 m hr t) fullShare d))
/-- and as it ends, at a tile in use. -/
def winsPost (c : Dev nD) (t : Fin (cfgA m hr).N) : sProp 𝕄 :=
  iprop(owns (c : Thread nD τ) (ms0 m hr t) fullShare (gateB m hr c t) ∗ owns (c : Thread nD τ) (ms1 m hr t) fullShare (upB m hr c t)
    ∗ owns (c : Thread nD τ) (ms2 m hr t) fullShare (downB m hr c t) ∗ owns (c : Thread nD τ) (ms3 m hr t) fullShare (blockV m hr c t))

set_option maxHeartbeats 4000000 in
/-- The first point, when one tile is in use; -/
theorem step_first_one (c : Dev nD) (t : Fin (cfgA m hr).N) (h0 : t.val = 0) (hn : used m = 1) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_first c _ _ _ h0, ring_next c _ _ _ (show t.val < used m by omega), weights_next m hr c t (by omega), roleP_out c _ (k := t.val) (j := 1) (by omega), roleP_out c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_first_one c t (ms0 m hr t) (hs0 m hr t) (ms1 m hr t) (hs1 m hr t) (ms2 m hr t) (hs2 m hr t) (ms3 m hr t) (hs3 m hr t) (T0of m) (T1of m)
    (chk1_of t _ (by rw [hv]; exact hle))
    ((cond1_iff t).mpr h0)
    ((moreW_iff (T1of m) 0 (by decide) (by rw [hv']; exact hle)).mpr (by rw [hv']; omega))
    (fun h => absurd ((moreW_iff (T1of m) 1 (by decide) (by rw [hv']; exact hle)).mp h) (by rw [hv']; omega))
    h0
    ((cond4_iff t _ (by rw [hv]; exact hle)).mpr (by rw [hv]; omega))
    (fun h => absurd ((cond5_iff t _ (by rw [hv]; exact hle)).mp h) (by rw [hv]; omega))
    ((loadsW_iff t (T0of m)).mpr (Or.inl h0))
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HW]; · iexact HW
  iintro ⟨H0, H1, H2, H3, HT0, HT1, HS0, HS1, HS2, HR0, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- when two are; -/
theorem step_first_two (c : Dev nD) (t : Fin (cfgA m hr).N) (h0 : t.val = 0) (hn : used m = 2) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_first c _ _ _ h0, ring_next c _ _ _ (show t.val < used m by omega), weights_next m hr c t (by omega), roleP_in c _ (k := t.val) (j := 1) (by omega), roleP_out c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_first_two c t (ms0 m hr t) (hs0 m hr t) (ms1 m hr t) (hs1 m hr t) (ms2 m hr t) (hs2 m hr t) (ms3 m hr t) (hs3 m hr t) (T0of m) (T1of m)
    (chk1_of t _ (by rw [hv]; exact hle))
    ((cond1_iff t).mpr h0)
    ((moreW_iff (T1of m) 0 (by decide) (by rw [hv']; exact hle)).mpr (by rw [hv']; omega))
    ((moreW_iff (T1of m) 1 (by decide) (by rw [hv']; exact hle)).mpr (by rw [hv']; omega))
    h0
    ((cond4_iff t _ (by rw [hv]; exact hle)).mpr (by rw [hv]; omega))
    (fun h => absurd ((cond5_iff t _ (by rw [hv]; exact hle)).mp h) (by rw [hv]; omega))
    ((loadsW_iff t (T0of m)).mpr (Or.inl h0))
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR1]; · iexact HR1
  isplitl [HW]; · iexact HW
  iintro ⟨H0, H1, H2, H3, HT0, HT1, HS0, HS1, HS2, HR0, HR1, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- when more are. -/
theorem step_first_more (c : Dev nD) (t : Fin (cfgA m hr).N) (h0 : t.val = 0) (hn : 2 < used m) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_first c _ _ _ h0, ring_next c _ _ _ (show t.val < used m by omega), weights_next m hr c t (by omega), roleP_in c _ (k := t.val) (j := 1) (by omega), roleP_in c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_first_more c t (ms0 m hr t) (hs0 m hr t) (ms1 m hr t) (hs1 m hr t) (ms2 m hr t) (hs2 m hr t) (ms3 m hr t) (hs3 m hr t) (T0of m) (T1of m)
    (chk1_of t _ (by rw [hv]; exact hle))
    ((cond1_iff t).mpr h0)
    ((moreW_iff (T1of m) 0 (by decide) (by rw [hv']; exact hle)).mpr (by rw [hv']; omega))
    ((moreW_iff (T1of m) 1 (by decide) (by rw [hv']; exact hle)).mpr (by rw [hv']; omega))
    h0
    ((cond4_iff t _ (by rw [hv]; exact hle)).mpr (by rw [hv]; omega))
    ((cond5_iff t _ (by rw [hv]; exact hle)).mpr (by rw [hv]; omega))
    (by omega)
    ((loadsW_iff t (T0of m)).mpr (Or.inl h0))
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR1]; · iexact HR1
  isplitl [HR2]; · iexact HR2
  isplitl [HW]; · iexact HW
  iintro ⟨H0, H1, H2, H3, HT0, HT1, HS0, HS1, HS2, HR0, HR1, HR2, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- A later point with a tile to copy ahead, at a new expert; -/
theorem step_mid_load (c : Dev nD) (t : Fin (cfgA m hr).N) (h0 : t.val ≠ 0) (hn : t.val + 2 < used m) (hl : loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), roleP_in c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_mid_load c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    ((cond5_iff t _ (by rw [hv]; exact hle)).mpr (by rw [hv]; omega))
    (by omega)
    hl
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR2]; · iexact HR2
  isplitl [HW]; · iexact HW
  iintro ⟨H0, H1, H2, H3, HT0, HT1, HS0, HS1, HS2, HR0, HR2, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- at the last point's expert. -/
theorem step_mid_keep (c : Dev nD) (t : Fin (cfgA m hr).N) (h0 : t.val ≠ 0) (hn : t.val + 2 < used m) (hl : ¬loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), weights_keep m hr c t (by omega) hl, roleP_in c _ (k := t.val) (j := 2) (by omega)]
  iintro ⟨⟨HS, Hg, ⟨HR0, HR1, HR2⟩, HT0, HT1⟩, HW, H0, H1, H2, H3⟩
  icases HS with ⟨HS0, HS1, HS2⟩
  iapply (run_mid_keep c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    ((cond5_iff t _ (by rw [hv]; exact hle)).mpr (by rw [hv]; omega))
    (by omega)
    hl
    (gateB m hr c t) (upB m hr c t) (downB m hr c t) (tokW m c)
    (k0_pay2 (gateB m hr c t)) (k0_pay3 (upB m hr c t)) (k0_pay4 (downB m hr c t))
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR2]; · iexact HR2
  isplitl [HW]; · iexact HW
  iintro ⟨H0, H1, H2, H3, HT0, HT1, HS0, HS1, HS2, HR0, HR2, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- One of the last two tiles in use, at a new expert; -/
theorem step_late_load (c : Dev nD) (t : Fin (cfgA m hr).N) (h0 : t.val ≠ 0) (ht : t.val < used m) (hn : ¬t.val + 2 < used m) (hl : loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), roleP_out c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_late_load c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    (fun h => absurd ((cond5_iff t _ (by rw [hv]; exact hle)).mp h) (by rw [hv]; omega))
    hl
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HW]; · iexact HW
  iintro ⟨H0, H1, H2, H3, HT0, HT1, HS0, HS1, HS2, HR0, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- at the last point's expert. -/
theorem step_late_keep (c : Dev nD) (t : Fin (cfgA m hr).N) (h0 : t.val ≠ 0) (ht : t.val < used m) (hn : ¬t.val + 2 < used m) (hl : ¬loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), weights_keep m hr c t (by omega) hl, roleP_out c _ (k := t.val) (j := 2) (by omega)]
  iintro ⟨⟨HS, Hg, ⟨HR0, HR1, HR2⟩, HT0, HT1⟩, HW, H0, H1, H2, H3⟩
  icases HS with ⟨HS0, HS1, HS2⟩
  iapply (run_late_keep c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    (fun h => absurd ((cond5_iff t _ (by rw [hv]; exact hle)).mp h) (by rw [hv]; omega))
    hl
    (gateB m hr c t) (upB m hr c t) (downB m hr c t) (tokW m c)
    (k0_pay2 (gateB m hr c t)) (k0_pay3 (upB m hr c t)) (k0_pay4 (downB m hr c t))
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HW]; · iexact HW
  iintro ⟨H0, H1, H2, H3, HT0, HT1, HS0, HS1, HS2, HR0, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

/-- Any tile in use. -/
theorem step_live (c : Dev nD) (t : Fin (cfgA m hr).N) (ht : t.val < used m) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  by_cases h0 : t.val = 0
  · by_cases h1 : used m = 1
    · exact step_first_one m hr c t h0 h1 Ws
    by_cases h2 : used m = 2
    · exact step_first_two m hr c t h0 h2 Ws
    exact step_first_more m hr c t h0 (by omega) Ws
  by_cases hn : t.val + 2 < used m
  · by_cases hl : loadsW (grid0.coords t) (T0of m)
    · exact step_mid_load m hr c t h0 hn hl Ws
    exact step_mid_keep m hr c t h0 hn hl Ws
  by_cases hl : loadsW (grid0.coords t) (T0of m)
  · exact step_late_load m hr c t h0 ht hn hl Ws
  exact step_late_keep m hr c t h0 ht hn hl Ws

set_option maxHeartbeats 4000000 in
/-- A point past the tiles in use, which touches nothing. -/
theorem step_idle (c : Dev nD) (t : Fin (cfgA m hr).N) (ht : used m ≤ t.val) (Ws : Waits sig Unit) (R : sProp 𝕄) :
    iprop(stateP m hr c t.val ∗ owes (c : Thread nD τ) 0 Ws ∗ R)
      ⊢ wp frame (wpE (defs₀ (F := F)) Variants.none c none) Set.univ (bodyAt m hr t) fun _ =>
          iprop(stateP m hr c (t.val + 1) ∗ (∃ W', owes (c : Thread nD τ) 0 W') ∗ R) := by
  have hle := used_le m hr
  have hp := used_pos m hr
  have hv : (usedW (T1of m) : BitVec 32).toNat = used m := congrArg BitVec.toNat (usedW_eq (F := F) (T1of m))
  unfold stateP
  rw [weights_idle m hr c t ht, Nat.min_eq_right (show used m ≤ t.val + 1 by omega), Nat.min_eq_right ht]
  iintro ⟨⟨HS, Hg, HR, HT0, HT1⟩, HW, HX⟩
  iapply (run_idle c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => absurd ((cond1_iff t).mp h) (by omega))
    (fun h => absurd ((cond4_iff t _ (by rw [hv]; exact hle)).mp h) (by rw [hv]; omega)) Ws _)
  isplitl [HT0]; · iexact HT0
  isplitl [HT1]; · iexact HT1
  isplitl [HW]; · iexact HW
  iintro ⟨HT0, HT1, HW⟩
  isplitl [HS Hg HR HT0 HT1]
  · isplitl [HS]; · iexact HS
    isplitl [Hg]; · iexact Hg
    isplitl [HR]; · iexact HR
    isplitl [HT0]; · iexact HT0
    iexact HT1
  isplitl [HW]; · iexact HW
  iexact HX

/-- What the launch asks of the body at a point. -/
theorem body_at (c : Dev nD) (t : Fin (cfgA m hr).N) :
    iprop((dats m hr 0 c).Φ t.castSucc ∗ (dats m hr 0 c).owesAt () t.castSucc
        ∗ (∃ d, owns (c : Thread nD τ) (ms0 m hr t) fullShare ((dats m hr 0 c).before (0 : Fin 4) t d))
        ∗ (∃ d, owns (c : Thread nD τ) (ms1 m hr t) fullShare ((dats m hr 0 c).before (1 : Fin 4) t d))
        ∗ (∃ d, owns (c : Thread nD τ) (ms2 m hr t) fullShare ((dats m hr 0 c).before (2 : Fin 4) t d))
        ∗ (∃ d, owns (c : Thread nD τ) (ms3 m hr t) fullShare ((dats m hr 0 c).before (3 : Fin 4) t d)))
      ⊢ wp frame (wpE (defs₀ (F := F)) Variants.none c none) Set.univ (bodyAt m hr t) fun _ =>
          iprop((dats m hr 0 c).Φ t.succ ∗ (dats m hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m hr 0 c).before w t d))
                  | true => owns (c : Thread nD τ) (((cfgA m hr).win w).stage ((cfgA m hr).slots t w)) fullShare ((dats m hr 0 c).after w t)
                | false => owns (c : Thread nD τ) (((cfgA m hr).win w).stage ((cfgA m hr).slots t w)) fullShare ((dats m hr 0 c).after w t)) := by
  have hle := used_le m hr
  have hp := used_pos m hr
  have hN : t.val < 224 := t.isLt
  rw [bigSep_W0, show (dats m hr 0 c).Φ t.castSucc = stateP m hr c t.val from rfl, show (dats m hr 0 c).Φ t.succ = stateP m hr c (t.val + 1) from rfl]
  unfold Dat.owesAt Pipeline.owesWithin
  rw [show (dats m hr 0 c).owed t.castSucc = 0 from rfl, show (dats m hr 0 c).owed t.succ = 0 from rfl]
  have hi := idle3 m hr t
  by_cases ht : t.val < used m
  · rw [decide_eq_false (by omega)] at hi
    rewrite [hi]
    simp only [before0, before1, before2, after0, after1, after2, after3, upto_here m hr t ht]
    iintro ⟨HΦ, ⟨%Ws, -, HW⟩, ⟨%d0, H0⟩, ⟨%d1, H1⟩, ⟨%d2, H2⟩, ⟨%d3, H3⟩⟩
    iapply (wp_wand_r Idealize.ShloMosaic.frame _ Set.univ)
    isplitl [HΦ HW H0 H1 H2 H3]
    · iapply (step_live m hr c t ht Ws)
      isplitl [HΦ]; · iexact HΦ
      isplitl [HW]; · iexact HW
      unfold winsPre
      isplitl [H0]; · iexact H0
      isplitl [H1]; · iexact H1
      isplitl [H2]; · iexact H2
      iexists _; iexact H3
    unfold winsPost
    iintro %_ ⟨HΦ, ⟨%W', HW⟩, H0, H1, H2, H3⟩
    isplitl [HΦ]; · iexact HΦ
    isplitl [HW]
    · iexists W'; isplitr
      · ipureintro; exact fun _ _ => Or.inl trivial
      iexact HW
    isplitl [H0]; · iexact H0
    isplitl [H1]; · iexact H1
    isplitl [H2]; · iexact H2
    iexact H3
  · rw [decide_eq_true (by omega)] at hi
    rewrite [hi]
    have hf := flush3 m hr t
    simp only [before0, before1, before2, after0, after1, after2, after3]
    by_cases hl : t.val = 223
    · rw [decide_eq_true (Or.inr hl)] at hf
      simp only [hf, before3 m hr c t (by omega)]
      iintro ⟨HΦ, ⟨%Ws, -, HW⟩, ⟨%d0, H0⟩, ⟨%d1, H1⟩, ⟨%d2, H2⟩, ⟨%d3, H3⟩⟩
      iapply (wp_wand_r Idealize.ShloMosaic.frame _ Set.univ)
      isplitl [HΦ HW]
      · iapply (step_idle m hr c t (by omega) Ws iprop(emp))
        isplitl [HΦ]; · iexact HΦ
        isplitl [HW]; · iexact HW
        iempintro
      iintro %_ ⟨HΦ, ⟨%W', HW⟩, -⟩
      isplitl [HΦ]; · iexact HΦ
      isplitl [HW]
      · iexists W'; isplitr
        · ipureintro; exact fun _ _ => Or.inl trivial
        iexact HW
      isplitl [H0]; · iexact H0
      isplitl [H1]; · iexact H1
      isplitl [H2]; · iexact H2
      iexact H3
    · rw [decide_eq_false (by omega)] at hf
      simp only [hf]
      iintro ⟨HΦ, ⟨%Ws, -, HW⟩, ⟨%d0, H0⟩, ⟨%d1, H1⟩, ⟨%d2, H2⟩, ⟨%d3, H3⟩⟩
      iapply (wp_wand_r Idealize.ShloMosaic.frame _ Set.univ)
      isplitl [HΦ HW]
      · iapply (step_idle m hr c t (by omega) Ws iprop(emp))
        isplitl [HΦ]; · iexact HΦ
        isplitl [HW]; · iexact HW
        iempintro
      iintro %_ ⟨HΦ, ⟨%W', HW⟩, -⟩
      isplitl [HΦ]; · iexact HΦ
      isplitl [HW]
      · iexists W'; isplitr
        · ipureintro; exact fun _ _ => Or.inl trivial
        iexact HW
      isplitl [H0]; · iexact H0
      isplitl [H1]; · iexact H1
      isplitl [H2]; · iexact H2
      iexists d3; iexact H3

theorem body_obligation (c : Dev nD) : BodyObligation (dats m hr 0 c) (defs₀ (F := F)) Variants.none () Set.univ := fun t => by
  rw [bigSep_W0]
  exact body_at m hr c t

end Cert.Kernel2Ideal.Experts

end
-- ==== Proof.Experts.Kernel2Ideal.Launch.lean ====
/-
  The launch: from a memory whose tables are in range every run ends, with each argument as it was, every semaphore
  counter at zero, and the result holding what the points' blocks write.
-/
module

public import proofs.«01_k».proof.Proof.Experts.Kernel2Ideal.Body

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hr : InRange m)

/-- What a buffer holds as the run is launched. -/
abbrev V (c : Dev nD) (b : Ref sig .tc) : Buf (Elt F) ((c : Thread nD τ).loc b) := m ((c : Thread nD τ).loc b)

/-! ## What the launch hands the kernel besides its windows -/

/-- The kernel's own semaphore cells, -/
def ownSem : Fin 3 → SemLoc sig := ![SemLoc.dma 8, SemLoc.dma 9, SemLoc.dma 10]
theorem ownSem_facts : Pipeline.OwnSemFacts spec0 ownSem := by decide

theorem ownSems_eq (c : Dev nD) :
    (Pipeline.ownSems0 (Ix := Unit) (Name := ℕ) (U := Pipeline.UD sig nD τ) (Lvl := ℕ) (Val := Elt F) (τ := τ) ownSem c : sProp 𝕄) = semsP c := by
  rw [Pipeline.ownSems0_eq_of_list c ownSem [0, 1, 2] (by decide) (by decide)]; rfl

/-- the array it copies from, -/
def copied : Finset (Ref sig .tc) := {main_arg2}
theorem copied_sub : copied ⊆ Pipeline.restRefsP sig pre0 spec0 := by decide

theorem copied_eq (c : Dev nD) :
    (bigSep copied (fun b => ((c : Thread nD τ).loc b) ↦{fullShare} V m c b) : sProp 𝕄) = wholeAt c tokM (tokW m c) := by
  rw [BI.bigSep_eq_bigSepL_of_eq [main_arg2] (by decide) (by decide)]; rfl

/-- and the two tables. -/
theorem tables_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem handed_eq (c : Dev nD) :
    (Pipeline.ΦD ownSem spec0 copied (V m) c : sProp 𝕄)
      = iprop(iprop((∃ d, owns (c : Thread nD τ) gateM fullShare d) ∗ (∃ d, owns (c : Thread nD τ) upM fullShare d) ∗ (∃ d, owns (c : Thread nD τ) downM fullShare d)
            ∗ (∃ f : Buf (Elt F) ((c : Thread nD τ).loc cc0_scratch3), ((c : Thread nD τ).loc cc0_scratch3) ↦{fullShare} f))
          ∗ (∃ r, prngReg c r) ∗ semsP c ∗ wholeAt c tokM (tokW m c)) := by
  rw [Pipeline.ΦD_eq, scopedRest0_eq, ownSems_eq, copied_eq]
  simp only [owns_whole]
  try rfl

theorem tabs_at (c : Dev nD) (j : Fin 2) : V m c (pre0.ref j) = (adm m hr).1 j := by
  obtain rfl : c = (0 : Fin 1) := Subsingleton.elim (α := Fin 1) _ _
  fin_cases j <;> rfl

theorem launch_in (c : Dev nD) :
    iprop(Pipeline.ΦD ownSem spec0 copied (V m) c ∗ Pipeline.ΦT pre0 (adm m hr).1 c) ⊢ (dats m hr 0 c).Φ 0 := by
  unfold Pipeline.ΦT
  rw [handed_eq, tables_eq, show (dats m hr 0 c).Φ 0 = stateP m hr c 0 from rfl]
  unfold stateP weightsP
  rw [if_pos rfl, Nat.zero_min, ringP_zero]
  iintro ⟨⟨⟨HS0, HS1, HS2, HS3⟩, Hg, Hq, HW⟩, HT0, HT1⟩
  isplitl [HS0 HS1 HS2]
  · isplitl [HS0]; · iexact HS0
    isplitl [HS1]; · iexact HS1
    iexact HS2
  isplitl [Hg]; · iexact Hg
  isplitl [HS3 Hq HW]
  · iapply (ring_in (F := F) c (tokW m c))
    isplitl [HS3]; · iexact HS3
    isplitl [Hq]; · iexact Hq
    iexact HW
  unfold expertsP miscP
  rw [← tabs_at m hr c 0, ← tabs_at m hr c 1]
  obtain rfl : c = (0 : Fin 1) := Subsingleton.elim (α := Fin 1) _ _
  isplitl [HT0]; · iexact HT0
  iexact HT1

theorem launch_out (c : Dev nD) : (dats m hr 0 c).Φ (Fin.last (cfgA m hr).N) ⊢ Pipeline.ΦD ownSem spec0 copied (V m) c := by
  rw [handed_eq, show (dats m hr 0 c).Φ (Fin.last (cfgA m hr).N) = stateP m hr c 224 from rfl]
  unfold stateP
  rw [Nat.min_eq_right (used_le m hr)]
  iintro ⟨HS, Hg, HR, -, -⟩
  ihave HS' := (weights_any m hr c 224) $$ HS
  icases HS' with ⟨HS0, HS1, HS2⟩
  ihave HR1 := (ring_last (F := F) c (tokW m c) (used_pos m hr)) $$ HR
  ihave HR2 := (ring_out (F := F) c (tokW m c)) $$ HR1
  icases HR2 with ⟨HS3, Hq, HW⟩
  isplitl [HS0 HS1 HS2 HS3]
  · isplitl [HS0]; · iexact HS0
    isplitl [HS1]; · iexact HS1
    isplitl [HS2]; · iexact HS2
    iexact HS3
  isplitl [Hg]; · iexact Hg
  isplitl [Hq]; · iexact Hq
  iexact HW

/-! ## The run -/

variable (ρ : Dev nD → PrngReg)

set_option backward.isDefEq.respectTransparency.types false in
set_option maxHeartbeats 4000000 in
theorem run_whole : θ_run defs (onTc (τ := τ) (main (F := F))) (s₀ m ρ)
    (fun r => Pipeline.FramePost (Pipeline.pin pcfgs fun _ => adm m hr) (dats m hr) 0 (V m) r ∧ r.2.sem = fun _ => 0) :=
  Pipeline.θ_run_frameP_dma (Q' := _) pcfgs (fun _ => adm m hr) (dats m hr) (0 : Fin 1) launch0 ownSem defs₀ Variants.none ownSem_facts copied copied_sub m ρ main
    (hbody := fun c => (body_obligation m hr c).loose) (hshare := fun c => (dats m hr 0 c).share_full fun _ => rfl)
    (howed := fun _ _ => rfl) (V := V m)
    (hmain := Pipeline.hmainP_region pcfgs 0 defs₀ Variants.none m main fun c => (main_chain c).trans rfl)
    (hA := fun _ _ => by first | rfl | (fin_cases ‹Fin 4› <;> rfl)) (hpf := tabs_at m hr)
    (hin := launch_in m hr) (hout := launch_out m hr)

/-- What a run leaves: every argument as it was, and the result as the points' blocks write it. -/
theorem run_arrays : θ_run defs (onTc (τ := τ) (main (F := F))) ⟨m, fun _ => 0, ρ⟩ (fun r => (∀ c : Dev nD,
      r.2.mem ((c.tc : Thread nD τ).loc main_v0) = (dats m hr 0 c).arrAt (3 : Fin 4) (cfgA m hr).N)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1 (3 : Fin 4), fun c =>
    ⟨(h.1 c).2 main_arg0 (show main_arg0 ∈ Pipeline.restRefs sig spec0 by decide), (h.1 c).2 main_arg1 (show main_arg1 ∈ Pipeline.restRefs sig spec0 by decide), (h.1 c).2 main_arg2 (show main_arg2 ∈ Pipeline.restRefs sig spec0 by decide),
      ((h.1 c).1 (0 : Fin 4)).trans ((dats m hr 0 c).arrAt_in (0 : Fin 4) rfl _),
      ((h.1 c).1 (1 : Fin 4)).trans ((dats m hr 0 c).arrAt_in (1 : Fin 4) rfl _),
      ((h.1 c).1 (2 : Fin 4)).trans ((dats m hr 0 c).arrAt_in (2 : Fin 4) rfl _)⟩, h.2⟩) (run_whole m hr ρ)

include hr in
/-- Every argument ends as it was, and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => h.2) (run_arrays m hr ρ)

end Cert.Kernel2Ideal.Experts

end
-- ==== Proof.Experts.Printed.lean ====
/-
  The first trunk layer: the program as printed and its idealization run the same text. The body of a point, the declared
  functions and the main function are equal for any float values, so the frame of the one is the frame of the other.
-/
module

public import proofs.«01_k».proof.Defs
public import proofs.«01_k».proof.Proof.Gen.Kernel2
public import proofs.«01_k».proof.Proof.Gen.Kernel2Ideal
public import proofs.«01_k».proof.Proof.Experts.Kernel2Ideal.Launch

@[expose] public section

set_option maxRecDepth 16384

noncomputable section

namespace Cert.Kernel2.Experts

open Idealize.ShloMosaic Idealize.ShloMosaic.TcCoe Idealize.SL.Sem

variable {F : FTy → Type} [FloatOps F]

/-- The body of a point. -/
theorem body_same (i) a1 h1 a2 h2 a3 h3 a4 h4 a5 h5 a6 h6 a7 h7 a8 h8 a9 h9 a10 h10 a11 h11 a12 :
    @Cert.Kernel2.cc0_moe_ffn F _ _ i a1 h1 a2 h2 a3 h3 a4 h4 a5 h5 a6 h6 a7 h7 a8 h8 a9 h9 a10 h10 a11 h11 a12
      = @Cert.Kernel2Ideal.cc0_moe_ffn F _ _ i a1 h1 a2 h2 a3 h3 a4 h4 a5 h5 a6 h6 a7 h7 a8 h8 a9 h9 a10 h10 a11 h11 a12 := by
  delta Cert.Kernel2.cc0_moe_ffn Cert.Kernel2Ideal.cc0_moe_ffn
  rfl

/-- The function that the launch calls at each point. -/
theorem bodies_same : Cert.Kernel2.defs₀ (F := F) = Cert.Kernel2Ideal.defs₀ (F := F) := by
  delta Cert.Kernel2.defs₀ Cert.Kernel2Ideal.defs₀
  refine congrArg Defs.onTc ?_
  funext x a
  match x, a with
  | ⟨0, _⟩, (t, s) => exact body_same ..

/-- All functions, the launch included. -/
theorem functions_same : Cert.Kernel2.defs (F := F) = Cert.Kernel2Ideal.defs (F := F) := by
  delta Cert.Kernel2.defs Cert.Kernel2Ideal.defs
  exact congrArg (Pipeline.defs (Cert.Kernel2Ideal.pcfgs (F := F))) bodies_same

theorem main_same : Cert.Kernel2.main (F := F) = Cert.Kernel2Ideal.main (F := F) := rfl

/-- Every argument ends as it was, and every semaphore counter at zero. -/
theorem run_frame (m : (ℓ : Loc Cert.Kernel2Ideal.nD Cert.Kernel2Ideal.τ Cert.Kernel2Ideal.sig) → Buf (Elt F) ℓ) (hr : Cert.Kernel2Ideal.Experts.InRange m)
    (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [main_same, functions_same]
  exact Cert.Kernel2Ideal.Experts.run_frame m hr ρ

end Cert.Kernel2.Experts

end
-- ==== Proof.Experts.Math.lean ====
/-
  One expert's feed-forward on one token, over the extended reals.
-/
module

public import Idealize.ShloMosaic.Lib.Pointwise

@[expose] public section

noncomputable section

namespace Cert.Experts

open Idealize.ShloMosaic

/-- A projection of a token. -/
def proj {D : ℕ} (x : Fin D → EReal) (w : Fin D → EReal) : EReal := ∑ d : Fin D, x d * w d

/-- The gated hidden value of a token: the gate's projection through `z / (1 + exp (-z))`, times the other projection. -/
def gated (g u : EReal) : EReal := g * Ideal.logistic g * u

/-- One entry of the expert's result for a token of weight `w`. -/
def result (x : Fin 1024 → EReal) (w : EReal) (gate up : Fin 1024 → Fin 256 → EReal) (down : Fin 256 → EReal) : EReal :=
  ∑ f : Fin 256, gated (proj x fun d => gate d f) (proj x fun d => up d f) * w * down f

end Cert.Experts

end
-- ==== Proof.Experts.Kernel2Ideal.Block.lean ====
/-
  The block of the result that one point writes, read at an index.
-/
module

public import proofs.«01_k».proof.Proof.Experts.Kernel2Ideal.Point
public import proofs.«01_k».proof.Proof.Experts.Math
public import Idealize.ShloMosaic.Lib.Claim

@[expose] public section

set_option maxRecDepth 16384

noncomputable section

namespace Cert.Kernel2Ideal.Experts

open Cert.Kernel2Ideal Cert.Kernel2Ideal.Gen Cert.Experts
open Idealize.ShloMosaic

theorem main_apply (X : Vec Ideal S1024x1152 .bf16) (q d : Fin 1024) : mainV X (ix2 q d) = X (ix2 q ⟨d.val, by omega⟩) := by
  refine congrArg X (funext fun a => Fin.ext ?_)
  match a with
  | ⟨0, _⟩ => show 0 + 1 * q.val = q.val; omega
  | ⟨1, _⟩ => show 0 + 1 * d.val = d.val; omega
theorem high_apply (X : Vec Ideal S1024x1152 .bf16) (q : Fin 1024) : highV X (ix2 q 0) = X (ix2 q ⟨1024, by omega⟩) := by
  refine congrArg X (funext fun a => Fin.ext ?_)
  match a with
  | ⟨0, _⟩ => show 0 + 1 * q.val = q.val; omega
  | ⟨1, _⟩ => rfl
theorem low_apply (X : Vec Ideal S1024x1152 .bf16) (q : Fin 1024) : lowV X (ix2 q 0) = X (ix2 q ⟨1088, by omega⟩) := by
  refine congrArg X (funext fun a => Fin.ext ?_)
  match a with
  | ⟨0, _⟩ => show 0 + 1 * q.val = q.val; omega
  | ⟨1, _⟩ => rfl

theorem outV_apply (X : Vec Ideal S1024x1152 .bf16) (x0 x1 : Vec Ideal S1x1x1024x256 .f32) (x2 : Vec Ideal S1x1x256x1024 .f32) (q j : Fin 1024) :
    outV X (k0_pay2 x0) (k0_pay3 x1) (k0_pay4 x2) (ix2 q j)
      = result (fun d => X (ix2 q ⟨d.val, by omega⟩)) (X (ix2 q ⟨1024, by omega⟩) + X (ix2 q ⟨1088, by omega⟩))
          (fun d f => x0 (ix4 0 0 d f)) (fun d f => x1 (ix4 0 0 d f)) (fun f => x2 (ix4 0 0 f j)) := by
  unfold outV
  unfold_payloads
  pointwise [result, gated, proj, main_apply, high_apply, low_apply]

end Cert.Kernel2Ideal.Experts

end
-- ==== Proof.Experts.Kernel2Ideal.Arrays.lean ====
/-
  The result array after the run: in the tiles in use, each row is its token's row through the tile's expert.
-/
module

public import proofs.«01_k».proof.Proof.Experts.Kernel2Ideal.Data
public import proofs.«01_k».proof.Proof.Experts.Kernel2Ideal.Block
public import Idealize.ShloMosaic.Lib.Pipeline.ValueKit
public import Idealize.ShloMosaic.Lib.Claim

@[expose] public section

set_option maxRecDepth 16384

noncomputable section

namespace Cert.Kernel2Ideal.Experts

open Cert.Kernel2Ideal Cert.Kernel2Ideal.Gen Cert.Experts
open Idealize.ShloMosaic Idealize.ShloMosaic.TcCoe
open Idealize.ShloMosaic.Pipeline (Dat)

/-- The result of one expert on one row of tokens. -/
def rowOut (xs : FVec Ideal S229376x1152 .bf16) (wg wu : FVec Ideal S2x64x1024x256 .f32) (wd : FVec Ideal S2x64x256x1024 .f32)
    (e : Fin 64) (r : Fin 229376) (j : Fin 1024) : EReal :=
  result (fun d => xs (ix2 r ⟨d.val, by omega⟩)) (xs (ix2 r ⟨1024, by omega⟩) + xs (ix2 r ⟨1088, by omega⟩))
    (fun d f => wg (ix4 0 e d f)) (fun d f => wu (ix4 0 e d f)) (fun f => wd (ix4 0 e f j))

/-- The expert of a row: its tile's entry of the table. -/
def rowExpert (te : IVec S256 32) (r : Fin 229376) : Fin 64 := ⟨(te (ix1 ⟨r.val / 1024, by omega⟩) : BitVec 32).toNat % 64, by omega⟩

variable (m : (ℓ : Loc nD τ sig) → Buf (Elt Ideal) ℓ) (hr : InRange m) (c : Dev nD)

/-- The result array in full, as the tiles in use fill it. -/
def outArr : FVec Ideal S229376x1024 .bf16 := fun i =>
  rowOut (m ((c.tc : Thread nD τ).loc main_arg2)) (m ((c.tc : Thread nD τ).loc main_arg3)) (m ((c.tc : Thread nD τ).loc main_arg4)) (m ((c.tc : Thread nD τ).loc main_arg5))
    (rowExpert (T0of m) (i 0)) (i 0) (i 1)

/-- The blocks of the weights that a point works on. -/
theorem index0 (t : Fin (cfgA m hr).N) : ((cfgA m hr).win (0 : Fin 4)).index t = ![0, expertOf m t, 0, 0] := map1_eq m t
theorem index1 (t : Fin (cfgA m hr).N) : ((cfgA m hr).win (1 : Fin 4)).index t = ![0, expertOf m t, 0, 0] := map2_eq m t
theorem index2 (t : Fin (cfgA m hr).N) : ((cfgA m hr).win (2 : Fin 4)).index t = ![0, expertOf m t, 0, 0] := map3_eq m t

/-- The weights' blocks at a point are its expert's. -/
theorem gate_at (t : Fin (cfgA m hr).N) (d : Fin 1024) (f : Fin 256) :
    gateB m hr c t (ix4 0 0 d f) = (m ((c.tc : Thread nD τ).loc main_arg3) : FVec Ideal S2x64x1024x256 .f32) (ix4 0 ⟨expertOf m t, expertOf_lt m hr t⟩ d f) := by
  show (m ((c.tc : Thread nD τ).loc main_arg3) : FVec Ideal S2x64x1024x256 .f32) _ = _
  refine congrArg (m ((c.tc : Thread nD τ).loc main_arg3) : FVec Ideal S2x64x1024x256 .f32) (funext fun a => Fin.ext ?_)
  refine (ValueKit.rect_emb_unit_val _ _ _ _ a).trans ?_
  have e (x : Fin 4) : ((cfgA m hr).win (0 : Fin 4)).index t x = (![0, expertOf m t, 0, 0] : Fin 4 → ℕ) x := congrFun (index0 m hr t) x
  match a with
  | ⟨0, _⟩ => exact congrArg (· * 1 + 0) (e 0)
  | ⟨1, _⟩ => exact (congrArg (· * 1 + 0) (e 1)).trans (by show expertOf m t * 1 + 0 = expertOf m t; omega)
  | ⟨2, _⟩ => exact (congrArg (· * 1024 + d.val) (e 2)).trans (by show 0 * 1024 + d.val = d.val; omega)
  | ⟨3, _⟩ => exact (congrArg (· * 256 + f.val) (e 3)).trans (by show 0 * 256 + f.val = f.val; omega)
theorem up_at (t : Fin (cfgA m hr).N) (d : Fin 1024) (f : Fin 256) :
    upB m hr c t (ix4 0 0 d f) = (m ((c.tc : Thread nD τ).loc main_arg4) : FVec Ideal S2x64x1024x256 .f32) (ix4 0 ⟨expertOf m t, expertOf_lt m hr t⟩ d f) := by
  show (m ((c.tc : Thread nD τ).loc main_arg4) : FVec Ideal S2x64x1024x256 .f32) _ = _
  refine congrArg (m ((c.tc : Thread nD τ).loc main_arg4) : FVec Ideal S2x64x1024x256 .f32) (funext fun a => Fin.ext ?_)
  refine (ValueKit.rect_emb_unit_val _ _ _ _ a).trans ?_
  have e (x : Fin 4) : ((cfgA m hr).win (1 : Fin 4)).index t x = (![0, expertOf m t, 0, 0] : Fin 4 → ℕ) x := congrFun (index1 m hr t) x
  match a with
  | ⟨0, _⟩ => exact congrArg (· * 1 + 0) (e 0)
  | ⟨1, _⟩ => exact (congrArg (· * 1 + 0) (e 1)).trans (by show expertOf m t * 1 + 0 = expertOf m t; omega)
  | ⟨2, _⟩ => exact (congrArg (· * 1024 + d.val) (e 2)).trans (by show 0 * 1024 + d.val = d.val; omega)
  | ⟨3, _⟩ => exact (congrArg (· * 256 + f.val) (e 3)).trans (by show 0 * 256 + f.val = f.val; omega)
theorem down_at (t : Fin (cfgA m hr).N) (f : Fin 256) (j : Fin 1024) :
    downB m hr c t (ix4 0 0 f j) = (m ((c.tc : Thread nD τ).loc main_arg5) : FVec Ideal S2x64x256x1024 .f32) (ix4 0 ⟨expertOf m t, expertOf_lt m hr t⟩ f j) := by
  show (m ((c.tc : Thread nD τ).loc main_arg5) : FVec Ideal S2x64x256x1024 .f32) _ = _
  refine congrArg (m ((c.tc : Thread nD τ).loc main_arg5) : FVec Ideal S2x64x256x1024 .f32) (funext fun a => Fin.ext ?_)
  refine (ValueKit.rect_emb_unit_val _ _ _ _ a).trans ?_
  have e (x : Fin 4) : ((cfgA m hr).win (2 : Fin 4)).index t x = (![0, expertOf m t, 0, 0] : Fin 4 → ℕ) x := congrFun (index2 m hr t) x
  match a with
  | ⟨0, _⟩ => exact congrArg (· * 1 + 0) (e 0)
  | ⟨1, _⟩ => exact (congrArg (· * 1 + 0) (e 1)).trans (by show expertOf m t * 1 + 0 = expertOf m t; omega)
  | ⟨2, _⟩ => exact (congrArg (· * 256 + f.val) (e 2)).trans (by show 0 * 256 + f.val = f.val; omega)
  | ⟨3, _⟩ => exact (congrArg (· * 1024 + j.val) (e 3)).trans (by show 0 * 1024 + j.val = j.val; omega)

/-- Row `q` of tile `t` is row `1024 t + q` of the tokens. -/
theorem tile_at (t : Fin 224) (q : Fin 1024) (k : Fin 1152) :
    tileV c (tokW m c) t (ix2 q k) = (m ((c.tc : Thread nD τ).loc main_arg2) : FVec Ideal S229376x1152 .bf16) (ix2 ⟨t.val * 1024 + q.val, by omega⟩ k) := by
  refine congrArg (m ((c.tc : Thread nD τ).loc main_arg2) : FVec Ideal S229376x1152 .bf16) (funext fun a => Fin.ext ?_)
  refine (ValueKit.rect_emb_unit_val (s := S229376x1152) ![1024 * t.val, 0] S1024x1152.size (inb_tile t) (ix2 q k) a).trans ?_
  match a with
  | ⟨0, _⟩ => show 1024 * t.val + q.val = t.val * 1024 + q.val; omega
  | ⟨1, _⟩ => show 0 + k.val = k.val; omega

/-- A point's block of the result, at its row `q`. -/
theorem block_at (t : Fin (cfgA m hr).N) (q j : Fin 1024) :
    blockV m hr c t (ix2 q j) = outArr m c (ix2 ⟨t.val * 1024 + q.val, by have := point_lt t; omega⟩ j) := by
  have ht := point_lt t
  unfold blockV
  rw [outV_apply]
  simp only [gate_at, up_at, down_at, tile_at]
  have hb : (Ring.bk 224 t.val : Fin 224) = t := Fin.ext (by show t.val % 224 = t.val; omega)
  have he : rowExpert (T0of m) ⟨t.val * 1024 + q.val, by omega⟩ = ⟨expertOf m t, expertOf_lt m hr t⟩ := by
    have h := expertOf_lt m hr t
    have hx : (ix1 ⟨(t.val * 1024 + q.val) / 1024, by omega⟩ : S256.Idx) = ix1 ⟨t.val, by omega⟩ := congrArg ix1 (Fin.ext (by show (t.val * 1024 + q.val) / 1024 = t.val; omega))
    refine Fin.ext ?_
    show (T0of m (ix1 ⟨(t.val * 1024 + q.val) / 1024, _⟩) : BitVec 32).toNat % 64 = expertOf m t
    rw [hx]
    exact Nat.mod_eq_of_lt h
  rw [hb]
  show _ = rowOut _ _ _ _ (rowExpert (T0of m) ⟨t.val * 1024 + q.val, _⟩) ⟨t.val * 1024 + q.val, _⟩ j
  rw [he]
  rfl

/-- The result array at a row of a tile in use. -/
theorem final (r : Fin 229376) (j : Fin 1024) (h : r.val < used m * 1024) :
    ((dats m hr 0 c).arrAt (3 : Fin 4) (cfgA m hr).N : FVec Ideal S229376x1024 .bf16) (ix2 r j) = outArr m c (ix2 r j) := by
  have hp := used_pos m hr
  have hle := used_le m hr
  have hG : ∀ t, ((cfgA m hr).win (3 : Fin 4)).flush t = true → (dats m hr 0 c).flushed (3 : Fin 4) t = (((cfgA m hr).win (3 : Fin 4)).blk t).view.read (Elt Ideal) (outArr m c) := by
    intro t _
    refine funext fun y => ?_
    obtain ⟨q, k, rfl⟩ : ∃ (q k : Fin 1024), y = ix2 q k := ⟨y 0, y 1, eq_ix2 y⟩
    show blockV m hr c (upto m hr t.val) (ix2 q k) = _
    rw [block_at]
    refine congrArg (outArr m c) (funext fun a => Fin.ext ?_)
    refine Eq.trans ?_ (ValueKit.rect_emb_unit_val _ _ _ _ a).symm
    have e (x : Fin 2) : ((cfgA m hr).win (3 : Fin 4)).index t x = (![min t.val (used m - 1), 0] : Fin 2 → ℕ) x := congrFun (index3 m hr t) x
    match a with
    | ⟨0, _⟩ => exact Eq.trans (by show (upto m hr t.val).val * 1024 + q.val = min t.val (used m - 1) * 1024 + q.val; rw [upto_val]) (congrArg (· * 1024 + q.val) (e 0)).symm
    | ⟨1, _⟩ => exact Eq.trans (by show k.val = 0 * 1024 + k.val; omega) (congrArg (· * 1024 + k.val) (e 1)).symm
  have ht : ∃ t : Fin (cfgA m hr).N, ((cfgA m hr).win (3 : Fin 4)).flush t = true ∧ min t.val (used m - 1) = r.val / 1024 := by
    by_cases h1 : r.val / 1024 + 1 < used m
    · refine ⟨⟨r.val / 1024, show _ < 224 by omega⟩, ?_, ?_⟩
      · rw [flush3]; exact decide_eq_true (Or.inl h1)
      · show min (r.val / 1024) _ = _; omega
    · refine ⟨⟨223, show _ < 224 by omega⟩, ?_, ?_⟩
      · rw [flush3]; exact decide_eq_true (Or.inr rfl)
      · show min 223 _ = _; omega
  obtain ⟨t, hf, hv⟩ := ht
  refine (dats m hr 0 c).arrAt_apply_of_mem (3 : Fin 4) (outArr m c) hG _ t _ t.isLt hf ?_
  mem_blk
  rw [index3, hv]
  refine ⟨⟨?_, ?_⟩, ?_, ?_⟩
  · show r.val / 1024 * 1024 ≤ r.val; omega
  · show r.val < r.val / 1024 * 1024 + 1024; omega
  · show 0 * 1024 ≤ j.val; omega
  · show j.val < 0 * 1024 + 1024; omega

end Cert.Kernel2Ideal.Experts

end
-- ==== Proof.Experts.Predicates.lean ====
/-
  What the precondition on the tables and the mask of rows say, read as facts about numbers.
-/
module

public import Idealize.ShloMosaic.Lib.Pointwise
public import Idealize.ShloMosaic.Lib.ReduceAll
public import Idealize.ShloMosaic.Lib.WordCmp
public import proofs.«01_k».proof.Proof.Gen.Pre_tables_in_range
public import proofs.«01_k».proof.Proof.Gen.On_rows_in_use

@[expose] public section

set_option maxRecDepth 16384

noncomputable section

namespace Cert.Experts

open Idealize.ShloMosaic

theorem both_of_andi : ∀ a b : BitVec 1, IntOp.andi a b = 1#1 → a = 1#1 ∧ b = 1#1 := by decide

/-- A word that lies, read signed, between two numbers below `2 ^ 31` is that number unsigned. -/
theorem nat_of_signed (w : BitVec 32) (h : 0 ≤ w.toInt) : (w.toNat : ℤ) = w.toInt := by
  have hw := w.isLt
  have ht := BitVec.toInt_eq_toNat_cond w
  split at ht <;> omega

variable {F : FTy → Type} [FloatOps F]

/-- The precondition: every expert is below 64, and from 1 to 224 tiles are in use. -/
theorem in_range (a0 : IVec ⟨1, ![256]⟩ 32) (a1 : IVec ⟨1, ![1024]⟩ 32) (a2 : FVec F ⟨2, ![229376, 1152]⟩ .bf16)
    (a3 a4 : FVec F ⟨4, ![2, 64, 1024, 256]⟩ .f32) (a5 : FVec F ⟨4, ![2, 64, 256, 1024]⟩ .f32)
    (h : Cert.Pre_tables_in_range.fn (F := F) a0 a1 a2 a3 a4 a5 = fun _ => 1#1) :
    (∀ k, (a0 k : BitVec 32).toNat < 64) ∧ 1 ≤ (a1 (ix1 256) : BitVec 32).toNat ∧ (a1 (ix1 256) : BitVec 32).toNat ≤ 224 := by
  have h0 := congrFun h ix0
  obtain ⟨h9, h10⟩ := both_of_andi _ _ h0
  obtain ⟨h7, h8⟩ := both_of_andi _ _ h9
  have e : (shapeCast Cert.Pre_tables_in_range.S_ (extractStridedSlice Cert.Pre_tables_in_range.S1 ![256] a1 Cert.Pre_tables_in_range.Gen.slices_S1024_S1_256) Cert.Pre_tables_in_range.Gen.shapeCasts_S1_S_ : IVec ⟨0, ![]⟩ 32) ix0 = a1 (ix1 256) := by
    pointwise
  have g8 : (1 : ℤ) ≤ (a1 (ix1 256) : BitVec 32).toInt := by rw [← e]; exact IntOp.cmpi_sge.1 h8
  have g10 : (a1 (ix1 256) : BitVec 32).toInt ≤ 224 := by rw [← e]; exact IntOp.cmpi_sle.1 h10
  have hn := nat_of_signed (a1 (ix1 256)) (by omega)
  refine ⟨fun k => ?_, by omega, by omega⟩
  obtain ⟨l, u⟩ := both_of_andi _ _ (Host.reduce_andi_all _ _ _ _ ix0 h7 k)
  have l' : (0 : ℤ) ≤ (a0 k : BitVec 32).toInt := IntOp.cmpi_sge.1 l
  have u' : (a0 k : BitVec 32).toInt < 64 := IntOp.cmpi_slt.1 u
  have := nat_of_signed (a0 k) l'
  omega

/-- The mask: a row is selected when it lies in a tile in use. -/
theorem in_use (a0 : IVec ⟨1, ![256]⟩ 32) (a1 : IVec ⟨1, ![1024]⟩ 32) (a2 : FVec F ⟨2, ![229376, 1152]⟩ .bf16)
    (a3 a4 : FVec F ⟨4, ![2, 64, 1024, 256]⟩ .f32) (a5 : FVec F ⟨4, ![2, 64, 256, 1024]⟩ .f32)
    (hn : (a1 (ix1 256) : BitVec 32).toNat ≤ 224) (r : Fin 229376) (j : Fin 1024)
    (h : Cert.On_rows_in_use.fn (F := F) a0 a1 a2 a3 a4 a5 (ix2 r j) = 1#1) :
    r.val < (a1 (ix1 256) : BitVec 32).toNat * 1024 := by
  have e : (broadcastInDim Cert.On_rows_in_use.S229376x1024 ![] Cert.On_rows_in_use.Gen.bcast_S_S229376x1024 (muli (shapeCast Cert.On_rows_in_use.S_ (extractStridedSlice Cert.On_rows_in_use.S1 ![256] a1 Cert.On_rows_in_use.Gen.slices_S1024_S1_256) Cert.On_rows_in_use.Gen.shapeCasts_S1_S_ : IVec ⟨0, ![]⟩ 32) (constantI _ 32 1024#32)) : IVec ⟨2, ![229376, 1024]⟩ 32) (ix2 r j) = IntOp.muli (a1 (ix1 256)) 1024#32 := by
    pointwise
  have h' : IntOp.cmpi .slt (BitVec.ofNat 32 r.val) (IntOp.muli (a1 (ix1 256)) 1024#32) = 1#1 := by rw [← e]; exact h
  have hm : (IntOp.muli (a1 (ix1 256)) 1024#32 : BitVec 32).toNat = (a1 (ix1 256) : BitVec 32).toNat * 1024 := by
    show ((a1 (ix1 256) : BitVec 32) * 1024#32).toNat = _
    rw [BitVec.toNat_mul]
    show _ * 1024 % 2 ^ 32 = _
    omega
  have hr : (BitVec.ofNat 32 r.val).toNat = r.val := by rw [BitVec.toNat_ofNat]; omega
  rw [WordCmp.cmpi_slt_of_lt (by rw [hr]; omega) (by rw [hm]; omega), WordCmp.ofBool_decide_eq_one_iff, hr, hm] at h'
  exact h'

end Cert.Experts

end
-- ==== Proof.Experts.Reference.lean ====
/-
  The reference's result read at an index: the sum over all experts keeps the row's own expert alone.
-/
module

public import Idealize.ShloMosaic.Lib.Tactic.CleanTypes
public import Idealize.ShloMosaic.Lib.Claim
public import Idealize.ShloMosaic.Lib.WordCmp
public import proofs.«01_k».proof.Proof.Gen.Reference2Ideal.Run
public import proofs.«01_k».proof.Proof.Experts.Math

@[expose] public section

set_option maxRecDepth 16384

noncomputable section

namespace Cert.Experts

open Idealize.ShloMosaic Idealize.ShloMosaic.TcCoe Cert.Reference2Ideal Cert.Reference2Ideal.Gen Cert.Reference2Ideal.Value

/-- Where the row's expert is `e`, its weight is kept; elsewhere it is zero. -/
theorem combine_at (w : BitVec 32) (e0 e : Fin 64) (h : w.toNat = e0.val) (x : EReal) :
    (Scalar.select (IntOp.cmpi .eq w (BitVec.ofNat 32 e.val)) x 0 : EReal) = if e = e0 then x else 0 := by
  have hw : w = BitVec.ofNat 32 e0.val := by rw [← h, BitVec.ofNat_toNat, BitVec.setWidth_eq]
  have hw' : w = BitVec.ofNat 32 e.val ↔ e = e0 := by
    constructor
    · intro hx
      have := congrArg BitVec.toNat hx
      rw [h, BitVec.toNat_ofNat, Nat.mod_eq_of_lt (by omega)] at this
      exact Fin.ext this.symm
    · rintro rfl; exact hw
  unfold Scalar.select
  rw [WordCmp.cmpi_eq_eq]
  exact if_congr ((WordCmp.ofBool_decide_eq_one_iff _).trans hw') rfl rfl

/-- The reference's result at a row and a column. -/
theorem ref_at (a0 : IVec S256 32) (a2 : FVec Ideal S229376x1152 .bf16) (a3 a4 : FVec Ideal S2x64x1024x256 .f32) (a5 : FVec Ideal S2x64x256x1024 .f32)
    (r : Fin 229376) (j : Fin 1024) (e : Fin 64) (he : (a0 (ix1 ⟨r.val / 1024, by omega⟩) : BitVec 32).toNat = e.val) :
    (truncf .bf16 (Host.dotGeneral dot_S229376x64x256_S64x256x1024_S229376x1024_12_01_0_2_n_n none (mulf (mulf (mulf (Host.dotGeneral dot_S229376x1024_S64x1024x256_S229376x64x256_1_1_0_02_n_n none (extf .f32 (extractStridedSlice S229376x1024 ![0, 0] a2 slices_S229376x1152_S229376x1024_0_0) bitsLt_bf16_f32) (shapeCast _ (extractStridedSlice S1x64x1024x256 ![0, 0, 0, 0] a3 slices_S2x64x1024x256_S1x64x1024x256_0_0_0_0) shapeCasts_S1x64x1024x256_S64x1024x256)) (Host.divf (broadcastInDim S229376x64x256 ![] bcast_S_S229376x64x256 (constant S_ .f32 0x3F800000#32)) (addf (broadcastInDim S229376x64x256 ![] bcast_S_S229376x64x256 (constant S_ .f32 0x3F800000#32)) (Host.exp (Host.negf (Host.dotGeneral dot_S229376x1024_S64x1024x256_S229376x64x256_1_1_0_02_n_n none (extf .f32 (extractStridedSlice S229376x1024 ![0, 0] a2 slices_S229376x1152_S229376x1024_0_0) bitsLt_bf16_f32) (shapeCast _ (extractStridedSlice S1x64x1024x256 ![0, 0, 0, 0] a3 slices_S2x64x1024x256_S1x64x1024x256_0_0_0_0) shapeCasts_S1x64x1024x256_S64x1024x256))))))) (Host.dotGeneral dot_S229376x1024_S64x1024x256_S229376x64x256_1_1_0_02_n_n none (extf .f32 (extractStridedSlice S229376x1024 ![0, 0] a2 slices_S229376x1152_S229376x1024_0_0) bitsLt_bf16_f32) (shapeCast _ (extractStridedSlice S1x64x1024x256 ![0, 0, 0, 0] a4 slices_S2x64x1024x256_S1x64x1024x256_0_0_0_0) shapeCasts_S1x64x1024x256_S64x1024x256))) (broadcastInDim S229376x64x256 ![0, 1, 2] bcast_S229376x64x1_S229376x64x256_0_1_2 (broadcastInDim S229376x64x1 ![0, 1] bcast_S229376x64_S229376x64x1_0_1 (select (cmpi .eq (broadcastInDim S229376x64 ![0, 1] bcast_S229376x1_S229376x64_0_1 (broadcastInDim S229376x1 ![0] bcast_S229376_S229376x1_0 (shapeCast _ (broadcastInDim S224x1024 ![0, 1] bcast_S224x1_S224x1024_0_1 (broadcastInDim S224x1 ![0] bcast_S224_S224x1_0 (extractStridedSlice S224 ![0] a0 slices_S256_S224_0))) shapeCasts_S224x1024_S229376))) (broadcastInDim S229376x64 ![0, 1] bcast_S1x64_S229376x64_0_1 (broadcastInDim S1x64 ![1] bcast_S64_S1x64_1 (iotaInDim S64 32 0)))) (broadcastInDim S229376x64 ![0, 1] bcast_S229376x1_S229376x64_0_1 (broadcastInDim S229376x1 ![0] bcast_S229376_S229376x1_0 (addf (extf .f32 (shapeCast _ (extractStridedSlice S229376x1 ![0, 1024] a2 slices_S229376x1152_S229376x1_0_1024) shapeCasts_S229376x1_S229376) bitsLt_bf16_f32) (extf .f32 (shapeCast _ (extractStridedSlice S229376x1 ![0, 1088] a2 slices_S229376x1152_S229376x1_0_1088) shapeCasts_S229376x1_S229376) bitsLt_bf16_f32)))) (broadcastInDim S229376x64 ![] bcast_S_S229376x64 (id (constant S_ .f32 0x00000000#32))))))) (shapeCast _ (extractStridedSlice S1x64x256x1024 ![0, 0, 0, 0] a5 slices_S2x64x256x1024_S1x64x256x1024_0_0_0_0) shapeCasts_S1x64x256x1024_S64x256x1024)) bitsLt_bf16_f32 : FVec Ideal S229376x1024 .bf16) (ix2 r j)
      = result (fun d => a2 (ix2 r ⟨d.val, by omega⟩)) (a2 (ix2 r ⟨1024, by omega⟩) + a2 (ix2 r ⟨1088, by omega⟩))
          (fun d f => a3 (ix4 0 e d f)) (fun d f => a4 (ix4 0 e d f)) (fun f => a5 (ix4 0 e f j)) := by
  pointwise [proj, gated, result]
  have hz : (id (constant S_ FTy.f32 0#32 : FVec Ideal S_ .f32) ix0 : EReal) = 0 := Ideal.ofBits_zero_f32
  simp only [hz, combine_at _ e _ he]
  refine (Finset.sum_eq_single e (fun x _ hx => ?_) (fun h => absurd (Finset.mem_univ e) h)).trans ?_
  · simp only [if_neg hx, mul_zero, zero_mul, Finset.sum_const_zero]
  · simp only [if_pos rfl]
    rfl

end Cert.Experts

end
-- ==== Proof.Experts.Claims.lean ====
/-
  The claims about the experts' feed-forward of the first trunk layer.
-/
module

public import proofs.«01_k».proof.Defs
public import proofs.«01_k».proof.Proof.Experts.Printed
public import proofs.«01_k».proof.Proof.Experts.Kernel2Ideal.Launch
public import proofs.«01_k».proof.Proof.Experts.Kernel2Ideal.Arrays
public import proofs.«01_k».proof.Proof.Experts.Predicates
public import proofs.«01_k».proof.Proof.Experts.Reference

@[expose] public section

set_option maxRecDepth 16384

noncomputable section

namespace Cert.Experts

open Idealize.ShloMosaic Idealize.ShloMosaic.TcCoe Idealize.SL.Sem

/-- The precondition puts the tables in range. -/
theorem rangesIdeal (m : (ℓ : Loc Cert.Kernel2Ideal.nD Cert.Kernel2Ideal.τ Cert.Kernel2Ideal.sig) → Buf (Elt Ideal) ℓ) (h : Cert.Pre_Kernel2Ideal m) : Cert.Kernel2Ideal.Experts.InRange m := by
  obtain ⟨h1, h2, h3⟩ := in_range _ _ _ _ _ _ (h 0)
  exact ⟨h1, h2, h3⟩

theorem frame : Cert.quiescent_Kernel2 := by
  intro m ρ h
  obtain ⟨h1, h2, h3⟩ := in_range _ _ _ _ _ _ (h 0)
  exact Cert.Kernel2.Experts.run_frame m ⟨h1, h2, h3⟩ ρ

theorem frameIdeal : Cert.quiescent_Kernel2Ideal := fun m ρ h => Cert.Kernel2Ideal.Experts.run_frame m (rangesIdeal m h) ρ

/-- The reference is host operations only: it keeps its arguments and declares no semaphore. -/
theorem frameReference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- Both runs end, in the rows of the tiles in use, with each row's token through its expert. -/
theorem algebraic : Cert.algebraic_Kernel2Ideal_Reference2Ideal_on_rows_in_use := by
  intro m ρ m' ρ' hpre hagree
  have hr := rangesIdeal m hpre
  refine ⟨fun c => Cert.Kernel2Ideal.Experts.outArr m c, ?_, ?_⟩
  · refine (θ_run Cert.Kernel2Ideal.defs _ _).mono (fun r h c => ⟨fun i hi => ?_, h.2.1 c⟩)
      (Cert.Kernel2Ideal.Experts.run_arrays m hr ρ)
    obtain ⟨q, j, rfl⟩ : ∃ (q : Fin 229376) (j : Fin 1024), i = ix2 q j := ⟨i 0, i 1, eq_ix2 i⟩
    have hc : c = 0 := Subsingleton.elim (α := Fin 1) _ _
    subst hc
    exact (congrFun (h.1 0) (ix2 q j)).trans (Cert.Kernel2Ideal.Experts.final m hr 0 q j (in_use _ _ _ _ _ _ hr.used_le q j hi))
  · refine (θ_run Cert.Reference2Ideal.defs _ _).mono (fun r h c => ⟨fun i _ => ?_, (h c).2⟩)
      (Cert.Reference2Ideal.Value.run (F := Ideal) m' ρ')
    obtain ⟨q, j, rfl⟩ : ∃ (q : Fin 229376) (j : Fin 1024), i = ix2 q j := ⟨i 0, i 1, eq_ix2 i⟩
    have hc : c = 0 := Subsingleton.elim (α := Fin 1) _ _
    subst hc
    obtain ⟨e0, e1, e2, e3, e4, e5⟩ := hagree 0
    refine (congrFun (h 0).1 (ix2 q j)).trans ?_
    rw [e0, e2, e3, e4, e5]
    refine (ref_at _ _ _ _ _ q j (Cert.Kernel2Ideal.Experts.rowExpert (Cert.Kernel2Ideal.Experts.T0of m) q) ?_).trans rfl
    exact (Nat.mod_eq_of_lt (hr.expert _)).symm

end Cert.Experts

end
-- ==== Proof.Experts.Kernel3Ideal.Ring.lean ====
/-
  The token tiles in flight. The kernel keeps three tiles of the sorted tokens in on-chip memory: while one is used,
  the next two are on their way. This module names the three slots, the tiles and the three semaphores, says what it
  means that a slot is free or has a tile on its way, and states what the launch gives the ring and takes back.
  The tokens are lent to the copies by read share: one share for each slot, so that two copies never meet.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance : NeZero grid0.N := ⟨by rw [N_0]; decide⟩

/-! ## Buffers and their names -/

/-- The three cast weights, the three slots, the sorted tokens, the two tables: whole buffers. -/
abbrev gateM : Memref sig .tc .vmem S1024x256 .bf16 := Memref.whole cc0_scratch0
abbrev upM : Memref sig .tc .vmem S1024x256 .bf16 := Memref.whole cc0_scratch1
abbrev downM : Memref sig .tc .vmem S256x1024 .bf16 := Memref.whole cc0_scratch2
abbrev slotsM : Memref sig .tc .vmem S3x1024x1152 .bf16 := Memref.whole cc0_scratch3
abbrev tokM : Memref sig .tc .hbm S229376x1152 .bf16 := Memref.whole main_arg2
abbrev expM : Memref sig .tc .smem S256 .i32 := Memref.whole main_arg0
abbrev miscM : Memref sig .tc .smem S1024 .i32 := Memref.whole main_arg1

/-- What a memref's buffer holds on core `c`. -/
abbrev Held (c : Dev nD) {sp : Space} {S : Shape} {e : EltTy} (M : Memref sig .tc sp S e) : Type := Buf (Elt F) (M.view.loc (c : Thread nD τ))
/-- The whole buffer of `M`, held at `f`. -/
abbrev wholeAt (c : Dev nD) {sp : Space} {S : Shape} {e : EltTy} (M : Memref sig .tc sp S e) (f : Held (F := F) c M) : sProp 𝕄 :=
  M.view.loc (c : Thread nD τ) ↦{fullShare} f

theorem inb_slot (s : Fin 3) : ∀ a, (![s.val, 0, 0] : Fin 3 → Nat) a + S1x1024x1152.size a ≤ S3x1024x1152.size a := by
  have := s.isLt; intro a; fin_cases a <;> simp <;> omega
theorem inb_tile (b : Fin 224) : ∀ a, (![1024 * b.val, 0] : Fin 2 → Nat) a + S1024x1152.size a ≤ S229376x1152.size a := by
  have := b.isLt; intro a; fin_cases a <;> simp <;> omega
theorem inb_sem (s : Fin 3) : ∀ a, (![s.val] : Fin 1 → Nat) a + S1.size a ≤ S3.size a := by
  have := s.isLt; intro a; fin_cases a <;> simp <;> omega

/-- Slot `s`. -/
def slotM (s : Fin 3) : Memref sig .tc .vmem S1024x1152 .bf16 :=
  (slotsM.slice (Rect.unit (s := S3x1024x1152) ![s.val, 0, 0] S1x1024x1152.size (inb_slot s)) (fun _ => rfl)).squeeze S1024x1152 squeezes_S1x1024x1152_S1024x1152
/-- Tile `b` of the tokens. -/
def tileM (b : Fin 224) : Memref sig .tc .hbm S1024x1152 .bf16 :=
  tokM.slice (Rect.unit (s := S229376x1152) ![1024 * b.val, 0] S1024x1152.size (inb_tile b)) (fun _ => rfl)
/-- The semaphore of slot `s`. -/
def semM (s : Fin 3) : DmaSems sig S_ := (cc0_scratch4.slice (Rect.unit (s := S3) ![s.val] S1.size (inb_sem s))).squeeze S_ squeezes_S1_S_
abbrev semLoc (s : Fin 3) : SemLoc sig := SemLoc.dma (semM s).sem
theorem semLoc_0 : semLoc 0 = SemLoc.dma 8 := by decide
theorem semLoc_1 : semLoc 1 = SemLoc.dma 9 := by decide
theorem semLoc_2 : semLoc 2 = SemLoc.dma 10 := by decide

/-! ## Free slots and tiles on their way -/

section Families
variable (c : Dev nD) (W : Held (F := F) c tokM)

/-- Slot `s`'s share of the tokens: the left half, the left quarter of the right half, the rest. -/
abbrev lent (s : Fin 3) : PosShare TreeShare :=
  if s.val = 0 then fullShare.left else if s.val = 1 then fullShare.right.left else fullShare.right.right
/-- Slot `s` held at `f`. -/
abbrev slotP (s : Fin 3) (f : Held (F := F) c (slotM s)) : sProp 𝕄 := (slotM s).view.loc (c : Thread nD τ) ↦[(slotM s).view.set]{fullShare} f
/-- The semaphore of slot `s` at zero. -/
abbrev semP (s : Fin 3) : sProp 𝕄 := semVal ((c : Thread nD τ), semLoc s) 0
/-- Tile `b` of the copy of the tokens lent to slot `s`, -/
abbrev tileP (s : Fin 3) (b : Fin 224) : sProp 𝕄 := (tileM b).view.loc (c : Thread nD τ) ↦[(tileM b).view.set]{lent s} W
/-- the tokens outside that tile, -/
def othersP (s : Fin 3) (b : Fin 224) : sProp 𝕄 := ((c : Thread nD τ).loc main_arg2) ↦[Finset.univ \ (tileM b).view.set]{lent s} W
/-- and the whole copy. -/
abbrev copyP (s : Fin 3) : sProp 𝕄 := ((c : Thread nD τ).loc main_arg2) ↦[Finset.univ]{lent s} W
/-- What slot `s` holds once tile `b` has arrived over `f`. -/
abbrev arrived (s : Fin 3) (b : Fin 224) (f : Held (F := F) c (slotM s)) : Held (F := F) c (slotM s) :=
  (slotM s).view.writes (Elt F) f [⟨Rect.whole S1024x1152, ReadAs.same.apply ((tileM b).view.read (Elt F) W)⟩]
/-- Tile `b` on its way into slot `s`. -/
abbrev wayP (s : Fin 3) (b : Fin 224) (f : Held (F := F) c (slotM s)) : sProp 𝕄 :=
  Transfers.Flight countersEmb (c : Thread nD τ) (semLoc s) default ((slotM s).view.amount (semLoc s))
    iprop(slotP c s (arrived c W s b f) ∗ tileP c W s b)
/-- A slot at rest carries its copy of the tokens whole; -/
abbrev restP (s : Fin 3) (f : Held (F := F) c (slotM s)) : sProp 𝕄 := iprop(slotP c s f ∗ copyP c W s)
/-- a slot with a tile on its way carries the tokens outside that tile. -/
abbrev flyP (s : Fin 3) (b : Fin 224) (f : Held (F := F) c (slotM s)) : sProp 𝕄 := iprop(wayP c W s b f ∗ othersP c W s b)
/-- Slot `s` is free; -/
abbrev freeP (s : Fin 3) : sProp 𝕄 := Ring.free (semP c) (restP c W) s
/-- tile `b` is on its way into slot `s`. -/
abbrev comingP (s : Fin 3) (b : Fin 224) : sProp 𝕄 := Ring.inflight (flyP c W) s b
/-- Slot `k + j` before step `k`: tile `k + j` is on its way if it is one of the `n` tiles in use. -/
def roleP (n k j : ℕ) : sProp 𝕄 :=
  if k + j < n then comingP c W (Ring.sl 3 (k + j)) (Ring.bk 224 (k + j)) else freeP c W (Ring.sl 3 (k + j))
/-- The ring before step `k` of `n`: nothing on its way before the first step; from then on the tiles `k` and `k + 1`,
    as far as they are in use. -/
def ringP (n k : ℕ) : sProp 𝕄 :=
  if k = 0 then iprop(freeP c W 0 ∗ freeP c W 1 ∗ freeP c W 2)
  else iprop(roleP c W n k 0 ∗ roleP c W n k 1 ∗ freeP c W (Ring.sl 3 (k + 2)))

omit [FloatOps F] in
theorem semP_0 : semP (F := F) c 0 = semVal ((c : Thread nD τ), SemLoc.dma 8) 0 := congrArg (fun x => (semVal ((c : Thread nD τ), x) 0 : sProp 𝕄)) semLoc_0
omit [FloatOps F] in
theorem semP_1 : semP (F := F) c 1 = semVal ((c : Thread nD τ), SemLoc.dma 9) 0 := congrArg (fun x => (semVal ((c : Thread nD τ), x) 0 : sProp 𝕄)) semLoc_1
omit [FloatOps F] in
theorem semP_2 : semP (F := F) c 2 = semVal ((c : Thread nD τ), SemLoc.dma 10) 0 := congrArg (fun x => (semVal ((c : Thread nD τ), x) 0 : sProp 𝕄)) semLoc_2

omit [FloatOps F] in
theorem roleP_in {n k j : ℕ} (h : k + j < n) :
    roleP c W n k j = comingP c W (Ring.sl 3 (k + j)) (Ring.bk 224 (k + j)) := if_pos h
omit [FloatOps F] in
theorem roleP_out {n k j : ℕ} (h : ¬k + j < n) : roleP c W n k j = freeP c W (Ring.sl 3 (k + j)) := if_neg h
omit [FloatOps F] in
theorem ringP_zero (n : ℕ) : ringP c W n 0 = iprop(freeP c W 0 ∗ freeP c W 1 ∗ freeP c W 2) := if_pos rfl
omit [FloatOps F] in
theorem ringP_pos (n : ℕ) {k : ℕ} (h : k ≠ 0) :
    ringP c W n k = iprop(roleP c W n k 0 ∗ roleP c W n k 1 ∗ freeP c W (Ring.sl 3 (k + 2))) := if_neg h

/-! ## The three slots are the scratch -/

abbrev slotSet (s : Fin 3) : Finset S3x1024x1152.Idx := (Rect.unit (s := S3x1024x1152) ![s.val, 0, 0] S1x1024x1152.size (inb_slot s)).set
theorem slotSet_eq (s : Fin 3) : (slotM s).view.set = slotSet s := by
  simp only [slotM, Memref.view_squeeze, View.set_reshape]; exact View.set_slice_whole _ _
theorem slots_disjoint (s s' : Fin 3) (h : s ≠ s') : Disjoint (slotSet s) (slotSet s') :=
  Ring.lead_disjoint (s := S3x1024x1152) (0 : Fin 3) 1 (fun s : Fin 3 => (![s.val, 0, 0] : Fin 3 → Nat)) S1x1024x1152.size inb_slot (fun s => by simp) rfl s s' h
theorem slots_cover : Finset.univ.biUnion slotSet = Finset.univ :=
  Ring.lead_cover (s := S3x1024x1152) (0 : Fin 3) 1 (fun s : Fin 3 => (![s.val, 0, 0] : Fin 3 → Nat)) S1x1024x1152.size inb_slot (fun s => by simp)
    (fun s a ha => by fin_cases a <;> first | exact absurd rfl ha | rfl) rfl (fun a ha => by fin_cases a <;> first | exact absurd rfl ha | rfl) rfl
omit [FloatOps F] in
theorem slotP_eq (s : Fin 3) (f) : slotP (F := F) c s f = (((c : Thread nD τ).loc cc0_scratch3) ↦[slotSet s]{fullShare} f : sProp 𝕄) := by
  unfold slotP; rw [slotSet_eq]; rfl
omit [FloatOps F] in
/-- A copy of the tokens is a tile and the others. -/
theorem copy_split (s : Fin 3) (b : Fin 224) : copyP (F := F) c W s ⊣⊢ iprop(tileP c W s b ∗ othersP c W s b) := by
  unfold othersP; exact pointsTo_split_subset (Finset.subset_univ _)
omit [FloatOps F] in
/-- The tokens, whole, are the three copies. -/
theorem tokens_split : (wholeAt c tokM W : sProp 𝕄) ⊣⊢ iprop(copyP c W 0 ∗ copyP c W 1 ∗ copyP c W 2) := by
  constructor
  · iintro H
    ihave H' := (pointsTo_share (PosShare.mem_left_op_right fullShare)).1 $$ H
    icases H' with ⟨HA, HR⟩
    ihave H'' := (pointsTo_share (PosShare.mem_left_op_right fullShare.right)).1 $$ HR
    icases H'' with ⟨HB, HC⟩
    isplitl [HA]; · iexact HA
    isplitl [HB]; · iexact HB
    iexact HC
  · iintro ⟨HA, HB, HC⟩
    iapply (pointsTo_share (PosShare.mem_left_op_right fullShare)).2
    isplitl [HA]; · iexact HA
    iapply (pointsTo_share (PosShare.mem_left_op_right fullShare.right)).2
    isplitl [HB]; · iexact HB
    iexact HC
set_option maxHeartbeats 1000000 in
omit [FloatOps F] in
theorem slots_in : (iprop(∃ f, ((c : Thread nD τ).loc cc0_scratch3) ↦{fullShare} f) : sProp 𝕄)
    ⊢ iprop((∃ f, slotP (F := F) c 0 f) ∗ (∃ f, slotP (F := F) c 1 f) ∗ ∃ f, slotP (F := F) c 2 f) :=
  Ring.slots3_split (U := Pipeline.UD sig nD τ) (ℓ := (c : Thread nD τ).loc cc0_scratch3) (q := fullShare) slotSet slots_disjoint slots_cover
    (slotP c 0) (slotP c 1) (slotP c 2) (slotP_eq c 0) (slotP_eq c 1) (slotP_eq c 2)
set_option maxHeartbeats 1000000 in
omit [FloatOps F] in
theorem slots_out : (iprop((∃ f, slotP (F := F) c 0 f) ∗ (∃ f, slotP (F := F) c 1 f) ∗ ∃ f, slotP (F := F) c 2 f) : sProp 𝕄)
    ⊢ iprop(∃ f, ((c : Thread nD τ).loc cc0_scratch3) ↦{fullShare} f) :=
  Ring.slots3_join (U := Pipeline.UD sig nD τ) (ℓ := (c : Thread nD τ).loc cc0_scratch3) (q := fullShare) slotSet slots_disjoint slots_cover
    (slotP c 0) (slotP c 1) (slotP c 2) (slotP_eq c 0) (slotP_eq c 1) (slotP_eq c 2)

/-- The three semaphores at zero. -/
abbrev semsP : sProp 𝕄 :=
  iprop(semVal ((c : Thread nD τ), SemLoc.dma 8) 0 ∗ semVal ((c : Thread nD τ), SemLoc.dma 9) 0 ∗ semVal ((c : Thread nD τ), SemLoc.dma 10) 0)

omit [FloatOps F] in
/-- What the launch gives is three free slots, -/
theorem ring_in :
    iprop((∃ f, ((c : Thread nD τ).loc cc0_scratch3) ↦{fullShare} f) ∗ semsP (F := F) c ∗ wholeAt c tokM W)
      ⊢ iprop(freeP c W 0 ∗ freeP c W 1 ∗ freeP c W 2) := by
  unfold freeP Ring.free
  rw [semP_0, semP_1, semP_2]
  iintro ⟨HS, ⟨H0, H1, H2⟩, HW⟩
  ihave HS' := (slots_in (F := F) c) $$ HS
  icases HS' with ⟨⟨%d0, HS0⟩, ⟨%d1, HS1⟩, ⟨%d2, HS2⟩⟩
  ihave HW' := (tokens_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
omit [FloatOps F] in
/-- and three free slots give it back. -/
theorem ring_out :
    iprop(freeP c W 0 ∗ freeP c W 1 ∗ freeP c W 2)
      ⊢ iprop((∃ f, ((c : Thread nD τ).loc cc0_scratch3) ↦{fullShare} f) ∗ semsP (F := F) c ∗ wholeAt c tokM W) := by
  unfold freeP Ring.free
  rw [semP_0, semP_1, semP_2]
  iintro ⟨⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (tokens_split (F := F) c W).2; isplitl [HW0]; · iexact HW0
    isplitl [HW1]; · iexact HW1
    iexact HW2

omit [FloatOps F] in
/-- After the last tile in use nothing is on its way, whichever slot is named first. -/
theorem ring_last {n : ℕ} (hn : 1 ≤ n) :
    ringP c W n n ⊢ iprop(freeP c W 0 ∗ freeP c W 1 ∗ freeP c W 2) := by
  rw [ringP_pos c W n (by omega), roleP_out c W (by omega), roleP_out c W (by omega)]
  have h3 : n % 3 = 0 ∨ n % 3 = 1 ∨ n % 3 = 2 := by omega
  have e (j : ℕ) (s : Fin 3) (h : (n + j) % 3 = s.val) : Ring.sl 3 (n + j) = s := Fin.ext h
  rcases h3 with h | h | h
  · rw [e 0 0 (by simp; omega), e 1 1 (by simp; omega), e 2 2 (by simp; omega)]
  · rw [e 0 1 (by simp; omega), e 1 2 (by simp; omega), e 2 0 (by simp; omega)]
    iintro ⟨HA, HB, HC⟩
    isplitl [HC]; · iexact HC
    isplitl [HA]; · iexact HA
    iexact HB
  · rw [e 0 2 (by simp; omega), e 1 0 (by simp; omega), e 2 1 (by simp; omega)]
    iintro ⟨HA, HB, HC⟩
    isplitl [HB]; · iexact HB
    isplitl [HC]; · iexact HC
    iexact HA
end Families

end Cert.Kernel3Ideal.Experts

end
-- ==== Proof.Experts.Kernel3Ideal.Names.lean ====
/-
  The body's own names for slots, tiles and semaphores, which it computes from the grid point, are the ring's names.
-/
module

public import proofs.«01_k».proof.Proof.Experts.Kernel3Ideal.Ring

@[expose] public section

set_option maxRecDepth 16384
set_option synthInstance.maxSize 4096

noncomputable section

namespace Cert.Kernel3Ideal.Experts

open Cert.Kernel3Ideal Cert.Kernel3Ideal.Gen
open Idealize.ShloMosaic Idealize.ShloMosaic.TcCoe Idealize.ShloMosaic.Tactic

/-! ## Offsets -/

theorem off_ahead_sem : ∀ t : Fin grid0.N, k0_off2 (grid0.coords t) = ![(Ring.sl 3 (t.val + 2)).val] := by decide +kernel
theorem off_ahead_slot : ∀ t : Fin grid0.N, k0_off3 (grid0.coords t) = ![(Ring.sl 3 (t.val + 2)).val, 0, 0] := by decide +kernel
theorem off_ahead_tile : ∀ t : Fin grid0.N, t.val + 2 < 224 → k0_off4 (grid0.coords t) = ![1024 * (Ring.bk 224 (t.val + 2)).val, 0] := by decide +kernel
theorem off_now_sem : ∀ t : Fin grid0.N, k0_off7 (grid0.coords t) = ![(Ring.sl 3 t.val).val] := by decide +kernel
theorem off_now_slot : ∀ t : Fin grid0.N, k0_off8 (grid0.coords t) = ![(Ring.sl 3 t.val).val, 0, 0] := by decide +kernel
theorem off_now_tile : ∀ t : Fin grid0.N, k0_off9 (grid0.coords t) = ![1024 * (Ring.bk 224 t.val).val, 0] := by decide +kernel
theorem off_first_slot : ∀ t : Fin grid0.N, t.val = 0 → (![0, 0, 0] : Fin 3 → Nat) = ![(Ring.sl 3 t.val).val, 0, 0] := by decide +kernel
theorem off_first_sem : ∀ t : Fin grid0.N, t.val = 0 → (![0] : Fin 1 → Nat) = ![(Ring.sl 3 t.val).val] := by decide +kernel
theorem off_first_tile : ∀ t : Fin grid0.N, t.val = 0 → (![0, 0] : Fin 2 → Nat) = ![1024 * (Ring.bk 224 t.val).val, 0] := by decide +kernel
theorem off_second_slot : ∀ t : Fin grid0.N, t.val = 0 → (![1, 0, 0] : Fin 3 → Nat) = ![(Ring.sl 3 (t.val + 1)).val, 0, 0] := by decide +kernel
theorem off_second_sem : ∀ t : Fin grid0.N, t.val = 0 → (![1] : Fin 1 → Nat) = ![(Ring.sl 3 (t.val + 1)).val] := by decide +kernel
theorem off_second_tile : ∀ t : Fin grid0.N, t.val = 0 → (![1024, 0] : Fin 2 → Nat) = ![1024 * (Ring.bk 224 (t.val + 1)).val, 0] := by decide +kernel

/-! ## Memrefs -/

@[sl_canon] theorem ahead_slot (t : Fin grid0.N) :
    (slotsM.slice (Rect.unit (s := S3x1024x1152) (k0_off3 (grid0.coords t)) S1x1024x1152.size (k0_off3_inb (grid0.coords t))) (fun _ => rfl)).squeeze S1024x1152 squeezes_S1x1024x1152_S1024x1152 = slotM (Ring.sl 3 (t.val + 2)) :=
  congrArg (fun M : Memref sig .tc .vmem S1x1024x1152 .bf16 => M.squeeze S1024x1152 squeezes_S1x1024x1152_S1024x1152) (Memref.slice_unit_congr _ (off_ahead_slot t) _ _ (fun _ => rfl) (fun _ => rfl))
@[sl_canon] theorem ahead_sem (t : Fin grid0.N) :
    (cc0_scratch4.slice (Rect.unit (s := S3) (k0_off2 (grid0.coords t)) S1.size (k0_off2_inb (grid0.coords t)))).squeeze S_ squeezes_S1_S_ = semM (Ring.sl 3 (t.val + 2)) :=
  congrArg (fun A : DmaSems sig S1 => A.squeeze S_ squeezes_S1_S_) (SemArray.slice_unit_congr _ (off_ahead_sem t) _ _)
@[sl_canon] theorem ahead_tile (t : Fin grid0.N) (v : BitVec 32) (hw : k0_chk1 (grid0.coords t) v) (h4 : k0_cond4 (grid0.coords t) v = 1#1) (h5 : k0_cond5 (grid0.coords t) v = 1#1) (ht : t.val + 2 < 224) :
    tokM.slice (Rect.unit (s := S229376x1152) (k0_off4 (grid0.coords t)) S1024x1152.size (k0_off4_inb (grid0.coords t) v hw h4 h5)) (fun _ => rfl) = tileM (Ring.bk 224 (t.val + 2)) :=
  Memref.slice_unit_congr _ (off_ahead_tile t ht) _ _ (fun _ => rfl) (fun _ => rfl)
@[sl_canon] theorem now_slot (t : Fin grid0.N) :
    (slotsM.slice (Rect.unit (s := S3x1024x1152) (k0_off8 (grid0.coords t)) S1x1024x1152.size (k0_off8_inb (grid0.coords t))) (fun _ => rfl)).squeeze S1024x1152 squeezes_S1x1024x1152_S1024x1152 = slotM (Ring.sl 3 t.val) :=
  congrArg (fun M : Memref sig .tc .vmem S1x1024x1152 .bf16 => M.squeeze S1024x1152 squeezes_S1x1024x1152_S1024x1152) (Memref.slice_unit_congr _ (off_now_slot t) _ _ (fun _ => rfl) (fun _ => rfl))
@[sl_canon] theorem now_sem (t : Fin grid0.N) :
    (cc0_scratch4.slice (Rect.unit (s := S3) (k0_off7 (grid0.coords t)) S1.size (k0_off7_inb (grid0.coords t)))).squeeze S_ squeezes_S1_S_ = semM (Ring.sl 3 t.val) :=
  congrArg (fun A : DmaSems sig S1 => A.squeeze S_ squeezes_S1_S_) (SemArray.slice_unit_congr _ (off_now_sem t) _ _)
@[sl_canon] theorem now_tile (t : Fin grid0.N) :
    tokM.slice (Rect.unit (s := S229376x1152) (k0_off9 (grid0.coords t)) S1024x1152.size (k0_off9_inb (grid0.coords t))) (fun _ => rfl) = tileM (Ring.bk 224 t.val) :=
  Memref.slice_unit_congr _ (off_now_tile t) _ _ (fun _ => rfl) (fun _ => rfl)

@[sl_canon] theorem first_slot (t : Fin grid0.N) (h : t.val = 0) :
    (slotsM.slice (Rect.unit (s := S3x1024x1152) ![0, 0, 0] S1x1024x1152.size inb_S3x1024x1152_S1x1024x1152_0_0_0) (fun _ => rfl)).squeeze S1024x1152 squeezes_S1x1024x1152_S1024x1152 = slotM (Ring.sl 3 t.val) :=
  congrArg (fun M : Memref sig .tc .vmem S1x1024x1152 .bf16 => M.squeeze S1024x1152 squeezes_S1x1024x1152_S1024x1152) (Memref.slice_unit_congr _ (off_first_slot t h) _ _ (fun _ => rfl) (fun _ => rfl))
@[sl_canon] theorem first_sem (t : Fin grid0.N) (h : t.val = 0) :
    (cc0_scratch4.slice (Rect.unit (s := S3) ![0] S1.size inb_S3_S1_0)).squeeze S_ squeezes_S1_S_ = semM (Ring.sl 3 t.val) :=
  congrArg (fun A : DmaSems sig S1 => A.squeeze S_ squeezes_S1_S_) (SemArray.slice_unit_congr _ (off_first_sem t h) _ _)
@[sl_canon] theorem first_tile (t : Fin grid0.N) (h : t.val = 0) :
    tokM.slice (Rect.unit (s := S229376x1152) ![0, 0] S1024x1152.size inb_S229376x1152_S1024x1152_0_0) (fun _ => rfl) = tileM (Ring.bk 224 t.val) :=
  Memref.slice_unit_congr _ (off_first_tile t h) _ _ (fun _ => rfl) (fun _ => rfl)
@[sl_canon] theorem second_slot (t : Fin grid0.N) (h : t.val = 0) :
    (slotsM.slice (Rect.unit (s := S3x1024x1152) ![1, 0, 0] S1x1024x1152.size inb_S3x1024x1152_S1x1024x1152_1_0_0) (fun _ => rfl)).squeeze S1024x1152 squeezes_S1x1024x1152_S1024x1152 = slotM (Ring.sl 3 (t.val + 1)) :=
  congrArg (fun M : Memref sig .tc .vmem S1x1024x1152 .bf16 => M.squeeze S1024x1152 squeezes_S1x1024x1152_S1024x1152) (Memref.slice_unit_congr _ (off_second_slot t h) _ _ (fun _ => rfl) (fun _ => rfl))
@[sl_canon] theorem second_sem (t : Fin grid0.N) (h : t.val = 0) :
    (cc0_scratch4.slice (Rect.unit (s := S3) ![1] S1.size inb_S3_S1_1)).squeeze S_ squeezes_S1_S_ = semM (Ring.sl 3 (t.val + 1)) :=
  congrArg (fun A : DmaSems sig S1 => A.squeeze S_ squeezes_S1_S_) (SemArray.slice_unit_congr _ (off_second_sem t h) _ _)
@[sl_canon] theorem second_tile (t : Fin grid0.N) (h : t.val = 0) :
    tokM.slice (Rect.unit (s := S229376x1152) ![1024, 0] S1024x1152.size inb_S229376x1152_S1024x1152_1024_0) (fun _ => rfl) = tileM (Ring.bk 224 (t.val + 1)) :=
  Memref.slice_unit_congr _ (off_second_tile t h) _ _ (fun _ => rfl) (fun _ => rfl)

end Cert.Kernel3Ideal.Experts

end
-- ==== Proof.Experts.Kernel3Ideal.Point.lean ====
/-
  What one grid point reads and leaves: the words it reads from the two tables, the tile of tokens it takes, and the
  block of results it writes, as a function of the tile and of the three cast weights.
-/
module

public import proofs.«01_k».proof.Proof.Experts.Kernel3Ideal.Names
public import Idealize.ShloMosaic.Lib.VecWindow

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The number of tiles in use, as the body reads it; -/
abbrev usedW (T1 : S1024.Idx → Elt F .i32) : Elt F .i32 :=
  View.readAt (Elt F) miscM.view (Rect.unit (s := S1024) ![256] S1.size inb_S1024_S1_256).toLoadRect T1 (Shape.Idx.first (numel1_S1.symm ▸ Nat.one_pos))
/-- the expert of this point's tile, -/
abbrev hereW (i : grid0.Coords) (T0 : S256.Idx → Elt F .i32) : Elt F .i32 :=
  View.readAt (Elt F) expM.view (Rect.unit (s := S256) (k0_off5 i) S1.size (k0_off5_inb i)).toLoadRect T0 (Shape.Idx.first (numel1_S1.symm ▸ Nat.one_pos))
/-- and of the tile before it. -/
abbrev beforeW (i : grid0.Coords) (T0 : S256.Idx → Elt F .i32) : Elt F .i32 :=
  View.readAt (Elt F) expM.view (Rect.unit (s := S256) (k0_off6 i) S1.size (k0_off6_inb i)).toLoadRect T0 (Shape.Idx.first (numel1_S1.symm ▸ Nat.one_pos))
/-- The point casts its expert's weights: it is the first point, or the expert is another than the one before. -/
abbrev loadsW (i : grid0.Coords) (T0 : S256.Idx → Elt F .i32) : Prop :=
  Scalar.cmpi .ne (Scalar.extui (Scalar.ori (Scalar.cmpi .eq (BitVec.ofNat 32 (i 0).val) 0#32) (Scalar.cmpi .ne (hereW i T0) (beforeW i T0)))) 0#32 = 1#1
/-- More than `k` tiles are in use, as the body asks. -/
abbrev moreW (T1 : S1024.Idx → Elt F .i32) (k : BitVec 32) : Prop :=
  Scalar.cmpi .ne (Scalar.extui (Scalar.cmpi .sgt (usedW T1) k)) 0#32 = 1#1

/-- The two tables, each held by half. -/
def expertsP (c : Dev nD) (T : S256.Idx → Elt F .i32) : sProp 𝕄 := expM.view.loc (c : Thread nD τ) ↦{fullShare.right} T
def miscP (c : Dev nD) (T : S1024.Idx → Elt F .i32) : sProp 𝕄 := miscM.view.loc (c : Thread nD τ) ↦{fullShare.right} T

/-- Tile `b` of the tokens. -/
def tileV (c : Dev nD) (W : Held (F := F) c tokM) (b : Fin 224) : Vec F S1024x1152 .bf16 := (tileM b).view.read (Elt F) W

/-- A tile's columns: 0 to 1023 are the tokens, -/
def mainV (X : Vec F S1024x1152 .bf16) : Vec F S1024x1024 .bf16 :=
  fun j => X ((Rect.unit (s := S1024x1152) ![0, 0] S1024x1024.size inb_S1024x1152_S1024x1024_0_0).toLoadRect.idx j)
/-- columns 1024 and 1088 are the two parts of their combine weights. -/
def highV (X : Vec F S1024x1152 .bf16) : Vec F S1024x1 .bf16 :=
  fun j => X ((Rect.unit (s := S1024x1152) ![0, 1024] S1024x1.size inb_S1024x1152_S1024x1_0_1024).toLoadRect.idx j)
def lowV (X : Vec F S1024x1152 .bf16) : Vec F S1024x1 .bf16 :=
  fun j => X ((Rect.unit (s := S1024x1152) ![0, 1088] S1024x1.size inb_S1024x1152_S1024x1_0_1088).toLoadRect.idx j)

/-- The block written for a tile `X` under the cast weights `g`, `u`, `d`. -/
def outV (X : Vec F S1024x1152 .bf16) (g u : Vec F S1024x256 .bf16) (d : Vec F S256x1024 .bf16) : Vec F S1024x1024 .bf16 :=
  k0_pay1 (mainV X) (k0_pay5 (highV X)) (k0_pay6 (lowV X)) g u d

theorem outV_of (X : Vec F S1024x1152 .bf16) {g u : Vec F S1024x256 .bf16} {d : Vec F S256x1024 .bf16}
    {v32 : Vec F S1024x1024 .bf16} {v35 v39 : Vec F S1024x1 .bf16} {v42 v46 : Vec F S1024x256 .bf16} {v52 : Vec F S256x1024 .bf16}
    (h32 : v32 = mainV X) (h35 : v35 = highV X) (h39 : v39 = lowV X) (h42 : v42 = g) (h46 : v46 = u) (h52 : v52 = d) :
    k0_pay1 v32 (k0_pay5 v35) (k0_pay6 v39) v42 v46 v52 = outV X g u d := by
  unfold outV; rw [h32, h35, h39, h42, h46, h52]

/-- A load from a view into which `X` has arrived reads `X`. -/
theorem arrived_load {Val : EltTy → Type} [∀ e, Nonempty (Val e)] {κ : Kind} {sp : Space} {s : Shape} {e : EltTy} (v : View sig κ sp s e)
    (X : s.Idx → Val e) (B : LoadRect s) : v.readCov [⟨Rect.whole s, X⟩] B = fun j => X (B.idx j) := by
  funext j
  show v.read Val (v.writes Val v.junk [⟨Rect.whole s, X⟩]) (B.idx j) = X (B.idx j)
  rw [View.read_writes_whole]

end Cert.Kernel3Ideal.Experts

end
-- ==== Proof.Experts.Kernel3Ideal.Words.lean ====
/-
  What the body's tests and the two tables' words say as numbers: the number of tiles in use, the expert of a tile, and
  which of the body's branches a grid point takes.
-/
module

public import proofs.«01_k».proof.Proof.Experts.Kernel3Ideal.Point
public import Idealize.ShloMosaic.Lib.WordCmp
public import Idealize.ShloMosaic.Lib.Affine
public import Idealize.ShloMosaic.Lib.Pointwise.Index

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic

variable {F : FTy → Type} [FloatOps F]

/-- The two tables' ranges: every expert below 64, and from 1 to 224 tiles in use. -/
structure Ranges (T0 : S256.Idx → BitVec 32) (T1 : S1024.Idx → BitVec 32) : Prop where
  expert : ∀ k, (T0 k).toNat < 64
  used_pos : 1 ≤ (T1 (ix1 256)).toNat
  used_le : (T1 (ix1 256)).toNat ≤ 224

/-- A grid point's number is its coordinate. -/
theorem coord_val (t : Fin grid0.N) : ((grid0.coords t) 0).val = t.val := by
  revert t; decide +kernel

theorem point_lt (t : Fin grid0.N) : t.val < 224 := t.isLt

/-- The number of tiles in use is the second table's word 256. -/
theorem usedW_eq (T1 : S1024.Idx → Elt F .i32) : usedW T1 = T1 (ix1 256) := by
  show T1 _ = T1 _
  congr 1
  funext a; match a with | ⟨0, _⟩ => rfl

theorem off5_eq (t : Fin grid0.N) : k0_off5 (grid0.coords t) 0 = t.val := by revert t; decide +kernel
theorem off6_eq (t : Fin grid0.N) : k0_off6 (grid0.coords t) 0 = t.val - 1 := by revert t; decide +kernel
theorem off1_eq (t : Fin grid0.N) : k0_off1 (grid0.coords t) 0 = t.val := by revert t; decide +kernel

/-- The expert of a point's tile is the first table's word there. -/
theorem hereW_eq (t : Fin grid0.N) (T0 : S256.Idx → Elt F .i32) :
    hereW (grid0.coords t) T0 = T0 (ix1 ⟨t.val, by have := point_lt t; omega⟩) := by
  show T0 _ = T0 _
  congr 1
  funext a; match a with | ⟨0, _⟩ => exact Fin.ext (by show k0_off5 _ 0 + 0 * 1 = _; rw [off5_eq]; rfl)
theorem beforeW_eq (t : Fin grid0.N) (T0 : S256.Idx → Elt F .i32) :
    beforeW (grid0.coords t) T0 = T0 (ix1 ⟨t.val - 1, by have := point_lt t; omega⟩) := by
  show T0 _ = T0 _
  congr 1
  funext a; match a with | ⟨0, _⟩ => exact Fin.ext (by show k0_off6 _ 0 + 0 * 1 = _; rw [off6_eq]; rfl)

theorem cond1_iff (t : Fin grid0.N) : k0_cond1 (grid0.coords t) = 1#1 ↔ t.val = 0 := by
  revert t; decide +kernel

theorem bit_ne (b : BitVec 1) : Scalar.cmpi .ne (Scalar.extui b : BitVec 32) 0#32 = 1#1 ↔ b = 1#1 := by
  revert b; decide

theorem cond4_iff (t : Fin grid0.N) (v : BitVec 32) (hv : v.toNat ≤ 224) :
    k0_cond4 (grid0.coords t) v = 1#1 ↔ t.val < v.toNat := by
  have ht := point_lt t
  show Scalar.cmpi .ne (Scalar.extui (IntOp.cmpi .slt (BitVec.ofNat 32 ((grid0.coords t) 0).val) v) : BitVec 32) 0#32 = 1#1 ↔ _
  rw [bit_ne, coord_val, WordCmp.cmpi_slt_eq, WordCmp.ofBool_decide_eq_one_iff, WordCmp.toInt_ofNat_of_lt (by omega), WordCmp.toInt_eq_toNat_of_lt_half (by omega)]
  omega

theorem cond5_iff (t : Fin grid0.N) (v : BitVec 32) (hv : v.toNat ≤ 224) :
    k0_cond5 (grid0.coords t) v = 1#1 ↔ t.val + 2 < v.toNat := by
  have ht := point_lt t
  show Scalar.cmpi .ne (Scalar.extui (IntOp.cmpi .slt (BitVec.ofNat 32 ((grid0.coords t) 0).val + 2#32) v) : BitVec 32) 0#32 = 1#1 ↔ _
  rw [bit_ne, coord_val, show (2#32 : BitVec 32) = BitVec.ofNat 32 2 from rfl, ← BitVec.ofNat_add, WordCmp.cmpi_slt_eq, WordCmp.ofBool_decide_eq_one_iff,
    WordCmp.toInt_ofNat_of_lt (by omega), WordCmp.toInt_eq_toNat_of_lt_half (by omega)]
  omega

theorem moreW_iff (T1 : S1024.Idx → Elt F .i32) (k : ℕ) (hk : k < 224) (hv : (T1 (ix1 256) : BitVec 32).toNat ≤ 224) :
    moreW T1 (BitVec.ofNat 32 k) ↔ k < (T1 (ix1 256) : BitVec 32).toNat := by
  show Scalar.cmpi .ne (Scalar.extui (IntOp.cmpi .sgt (usedW T1) _) : BitVec 32) 0#32 = 1#1 ↔ _
  rw [bit_ne, usedW_eq, WordCmp.cmpi_sgt_eq, WordCmp.ofBool_decide_eq_one_iff, WordCmp.toInt_ofNat_of_lt (by omega), WordCmp.toInt_eq_toNat_of_lt_half (by omega)]
  omega

/-- A point casts its expert's weights when it is the first or its expert is not the last tile's. -/
theorem loadsW_iff (t : Fin grid0.N) (T0 : S256.Idx → Elt F .i32) :
    loadsW (grid0.coords t) T0 ↔ t.val = 0 ∨ (T0 (ix1 ⟨t.val, by have := point_lt t; omega⟩) : BitVec 32) ≠ T0 (ix1 ⟨t.val - 1, by have := point_lt t; omega⟩) := by
  have ht := point_lt t
  show Scalar.cmpi .ne (Scalar.extui (IntOp.ori (IntOp.cmpi .eq (BitVec.ofNat 32 ((grid0.coords t) 0).val) 0#32) (IntOp.cmpi .ne (hereW (grid0.coords t) T0) (beforeW (grid0.coords t) T0))) : BitVec 32) 0#32 = 1#1 ↔ _
  rw [bit_ne, coord_val, hereW_eq, beforeW_eq, WordCmp.cmpi_eq_eq, WordCmp.cmpi_ne_eq, WordCmp.ori_ofBool, WordCmp.ofBool_eq_one_iff, Bool.or_eq_true, decide_eq_true_iff, decide_eq_true_iff,
    show (0#32 : BitVec 32) = BitVec.ofNat 32 0 from rfl, WordCmp.ofNat_eq_ofNat_iff (by omega) (by omega)]

theorem off4_eq (t : Fin grid0.N) (h : t.val < 222) : k0_off4 (grid0.coords t) 0 = (t.val + 2) * 1024 ∧ k0_off4 (grid0.coords t) 1 = 0 := by
  revert h; revert t; decide +kernel

/-- Every tile a point starts fetching lies inside the tokens. -/
theorem chk1_of (t : Fin grid0.N) (v : BitVec 32) (hv : v.toNat ≤ 224) : k0_chk1 (grid0.coords t) v := by
  refine ⟨fun _ h5 a => ?_, fun _ h5 hinb => ?_⟩
  · have h := (cond5_iff t v hv).mp h5
    obtain ⟨e0, e1⟩ := off4_eq t (by omega)
    match a with
    | ⟨0, _⟩ => show k0_off4 _ 0 + 1024 ≤ 229376; rw [e0]; omega
    | ⟨1, _⟩ => show k0_off4 _ 1 + 1152 ≤ 1152; rw [e1]
  · have h := (cond5_iff t v hv).mp h5
    obtain ⟨e0, e1⟩ := off4_eq t (by omega)
    exact Affine.words_of_packed (Affine.packed_dvd (by decide) (by
      show 2 ∣ k0_off4 _ 0
      rw [e0]; exact Dvd.dvd.mul_left (by decide) _) (by decide))

end Cert.Kernel3Ideal.Experts

end
-- ==== Proof.Experts.Kernel3Ideal.Tables.lean ====
/-
  The two tables a run is launched with, and what they make of the windows: which block each window holds at a grid
  point, that every block lies inside its array, where the result's window is left untouched and where it is written back.
-/
module

public import proofs.«01_k».proof.Proof.Experts.Kernel3Ideal.Words
public import Idealize.ShloMosaic.Lib.Pipeline.TableIdle
public import Idealize.ShloMosaic.Lib.Pipeline.FrameBody

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic

variable {F : FTy → Type} [FloatOps F]

/-- The experts' table and the second table, as the memory at launch holds them. -/
def T0of (m : (ℓ : Loc nD τ sig) → Buf (Elt F) ℓ) : S256.Idx → Elt F .i32 := m (((0 : Dev nD) : Thread nD τ).loc main_arg0)
def T1of (m : (ℓ : Loc nD τ sig) → Buf (Elt F) ℓ) : S1024.Idx → Elt F .i32 := m (((0 : Dev nD) : Thread nD τ).loc main_arg1)

/-- Their words are in range. -/
abbrev InRange (m : (ℓ : Loc nD τ sig) → Buf (Elt F) ℓ) : Prop := Ranges (T0of m) (T1of m)

/-- The number of tiles in use, and the expert of a tile. -/
def used (m : (ℓ : Loc nD τ sig) → Buf (Elt F) ℓ) : ℕ := (T1of m (ix1 256) : BitVec 32).toNat
def expertOf (m : (ℓ : Loc nD τ sig) → Buf (Elt F) ℓ) (t : Fin 224) : ℕ := (T0of m (ix1 ⟨t.val, by omega⟩) : BitVec 32).toNat

/-- The two tables together. -/
def tabs (m : (ℓ : Loc nD τ sig) → Buf (Elt F) ℓ) : pre0.Contents (Elt F) :=
  fun | ⟨0, _⟩ => T0of m | ⟨1, _⟩ => T1of m | ⟨_ + 2, h⟩ => absurd h (by simp)

variable (m : (ℓ : Loc nD τ sig) → Buf (Elt F) ℓ)

/-- The word the weights' index maps read is the expert of the point's tile. -/
theorem word0_eq (t : Fin grid0.N) :
    ((tabs m).at 0 (Rect.unit (s := S256) (k0_off1 (grid0.coords t)) S1.size (k0_off1_inb (grid0.coords t))) numel1_S1 : BitVec 32).toNat = expertOf m t := by
  show (T0of m _ : BitVec 32).toNat = (T0of m _ : BitVec 32).toNat
  congr 2
  funext a; match a with | ⟨0, _⟩ => exact Fin.ext (by show k0_off1 _ 0 + 0 * 1 = _; rw [off1_eq]; rfl)

theorem word1_eq : (tabs m).at 1 (Rect.unit (s := S1024) ![256] S1.size inb_S1024_S1_256) numel1_S1 = T1of m (ix1 256) := by
  show T1of m _ = T1of m _
  congr 1
  funext a; match a with | ⟨0, _⟩ => rfl

/-- The three weights' blocks at a point are its expert's; -/
theorem map1_eq (t : Fin grid0.N) : cc0_transform_1 k0_off1_inb numel1_S1 (tabs m) (grid0.coords t) = ![1, expertOf m t, 0, 0] := by
  rw [← word0_eq m t]; rfl
theorem map2_eq (t : Fin grid0.N) : cc0_transform_2 k0_off1_inb numel1_S1 (tabs m) (grid0.coords t) = ![1, expertOf m t, 0, 0] := by
  rw [← word0_eq m t]; rfl
theorem map3_eq (t : Fin grid0.N) : cc0_transform_3 k0_off1_inb numel1_S1 (tabs m) (grid0.coords t) = ![1, expertOf m t, 0, 0] := by
  rw [← word0_eq m t]; rfl

theorem min_word (t : ℕ) (ht : t < 224) (v : BitVec 32) (h1 : 1 ≤ v.toNat) (h2 : v.toNat ≤ 224) :
    (IntOp.minsi (BitVec.ofNat 32 t) (v - 1#32)).toNat = min t (v.toNat - 1) := by
  have e : (v - 1#32).toNat = v.toNat - 1 := by
    rw [BitVec.toNat_sub]; show (2 ^ 32 - 1 + v.toNat) % 2 ^ 32 = _; omega
  have et : (BitVec.ofNat 32 t).toNat = t := WordCmp.toNat_ofNat_of_lt (by omega)
  unfold IntOp.minsi
  have hs : (BitVec.ofNat 32 t).slt (v - 1#32) = decide (t < v.toNat - 1) := by
    show decide ((BitVec.ofNat 32 t).toInt < (v - 1#32).toInt) = _
    rw [WordCmp.toInt_ofNat_of_lt (by omega), WordCmp.toInt_eq_toNat_of_lt_half (by omega), e]
    exact decide_eq_decide.mpr (by omega)
  rw [hs]
  by_cases h : t < v.toNat - 1
  · simp only [h, decide_true, ↓reduceIte, et]; omega
  · simp only [h, decide_false, Bool.false_eq_true, ↓reduceIte, e]; omega

/-- and the result's block is the point's tile, or the last one in use. -/
theorem map4_eq (hr : InRange m) (t : Fin grid0.N) :
    cc0_transform_4 inb_S1024_S1_256 numel1_S1 (tabs m) (grid0.coords t) = ![min t.val (used m - 1), 0] := by
  show ![(IntOp.minsi (BitVec.ofNat 32 ((grid0.coords t) 0).val) (Scalar.subi ((tabs m).at 1 (Rect.unit (s := S1024) ![256] S1.size inb_S1024_S1_256) numel1_S1) 1#32)).toNat, 0] = _
  rw [word1_eq, coord_val]
  exact congrArg (fun k => ![k, 0]) (min_word t.val (point_lt t) _ hr.used_pos hr.used_le)

/-- Every point's coordinates are those of a point number. -/
theorem exists_point (i : grid0.Coords) : ∃ t : Fin grid0.N, i = grid0.coords t :=
  ⟨⟨(i 0).val, (i 0).isLt⟩, by
    funext a; match a with | ⟨0, _⟩ => exact Fin.ext (coord_val ⟨(i 0).val, (i 0).isLt⟩).symm⟩

theorem expertOf_lt (hr : InRange m) (t : Fin 224) : expertOf m t < 64 := hr.expert _

/-- Every block of every window lies inside its array. -/
theorem ok_tabs (hr : InRange m) : ok0 (F := F) (tabs m) := by
  refine ⟨fun i => ?_, fun i => ?_, fun i => ?_, fun i => ?_⟩ <;> obtain ⟨t, rfl⟩ := exists_point i
  · have he := expertOf_lt m hr t
    refine ⟨?_, .inl rfl⟩
    rw [map1_eq]
    intro a; match a with
    | ⟨0, _⟩ => show (1 + 1) * 1 ≤ 2; omega
    | ⟨1, _⟩ => show (expertOf m t + 1) * 1 ≤ 64; omega
    | ⟨2, _⟩ => show (0 + 1) * 1024 ≤ 1024; omega
    | ⟨3, _⟩ => show (0 + 1) * 256 ≤ 256; omega
  · have he := expertOf_lt m hr t
    refine ⟨?_, .inl rfl⟩
    rw [map2_eq]
    intro a; match a with
    | ⟨0, _⟩ => show (1 + 1) * 1 ≤ 2; omega
    | ⟨1, _⟩ => show (expertOf m t + 1) * 1 ≤ 64; omega
    | ⟨2, _⟩ => show (0 + 1) * 1024 ≤ 1024; omega
    | ⟨3, _⟩ => show (0 + 1) * 256 ≤ 256; omega
  · have he := expertOf_lt m hr t
    refine ⟨?_, .inl rfl⟩
    rw [map3_eq]
    intro a; match a with
    | ⟨0, _⟩ => show (1 + 1) * 1 ≤ 2; omega
    | ⟨1, _⟩ => show (expertOf m t + 1) * 1 ≤ 64; omega
    | ⟨2, _⟩ => show (0 + 1) * 256 ≤ 256; omega
    | ⟨3, _⟩ => show (0 + 1) * 1024 ≤ 1024; omega
  · have ht := point_lt t
    refine ⟨?_, .inr (Affine.block_words_dvd (s := S229376x1024) (p := EltTy.packing .bf16) (by decide) (by decide))⟩
    rw [map4_eq m hr]
    intro a; match a with
    | ⟨0, _⟩ => show (min t.val (used m - 1) + 1) * 1024 ≤ 229376; omega
    | ⟨1, _⟩ => show (0 + 1) * 1024 ≤ 1024; omega

/-- The pipeline at these tables. -/
def adm (hr : InRange m) : (pcfg0 (F := F)).Adm := ⟨tabs m, ok_tabs m hr⟩
abbrev cfgA (hr : InRange m) : Pipeline.Cfg sig Λ₀ := cfg0 (F := F) (adm m hr)

theorem used_le (hr : InRange m) : used m ≤ 224 := hr.used_le
theorem used_pos (hr : InRange m) : 1 ≤ used m := hr.used_pos

/-- The result's window is left untouched from the first tile not in use. -/
theorem idle3 (hr : InRange m) (t : Fin (cfgA m hr).N) :
    (cfgA m hr).idle (3 : Fin 4) ((cfgA m hr).grid.coords t) = decide (used m ≤ t.val) := by
  show (!(k0_cond4 (grid0.coords t) ((tabs m).atD 1 ![256]) == 1#1)) = _
  have e : (tabs m).atD 1 ![256] = (T1of m (ix1 256) : BitVec 32) := by
    refine (dif_pos (by decide)).trans ?_
    show T1of m _ = T1of m _
    congr 1
    funext a; match a with | ⟨0, _⟩ => rfl
  rw [e]
  have h := cond4_iff t (T1of m (ix1 256) : BitVec 32) hr.used_le
  by_cases hu : used m ≤ t.val
  · have : ¬ k0_cond4 (grid0.coords t) (T1of m (ix1 256) : BitVec 32) = 1#1 := fun hc => by
      have := h.mp hc; unfold used at hu; omega
    rw [beq_eq_false_iff_ne.mpr this, decide_eq_true hu]; rfl
  · have : k0_cond4 (grid0.coords t) (T1of m (ix1 256) : BitVec 32) = 1#1 := h.mpr (by unfold used at hu; omega)
    rw [this, decide_eq_false hu]; rfl

theorem index3 (hr : InRange m) (t : Fin (cfgA m hr).N) : ((cfgA m hr).win (3 : Fin 4)).index t = ![min t.val (used m - 1), 0] := map4_eq m hr t

/-- It is written back after the tiles in use but the last, and at the end. -/
theorem flush3 (hr : InRange m) (t : Fin (cfgA m hr).N) :
    ((cfgA m hr).win (3 : Fin 4)).flush t = decide (t.val + 1 < used m ∨ t.val = 223) := by
  have hu := used_le m hr
  have hp := used_pos m hr
  have ht : t.val < 224 := t.isLt
  show (true && _) = _
  rw [Bool.true_and]
  by_cases h : t.val + 1 = 224
  · rw [decide_eq_true (show t.val + 1 = (cfgA m hr).grid.N from h), Bool.true_or, decide_eq_true (Or.inr (by omega))]
  · rw [decide_eq_false (show ¬ t.val + 1 = (cfgA m hr).grid.N from h), Bool.false_or]
    refine decide_eq_decide.mpr ⟨fun ⟨h', hne⟩ => ?_, fun h' => ⟨by show t.val + 1 < 224; omega, fun he => ?_⟩⟩
    · left
      rw [index3, index3] at hne
      by_contra hc
      exact hne (by show ![min (t.val + 1) _, 0] = _; rw [show min (t.val + 1) (used m - 1) = min t.val (used m - 1) by omega])
    · rw [index3, index3] at he
      have := congrFun he 0
      have : min (t.val + 1) (used m - 1) = min t.val (used m - 1) := this
      omega

/-- What it holds is junk after such a write-back and at the start. -/
theorem fresh3 (hr : InRange m) (n : ℕ) (hn : n ≤ (cfgA m hr).N) :
    (cfgA m hr).fresh (3 : Fin 4) n = decide (n < used m ∨ n = 224) := by
  have hu := used_le m hr
  have hp := used_pos m hr
  refine Pipeline.Cfg.fresh_tab (cfgA m hr) (3 : Fin 4) (fun n => decide (n < used m ∨ n = 224)) (decide_eq_true (by omega)) (fun t => ?_) n hn
  have ht : t.val < 224 := t.isLt
  rw [flush3, idle3, ← Bool.decide_and, ← Bool.decide_or]
  exact decide_eq_decide.mpr (by omega)

end Cert.Kernel3Ideal.Experts

end
-- ==== Proof.Experts.Kernel3Ideal.Data.lean ====
/-
  What the run holds between grid points, and what each window holds after one: the cast weights of the last point's
  expert, the ring of token tiles, the tables; each weight's block; the result of the last tile in use so far.
-/
module

public import proofs.«01_k».proof.Proof.Experts.Kernel3Ideal.Tables
public import Idealize.ShloMosaic.Lib.Pipeline.Kit

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hr : InRange m)

/-- Window `w`'s block at a point, read off its array as the run is launched. -/
def iblk (c : Dev nD) (w : Fin (cfgA m hr).W) (t : Fin (cfgA m hr).N) :
    (((cfgA m hr).win w).xblock ((cfgA m hr).grid.coords t)).Idx → Elt F ((cfgA m hr).win w).elt :=
  (((cfgA m hr).win w).blk t).view.read (Elt F) (m (((cfgA m hr).win w).arr.view.loc (c : Thread nD τ)))

/-- The three weights' blocks at a point, -/
def gateB (c : Dev nD) (t : Fin (cfgA m hr).N) : Vec F S1x1x1024x256 .f32 := iblk m hr c (0 : Fin 4) t
def upB (c : Dev nD) (t : Fin (cfgA m hr).N) : Vec F S1x1x1024x256 .f32 := iblk m hr c (1 : Fin 4) t
def downB (c : Dev nD) (t : Fin (cfgA m hr).N) : Vec F S1x1x256x1024 .f32 := iblk m hr c (2 : Fin 4) t

/-- the tokens, as the run is launched, -/
def tokW (c : Dev nD) : Held (F := F) c tokM := m (tokM.view.loc (c : Thread nD τ))

/-- and the block of the result for tile `t` of them. -/
def blockV (c : Dev nD) (t : Fin (cfgA m hr).N) : Vec F S1024x1024 .bf16 :=
  outV (tileV c (tokW m c) (Ring.bk 224 t.val)) (k0_pay2 (gateB m hr c t)) (k0_pay3 (upB m hr c t)) (k0_pay4 (downB m hr c t))

/-- The last tile in use up to point `k`. -/
def upto (k : ℕ) : Fin (cfgA m hr).N :=
  ⟨min k (used m - 1), by have := used_le m hr; have := used_pos m hr; show min k (used m - 1) < 224; omega⟩

theorem upto_val (k : ℕ) : (upto m hr k).val = min k (used m - 1) := rfl

/-- The cast weights before point `k`: anything before the first, then those of the last tile in use. -/
def weightsP (c : Dev nD) (k : ℕ) : sProp 𝕄 :=
  if k = 0 then iprop((∃ d, owns (c : Thread nD τ) gateM fullShare d) ∗ (∃ d, owns (c : Thread nD τ) upM fullShare d) ∗ (∃ d, owns (c : Thread nD τ) downM fullShare d))
  else iprop(owns (c : Thread nD τ) gateM fullShare (k0_pay2 (gateB m hr c (upto m hr (k - 1))))
    ∗ owns (c : Thread nD τ) upM fullShare (k0_pay3 (upB m hr c (upto m hr (k - 1))))
    ∗ owns (c : Thread nD τ) downM fullShare (k0_pay4 (downB m hr c (upto m hr (k - 1)))))

/-- What is held before point `k`. -/
def stateP (c : Dev nD) (k : ℕ) : sProp 𝕄 :=
  iprop(weightsP m hr c k ∗ (∃ r, prngReg c r) ∗ ringP c (tokW m c) (used m) (min k (used m)) ∗ expertsP c (T0of m) ∗ miscP c (T1of m))

/-- The proof data of the run. -/
def dats (_ : Fin 1) (c : Dev nD) : Dat τ (Elt F) Unit ℕ (Pipeline.UD sig nD τ) ℕ (cfgA m hr) c where
  A w := m (((cfgA m hr).win w).arr.view.loc (c : Thread nD τ))
  after w t := match w with
    | ⟨0, _⟩ => iblk m hr c (0 : Fin 4) t
    | ⟨1, _⟩ => iblk m hr c (1 : Fin 4) t
    | ⟨2, _⟩ => iblk m hr c (2 : Fin 4) t
    | ⟨3, _⟩ => blockV m hr c (upto m hr t.val)
  Φ t := stateP m hr c t.val
  q _ := fullShare
  owed _ := 0

theorem after0 (c : Dev nD) (t : Fin (cfgA m hr).N) : (dats m hr 0 c).after (0 : Fin 4) t = iblk m hr c (0 : Fin 4) t := rfl
theorem after1 (c : Dev nD) (t : Fin (cfgA m hr).N) : (dats m hr 0 c).after (1 : Fin 4) t = iblk m hr c (1 : Fin 4) t := rfl
theorem after2 (c : Dev nD) (t : Fin (cfgA m hr).N) : (dats m hr 0 c).after (2 : Fin 4) t = iblk m hr c (2 : Fin 4) t := rfl
theorem after3 (c : Dev nD) (t : Fin (cfgA m hr).N) : (dats m hr 0 c).after (3 : Fin 4) t = blockV m hr c (upto m hr t.val) := rfl

/-- A weight's window holds its block at every point, fetched there or not. -/
theorem before0 (c : Dev nD) (t : Fin (cfgA m hr).N) (d) : (dats m hr 0 c).before (0 : Fin 4) t d = iblk m hr c (0 : Fin 4) t :=
  ((dats m hr 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA m hr).N) (d) : (dats m hr 0 c).before (1 : Fin 4) t d = iblk m hr c (1 : Fin 4) t :=
  ((dats m hr 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA m hr).N) (d) : (dats m hr 0 c).before (2 : Fin 4) t d = iblk m hr c (2 : Fin 4) t :=
  ((dats m hr 0 c).before_in_eq_fetched (2 : Fin 4) rfl (fun _ => rfl) (fun _ _ _ => rfl) (fun t => by rw [after2]; unfold Dat.blockOf iblk; rfl) t d).trans
    (by unfold Dat.fetched Dat.blockOf iblk; rfl)

/-- The last block in use, once written, is what the result's window goes on holding. -/
theorem upto_idle (t : Fin (cfgA m hr).N) (h : used m ≤ t.val) : upto m hr (t.val - 1) = upto m hr t.val :=
  Fin.ext (by have := used_pos m hr; rw [upto_val, upto_val]; omega)

theorem before3 (c : Dev nD) (t : Fin (cfgA m hr).N) (h : used m ≤ t.val) (d) :
    (dats m hr 0 c).before (3 : Fin 4) t d = blockV m hr c (upto m hr t.val) := by
  have hu := used_pos m hr
  have ht : t.val < 224 := t.isLt
  rw [(dats m hr 0 c).before_out_traj (3 : Fin 4) rfl (fun _ _ => rfl) (fun t ht hi _ => ?_) t.val t rfl d,
    fresh3 m hr t.val (Nat.le_of_lt t.isLt), decide_eq_false (by omega)]
  · show (dats m hr 0 c).after (3 : Fin 4) _ = _
    rw [after3]
    exact congrArg _ (upto_idle m hr t h)
  · rw [idle3, decide_eq_true_iff] at hi
    rw [after3, after3]
    exact congrArg _ (upto_idle m hr t hi).symm

/-- Two points with the same expert have the same weights' blocks. -/
theorem iblk_same (c : Dev nD) (t t' : Fin (cfgA m hr).N) (h : expertOf m t = expertOf m t') :
    gateB m hr c t = gateB m hr c t' ∧ upB m hr c t = upB m hr c t' ∧ downB m hr c t = downB m hr c t' := by
  refine ⟨?_, ?_, ?_⟩
  · exact (dats m hr 0 c).fetched_congr (0 : Fin 4) (t := t) (t' := t')
      (by show cc0_transform_1 _ _ (tabs m) (grid0.coords t) = cc0_transform_1 _ _ (tabs m) (grid0.coords t'); rw [map1_eq, map1_eq, h]) (by rfl) (gateB m hr c t)
  · exact (dats m hr 0 c).fetched_congr (1 : Fin 4) (t := t) (t' := t')
      (by show cc0_transform_2 _ _ (tabs m) (grid0.coords t) = cc0_transform_2 _ _ (tabs m) (grid0.coords t'); rw [map2_eq, map2_eq, h]) (by rfl) (upB m hr c t)
  · exact (dats m hr 0 c).fetched_congr (2 : Fin 4) (t := t) (t' := t')
      (by show cc0_transform_3 _ _ (tabs m) (grid0.coords t) = cc0_transform_3 _ _ (tabs m) (grid0.coords t'); rw [map3_eq, map3_eq, h]) (by rfl) (downB m hr c t)

end Cert.Kernel3Ideal.Experts

end
-- ==== Proof.Experts.Kernel3Ideal.RunFirst.lean ====
/-
  The body at the first point, which starts the first tiles and casts the first weights.
-/
module

public import proofs.«01_k».proof.Proof.Experts.Kernel3Ideal.Point

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- One tile in use. -/
theorem run_first_one (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : k0_cond1 (grid0.coords t) = 1#1) (hm0 : moreW T1 0#32) (hm1 : ¬moreW T1 1#32) (h0 : t.val = 0) (h4 : k0_cond4 (grid0.coords t) (usedW T1) = 1#1) (h5 : ¬k0_cond5 (grid0.coords t) (usedW T1) = 1#1) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ freeP c W (Ring.sl 3 t.val) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val = 0) := ⟨h0⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := first_slot t h0
  have hcanon1 := first_sem t h0
  have hcanon2 := first_tile t h0
  have hcanon3 := second_slot t h0
  have hcanon4 := second_sem t h0
  have hcanon5 := second_tile t h0
  have hcanon6 := now_slot t
  unfold owns expertsP miscP freeP Ring.free
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨Hc0, ⟨%ff0, Hs0, Hw0⟩⟩, HW, Hk⟩
  ihave Hsp0 := (copy_split c W (Ring.sl 3 t.val) (Ring.bk 224 t.val)).1 $$ Hw0
  icases Hsp0 with ⟨Hh0, Hr0⟩
  obtain rfl := harg4.eq_unread hf0; obtain rfl := harg5.eq_unread hf1; obtain rfl := harg6.eq_unread hf2
  sl_exec (disch := first | sl_exact hw | sl_exact h1 | sl_exact hm0 | sl_exact hm1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hc0 Hs0 Hh0 Hr0]
  · isplitl [Hc0]; · iexact Hc0
    iexists _; isplitl [Hs0]; · iexact Hs0
    iapply (copy_split c W (Ring.sl 3 t.val) (Ring.bk 224 t.val)).2; isplitl [Hh0]; · iexact Hh0
    iexact Hr0
  iexists _; iexact HW

set_option maxHeartbeats 8000000 in
/-- Two tiles in use. -/
theorem run_first_two (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : k0_cond1 (grid0.coords t) = 1#1) (hm0 : moreW T1 0#32) (hm1 : moreW T1 1#32) (h0 : t.val = 0) (h4 : k0_cond4 (grid0.coords t) (usedW T1) = 1#1) (h5 : ¬k0_cond5 (grid0.coords t) (usedW T1) = 1#1) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ freeP c W (Ring.sl 3 t.val) ∗ freeP c W (Ring.sl 3 (t.val + 1)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ comingP c W (Ring.sl 3 (t.val + 1)) (Ring.bk 224 (t.val + 1)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val = 0) := ⟨h0⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := first_slot t h0
  have hcanon1 := first_sem t h0
  have hcanon2 := first_tile t h0
  have hcanon3 := second_slot t h0
  have hcanon4 := second_sem t h0
  have hcanon5 := second_tile t h0
  have hcanon6 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨Hc0, ⟨%ff0, Hs0, Hw0⟩⟩, ⟨Hc1, ⟨%ff1, Hs1, Hw1⟩⟩, HW, Hk⟩
  ihave Hsp0 := (copy_split c W (Ring.sl 3 t.val) (Ring.bk 224 t.val)).1 $$ Hw0
  icases Hsp0 with ⟨Hh0, Hr0⟩
  ihave Hsp1 := (copy_split c W (Ring.sl 3 (t.val + 1)) (Ring.bk 224 (t.val + 1))).1 $$ Hw1
  icases Hsp1 with ⟨Hh1, Hr1⟩
  obtain rfl := harg4.eq_unread hf0; obtain rfl := harg5.eq_unread hf1; obtain rfl := harg6.eq_unread hf2
  sl_exec (disch := first | sl_exact hw | sl_exact h1 | sl_exact hm0 | sl_exact hm1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hc0 Hs0 Hh0 Hr0]
  · isplitl [Hc0]; · iexact Hc0
    iexists _; isplitl [Hs0]; · iexact Hs0
    iapply (copy_split c W (Ring.sl 3 t.val) (Ring.bk 224 t.val)).2; isplitl [Hh0]; · iexact Hh0
    iexact Hr0
  isplitl [Hc1 Hr1]
  · iexists _; isplitl [Hc1]; · iexact Hc1
    iexact Hr1
  iexists _; iexact HW

set_option maxHeartbeats 8000000 in
/-- Three tiles or more in use. -/
theorem run_first_more (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : k0_cond1 (grid0.coords t) = 1#1) (hm0 : moreW T1 0#32) (hm1 : moreW T1 1#32) (h0 : t.val = 0) (h4 : k0_cond4 (grid0.coords t) (usedW T1) = 1#1) (h5 : k0_cond5 (grid0.coords t) (usedW T1) = 1#1) (ht : t.val + 2 < 224) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ freeP c W (Ring.sl 3 t.val) ∗ freeP c W (Ring.sl 3 (t.val + 1)) ∗ freeP c W (Ring.sl 3 (t.val + 2)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ comingP c W (Ring.sl 3 (t.val + 1)) (Ring.bk 224 (t.val + 1)) ∗ comingP c W (Ring.sl 3 (t.val + 2)) (Ring.bk 224 (t.val + 2)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val + 2 < 224) := ⟨ht⟩
  haveI : Fact (t.val = 0) := ⟨h0⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := first_slot t h0
  have hcanon1 := first_sem t h0
  have hcanon2 := first_tile t h0
  have hcanon3 := second_slot t h0
  have hcanon4 := second_sem t h0
  have hcanon5 := second_tile t h0
  have hcanon6 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨Hc0, ⟨%ff0, Hs0, Hw0⟩⟩, ⟨Hc1, ⟨%ff1, Hs1, Hw1⟩⟩, ⟨Hc2, ⟨%ff2, Hs2, Hw2⟩⟩, HW, Hk⟩
  ihave Hsp0 := (copy_split c W (Ring.sl 3 t.val) (Ring.bk 224 t.val)).1 $$ Hw0
  icases Hsp0 with ⟨Hh0, Hr0⟩
  ihave Hsp1 := (copy_split c W (Ring.sl 3 (t.val + 1)) (Ring.bk 224 (t.val + 1))).1 $$ Hw1
  icases Hsp1 with ⟨Hh1, Hr1⟩
  ihave Hsp2 := (copy_split c W (Ring.sl 3 (t.val + 2)) (Ring.bk 224 (t.val + 2))).1 $$ Hw2
  icases Hsp2 with ⟨Hh2, Hr2⟩
  obtain rfl := harg4.eq_unread hf0; obtain rfl := harg5.eq_unread hf1; obtain rfl := harg6.eq_unread hf2
  sl_exec (disch := first | sl_exact hw | sl_exact h1 | sl_exact hm0 | sl_exact hm1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hc0 Hs0 Hh0 Hr0]
  · isplitl [Hc0]; · iexact Hc0
    iexists _; isplitl [Hs0]; · iexact Hs0
    iapply (copy_split c W (Ring.sl 3 t.val) (Ring.bk 224 t.val)).2; isplitl [Hh0]; · iexact Hh0
    iexact Hr0
  isplitl [Hc1 Hr1]
  · iexists _; isplitl [Hc1]; · iexact Hc1
    iexact Hr1
  isplitl [Hc2 Hr2]
  · iexists _; isplitl [Hc2]; · iexact Hc2
    iexact Hr2
  iexists _; iexact HW

end Cert.Kernel3Ideal.Experts

end
-- ==== Proof.Experts.Kernel3Ideal.RunMid.lean ====
/-
  The body at a point in the middle: the tile two ahead is started, this tile is waited for.
-/
module

public import proofs.«01_k».proof.Proof.Experts.Kernel3Ideal.Point

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- Another expert than at the point before: its weights are cast first. -/
theorem run_mid_load (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : k0_cond5 (grid0.coords t) (usedW T1) = 1#1) (ht : t.val + 2 < 224) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ comingP c W (Ring.sl 3 t.val) (Ring.bk 224 t.val) ∗ freeP c W (Ring.sl 3 (t.val + 2)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ comingP c W (Ring.sl 3 (t.val + 2)) (Ring.bk 224 (t.val + 2)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val + 2 < 224) := ⟨ht⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨%ff0, Hf0, Hrf0⟩, ⟨Hc2, ⟨%ff2, Hs2, Hw2⟩⟩, HW, Hk⟩
  ihave Hsp2 := (copy_split c W (Ring.sl 3 (t.val + 2)) (Ring.bk 224 (t.val + 2))).1 $$ Hw2
  icases Hsp2 with ⟨Hh2, Hr2⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  isplitl [Hc2 Hr2]
  · iexists _; isplitl [Hc2]; · iexact Hc2
    iexact Hr2
  iexists _; iexact HW

set_option maxHeartbeats 8000000 in
/-- The same expert as at the point before: the cast weights are used again. -/
theorem run_mid_keep (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : k0_cond5 (grid0.coords t) (usedW T1) = 1#1) (ht : t.val + 2 < 224) (hl : ¬loadsW (grid0.coords t) T0)
    (x0 : Vec F S1x1x1024x256 .f32) (x1 : Vec F S1x1x1024x256 .f32) (x2 : Vec F S1x1x256x1024 .f32) (W : Held (F := F) c tokM) (g u : Vec F S1024x256 .bf16) (d : Vec F S256x1024 .bf16) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ owns (c : Thread nD τ) gateM fullShare g ∗ owns (c : Thread nD τ) upM fullShare u ∗ owns (c : Thread nD τ) downM fullShare d ∗ comingP c W (Ring.sl 3 t.val) (Ring.bk 224 t.val) ∗ freeP c W (Ring.sl 3 (t.val + 2)) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) g u d) ∗ expertsP c T0 ∗ miscP c T1 ∗ owns (c : Thread nD τ) gateM fullShare g ∗ owns (c : Thread nD τ) upM fullShare u ∗ owns (c : Thread nD τ) downM fullShare d ∗ freeP c W (Ring.sl 3 t.val) ∗ comingP c W (Ring.sl 3 (t.val + 2)) (Ring.bk 224 (t.val + 2)) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  haveI : Fact (t.val + 2 < 224) := ⟨ht⟩
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%fs0, %hs0, HS0⟩, ⟨%fs1, %hs1, HS1⟩, ⟨%fs2, %hs2, HS2⟩, ⟨%ff0, Hf0, Hrf0⟩, ⟨Hc2, ⟨%ff2, Hs2, Hw2⟩⟩, HW, Hk⟩
  ihave Hsp2 := (copy_split c W (Ring.sl 3 (t.val + 2)) (Ring.bk 224 (t.val + 2))).1 $$ Hw2
  icases Hsp2 with ⟨Hh2, Hr2⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readAt_full _ _ _).trans hs0) ((View.readAt_full _ _ _).trans hs1) ((View.readAt_full _ _ _).trans hs2))
  isplitl [HT0]; · iexact HT0
  isplitl [HT1]; · iexact HT1
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  isplitl [Hc2 Hr2]
  · iexists _; isplitl [Hc2]; · iexact Hc2
    iexact Hr2
  iexists _; iexact HW

end Cert.Kernel3Ideal.Experts

end
-- ==== Proof.Experts.Kernel3Ideal.RunLate.lean ====
/-
  The body at the last two tiles in use, where nothing more is started.
-/
module

public import proofs.«01_k».proof.Proof.Experts.Kernel3Ideal.Point

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- Another expert than at the point before: its weights are cast first. -/
theorem run_late_load (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : ¬k0_cond5 (grid0.coords t) (usedW T1) = 1#1) (hl : loadsW (grid0.coords t) T0)
    (x0 : Vec F S1x1x1024x256 .f32) (x1 : Vec F S1x1x1024x256 .f32) (x2 : Vec F S1x1x256x1024 .f32) (W : Held (F := F) c tokM) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ (∃ d, owns (c : Thread nD τ) gateM fullShare d) ∗ (∃ d, owns (c : Thread nD τ) upM fullShare d) ∗ (∃ d, owns (c : Thread nD τ) downM fullShare d) ∗ comingP c W (Ring.sl 3 t.val) (Ring.bk 224 t.val) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) (k0_pay2 x0) (k0_pay3 x1) (k0_pay4 x2)) ∗ expertsP c T0 ∗ miscP c T1 ∗ owns (c : Thread nD τ) gateM fullShare (k0_pay2 x0) ∗ owns (c : Thread nD τ) upM fullShare (k0_pay3 x1) ∗ owns (c : Thread nD τ) downM fullShare (k0_pay4 x2) ∗ freeP c W (Ring.sl 3 t.val) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%ds0, %fs0, -, HS0⟩, ⟨%ds1, %fs1, -, HS1⟩, ⟨%ds2, %fs2, -, HS2⟩, ⟨%ff0, Hf0, Hrf0⟩, HW, Hk⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readCov_full _ _ _ _ _).trans (congrArg k0_pay2 ((View.readAt_full _ _ _).trans hf0))) ((View.readCov_full _ _ _ _ _).trans (congrArg k0_pay3 ((View.readAt_full _ _ _).trans hf1))) ((View.readCov_full _ _ _ _ _).trans (congrArg k0_pay4 ((View.readAt_full _ _ _).trans hf2))))
  isplitl [HT0]; · iexact HT0
  isplitl [HT1]; · iexact HT1
  isplitl [HS0]
  · iexists _; isplitr; swap; · iexact HS0
    ipureintro; exact (View.read_writes_full _ _ _ _ _).trans (congrArg k0_pay2 ((View.readAt_full _ _ _).trans hf0))
  isplitl [HS1]
  · iexists _; isplitr; swap; · iexact HS1
    ipureintro; exact (View.read_writes_full _ _ _ _ _).trans (congrArg k0_pay3 ((View.readAt_full _ _ _).trans hf1))
  isplitl [HS2]
  · iexists _; isplitr; swap; · iexact HS2
    ipureintro; exact (View.read_writes_full _ _ _ _ _).trans (congrArg k0_pay4 ((View.readAt_full _ _ _).trans hf2))
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  iexists _; iexact HW

set_option maxHeartbeats 8000000 in
/-- The same expert as at the point before: the cast weights are used again. -/
theorem run_late_keep (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : k0_cond4 (grid0.coords t) (usedW T1) = 1#1) (h5 : ¬k0_cond5 (grid0.coords t) (usedW T1) = 1#1) (hl : ¬loadsW (grid0.coords t) T0)
    (x0 : Vec F S1x1x1024x256 .f32) (x1 : Vec F S1x1x1024x256 .f32) (x2 : Vec F S1x1x256x1024 .f32) (W : Held (F := F) c tokM) (g u : Vec F S1024x256 .bf16) (d : Vec F S256x1024 .bf16) :
      ∀ (Ws : Waits sig Unit) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ expertsP c T0 ∗ miscP c T1 ∗ owns (c : Thread nD τ) gateM fullShare g ∗ owns (c : Thread nD τ) upM fullShare u ∗ owns (c : Thread nD τ) downM fullShare d ∗ comingP c W (Ring.sl 3 t.val) (Ring.bk 224 t.val) ∗ owes (c : Thread nD τ) 0 Ws
            ∗ (iprop(owns (c : Thread nD τ) arg4 fullShare x0 ∗ owns (c : Thread nD τ) arg5 fullShare x1 ∗ owns (c : Thread nD τ) arg6 fullShare x2 ∗ owns (c : Thread nD τ) arg7 fullShare (outV (tileV c W (Ring.bk 224 t.val)) g u d) ∗ expertsP c T0 ∗ miscP c T1 ∗ owns (c : Thread nD τ) gateM fullShare g ∗ owns (c : Thread nD τ) upM fullShare u ∗ owns (c : Thread nD τ) downM fullShare d ∗ freeP c W (Ring.sl 3 t.val) ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  have hT0 : expM.IsWhole := Memref.isWhole_whole _
  have hT1 : miscM.IsWhole := Memref.isWhole_whole _
  simp only [cc0_moe_ffn_eq_skeleton]; unfold cc0_moe_ffn_skel
  simp only [k0_part1_eq_skeleton]
  have hcanon0 := now_slot t
  unfold owns expertsP miscP freeP comingP Ring.free Ring.inflight
  iintro ⟨⟨%f0, %hf0, H0⟩, ⟨%f1, %hf1, H1⟩, ⟨%f2, %hf2, H2⟩, ⟨%d3, %f3, -, H3⟩, HT0, HT1, ⟨%fs0, %hs0, HS0⟩, ⟨%fs1, %hs1, HS1⟩, ⟨%fs2, %hs2, HS2⟩, ⟨%ff0, Hf0, Hrf0⟩, HW, Hk⟩
  obtain rfl := harg4.eq_unread hf0; obtain rfl := harg5.eq_unread hf1; obtain rfl := harg6.eq_unread hf2
  sl_exec (disch := first | sl_exact hw | sl_exact h1 | sl_exact h4 | sl_exact h5 | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full _ _ _ _ _).trans (outV_of _ (arrived_load _ _ _) (arrived_load _ _ _) (arrived_load _ _ _)
      ((View.readAt_full _ _ _).trans hs0) ((View.readAt_full _ _ _).trans hs1) ((View.readAt_full _ _ _).trans hs2))
  isplitl [HT0]; · iexact HT0
  isplitl [HT1]; · iexact HT1
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  isplitl [Hf0 Hf0_dst Hf0_src Hrf0]
  · isplitl [Hf0]; · iexact Hf0
    iexists _; isplitl [Hf0_dst]; · iexact Hf0_dst
    iapply (copy_split c W (Ring.sl 3 t.val) (Ring.bk 224 t.val)).2; isplitl [Hf0_src]; · iexact Hf0_src
    iexact Hrf0
  iexists _; iexact HW

end Cert.Kernel3Ideal.Experts

end
-- ==== Proof.Experts.Kernel3Ideal.RunIdle.lean ====
/-
  The body past the tiles in use: it reads the number of tiles and does nothing.
-/
module

public import proofs.«01_k».proof.Proof.Experts.Kernel3Ideal.Point

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A point past the tiles in use. -/
theorem run_idle (c : Dev nD) (t : Fin grid0.N) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole)
    (T0 : S256.Idx → Elt F .i32) (T1 : S1024.Idx → Elt F .i32)
    (hw : k0_chk1 (grid0.coords t) (usedW T1)) (h1 : ¬k0_cond1 (grid0.coords t) = 1#1) (h4 : ¬k0_cond4 (grid0.coords t) (usedW T1) = 1#1)
    :
      ∀ (Ws : Waits sig Unit) (K : PUnit → sProp 𝕄),
        iprop(expertsP c T0 ∗ miscP c T1 ∗ owes (c : Thread nD τ) 0 Ws
            ∗ (iprop(expertsP c T0 ∗ miscP c T1 ∗ (∃ W', owes (c : Thread nD τ) 0 W')) -∗ K ⟨⟩))
          ⊢ wp frame (wpE (defs₀ (F := F)) Variants.none c none) Set.univ (cc0_moe_ffn (grid0.coords t) expM (Memref.isWhole_whole _) miscM (Memref.isWhole_whole _) tokM (Memref.isWhole_whole _) arg4 harg4 arg5 harg5 arg6 harg6 arg7 harg7 gateM (Memref.isWhole_whole _) upM (Memref.isWhole_whole _) downM (Memref.isWhole_whole _) slotsM (Memref.isWhole_whole _) cc0_scratch4) K := by
  intro Ws K
  have hT0 : expM.IsWhole := Memref.isWhole_whole _
  have hT1 : miscM.IsWhole := Memref.isWhole_whole _
  simp only [cc0_moe_ffn_eq_skeleton]; unfold cc0_moe_ffn_skel
  simp only [k0_part1_eq_skeleton]
  unfold expertsP miscP
  iintro ⟨HT0, HT1, HW, Hk⟩
  sl_exec (disch := first | sl_exact hw | sl_exact h1 | sl_exact h4)
  sl_step
  iapply Hk
  isplitl [HT0]; · iexact HT0
  isplitl [HT1]; · iexact HT1
  iexists _; iexact HW

end Cert.Kernel3Ideal.Experts

end
-- ==== Proof.Experts.Kernel3Ideal.Body.lean ====
/-
  One grid point's step: from what is held before a point, the body runs to what is held after it, on each of the
  paths its tests can take.
-/
module

public import proofs.«01_k».proof.Proof.Experts.Kernel3Ideal.Data
public import proofs.«01_k».proof.Proof.Experts.Kernel3Ideal.RunFirst
public import proofs.«01_k».proof.Proof.Experts.Kernel3Ideal.RunMid
public import proofs.«01_k».proof.Proof.Experts.Kernel3Ideal.RunLate
public import proofs.«01_k».proof.Proof.Experts.Kernel3Ideal.RunIdle

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hr : InRange m)

/-! ## The ring and the weights at a point -/

omit [FloatOps F] in
theorem ring_first (c : Dev nD) (W : Held (F := F) c tokM) (n k : ℕ) (h : k = 0) :
    ringP c W n (min k n) = iprop(freeP c W (Ring.sl 3 k) ∗ freeP c W (Ring.sl 3 (k + 1)) ∗ freeP c W (Ring.sl 3 (k + 2))) := by
  subst h; rw [Nat.zero_min, ringP_zero]; rfl
omit [FloatOps F] in
theorem ring_here (c : Dev nD) (W : Held (F := F) c tokM) (n k : ℕ) (h : k ≠ 0) (hk : k < n) :
    ringP c W n (min k n) = iprop(comingP c W (Ring.sl 3 k) (Ring.bk 224 k) ∗ roleP c W n k 1 ∗ freeP c W (Ring.sl 3 (k + 2))) := by
  rw [Nat.min_eq_left (Nat.le_of_lt hk), ringP_pos c W n h, roleP_in c W (by omega)]; rfl
omit [FloatOps F] in
theorem ring_next (c : Dev nD) (W : Held (F := F) c tokM) (n k : ℕ) (hk : k < n) :
    ringP c W n (min (k + 1) n) = iprop(roleP c W n k 1 ∗ roleP c W n k 2 ∗ freeP c W (Ring.sl 3 k)) := by
  rw [Nat.min_eq_left hk, ringP_pos c W n (by omega), show Ring.sl 3 (k + 1 + 2) = Ring.sl 3 k from Fin.ext (by show (k + 1 + 2) % 3 = k % 3; omega)]
  rfl

theorem upto_here (t : Fin (cfgA m hr).N) (h : t.val < used m) : upto m hr t.val = t :=
  Fin.ext (by rw [upto_val]; omega)

theorem weights_any (c : Dev nD) (k : ℕ) : weightsP m hr c k
    ⊢ iprop((∃ d, owns (c : Thread nD τ) gateM fullShare d) ∗ (∃ d, owns (c : Thread nD τ) upM fullShare d) ∗ (∃ d, owns (c : Thread nD τ) downM fullShare d)) := by
  unfold weightsP
  split
  · exact .rfl
  · iintro ⟨H0, H1, H2⟩
    isplitl [H0]; · iexists _; iexact H0
    isplitl [H1]; · iexists _; iexact H1
    iexists _; iexact H2

theorem weights_next (c : Dev nD) (t : Fin (cfgA m hr).N) (h : t.val < used m) : weightsP m hr c (t.val + 1)
    = iprop(owns (c : Thread nD τ) gateM fullShare (k0_pay2 (gateB m hr c t)) ∗ owns (c : Thread nD τ) upM fullShare (k0_pay3 (upB m hr c t)) ∗ owns (c : Thread nD τ) downM fullShare (k0_pay4 (downB m hr c t))) := by
  unfold weightsP
  rw [if_neg (by omega), Nat.add_sub_cancel, upto_here m hr t h]

/-- Where a point casts no weights its expert is the last point's. -/
theorem same_expert (t : Fin (cfgA m hr).N) (h : t.val < used m) (hl : ¬loadsW (grid0.coords t) (T0of m)) :
    t.val ≠ 0 ∧ expertOf m t = expertOf m (upto m hr (t.val - 1)) := by
  rw [loadsW_iff, not_or, not_not] at hl
  refine ⟨hl.1, ?_⟩
  have e : (upto m hr (t.val - 1)).val = t.val - 1 := by rw [upto_val]; omega
  unfold expertOf
  rw [hl.2]
  simp only [e]

theorem weights_keep (c : Dev nD) (t : Fin (cfgA m hr).N) (h : t.val < used m) (hl : ¬loadsW (grid0.coords t) (T0of m)) : weightsP m hr c t.val
    = iprop(owns (c : Thread nD τ) gateM fullShare (k0_pay2 (gateB m hr c t)) ∗ owns (c : Thread nD τ) upM fullShare (k0_pay3 (upB m hr c t)) ∗ owns (c : Thread nD τ) downM fullShare (k0_pay4 (downB m hr c t))) := by
  obtain ⟨h0, he⟩ := same_expert m hr t h hl
  obtain ⟨e0, e1, e2⟩ := iblk_same m hr c t (upto m hr (t.val - 1)) he
  unfold weightsP
  rw [if_neg h0, e0, e1, e2]

theorem weights_idle (c : Dev nD) (t : Fin (cfgA m hr).N) (h : used m ≤ t.val) : weightsP m hr c (t.val + 1) = weightsP m hr c t.val := by
  have hp := used_pos m hr
  unfold weightsP
  rw [if_neg (by omega), if_neg (by omega), Nat.add_sub_cancel, upto_idle m hr t h]

/-! ## The body at a point -/

abbrev ms0 (t : Fin (cfgA m hr).N) : Memref sig .tc .vmem S1x1x1024x256 .f32 := spec0_0.stage ((cfgA m hr).slots t (0 : Fin 4))
abbrev hs0 (t : Fin (cfgA m hr).N) : (ms0 m hr t).IsWhole := hstage0_0 (((cfgA m hr).slots t (0 : Fin 4)).cast nbuf0_0)
abbrev ms1 (t : Fin (cfgA m hr).N) : Memref sig .tc .vmem S1x1x1024x256 .f32 := spec0_1.stage ((cfgA m hr).slots t (1 : Fin 4))
abbrev hs1 (t : Fin (cfgA m hr).N) : (ms1 m hr t).IsWhole := hstage0_1 (((cfgA m hr).slots t (1 : Fin 4)).cast nbuf0_1)
abbrev ms2 (t : Fin (cfgA m hr).N) : Memref sig .tc .vmem S1x1x256x1024 .f32 := spec0_2.stage ((cfgA m hr).slots t (2 : Fin 4))
abbrev hs2 (t : Fin (cfgA m hr).N) : (ms2 m hr t).IsWhole := hstage0_2 (((cfgA m hr).slots t (2 : Fin 4)).cast nbuf0_2)
abbrev ms3 (t : Fin (cfgA m hr).N) : Memref sig .tc .vmem S1024x1024 .bf16 := spec0_3.stage ((cfgA m hr).slots t (3 : Fin 4))
abbrev hs3 (t : Fin (cfgA m hr).N) : (ms3 m hr t).IsWhole := hstage0_3 (((cfgA m hr).slots t (3 : Fin 4)).cast nbuf0_3)

abbrev bodyAt (t : Fin (cfgA m hr).N) : Prog (TpuEff nD τ sig (Elt F) Λ₀ .tc) PUnit :=
  cc0_moe_ffn (grid0.coords t) expM (Memref.isWhole_whole _) miscM (Memref.isWhole_whole _) tokM (Memref.isWhole_whole _) (ms0 m hr t) (hs0 m hr t) (ms1 m hr t) (hs1 m hr t) (ms2 m hr t) (hs2 m hr t) (ms3 m hr t) (hs3 m hr t) gateM (Memref.isWhole_whole _) upM (Memref.isWhole_whole _) downM (Memref.isWhole_whole _) slotsM (Memref.isWhole_whole _) cc0_scratch4

/-- What the four windows hold as the body starts, -/
def winsPre (c : Dev nD) (t : Fin (cfgA m hr).N) : sProp 𝕄 :=
  iprop(owns (c : Thread nD τ) (ms0 m hr t) fullShare (gateB m hr c t) ∗ owns (c : Thread nD τ) (ms1 m hr t) fullShare (upB m hr c t)
    ∗ owns (c : Thread nD τ) (ms2 m hr t) fullShare (downB m hr c t) ∗ (∃ d, owns (c : Thread nD τ) (ms3 m hr t) fullShare d))
/-- and as it ends, at a tile in use. -/
def winsPost (c : Dev nD) (t : Fin (cfgA m hr).N) : sProp 𝕄 :=
  iprop(owns (c : Thread nD τ) (ms0 m hr t) fullShare (gateB m hr c t) ∗ owns (c : Thread nD τ) (ms1 m hr t) fullShare (upB m hr c t)
    ∗ owns (c : Thread nD τ) (ms2 m hr t) fullShare (downB m hr c t) ∗ owns (c : Thread nD τ) (ms3 m hr t) fullShare (blockV m hr c t))

set_option maxHeartbeats 4000000 in
/-- The first point, when one tile is in use; -/
theorem step_first_one (c : Dev nD) (t : Fin (cfgA m hr).N) (h0 : t.val = 0) (hn : used m = 1) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_first c _ _ _ h0, ring_next c _ _ _ (show t.val < used m by omega), weights_next m hr c t (by omega), roleP_out c _ (k := t.val) (j := 1) (by omega), roleP_out c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_first_one c t (ms0 m hr t) (hs0 m hr t) (ms1 m hr t) (hs1 m hr t) (ms2 m hr t) (hs2 m hr t) (ms3 m hr t) (hs3 m hr t) (T0of m) (T1of m)
    (chk1_of t _ (by rw [hv]; exact hle))
    ((cond1_iff t).mpr h0)
    ((moreW_iff (T1of m) 0 (by decide) (by rw [hv']; exact hle)).mpr (by rw [hv']; omega))
    (fun h => absurd ((moreW_iff (T1of m) 1 (by decide) (by rw [hv']; exact hle)).mp h) (by rw [hv']; omega))
    h0
    ((cond4_iff t _ (by rw [hv]; exact hle)).mpr (by rw [hv]; omega))
    (fun h => absurd ((cond5_iff t _ (by rw [hv]; exact hle)).mp h) (by rw [hv]; omega))
    ((loadsW_iff t (T0of m)).mpr (Or.inl h0))
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HW]; · iexact HW
  iintro ⟨H0, H1, H2, H3, HT0, HT1, HS0, HS1, HS2, HR0, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- when two are; -/
theorem step_first_two (c : Dev nD) (t : Fin (cfgA m hr).N) (h0 : t.val = 0) (hn : used m = 2) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_first c _ _ _ h0, ring_next c _ _ _ (show t.val < used m by omega), weights_next m hr c t (by omega), roleP_in c _ (k := t.val) (j := 1) (by omega), roleP_out c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_first_two c t (ms0 m hr t) (hs0 m hr t) (ms1 m hr t) (hs1 m hr t) (ms2 m hr t) (hs2 m hr t) (ms3 m hr t) (hs3 m hr t) (T0of m) (T1of m)
    (chk1_of t _ (by rw [hv]; exact hle))
    ((cond1_iff t).mpr h0)
    ((moreW_iff (T1of m) 0 (by decide) (by rw [hv']; exact hle)).mpr (by rw [hv']; omega))
    ((moreW_iff (T1of m) 1 (by decide) (by rw [hv']; exact hle)).mpr (by rw [hv']; omega))
    h0
    ((cond4_iff t _ (by rw [hv]; exact hle)).mpr (by rw [hv]; omega))
    (fun h => absurd ((cond5_iff t _ (by rw [hv]; exact hle)).mp h) (by rw [hv]; omega))
    ((loadsW_iff t (T0of m)).mpr (Or.inl h0))
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR1]; · iexact HR1
  isplitl [HW]; · iexact HW
  iintro ⟨H0, H1, H2, H3, HT0, HT1, HS0, HS1, HS2, HR0, HR1, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- when more are. -/
theorem step_first_more (c : Dev nD) (t : Fin (cfgA m hr).N) (h0 : t.val = 0) (hn : 2 < used m) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_first c _ _ _ h0, ring_next c _ _ _ (show t.val < used m by omega), weights_next m hr c t (by omega), roleP_in c _ (k := t.val) (j := 1) (by omega), roleP_in c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_first_more c t (ms0 m hr t) (hs0 m hr t) (ms1 m hr t) (hs1 m hr t) (ms2 m hr t) (hs2 m hr t) (ms3 m hr t) (hs3 m hr t) (T0of m) (T1of m)
    (chk1_of t _ (by rw [hv]; exact hle))
    ((cond1_iff t).mpr h0)
    ((moreW_iff (T1of m) 0 (by decide) (by rw [hv']; exact hle)).mpr (by rw [hv']; omega))
    ((moreW_iff (T1of m) 1 (by decide) (by rw [hv']; exact hle)).mpr (by rw [hv']; omega))
    h0
    ((cond4_iff t _ (by rw [hv]; exact hle)).mpr (by rw [hv]; omega))
    ((cond5_iff t _ (by rw [hv]; exact hle)).mpr (by rw [hv]; omega))
    (by omega)
    ((loadsW_iff t (T0of m)).mpr (Or.inl h0))
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR1]; · iexact HR1
  isplitl [HR2]; · iexact HR2
  isplitl [HW]; · iexact HW
  iintro ⟨H0, H1, H2, H3, HT0, HT1, HS0, HS1, HS2, HR0, HR1, HR2, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- A later point with a tile to copy ahead, at a new expert; -/
theorem step_mid_load (c : Dev nD) (t : Fin (cfgA m hr).N) (h0 : t.val ≠ 0) (hn : t.val + 2 < used m) (hl : loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), roleP_in c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_mid_load c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    ((cond5_iff t _ (by rw [hv]; exact hle)).mpr (by rw [hv]; omega))
    (by omega)
    hl
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR2]; · iexact HR2
  isplitl [HW]; · iexact HW
  iintro ⟨H0, H1, H2, H3, HT0, HT1, HS0, HS1, HS2, HR0, HR2, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- at the last point's expert. -/
theorem step_mid_keep (c : Dev nD) (t : Fin (cfgA m hr).N) (h0 : t.val ≠ 0) (hn : t.val + 2 < used m) (hl : ¬loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), weights_keep m hr c t (by omega) hl, roleP_in c _ (k := t.val) (j := 2) (by omega)]
  iintro ⟨⟨HS, Hg, ⟨HR0, HR1, HR2⟩, HT0, HT1⟩, HW, H0, H1, H2, H3⟩
  icases HS with ⟨HS0, HS1, HS2⟩
  iapply (run_mid_keep c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    ((cond5_iff t _ (by rw [hv]; exact hle)).mpr (by rw [hv]; omega))
    (by omega)
    hl
    (gateB m hr c t) (upB m hr c t) (downB m hr c t) (tokW m c)
    (k0_pay2 (gateB m hr c t)) (k0_pay3 (upB m hr c t)) (k0_pay4 (downB m hr c t))
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HR2]; · iexact HR2
  isplitl [HW]; · iexact HW
  iintro ⟨H0, H1, H2, H3, HT0, HT1, HS0, HS1, HS2, HR0, HR2, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- One of the last two tiles in use, at a new expert; -/
theorem step_late_load (c : Dev nD) (t : Fin (cfgA m hr).N) (h0 : t.val ≠ 0) (ht : t.val < used m) (hn : ¬t.val + 2 < used m) (hl : loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), roleP_out c _ (k := t.val) (j := 2) (by omega)]
  iintro ⟨⟨HS, Hg, ⟨HR0, HR1, HR2⟩, HT0, HT1⟩, HW, H0, H1, H2, H3⟩
  ihave HS' := (weights_any m hr c t.val) $$ HS
  icases HS' with ⟨HS0, HS1, HS2⟩
  iapply (run_late_load c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    (fun h => absurd ((cond5_iff t _ (by rw [hv]; exact hle)).mp h) (by rw [hv]; omega))
    hl
    (gateB m hr c t) (upB m hr c t) (downB m hr c t) (tokW m c)
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HW]; · iexact HW
  iintro ⟨H0, H1, H2, H3, HT0, HT1, HS0, HS1, HS2, HR0, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

set_option maxHeartbeats 4000000 in
/-- at the last point's expert. -/
theorem step_late_keep (c : Dev nD) (t : Fin (cfgA m hr).N) (h0 : t.val ≠ 0) (ht : t.val < used m) (hn : ¬t.val + 2 < used m) (hl : ¬loadsW (grid0.coords t) (T0of m)) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  have hle := used_le m hr
  have hp := used_pos m hr
  have hN : t.val < 224 := t.isLt
  have hv : (usedW (T1of m) : BitVec 32).toNat = used m := congrArg BitVec.toNat (usedW_eq (F := F) (T1of m))
  have hv' : (T1of m (ix1 256) : BitVec 32).toNat = used m := rfl
  unfold stateP winsPre winsPost
  rw [ring_here c _ _ _ h0 (show t.val < used m by omega), ring_next c _ _ _ (show t.val < used m by omega), weights_next m hr c t (by omega), weights_keep m hr c t (by omega) hl, roleP_out c _ (k := t.val) (j := 2) (by omega)]
  iintro ⟨⟨HS, Hg, ⟨HR0, HR1, HR2⟩, HT0, HT1⟩, HW, H0, H1, H2, H3⟩
  icases HS with ⟨HS0, HS1, HS2⟩
  iapply (run_late_keep c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => h0 ((cond1_iff t).mp h))
    ((cond4_iff t _ (by rw [hv]; exact hle)).mpr (by rw [hv]; omega))
    (fun h => absurd ((cond5_iff t _ (by rw [hv]; exact hle)).mp h) (by rw [hv]; omega))
    hl
    (gateB m hr c t) (upB m hr c t) (downB m hr c t) (tokW m c)
    (k0_pay2 (gateB m hr c t)) (k0_pay3 (upB m hr c t)) (k0_pay4 (downB m hr c t))
    Ws _)
  isplitl [H0]; · iexact H0
  isplitl [H1]; · iexact H1
  isplitl [H2]; · iexact H2
  isplitl [H3]; · iexact H3
  isplitl [HT0]; · iexact HT0
  isplitl [HT1]; · iexact HT1
  isplitl [HS0]; · iexact HS0
  isplitl [HS1]; · iexact HS1
  isplitl [HS2]; · iexact HS2
  isplitl [HR0]; · iexact HR0
  isplitl [HW]; · iexact HW
  iintro ⟨H0, H1, H2, H3, HT0, HT1, HS0, HS1, HS2, HR0, HW⟩
  isplitl [HS0 HS1 HS2 Hg HR0 HR1 HR2 HT0 HT1]
  · isplitl [HS0 HS1 HS2]
    · isplitl [HS0]; · iexact HS0
      isplitl [HS1]; · iexact HS1
      iexact HS2
    isplitl [Hg]; · iexact Hg
    isplitl [HR0 HR1 HR2]
    · isplitl [HR1]; · iexact HR1
      isplitl [HR2]; · iexact HR2
      iexact HR0
    isplitl [HT0]; · iexact HT0
    iexact HT1
  isplitl [HW]; · iexact HW
  isplitl [H0]; · iexact H0
  isplitl [H1]; · iexact H1
  isplitl [H2]; · iexact H2
  iexact H3

/-- Any tile in use. -/
theorem step_live (c : Dev nD) (t : Fin (cfgA m hr).N) (ht : t.val < used m) (Ws : Waits sig Unit) :
    iprop(stateP m hr c t.val ∗ owes (c : Thread nD τ) 0 Ws ∗ winsPre m hr c t)
      ⊢ wp frame (wpE (defs₀ (F := F)) Variants.none c none) Set.univ (bodyAt m hr t) fun _ =>
          iprop(stateP m hr c (t.val + 1) ∗ (∃ W', owes (c : Thread nD τ) 0 W') ∗ winsPost m hr c t) := by
  by_cases h0 : t.val = 0
  · by_cases h1 : used m = 1
    · exact step_first_one m hr c t h0 h1 Ws
    by_cases h2 : used m = 2
    · exact step_first_two m hr c t h0 h2 Ws
    exact step_first_more m hr c t h0 (by omega) Ws
  by_cases hn : t.val + 2 < used m
  · by_cases hl : loadsW (grid0.coords t) (T0of m)
    · exact step_mid_load m hr c t h0 hn hl Ws
    exact step_mid_keep m hr c t h0 hn hl Ws
  by_cases hl : loadsW (grid0.coords t) (T0of m)
  · exact step_late_load m hr c t h0 ht hn hl Ws
  exact step_late_keep m hr c t h0 ht hn hl Ws

set_option maxHeartbeats 4000000 in
/-- A point past the tiles in use, which touches nothing. -/
theorem step_idle (c : Dev nD) (t : Fin (cfgA m hr).N) (ht : used m ≤ t.val) (Ws : Waits sig Unit) (R : sProp 𝕄) :
    iprop(stateP m hr c t.val ∗ owes (c : Thread nD τ) 0 Ws ∗ R)
      ⊢ wp frame (wpE (defs₀ (F := F)) Variants.none c none) Set.univ (bodyAt m hr t) fun _ =>
          iprop(stateP m hr c (t.val + 1) ∗ (∃ W', owes (c : Thread nD τ) 0 W') ∗ R) := by
  have hle := used_le m hr
  have hp := used_pos m hr
  have hv : (usedW (T1of m) : BitVec 32).toNat = used m := congrArg BitVec.toNat (usedW_eq (F := F) (T1of m))
  unfold stateP
  rw [weights_idle m hr c t ht, Nat.min_eq_right (show used m ≤ t.val + 1 by omega), Nat.min_eq_right ht]
  iintro ⟨⟨HS, Hg, HR, HT0, HT1⟩, HW, HX⟩
  iapply (run_idle c t (ms0 m hr t) (hs0 m hr t) (ms1 m hr t) (hs1 m hr t) (ms2 m hr t) (hs2 m hr t) (ms3 m hr t) (hs3 m hr t) (T0of m) (T1of m)
    (chk1_of t _ (by rw [hv]; exact hle))
    (fun h => absurd ((cond1_iff t).mp h) (by omega))
    (fun h => absurd ((cond4_iff t _ (by rw [hv]; exact hle)).mp h) (by rw [hv]; omega)) Ws _)
  isplitl [HT0]; · iexact HT0
  isplitl [HT1]; · iexact HT1
  isplitl [HW]; · iexact HW
  iintro ⟨HT0, HT1, HW⟩
  isplitl [HS Hg HR HT0 HT1]
  · isplitl [HS]; · iexact HS
    isplitl [Hg]; · iexact Hg
    isplitl [HR]; · iexact HR
    isplitl [HT0]; · iexact HT0
    iexact HT1
  isplitl [HW]; · iexact HW
  iexact HX

/-- What the launch asks of the body at a point. -/
theorem body_at (c : Dev nD) (t : Fin (cfgA m hr).N) :
    iprop((dats m hr 0 c).Φ t.castSucc ∗ (dats m hr 0 c).owesAt () t.castSucc
        ∗ (∃ d, owns (c : Thread nD τ) (ms0 m hr t) fullShare ((dats m hr 0 c).before (0 : Fin 4) t d))
        ∗ (∃ d, owns (c : Thread nD τ) (ms1 m hr t) fullShare ((dats m hr 0 c).before (1 : Fin 4) t d))
        ∗ (∃ d, owns (c : Thread nD τ) (ms2 m hr t) fullShare ((dats m hr 0 c).before (2 : Fin 4) t d))
        ∗ (∃ d, owns (c : Thread nD τ) (ms3 m hr t) fullShare ((dats m hr 0 c).before (3 : Fin 4) t d)))
      ⊢ wp frame (wpE (defs₀ (F := F)) Variants.none c none) Set.univ (bodyAt m hr t) fun _ =>
          iprop((dats m hr 0 c).Φ t.succ ∗ (dats m hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m hr 0 c).before w t d))
                  | true => owns (c : Thread nD τ) (((cfgA m hr).win w).stage ((cfgA m hr).slots t w)) fullShare ((dats m hr 0 c).after w t)
                | false => owns (c : Thread nD τ) (((cfgA m hr).win w).stage ((cfgA m hr).slots t w)) fullShare ((dats m hr 0 c).after w t)) := by
  have hle := used_le m hr
  have hp := used_pos m hr
  have hN : t.val < 224 := t.isLt
  rw [bigSep_W0, show (dats m hr 0 c).Φ t.castSucc = stateP m hr c t.val from rfl, show (dats m hr 0 c).Φ t.succ = stateP m hr c (t.val + 1) from rfl]
  unfold Dat.owesAt Pipeline.owesWithin
  rw [show (dats m hr 0 c).owed t.castSucc = 0 from rfl, show (dats m hr 0 c).owed t.succ = 0 from rfl]
  have hi := idle3 m hr t
  by_cases ht : t.val < used m
  · rw [decide_eq_false (by omega)] at hi
    rewrite [hi]
    simp only [before0, before1, before2, after0, after1, after2, after3, upto_here m hr t ht]
    iintro ⟨HΦ, ⟨%Ws, -, HW⟩, ⟨%d0, H0⟩, ⟨%d1, H1⟩, ⟨%d2, H2⟩, ⟨%d3, H3⟩⟩
    iapply (wp_wand_r Idealize.ShloMosaic.frame _ Set.univ)
    isplitl [HΦ HW H0 H1 H2 H3]
    · iapply (step_live m hr c t ht Ws)
      isplitl [HΦ]; · iexact HΦ
      isplitl [HW]; · iexact HW
      unfold winsPre
      isplitl [H0]; · iexact H0
      isplitl [H1]; · iexact H1
      isplitl [H2]; · iexact H2
      iexists _; iexact H3
    unfold winsPost
    iintro %_ ⟨HΦ, ⟨%W', HW⟩, H0, H1, H2, H3⟩
    isplitl [HΦ]; · iexact HΦ
    isplitl [HW]
    · iexists W'; isplitr
      · ipureintro; exact fun _ _ => Or.inl trivial
      iexact HW
    isplitl [H0]; · iexact H0
    isplitl [H1]; · iexact H1
    isplitl [H2]; · iexact H2
    iexact H3
  · rw [decide_eq_true (by omega)] at hi
    rewrite [hi]
    have hf := flush3 m hr t
    simp only [before0, before1, before2, after0, after1, after2, after3]
    by_cases hl : t.val = 223
    · rw [decide_eq_true (Or.inr hl)] at hf
      simp only [hf, before3 m hr c t (by omega)]
      iintro ⟨HΦ, ⟨%Ws, -, HW⟩, ⟨%d0, H0⟩, ⟨%d1, H1⟩, ⟨%d2, H2⟩, ⟨%d3, H3⟩⟩
      iapply (wp_wand_r Idealize.ShloMosaic.frame _ Set.univ)
      isplitl [HΦ HW]
      · iapply (step_idle m hr c t (by omega) Ws iprop(emp))
        isplitl [HΦ]; · iexact HΦ
        isplitl [HW]; · iexact HW
        iempintro
      iintro %_ ⟨HΦ, ⟨%W', HW⟩, -⟩
      isplitl [HΦ]; · iexact HΦ
      isplitl [HW]
      · iexists W'; isplitr
        · ipureintro; exact fun _ _ => Or.inl trivial
        iexact HW
      isplitl [H0]; · iexact H0
      isplitl [H1]; · iexact H1
      isplitl [H2]; · iexact H2
      iexact H3
    · rw [decide_eq_false (by omega)] at hf
      simp only [hf]
      iintro ⟨HΦ, ⟨%Ws, -, HW⟩, ⟨%d0, H0⟩, ⟨%d1, H1⟩, ⟨%d2, H2⟩, ⟨%d3, H3⟩⟩
      iapply (wp_wand_r Idealize.ShloMosaic.frame _ Set.univ)
      isplitl [HΦ HW]
      · iapply (step_idle m hr c t (by omega) Ws iprop(emp))
        isplitl [HΦ]; · iexact HΦ
        isplitl [HW]; · iexact HW
        iempintro
      iintro %_ ⟨HΦ, ⟨%W', HW⟩, -⟩
      isplitl [HΦ]; · iexact HΦ
      isplitl [HW]
      · iexists W'; isplitr
        · ipureintro; exact fun _ _ => Or.inl trivial
        iexact HW
      isplitl [H0]; · iexact H0
      isplitl [H1]; · iexact H1
      isplitl [H2]; · iexact H2
      iexists d3; iexact H3

theorem body_obligation (c : Dev nD) : BodyObligation (dats m hr 0 c) (defs₀ (F := F)) Variants.none () Set.univ := fun t => by
  rw [bigSep_W0]
  exact body_at m hr c t

end Cert.Kernel3Ideal.Experts

end
-- ==== Proof.Experts.Kernel3Ideal.Launch.lean ====
/-
  The launch: from a memory whose tables are in range every run ends, with each argument as it was, every semaphore
  counter at zero, and the result holding what the points' blocks write.
-/
module

public import proofs.«01_k».proof.Proof.Experts.Kernel3Ideal.Body

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hr : InRange m)

/-- What a buffer holds as the run is launched. -/
abbrev V (c : Dev nD) (b : Ref sig .tc) : Buf (Elt F) ((c : Thread nD τ).loc b) := m ((c : Thread nD τ).loc b)

/-! ## What the launch hands the kernel besides its windows -/

/-- The kernel's own semaphore cells, -/
def ownSem : Fin 3 → SemLoc sig := ![SemLoc.dma 8, SemLoc.dma 9, SemLoc.dma 10]
theorem ownSem_facts : Pipeline.OwnSemFacts spec0 ownSem := by decide

theorem ownSems_eq (c : Dev nD) :
    (Pipeline.ownSems0 (Ix := Unit) (Name := ℕ) (U := Pipeline.UD sig nD τ) (Lvl := ℕ) (Val := Elt F) (τ := τ) ownSem c : sProp 𝕄) = semsP c := by
  rw [Pipeline.ownSems0_eq_of_list c ownSem [0, 1, 2] (by decide) (by decide)]; rfl

/-- the array it copies from, -/
def copied : Finset (Ref sig .tc) := {main_arg2}
theorem copied_sub : copied ⊆ Pipeline.restRefsP sig pre0 spec0 := by decide

theorem copied_eq (c : Dev nD) :
    (bigSep copied (fun b => ((c : Thread nD τ).loc b) ↦{fullShare} V m c b) : sProp 𝕄) = wholeAt c tokM (tokW m c) := by
  rw [BI.bigSep_eq_bigSepL_of_eq [main_arg2] (by decide) (by decide)]; rfl

/-- and the two tables. -/
theorem tables_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem handed_eq (c : Dev nD) :
    (Pipeline.ΦD ownSem spec0 copied (V m) c : sProp 𝕄)
      = iprop(iprop((∃ d, owns (c : Thread nD τ) gateM fullShare d) ∗ (∃ d, owns (c : Thread nD τ) upM fullShare d) ∗ (∃ d, owns (c : Thread nD τ) downM fullShare d)
            ∗ (∃ f : Buf (Elt F) ((c : Thread nD τ).loc cc0_scratch3), ((c : Thread nD τ).loc cc0_scratch3) ↦{fullShare} f))
          ∗ (∃ r, prngReg c r) ∗ semsP c ∗ wholeAt c tokM (tokW m c)) := by
  rw [Pipeline.ΦD_eq, scopedRest0_eq, ownSems_eq, copied_eq]
  simp only [owns_whole]
  try rfl

theorem tabs_at (c : Dev nD) (j : Fin 2) : V m c (pre0.ref j) = (adm m hr).1 j := by
  obtain rfl : c = (0 : Fin 1) := Subsingleton.elim (α := Fin 1) _ _
  fin_cases j <;> rfl

theorem launch_in (c : Dev nD) :
    iprop(Pipeline.ΦD ownSem spec0 copied (V m) c ∗ Pipeline.ΦT pre0 (adm m hr).1 c) ⊢ (dats m hr 0 c).Φ 0 := by
  unfold Pipeline.ΦT
  rw [handed_eq, tables_eq, show (dats m hr 0 c).Φ 0 = stateP m hr c 0 from rfl]
  unfold stateP weightsP
  rw [if_pos rfl, Nat.zero_min, ringP_zero]
  iintro ⟨⟨⟨HS0, HS1, HS2, HS3⟩, Hg, Hq, HW⟩, HT0, HT1⟩
  isplitl [HS0 HS1 HS2]
  · isplitl [HS0]; · iexact HS0
    isplitl [HS1]; · iexact HS1
    iexact HS2
  isplitl [Hg]; · iexact Hg
  isplitl [HS3 Hq HW]
  · iapply (ring_in (F := F) c (tokW m c))
    isplitl [HS3]; · iexact HS3
    isplitl [Hq]; · iexact Hq
    iexact HW
  unfold expertsP miscP
  rw [← tabs_at m hr c 0, ← tabs_at m hr c 1]
  obtain rfl : c = (0 : Fin 1) := Subsingleton.elim (α := Fin 1) _ _
  isplitl [HT0]; · iexact HT0
  iexact HT1

theorem launch_out (c : Dev nD) : (dats m hr 0 c).Φ (Fin.last (cfgA m hr).N) ⊢ Pipeline.ΦD ownSem spec0 copied (V m) c := by
  rw [handed_eq, show (dats m hr 0 c).Φ (Fin.last (cfgA m hr).N) = stateP m hr c 224 from rfl]
  unfold stateP
  rw [Nat.min_eq_right (used_le m hr)]
  iintro ⟨HS, Hg, HR, -, -⟩
  ihave HS' := (weights_any m hr c 224) $$ HS
  icases HS' with ⟨HS0, HS1, HS2⟩
  ihave HR1 := (ring_last (F := F) c (tokW m c) (used_pos m hr)) $$ HR
  ihave HR2 := (ring_out (F := F) c (tokW m c)) $$ HR1
  icases HR2 with ⟨HS3, Hq, HW⟩
  isplitl [HS0 HS1 HS2 HS3]
  · isplitl [HS0]; · iexact HS0
    isplitl [HS1]; · iexact HS1
    isplitl [HS2]; · iexact HS2
    iexact HS3
  isplitl [Hg]; · iexact Hg
  isplitl [Hq]; · iexact Hq
  iexact HW

/-! ## The run -/

variable (ρ : Dev nD → PrngReg)

set_option backward.isDefEq.respectTransparency.types false in
set_option maxHeartbeats 4000000 in
theorem run_whole : θ_run defs (onTc (τ := τ) (main (F := F))) (s₀ m ρ)
    (fun r => Pipeline.FramePost (Pipeline.pin pcfgs fun _ => adm m hr) (dats m hr) 0 (V m) r ∧ r.2.sem = fun _ => 0) :=
  Pipeline.θ_run_frameP_dma (Q' := _) pcfgs (fun _ => adm m hr) (dats m hr) (0 : Fin 1) launch0 ownSem defs₀ Variants.none ownSem_facts copied copied_sub m ρ main
    (hbody := fun c => (body_obligation m hr c).loose) (hshare := fun c => (dats m hr 0 c).share_full fun _ => rfl)
    (howed := fun _ _ => rfl) (V := V m)
    (hmain := Pipeline.hmainP_region pcfgs 0 defs₀ Variants.none m main fun c => (main_chain c).trans rfl)
    (hA := fun _ _ => by first | rfl | (fin_cases ‹Fin 4› <;> rfl)) (hpf := tabs_at m hr)
    (hin := launch_in m hr) (hout := launch_out m hr)

/-- What a run leaves: every argument as it was, and the result as the points' blocks write it. -/
theorem run_arrays : θ_run defs (onTc (τ := τ) (main (F := F))) ⟨m, fun _ => 0, ρ⟩ (fun r => (∀ c : Dev nD,
      r.2.mem ((c.tc : Thread nD τ).loc main_v0) = (dats m hr 0 c).arrAt (3 : Fin 4) (cfgA m hr).N)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1 (3 : Fin 4), fun c =>
    ⟨(h.1 c).2 main_arg0 (show main_arg0 ∈ Pipeline.restRefs sig spec0 by decide), (h.1 c).2 main_arg1 (show main_arg1 ∈ Pipeline.restRefs sig spec0 by decide), (h.1 c).2 main_arg2 (show main_arg2 ∈ Pipeline.restRefs sig spec0 by decide),
      ((h.1 c).1 (0 : Fin 4)).trans ((dats m hr 0 c).arrAt_in (0 : Fin 4) rfl _),
      ((h.1 c).1 (1 : Fin 4)).trans ((dats m hr 0 c).arrAt_in (1 : Fin 4) rfl _),
      ((h.1 c).1 (2 : Fin 4)).trans ((dats m hr 0 c).arrAt_in (2 : Fin 4) rfl _)⟩, h.2⟩) (run_whole m hr ρ)

include hr in
/-- Every argument ends as it was, and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => h.2) (run_arrays m hr ρ)

end Cert.Kernel3Ideal.Experts

end
-- ==== Proof.Experts.PrintedSecond.lean ====
/-
  The second trunk layer: the program as printed and its idealization run the same text. The body of a point, the declared
  functions and the main function are equal for any float values, so the frame of the one is the frame of the other.
-/
module

public import proofs.«01_k».proof.Defs
public import proofs.«01_k».proof.Proof.Gen.Kernel3
public import proofs.«01_k».proof.Proof.Gen.Kernel3Ideal
public import proofs.«01_k».proof.Proof.Experts.Kernel3Ideal.Launch

@[expose] public section

set_option maxRecDepth 16384

noncomputable section

namespace Cert.Kernel3.Experts

open Idealize.ShloMosaic Idealize.ShloMosaic.TcCoe Idealize.SL.Sem

variable {F : FTy → Type} [FloatOps F]

/-- The body of a point. -/
theorem body_same (i) a1 h1 a2 h2 a3 h3 a4 h4 a5 h5 a6 h6 a7 h7 a8 h8 a9 h9 a10 h10 a11 h11 a12 :
    @Cert.Kernel3.cc0_moe_ffn F _ _ i a1 h1 a2 h2 a3 h3 a4 h4 a5 h5 a6 h6 a7 h7 a8 h8 a9 h9 a10 h10 a11 h11 a12
      = @Cert.Kernel3Ideal.cc0_moe_ffn F _ _ i a1 h1 a2 h2 a3 h3 a4 h4 a5 h5 a6 h6 a7 h7 a8 h8 a9 h9 a10 h10 a11 h11 a12 := by
  delta Cert.Kernel3.cc0_moe_ffn Cert.Kernel3Ideal.cc0_moe_ffn
  rfl

/-- The function that the launch calls at each point. -/
theorem bodies_same : Cert.Kernel3.defs₀ (F := F) = Cert.Kernel3Ideal.defs₀ (F := F) := by
  delta Cert.Kernel3.defs₀ Cert.Kernel3Ideal.defs₀
  refine congrArg Defs.onTc ?_
  funext x a
  match x, a with
  | ⟨0, _⟩, (t, s) => exact body_same ..

/-- All functions, the launch included. -/
theorem functions_same : Cert.Kernel3.defs (F := F) = Cert.Kernel3Ideal.defs (F := F) := by
  delta Cert.Kernel3.defs Cert.Kernel3Ideal.defs
  exact congrArg (Pipeline.defs (Cert.Kernel3Ideal.pcfgs (F := F))) bodies_same

theorem main_same : Cert.Kernel3.main (F := F) = Cert.Kernel3Ideal.main (F := F) := rfl

/-- Every argument ends as it was, and every semaphore counter at zero. -/
theorem run_frame (m : (ℓ : Loc Cert.Kernel3Ideal.nD Cert.Kernel3Ideal.τ Cert.Kernel3Ideal.sig) → Buf (Elt F) ℓ) (hr : Cert.Kernel3Ideal.Experts.InRange m)
    (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [main_same, functions_same]
  exact Cert.Kernel3Ideal.Experts.run_frame m hr ρ

end Cert.Kernel3.Experts

end
-- ==== Proof.Experts.Kernel3Ideal.Block.lean ====
/-
  The block of the result that one point writes, read at an index.
-/
module

public import proofs.«01_k».proof.Proof.Experts.Kernel3Ideal.Point
public import proofs.«01_k».proof.Proof.Experts.Math
public import Idealize.ShloMosaic.Lib.Claim

@[expose] public section

set_option maxRecDepth 16384

noncomputable section

namespace Cert.Kernel3Ideal.Experts

open Cert.Kernel3Ideal Cert.Kernel3Ideal.Gen Cert.Experts
open Idealize.ShloMosaic

theorem main_apply (X : Vec Ideal S1024x1152 .bf16) (q d : Fin 1024) : mainV X (ix2 q d) = X (ix2 q ⟨d.val, by omega⟩) := by
  refine congrArg X (funext fun a => Fin.ext ?_)
  match a with
  | ⟨0, _⟩ => show 0 + 1 * q.val = q.val; omega
  | ⟨1, _⟩ => show 0 + 1 * d.val = d.val; omega
theorem high_apply (X : Vec Ideal S1024x1152 .bf16) (q : Fin 1024) : highV X (ix2 q 0) = X (ix2 q ⟨1024, by omega⟩) := by
  refine congrArg X (funext fun a => Fin.ext ?_)
  match a with
  | ⟨0, _⟩ => show 0 + 1 * q.val = q.val; omega
  | ⟨1, _⟩ => rfl
theorem low_apply (X : Vec Ideal S1024x1152 .bf16) (q : Fin 1024) : lowV X (ix2 q 0) = X (ix2 q ⟨1088, by omega⟩) := by
  refine congrArg X (funext fun a => Fin.ext ?_)
  match a with
  | ⟨0, _⟩ => show 0 + 1 * q.val = q.val; omega
  | ⟨1, _⟩ => rfl

theorem outV_apply (X : Vec Ideal S1024x1152 .bf16) (x0 x1 : Vec Ideal S1x1x1024x256 .f32) (x2 : Vec Ideal S1x1x256x1024 .f32) (q j : Fin 1024) :
    outV X (k0_pay2 x0) (k0_pay3 x1) (k0_pay4 x2) (ix2 q j)
      = result (fun d => X (ix2 q ⟨d.val, by omega⟩)) (X (ix2 q ⟨1024, by omega⟩) + X (ix2 q ⟨1088, by omega⟩))
          (fun d f => x0 (ix4 0 0 d f)) (fun d f => x1 (ix4 0 0 d f)) (fun f => x2 (ix4 0 0 f j)) := by
  unfold outV
  unfold_payloads
  pointwise [result, gated, proj, main_apply, high_apply, low_apply]

end Cert.Kernel3Ideal.Experts

end
-- ==== Proof.Experts.Kernel3Ideal.Arrays.lean ====
/-
  The result array after the run: in the tiles in use, each row is its token's row through the tile's expert.
-/
module

public import proofs.«01_k».proof.Proof.Experts.Kernel3Ideal.Data
public import proofs.«01_k».proof.Proof.Experts.Kernel3Ideal.Block
public import Idealize.ShloMosaic.Lib.Pipeline.ValueKit
public import Idealize.ShloMosaic.Lib.Claim

@[expose] public section

set_option maxRecDepth 16384

noncomputable section

namespace Cert.Kernel3Ideal.Experts

open Cert.Kernel3Ideal Cert.Kernel3Ideal.Gen Cert.Experts
open Idealize.ShloMosaic Idealize.ShloMosaic.TcCoe
open Idealize.ShloMosaic.Pipeline (Dat)

/-- The result of one expert on one row of tokens. -/
def rowOut (xs : FVec Ideal S229376x1152 .bf16) (wg wu : FVec Ideal S2x64x1024x256 .f32) (wd : FVec Ideal S2x64x256x1024 .f32)
    (e : Fin 64) (r : Fin 229376) (j : Fin 1024) : EReal :=
  result (fun d => xs (ix2 r ⟨d.val, by omega⟩)) (xs (ix2 r ⟨1024, by omega⟩) + xs (ix2 r ⟨1088, by omega⟩))
    (fun d f => wg (ix4 1 e d f)) (fun d f => wu (ix4 1 e d f)) (fun f => wd (ix4 1 e f j))

/-- The expert of a row: its tile's entry of the table. -/
def rowExpert (te : IVec S256 32) (r : Fin 229376) : Fin 64 := ⟨(te (ix1 ⟨r.val / 1024, by omega⟩) : BitVec 32).toNat % 64, by omega⟩

variable (m : (ℓ : Loc nD τ sig) → Buf (Elt Ideal) ℓ) (hr : InRange m) (c : Dev nD)

/-- The result array in full, as the tiles in use fill it. -/
def outArr : FVec Ideal S229376x1024 .bf16 := fun i =>
  rowOut (m ((c.tc : Thread nD τ).loc main_arg2)) (m ((c.tc : Thread nD τ).loc main_arg3)) (m ((c.tc : Thread nD τ).loc main_arg4)) (m ((c.tc : Thread nD τ).loc main_arg5))
    (rowExpert (T0of m) (i 0)) (i 0) (i 1)

/-- The blocks of the weights that a point works on. -/
theorem index0 (t : Fin (cfgA m hr).N) : ((cfgA m hr).win (0 : Fin 4)).index t = ![1, expertOf m t, 0, 0] := map1_eq m t
theorem index1 (t : Fin (cfgA m hr).N) : ((cfgA m hr).win (1 : Fin 4)).index t = ![1, expertOf m t, 0, 0] := map2_eq m t
theorem index2 (t : Fin (cfgA m hr).N) : ((cfgA m hr).win (2 : Fin 4)).index t = ![1, expertOf m t, 0, 0] := map3_eq m t

/-- The weights' blocks at a point are its expert's. -/
theorem gate_at (t : Fin (cfgA m hr).N) (d : Fin 1024) (f : Fin 256) :
    gateB m hr c t (ix4 0 0 d f) = (m ((c.tc : Thread nD τ).loc main_arg3) : FVec Ideal S2x64x1024x256 .f32) (ix4 1 ⟨expertOf m t, expertOf_lt m hr t⟩ d f) := by
  show (m ((c.tc : Thread nD τ).loc main_arg3) : FVec Ideal S2x64x1024x256 .f32) _ = _
  refine congrArg (m ((c.tc : Thread nD τ).loc main_arg3) : FVec Ideal S2x64x1024x256 .f32) (funext fun a => Fin.ext ?_)
  refine (ValueKit.rect_emb_unit_val _ _ _ _ a).trans ?_
  have e (x : Fin 4) : ((cfgA m hr).win (0 : Fin 4)).index t x = (![1, expertOf m t, 0, 0] : Fin 4 → ℕ) x := congrFun (index0 m hr t) x
  match a with
  | ⟨0, _⟩ => exact congrArg (· * 1 + 0) (e 0)
  | ⟨1, _⟩ => exact (congrArg (· * 1 + 0) (e 1)).trans (by show expertOf m t * 1 + 0 = expertOf m t; omega)
  | ⟨2, _⟩ => exact (congrArg (· * 1024 + d.val) (e 2)).trans (by show 0 * 1024 + d.val = d.val; omega)
  | ⟨3, _⟩ => exact (congrArg (· * 256 + f.val) (e 3)).trans (by show 0 * 256 + f.val = f.val; omega)
theorem up_at (t : Fin (cfgA m hr).N) (d : Fin 1024) (f : Fin 256) :
    upB m hr c t (ix4 0 0 d f) = (m ((c.tc : Thread nD τ).loc main_arg4) : FVec Ideal S2x64x1024x256 .f32) (ix4 1 ⟨expertOf m t, expertOf_lt m hr t⟩ d f) := by
  show (m ((c.tc : Thread nD τ).loc main_arg4) : FVec Ideal S2x64x1024x256 .f32) _ = _
  refine congrArg (m ((c.tc : Thread nD τ).loc main_arg4) : FVec Ideal S2x64x1024x256 .f32) (funext fun a => Fin.ext ?_)
  refine (ValueKit.rect_emb_unit_val _ _ _ _ a).trans ?_
  have e (x : Fin 4) : ((cfgA m hr).win (1 : Fin 4)).index t x = (![1, expertOf m t, 0, 0] : Fin 4 → ℕ) x := congrFun (index1 m hr t) x
  match a with
  | ⟨0, _⟩ => exact congrArg (· * 1 + 0) (e 0)
  | ⟨1, _⟩ => exact (congrArg (· * 1 + 0) (e 1)).trans (by show expertOf m t * 1 + 0 = expertOf m t; omega)
  | ⟨2, _⟩ => exact (congrArg (· * 1024 + d.val) (e 2)).trans (by show 0 * 1024 + d.val = d.val; omega)
  | ⟨3, _⟩ => exact (congrArg (· * 256 + f.val) (e 3)).trans (by show 0 * 256 + f.val = f.val; omega)
theorem down_at (t : Fin (cfgA m hr).N) (f : Fin 256) (j : Fin 1024) :
    downB m hr c t (ix4 0 0 f j) = (m ((c.tc : Thread nD τ).loc main_arg5) : FVec Ideal S2x64x256x1024 .f32) (ix4 1 ⟨expertOf m t, expertOf_lt m hr t⟩ f j) := by
  show (m ((c.tc : Thread nD τ).loc main_arg5) : FVec Ideal S2x64x256x1024 .f32) _ = _
  refine congrArg (m ((c.tc : Thread nD τ).loc main_arg5) : FVec Ideal S2x64x256x1024 .f32) (funext fun a => Fin.ext ?_)
  refine (ValueKit.rect_emb_unit_val _ _ _ _ a).trans ?_
  have e (x : Fin 4) : ((cfgA m hr).win (2 : Fin 4)).index t x = (![1, expertOf m t, 0, 0] : Fin 4 → ℕ) x := congrFun (index2 m hr t) x
  match a with
  | ⟨0, _⟩ => exact congrArg (· * 1 + 0) (e 0)
  | ⟨1, _⟩ => exact (congrArg (· * 1 + 0) (e 1)).trans (by show expertOf m t * 1 + 0 = expertOf m t; omega)
  | ⟨2, _⟩ => exact (congrArg (· * 256 + f.val) (e 2)).trans (by show 0 * 256 + f.val = f.val; omega)
  | ⟨3, _⟩ => exact (congrArg (· * 1024 + j.val) (e 3)).trans (by show 0 * 1024 + j.val = j.val; omega)

/-- Row `q` of tile `t` is row `1024 t + q` of the tokens. -/
theorem tile_at (t : Fin 224) (q : Fin 1024) (k : Fin 1152) :
    tileV c (tokW m c) t (ix2 q k) = (m ((c.tc : Thread nD τ).loc main_arg2) : FVec Ideal S229376x1152 .bf16) (ix2 ⟨t.val * 1024 + q.val, by omega⟩ k) := by
  refine congrArg (m ((c.tc : Thread nD τ).loc main_arg2) : FVec Ideal S229376x1152 .bf16) (funext fun a => Fin.ext ?_)
  refine (ValueKit.rect_emb_unit_val (s := S229376x1152) ![1024 * t.val, 0] S1024x1152.size (inb_tile t) (ix2 q k) a).trans ?_
  match a with
  | ⟨0, _⟩ => show 1024 * t.val + q.val = t.val * 1024 + q.val; omega
  | ⟨1, _⟩ => show 0 + k.val = k.val; omega

/-- A point's block of the result, at its row `q`. -/
theorem block_at (t : Fin (cfgA m hr).N) (q j : Fin 1024) :
    blockV m hr c t (ix2 q j) = outArr m c (ix2 ⟨t.val * 1024 + q.val, by have := point_lt t; omega⟩ j) := by
  have ht := point_lt t
  unfold blockV
  rw [outV_apply]
  simp only [gate_at, up_at, down_at, tile_at]
  have hb : (Ring.bk 224 t.val : Fin 224) = t := Fin.ext (by show t.val % 224 = t.val; omega)
  have he : rowExpert (T0of m) ⟨t.val * 1024 + q.val, by omega⟩ = ⟨expertOf m t, expertOf_lt m hr t⟩ := by
    have h := expertOf_lt m hr t
    have hx : (ix1 ⟨(t.val * 1024 + q.val) / 1024, by omega⟩ : S256.Idx) = ix1 ⟨t.val, by omega⟩ := congrArg ix1 (Fin.ext (by show (t.val * 1024 + q.val) / 1024 = t.val; omega))
    refine Fin.ext ?_
    show (T0of m (ix1 ⟨(t.val * 1024 + q.val) / 1024, _⟩) : BitVec 32).toNat % 64 = expertOf m t
    rw [hx]
    exact Nat.mod_eq_of_lt h
  rw [hb]
  show _ = rowOut _ _ _ _ (rowExpert (T0of m) ⟨t.val * 1024 + q.val, _⟩) ⟨t.val * 1024 + q.val, _⟩ j
  rw [he]
  rfl

/-- The result array at a row of a tile in use. -/
theorem final (r : Fin 229376) (j : Fin 1024) (h : r.val < used m * 1024) :
    ((dats m hr 0 c).arrAt (3 : Fin 4) (cfgA m hr).N : FVec Ideal S229376x1024 .bf16) (ix2 r j) = outArr m c (ix2 r j) := by
  have hp := used_pos m hr
  have hle := used_le m hr
  have hG : ∀ t, ((cfgA m hr).win (3 : Fin 4)).flush t = true → (dats m hr 0 c).flushed (3 : Fin 4) t = (((cfgA m hr).win (3 : Fin 4)).blk t).view.read (Elt Ideal) (outArr m c) := by
    intro t _
    refine funext fun y => ?_
    obtain ⟨q, k, rfl⟩ : ∃ (q k : Fin 1024), y = ix2 q k := ⟨y 0, y 1, eq_ix2 y⟩
    show blockV m hr c (upto m hr t.val) (ix2 q k) = _
    rw [block_at]
    refine congrArg (outArr m c) (funext fun a => Fin.ext ?_)
    refine Eq.trans ?_ (ValueKit.rect_emb_unit_val _ _ _ _ a).symm
    have e (x : Fin 2) : ((cfgA m hr).win (3 : Fin 4)).index t x = (![min t.val (used m - 1), 0] : Fin 2 → ℕ) x := congrFun (index3 m hr t) x
    match a with
    | ⟨0, _⟩ => exact Eq.trans (by show (upto m hr t.val).val * 1024 + q.val = min t.val (used m - 1) * 1024 + q.val; rw [upto_val]) (congrArg (· * 1024 + q.val) (e 0)).symm
    | ⟨1, _⟩ => exact Eq.trans (by show k.val = 0 * 1024 + k.val; omega) (congrArg (· * 1024 + k.val) (e 1)).symm
  have ht : ∃ t : Fin (cfgA m hr).N, ((cfgA m hr).win (3 : Fin 4)).flush t = true ∧ min t.val (used m - 1) = r.val / 1024 := by
    by_cases h1 : r.val / 1024 + 1 < used m
    · refine ⟨⟨r.val / 1024, show _ < 224 by omega⟩, ?_, ?_⟩
      · rw [flush3]; exact decide_eq_true (Or.inl h1)
      · show min (r.val / 1024) _ = _; omega
    · refine ⟨⟨223, show _ < 224 by omega⟩, ?_, ?_⟩
      · rw [flush3]; exact decide_eq_true (Or.inr rfl)
      · show min 223 _ = _; omega
  obtain ⟨t, hf, hv⟩ := ht
  refine (dats m hr 0 c).arrAt_apply_of_mem (3 : Fin 4) (outArr m c) hG _ t _ t.isLt hf ?_
  mem_blk
  rw [index3, hv]
  refine ⟨⟨?_, ?_⟩, ?_, ?_⟩
  · show r.val / 1024 * 1024 ≤ r.val; omega
  · show r.val < r.val / 1024 * 1024 + 1024; omega
  · show 0 * 1024 ≤ j.val; omega
  · show j.val < 0 * 1024 + 1024; omega

end Cert.Kernel3Ideal.Experts

end
-- ==== Proof.Experts.ReferenceSecond.lean ====
/-
  The second layer's reference read at an index: the same sum as the first layer's, over the second layer's weights.
-/
module

public import Idealize.ShloMosaic.Lib.Tactic.CleanTypes
public import Idealize.ShloMosaic.Lib.Claim
public import Idealize.ShloMosaic.Lib.WordCmp
public import proofs.«01_k».proof.Proof.Gen.Reference3Ideal.Run
public import proofs.«01_k».proof.Proof.Experts.Reference

@[expose] public section

set_option maxRecDepth 16384

noncomputable section

namespace Cert.Experts

open Idealize.ShloMosaic Idealize.ShloMosaic.TcCoe Cert.Reference3Ideal Cert.Reference3Ideal.Gen Cert.Reference3Ideal.Value

/-- The reference's result at a row and a column. -/
theorem ref_at_second (a0 : IVec S256 32) (a2 : FVec Ideal S229376x1152 .bf16) (a3 a4 : FVec Ideal S2x64x1024x256 .f32) (a5 : FVec Ideal S2x64x256x1024 .f32)
    (r : Fin 229376) (j : Fin 1024) (e : Fin 64) (he : (a0 (ix1 ⟨r.val / 1024, by omega⟩) : BitVec 32).toNat = e.val) :
    (truncf .bf16 (Host.dotGeneral dot_S229376x64x256_S64x256x1024_S229376x1024_12_01_0_2_n_n none (mulf (mulf (mulf (Host.dotGeneral dot_S229376x1024_S64x1024x256_S229376x64x256_1_1_0_02_n_n none (extf .f32 (extractStridedSlice S229376x1024 ![0, 0] a2 slices_S229376x1152_S229376x1024_0_0) bitsLt_bf16_f32) (shapeCast _ (extractStridedSlice S1x64x1024x256 ![1, 0, 0, 0] a3 slices_S2x64x1024x256_S1x64x1024x256_1_0_0_0) shapeCasts_S1x64x1024x256_S64x1024x256)) (Host.divf (broadcastInDim S229376x64x256 ![] bcast_S_S229376x64x256 (constant S_ .f32 0x3F800000#32)) (addf (broadcastInDim S229376x64x256 ![] bcast_S_S229376x64x256 (constant S_ .f32 0x3F800000#32)) (Host.exp (Host.negf (Host.dotGeneral dot_S229376x1024_S64x1024x256_S229376x64x256_1_1_0_02_n_n none (extf .f32 (extractStridedSlice S229376x1024 ![0, 0] a2 slices_S229376x1152_S229376x1024_0_0) bitsLt_bf16_f32) (shapeCast _ (extractStridedSlice S1x64x1024x256 ![1, 0, 0, 0] a3 slices_S2x64x1024x256_S1x64x1024x256_1_0_0_0) shapeCasts_S1x64x1024x256_S64x1024x256))))))) (Host.dotGeneral dot_S229376x1024_S64x1024x256_S229376x64x256_1_1_0_02_n_n none (extf .f32 (extractStridedSlice S229376x1024 ![0, 0] a2 slices_S229376x1152_S229376x1024_0_0) bitsLt_bf16_f32) (shapeCast _ (extractStridedSlice S1x64x1024x256 ![1, 0, 0, 0] a4 slices_S2x64x1024x256_S1x64x1024x256_1_0_0_0) shapeCasts_S1x64x1024x256_S64x1024x256))) (broadcastInDim S229376x64x256 ![0, 1, 2] bcast_S229376x64x1_S229376x64x256_0_1_2 (broadcastInDim S229376x64x1 ![0, 1] bcast_S229376x64_S229376x64x1_0_1 (select (cmpi .eq (broadcastInDim S229376x64 ![0, 1] bcast_S229376x1_S229376x64_0_1 (broadcastInDim S229376x1 ![0] bcast_S229376_S229376x1_0 (shapeCast _ (broadcastInDim S224x1024 ![0, 1] bcast_S224x1_S224x1024_0_1 (broadcastInDim S224x1 ![0] bcast_S224_S224x1_0 (extractStridedSlice S224 ![0] a0 slices_S256_S224_0))) shapeCasts_S224x1024_S229376))) (broadcastInDim S229376x64 ![0, 1] bcast_S1x64_S229376x64_0_1 (broadcastInDim S1x64 ![1] bcast_S64_S1x64_1 (iotaInDim S64 32 0)))) (broadcastInDim S229376x64 ![0, 1] bcast_S229376x1_S229376x64_0_1 (broadcastInDim S229376x1 ![0] bcast_S229376_S229376x1_0 (addf (extf .f32 (shapeCast _ (extractStridedSlice S229376x1 ![0, 1024] a2 slices_S229376x1152_S229376x1_0_1024) shapeCasts_S229376x1_S229376) bitsLt_bf16_f32) (extf .f32 (shapeCast _ (extractStridedSlice S229376x1 ![0, 1088] a2 slices_S229376x1152_S229376x1_0_1088) shapeCasts_S229376x1_S229376) bitsLt_bf16_f32)))) (broadcastInDim S229376x64 ![] bcast_S_S229376x64 (id (constant S_ .f32 0x00000000#32))))))) (shapeCast _ (extractStridedSlice S1x64x256x1024 ![1, 0, 0, 0] a5 slices_S2x64x256x1024_S1x64x256x1024_1_0_0_0) shapeCasts_S1x64x256x1024_S64x256x1024)) bitsLt_bf16_f32 : FVec Ideal S229376x1024 .bf16) (ix2 r j)
      = result (fun d => a2 (ix2 r ⟨d.val, by omega⟩)) (a2 (ix2 r ⟨1024, by omega⟩) + a2 (ix2 r ⟨1088, by omega⟩))
          (fun d f => a3 (ix4 1 e d f)) (fun d f => a4 (ix4 1 e d f)) (fun f => a5 (ix4 1 e f j)) := by
  pointwise [proj, gated, result]
  have hz : (id (constant S_ FTy.f32 0#32 : FVec Ideal S_ .f32) ix0 : EReal) = 0 := Ideal.ofBits_zero_f32
  simp only [hz, combine_at _ e _ he]
  refine (Finset.sum_eq_single e (fun x _ hx => ?_) (fun h => absurd (Finset.mem_univ e) h)).trans ?_
  · simp only [if_neg hx, mul_zero, zero_mul, Finset.sum_const_zero]
  · simp only [if_pos rfl]
    rfl

end Cert.Experts

end
-- ==== Proof.Experts.ClaimsSecond.lean ====
/-
  The claims about the experts' feed-forward of the second trunk layer.
-/
module

public import proofs.«01_k».proof.Defs
public import proofs.«01_k».proof.Proof.Experts.PrintedSecond
public import proofs.«01_k».proof.Proof.Experts.Kernel3Ideal.Launch
public import proofs.«01_k».proof.Proof.Experts.Kernel3Ideal.Arrays
public import proofs.«01_k».proof.Proof.Experts.Predicates
public import proofs.«01_k».proof.Proof.Experts.ReferenceSecond

@[expose] public section

set_option maxRecDepth 16384

noncomputable section

namespace Cert.Experts.Second

open Idealize.ShloMosaic Idealize.ShloMosaic.TcCoe Idealize.SL.Sem

/-- The precondition puts the tables in range. -/
theorem rangesIdeal (m : (ℓ : Loc Cert.Kernel3Ideal.nD Cert.Kernel3Ideal.τ Cert.Kernel3Ideal.sig) → Buf (Elt Ideal) ℓ) (h : Cert.Pre_Kernel3Ideal m) : Cert.Kernel3Ideal.Experts.InRange m := by
  obtain ⟨h1, h2, h3⟩ := in_range _ _ _ _ _ _ (h 0)
  exact ⟨h1, h2, h3⟩

theorem frame : Cert.quiescent_Kernel3 := by
  intro m ρ h
  obtain ⟨h1, h2, h3⟩ := in_range _ _ _ _ _ _ (h 0)
  exact Cert.Kernel3.Experts.run_frame m ⟨h1, h2, h3⟩ ρ

theorem frameIdeal : Cert.quiescent_Kernel3Ideal := fun m ρ h => Cert.Kernel3Ideal.Experts.run_frame m (rangesIdeal m h) ρ

/-- The reference is host operations only: it keeps its arguments and declares no semaphore. -/
theorem frameReference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- Both runs end, in the rows of the tiles in use, with each row's token through its expert. -/
theorem algebraic : Cert.algebraic_Kernel3Ideal_Reference3Ideal_on_rows_in_use := by
  intro m ρ m' ρ' hpre hagree
  have hr := rangesIdeal m hpre
  refine ⟨fun c => Cert.Kernel3Ideal.Experts.outArr m c, ?_, ?_⟩
  · refine (θ_run Cert.Kernel3Ideal.defs _ _).mono (fun r h c => ⟨fun i hi => ?_, h.2.1 c⟩)
      (Cert.Kernel3Ideal.Experts.run_arrays m hr ρ)
    obtain ⟨q, j, rfl⟩ : ∃ (q : Fin 229376) (j : Fin 1024), i = ix2 q j := ⟨i 0, i 1, eq_ix2 i⟩
    have hc : c = 0 := Subsingleton.elim (α := Fin 1) _ _
    subst hc
    exact (congrFun (h.1 0) (ix2 q j)).trans (Cert.Kernel3Ideal.Experts.final m hr 0 q j (in_use _ _ _ _ _ _ hr.used_le q j hi))
  · refine (θ_run Cert.Reference3Ideal.defs _ _).mono (fun r h c => ⟨fun i _ => ?_, (h c).2⟩)
      (Cert.Reference3Ideal.Value.run (F := Ideal) m' ρ')
    obtain ⟨q, j, rfl⟩ : ∃ (q : Fin 229376) (j : Fin 1024), i = ix2 q j := ⟨i 0, i 1, eq_ix2 i⟩
    have hc : c = 0 := Subsingleton.elim (α := Fin 1) _ _
    subst hc
    obtain ⟨e0, e1, e2, e3, e4, e5⟩ := hagree 0
    refine (congrFun (h 0).1 (ix2 q j)).trans ?_
    rw [e0, e2, e3, e4, e5]
    refine (ref_at_second _ _ _ _ _ q j (Cert.Kernel3Ideal.Experts.rowExpert (Cert.Kernel3Ideal.Experts.T0of m) q) ?_).trans rfl
    exact (Nat.mod_eq_of_lt (hr.expert _)).symm

end Cert.Experts.Second

end
-- ==== Proof.Final.Math.lean ====
/-
  The end of a trunk layer, for one row of one group, over the extended reals: the row plus the gated, normalised
  output of the mixture.
-/
module

public import Idealize.ShloMosaic.Lib.Pointwise

@[expose] public section

noncomputable section

namespace Cert.Final

open Idealize.ShloMosaic

/-- The reciprocal root mean square of a row. -/
def scale (f : Fin 1024 → EReal) : EReal :=
  Ideal.rsqrt (Ideal.div (∑ l : Fin 1024, f l * f l) (Ideal.ofBits .f32 0x44800000#32) + Ideal.ofBits .f32 0x358637BD#32)

/-- The row's new value: the old one, plus the gate times the normalised output. -/
def residual (x gate f gain : Fin 1024 → EReal) (d : Fin 1024) : EReal :=
  x d + gate d * (f d * scale f * gain d)

end Cert.Final

end
-- ==== Proof.Final.Prompt.lean ====
/-
  The end of the trunk on the rows of the prompts: 16384 rows in 32 blocks, four to a prompt, each against the
  gate of its prompt.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Final.Math

@[expose] public section

set_option maxRecDepth 16384

noncomputable section

namespace Cert.Final.Prompt

open Idealize.ShloMosaic Idealize.ShloMosaic.TcCoe Idealize.SL.Sem

section Kernel

open Cert.Kernel4Ideal Cert.Kernel4Ideal.Gen

/-- One point's output block. -/
theorem block_at (x0 x1 : Vec Ideal S512x1024 .f32) (x2 : Vec Ideal S1x6x1x1024 .f32) (x3 : Vec Ideal S4x1024 .f32)
    (q : Fin 512) (d : Fin 1024) :
    out0_4 x0 x1 x2 x3 (ix2 q d)
      = residual (fun d => x0 (ix2 q d)) (fun d => x2 (ix4 0 5 0 d)) (fun d => x1 (ix2 q d)) (fun d => x3 (ix2 3 d)) d := by
  unfold out0_4
  frame_out
  unfold_payloads
  pointwise [residual, scale]

variable (m : (ℓ : Loc nD τ sig) → Buf (Elt Ideal) ℓ) (c : Dev nD)

/-- The array after the run, at row `r`: prompt `r / 2048`. -/
def outArr (a0 : FVec Ideal S16384x1024 .f32) (a1 : FVec Ideal S16896x1024 .f32) (a2 : FVec Ideal S8x6x1x1024 .f32)
    (a3 : FVec Ideal S2x4x1024 .f32) (r : Fin 16384) : Fin 1024 → EReal :=
  residual (fun d => a0 (ix2 r d)) (fun d => a2 (ix4 ⟨r.val / 2048, by omega⟩ 5 0 d))
    (fun d => a1 (ix2 ⟨r.val, by omega⟩ d)) (fun d => a3 (ix3 1 3 d))

/-- The windows' block indices. -/
theorem idx : ∀ t : Fin cfg0.N,
    win0_0.index t = ![t.val, 0] ∧ win0_1.index t = ![t.val, 0] ∧ win0_2.index t = ![t.val / 4, 0, 0, 0]
    ∧ win0_3.index t = ![0, 0] ∧ win0_4.index t = ![t.val, 0] :=
  (by decide +kernel : ∀ t : Fin grid0.N, _)

/-- The row of the whole array that row `q` of point `t`'s block is. -/
def row (t : Fin cfg0.N) (q : Fin 512) : Fin 16384 :=
  ⟨t.val * 512 + q.val, by have := t.isLt; have : cfg0.N = 32 := rfl; omega⟩

theorem blk0 (t : Fin cfg0.N) (q : Fin 512) (d : Fin 1024) :
    iblk m c 0 t (ix2 q d) = (m ((c.tc : Thread nD τ).loc main_arg0) : FVec Ideal S16384x1024 .f32) (ix2 (row t q) d) := by
  unfold row
  blk_ext! [iblk, V, idx t]

theorem blk1 (t : Fin cfg0.N) (q : Fin 512) (d : Fin 1024) :
    iblk m c 1 t (ix2 q d) = (m ((c.tc : Thread nD τ).loc main_arg1) : FVec Ideal S16896x1024 .f32) (ix2 ⟨(row t q).val, by omega⟩ d) := by
  unfold row
  blk_ext! [iblk, V, idx t]

theorem blk2 (t : Fin cfg0.N) (q : Fin 512) (d : Fin 1024) :
    iblk m c 2 t (ix4 0 5 0 d) = (m ((c.tc : Thread nD τ).loc main_arg2) : FVec Ideal S8x6x1x1024 .f32) (ix4 ⟨(row t q).val / 2048, by omega⟩ 5 0 d) := by
  unfold row
  have := t.isLt
  blk_ext! [iblk, V, idx t]

theorem blk3 (t : Fin cfg0.N) (d : Fin 1024) :
    iblk m c 3 t (ix2 3 d) = (m ((c.tc : Thread nD τ).loc main_arg3) : FVec Ideal S2x4x1024 .f32) (ix3 1 3 d) := by
  blk_ext! [iblk, V, idx t]

theorem final : (dats m 0 c).arrAt 4 cfg0.N = fun i : S16384x1024.Idx =>
    outArr (m ((c.tc : Thread nD τ).loc main_arg0)) (m ((c.tc : Thread nD τ).loc main_arg1)) (m ((c.tc : Thread nD τ).loc main_arg2))
      (m ((c.tc : Thread nD τ).loc main_arg3)) (i 0) (i 1) := by
  refine (dats m 0 c).arrAt_eq_of_covers 4 _ (by decide +kernel) fun t hf y => ?_
  blk_simp
  rw [after0_4]
  obtain ⟨q, d, rfl⟩ : ∃ (q : Fin 512) (d : Fin 1024), y = ix2 q d := ⟨y 0, y 1, eq_ix2 y⟩
  have e0 : (win0_4.blk t).view.emb (ix2 q d) 0 = row t q := by
    refine Fin.ext ?_; unfold row; blk_simp [idx t]
  have e1 : (win0_4.blk t).view.emb (ix2 q d) 1 = d := by
    refine Fin.ext ?_; blk_simp [idx t]
  refine (block_at _ _ _ _ q d).trans ?_
  rw [e0, e1]
  simp only [outArr, blk0, blk1, blk2 m c t q, blk3]

end Kernel

section Reference

open Cert.Reference4Ideal Cert.Reference4Ideal.Gen

/-- The reference at an index. -/
theorem ref_at (a0 : FVec Ideal S16384x1024 .f32) (a1 : FVec Ideal S16896x1024 .f32) (a2 : FVec Ideal S8x6x1x1024 .f32)
    (a3 : FVec Ideal S2x4x1024 .f32) (r : Fin 16384) (d : Fin 1024) :
    (shapeCast _ (addf (shapeCast _ a0 shapeCasts_S16384x1024_S8x2048x1024) (mulf (broadcastInDim S8x2048x1024 ![0, 1, 2] bcast_S8x1x1024_S8x2048x1024_0_1_2 (shapeCast _ (extractStridedSlice S8x1x1x1024 ![0, 5, 0, 0] a2 slices_S8x6x1x1024_S8x1x1x1024_0_5_0_0) shapeCasts_S8x1x1x1024_S8x1x1024)) (mulf (mulf (shapeCast _ (extractStridedSlice S16384x1024 ![0, 0] a1 slices_S16896x1024_S16384x1024_0_0) shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ (extractStridedSlice S16384x1024 ![0, 0] a1 slices_S16896x1024_S16384x1024_0_0) shapeCasts_S16384x1024_S8x2048x1024) (shapeCast _ (extractStridedSlice S16384x1024 ![0, 0] a1 slices_S16896x1024_S16384x1024_0_0) shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1x1024 ![1, 3, 0] a3 slices_S2x4x1024_S1x1x1024_1_3_0) shapeCasts_S1x1x1024_S1024)))))) shapeCasts_S8x2048x1024_S16384x1024 : FVec Ideal S16384x1024 .f32) (ix2 r d) = outArr a0 a1 a2 a3 r d := by
  pointwise [outArr, residual, scale]

end Reference

theorem frame : Cert.quiescent_Kernel4 := fun m ρ _ => Cert.Kernel4.Gen.frame m ρ

theorem frameIdeal : Cert.quiescent_Kernel4Ideal := fun m ρ _ => Cert.Kernel4Ideal.Gen.frame m ρ

/-- The reference is host operations only: it keeps its arguments and declares no semaphore. -/
theorem frameReference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- Both runs end with the same rows. -/
theorem algebraic : Cert.algebraic_Kernel4Ideal_Reference4Ideal := by
  intro m ρ m' ρ' _ hagree
  refine ⟨fun c => (Cert.Kernel4Ideal.Gen.dats m 0 c).arrAt 4 Cert.Kernel4Ideal.cfg0.N, Cert.Kernel4Ideal.Value.run_blocks m ρ, ?_⟩
  refine (θ_run Cert.Reference4Ideal.defs _ _).mono (fun r h c => ⟨(h c).1.trans ?_, (h c).2⟩)
    (Cert.Reference4Ideal.Value.run (F := Ideal) m' ρ')
  obtain ⟨e0, e1, e2, e3⟩ := hagree c
  refine Eq.trans ?_ (final m c).symm
  funext i
  obtain ⟨n, d, rfl⟩ : ∃ (n : Fin 16384) (d : Fin 1024), i = ix2 n d := ⟨i 0, i 1, eq_ix2 i⟩
  refine (ref_at _ _ _ _ n d).trans ?_
  rw [e0, e1, e2, e3]
  rfl

end Cert.Final.Prompt

end
-- ==== Proof.Final.Sample.lean ====
/-
  The end of the trunk on the rows of the samples: one block of 128 rows, each against its own gate. The samples' rows
  of the mixture's output come after those of the prompts.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Final.Math

@[expose] public section

set_option maxRecDepth 16384

noncomputable section

namespace Cert.Final.Sample

open Idealize.ShloMosaic Idealize.ShloMosaic.TcCoe Idealize.SL.Sem

section Kernel

open Cert.Kernel5Ideal Cert.Kernel5Ideal.Gen

/-- One point's output block. -/
theorem block_at (x0 x1 : Vec Ideal S128x1024 .f32) (x2 : Vec Ideal S1x6x128x1024 .f32) (x3 : Vec Ideal S4x1024 .f32)
    (q : Fin 128) (d : Fin 1024) :
    out0_4 x0 x1 x2 x3 (ix2 q d)
      = residual (fun d => x0 (ix2 q d)) (fun d => x2 (ix4 0 5 q d)) (fun d => x1 (ix2 q d)) (fun d => x3 (ix2 3 d)) d := by
  unfold out0_4
  frame_out
  unfold_payloads
  pointwise [residual, scale]

variable (m : (ℓ : Loc nD τ sig) → Buf (Elt Ideal) ℓ) (c : Dev nD)

/-- The array after the run, at row `r`. -/
def outArr (a0 : FVec Ideal S128x1024 .f32) (a1 : FVec Ideal S16896x1024 .f32) (a2 : FVec Ideal S1x6x128x1024 .f32)
    (a3 : FVec Ideal S2x4x1024 .f32) (r : Fin 128) : Fin 1024 → EReal :=
  residual (fun d => a0 (ix2 r d)) (fun d => a2 (ix4 0 5 r d))
    (fun d => a1 (ix2 ⟨16384 + r.val, by omega⟩ d)) (fun d => a3 (ix3 1 3 d))

/-- The windows' block indices. -/
theorem idx : ∀ t : Fin cfg0.N,
    win0_0.index t = ![0, 0] ∧ win0_1.index t = ![128, 0] ∧ win0_2.index t = ![0, 0, 0, 0]
    ∧ win0_3.index t = ![0, 0] ∧ win0_4.index t = ![0, 0] :=
  (by decide +kernel : ∀ t : Fin grid0.N, _)

theorem blk0 (t : Fin cfg0.N) (q : Fin 128) (d : Fin 1024) :
    iblk m c 0 t (ix2 q d) = (m ((c.tc : Thread nD τ).loc main_arg0) : FVec Ideal S128x1024 .f32) (ix2 q d) := by
  blk_ext! [iblk, V, idx t]

theorem blk1 (t : Fin cfg0.N) (q : Fin 128) (d : Fin 1024) :
    iblk m c 1 t (ix2 q d) = (m ((c.tc : Thread nD τ).loc main_arg1) : FVec Ideal S16896x1024 .f32) (ix2 ⟨16384 + q.val, by omega⟩ d) := by
  blk_ext! [iblk, V, idx t]

theorem blk2 (t : Fin cfg0.N) (q : Fin 128) (d : Fin 1024) :
    iblk m c 2 t (ix4 0 5 q d) = (m ((c.tc : Thread nD τ).loc main_arg2) : FVec Ideal S1x6x128x1024 .f32) (ix4 0 5 q d) := by
  blk_ext! [iblk, V, idx t]

theorem blk3 (t : Fin cfg0.N) (d : Fin 1024) :
    iblk m c 3 t (ix2 3 d) = (m ((c.tc : Thread nD τ).loc main_arg3) : FVec Ideal S2x4x1024 .f32) (ix3 1 3 d) := by
  blk_ext! [iblk, V, idx t]

theorem final : (dats m 0 c).arrAt 4 cfg0.N = fun i : S128x1024.Idx =>
    outArr (m ((c.tc : Thread nD τ).loc main_arg0)) (m ((c.tc : Thread nD τ).loc main_arg1)) (m ((c.tc : Thread nD τ).loc main_arg2))
      (m ((c.tc : Thread nD τ).loc main_arg3)) (i 0) (i 1) := by
  refine (dats m 0 c).arrAt_eq_of_covers 4 _ (by decide +kernel) fun t hf y => ?_
  blk_simp
  rw [after0_4]
  obtain ⟨q, d, rfl⟩ : ∃ (q : Fin 128) (d : Fin 1024), y = ix2 q d := ⟨y 0, y 1, eq_ix2 y⟩
  have e0 : (win0_4.blk t).view.emb (ix2 q d) 0 = q := by
    refine Fin.ext ?_; blk_simp [idx t]
  have e1 : (win0_4.blk t).view.emb (ix2 q d) 1 = d := by
    refine Fin.ext ?_; blk_simp [idx t]
  refine (block_at _ _ _ _ q d).trans ?_
  rw [e0, e1]
  simp only [outArr, blk0, blk1, blk2 m c t q, blk3]

end Kernel

section Reference

open Cert.Reference5Ideal Cert.Reference5Ideal.Gen

/-- The reference at an index. -/
theorem ref_at (a0 : FVec Ideal S128x1024 .f32) (a1 : FVec Ideal S16896x1024 .f32) (a2 : FVec Ideal S1x6x128x1024 .f32)
    (a3 : FVec Ideal S2x4x1024 .f32) (r : Fin 128) (d : Fin 1024) :
    (addf a0 (mulf (shapeCast _ (extractStridedSlice S1x1x128x1024 ![0, 5, 0, 0] a2 slices_S1x6x128x1024_S1x1x128x1024_0_5_0_0) shapeCasts_S1x1x128x1024_S128x1024) (mulf (mulf (extractStridedSlice S128x1024 ![16384, 0] a1 slices_S16896x1024_S128x1024_16384_0) (broadcastInDim S128x1024 ![0, 1] bcast_S128x1_S128x1024_0_1 (Host.rsqrt (addf (Host.divf (broadcastInDim S128x1 ![0] bcast_S128_S128x1_0 (Host.reduceAdd (mulf (extractStridedSlice S128x1024 ![16384, 0] a1 slices_S16896x1024_S128x1024_16384_0) (extractStridedSlice S128x1024 ![16384, 0] a1 slices_S16896x1024_S128x1024_16384_0)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ (extractStridedSlice S1x1x1024 ![1, 3, 0] a3 slices_S2x4x1024_S1x1x1024_1_3_0) shapeCasts_S1x1x1024_S1024))))) : FVec Ideal S128x1024 .f32) (ix2 r d) = outArr a0 a1 a2 a3 r d := by
  pointwise [outArr, residual, scale]

end Reference

theorem frame : Cert.quiescent_Kernel5 := fun m ρ _ => Cert.Kernel5.Gen.frame m ρ

theorem frameIdeal : Cert.quiescent_Kernel5Ideal := fun m ρ _ => Cert.Kernel5Ideal.Gen.frame m ρ

/-- The reference is host operations only: it keeps its arguments and declares no semaphore. -/
theorem frameReference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- Both runs end with the same rows. -/
theorem algebraic : Cert.algebraic_Kernel5Ideal_Reference5Ideal := by
  intro m ρ m' ρ' _ hagree
  refine ⟨fun c => (Cert.Kernel5Ideal.Gen.dats m 0 c).arrAt 4 Cert.Kernel5Ideal.cfg0.N, Cert.Kernel5Ideal.Value.run_blocks m ρ, ?_⟩
  refine (θ_run Cert.Reference5Ideal.defs _ _).mono (fun r h c => ⟨(h c).1.trans ?_, (h c).2⟩)
    (Cert.Reference5Ideal.Value.run (F := Ideal) m' ρ')
  obtain ⟨e0, e1, e2, e3⟩ := hagree c
  refine Eq.trans ?_ (final m c).symm
  funext i
  obtain ⟨n, d, rfl⟩ : ∃ (n : Fin 128) (d : Fin 1024), i = ix2 n d := ⟨i 0, i 1, eq_ix2 i⟩
  refine (ref_at _ _ _ _ n d).trans ?_
  rw [e0, e1, e2, e3]
  rfl

end Cert.Final.Sample

end
-- ==== Proof.Project.Math.lean ====
/-
  The projections in front of the first trunk layer's two mixers, for one row, over the extended reals: the normalised
  and modulated row through the combined projection, the gated convolution, and the vectors of the recurrence.
-/
module

public import proofs.«01_k».proof.Proof.Final.Math

@[expose] public section

noncomputable section

namespace Cert.Project

open Idealize.ShloMosaic

/-- The normalised and modulated row. -/
def input (x gain sc sh : Fin 1024 → EReal) (d : Fin 1024) : EReal :=
  x d * Cert.Final.scale x * gain d * (1 + sc d) + sh d

/-- The row through the combined projection. -/
def proj (h : Fin 1024 → EReal) (W : Fin 1024 → Fin 3328 → EReal) (j : Fin 3328) : EReal := ∑ d : Fin 1024, h d * W d j

/-- The columns of the first mixer that its convolution runs over. -/
def gated (p : Fin 3328 → EReal) (j : Fin 512) : EReal := p ⟨1024 + j.val, by omega⟩ * p ⟨j.val, by omega⟩

/-- The columns of the second mixer. -/
def second (p : Fin 3328 → EReal) (j : Fin 1792) : EReal := p ⟨1536 + j.val, by omega⟩

/-- The first mixer's output: the gate times the convolution of three positions. -/
def mixed (p : Fin 3328 → EReal) (s0 s1 w0 w1 w2 : Fin 512 → EReal) (j : Fin 512) : EReal :=
  p ⟨512 + j.val, by omega⟩ * (s0 j * w0 j + s1 j * w1 j + gated p j * w2 j)

/-- The second mixer's columns moved toward the previous position's. -/
def shifted (p : Fin 3328 → EReal) (prev mu : Fin 1792 → EReal) (j : Fin 1792) : EReal :=
  second p j + (prev j - second p j) * mu j

/-- The in-context rate. -/
def rate (xm : Fin 1792 → EReal) (a0 : Fin 512 → EReal) (W : Fin 64 → Fin 512 → EReal) (j : Fin 512) : EReal :=
  Ideal.logistic (a0 j + ∑ q : Fin 64, xm ⟨1600 + q.val, by omega⟩ * W q j)

/-- The decay's argument. -/
def decayArg (xm : Fin 1792 → EReal) (w0 : Fin 512 → EReal) (W : Fin 64 → Fin 512 → EReal) (j : Fin 512) : EReal :=
  w0 j + ∑ q : Fin 64, Ideal.tanh (xm ⟨1536 + q.val, by omega⟩) * W q j

/-- The output gate. -/
def gate (xm : Fin 1792 → EReal) (W : Fin 128 → Fin 512 → EReal) (j : Fin 512) : EReal :=
  ∑ q : Fin 128, Ideal.logistic (xm ⟨1664 + q.val, by omega⟩) * W q j

/-- The key. -/
def key (xm : Fin 1792 → EReal) (a ka : Fin 512 → EReal) (j : Fin 512) : EReal :=
  xm ⟨512 + j.val, by omega⟩ * (1 + (a j - 1) * ka j)

/-- The logarithm of one more than the exponential. -/
def softplus (z : EReal) : EReal := max z 0 + Ideal.log (1 + Ideal.exp (0 - FloatOps.absf (F := Ideal) (φ := .f32) z))

/-- The logarithm of the decay, from the decay's argument. -/
def logDecay (z : EReal) : EReal := 0 - Ideal.exp (0 - softplus (0 - z) - Ideal.ofBits .f32 0x3F000000#32)

/-- The same with negations for the differences from zero. -/
theorem logDecay_eq (z : EReal) : logDecay z
    = -Ideal.exp (-(max (0 - z) 0 + Ideal.log1p (Ideal.exp (-(FloatOps.absf (F := Ideal) (φ := .f32) (0 - z) : EReal))))
      - Ideal.ofBits .f32 0x3F000000#32) := by
  have h : ∀ y : EReal, 0 - y = -y := zero_sub
  unfold logDecay softplus Ideal.log1p
  rw [h (Ideal.exp _), h (max _ _ + _), h (FloatOps.absf (F := Ideal) (φ := .f32) (0 - z))]

/-- A sum against 128 rows of which the upper 64 are zero. -/
theorem sum_below (f : Fin 128 → EReal) (W : Fin 64 → EReal) :
    ∑ q : Fin 128, f q * (if h : q.val < 64 then W ⟨q.val, h⟩ else 0) = ∑ q : Fin 64, f ⟨q.val, by omega⟩ * W q := by
  rw [show (∑ q : Fin 128, f q * (if h : q.val < 64 then W ⟨q.val, h⟩ else 0))
    = ∑ q : Fin (64 + 64), f q * (if h : q.val < 64 then W ⟨q.val, h⟩ else 0) from rfl, Fin.sum_univ_add]
  have h1 : ∀ q : Fin 64, f (Fin.castAdd 64 q) * (if h : (Fin.castAdd 64 q).val < 64 then W ⟨(Fin.castAdd 64 q).val, h⟩ else 0)
      = f ⟨q.val, by omega⟩ * W q := fun q => by rw [dif_pos (show (Fin.castAdd 64 q).val < 64 from q.isLt)]; rfl
  have h2 : ∀ q : Fin 64, f (Fin.natAdd 64 q) * (if h : (Fin.natAdd 64 q).val < 64 then W ⟨(Fin.natAdd 64 q).val, h⟩ else 0) = 0 := fun q => by
    rw [dif_neg (show ¬ (Fin.natAdd 64 q).val < 64 by simp), mul_zero]
  simp only [h1, h2, Finset.sum_const_zero, add_zero]

/-- A sum against 128 rows of which the lower 64 are zero. -/
theorem sum_above (f : Fin 128 → EReal) (W : Fin 64 → EReal) :
    ∑ q : Fin 128, f q * (if h : 64 ≤ q.val then W ⟨q.val - 64, by omega⟩ else 0) = ∑ q : Fin 64, f ⟨64 + q.val, by omega⟩ * W q := by
  rw [show (∑ q : Fin 128, f q * (if h : 64 ≤ q.val then W ⟨q.val - 64, by omega⟩ else 0))
    = ∑ q : Fin (64 + 64), f q * (if h : 64 ≤ q.val then W ⟨q.val - 64, by omega⟩ else 0) from rfl, Fin.sum_univ_add]
  have h1 : ∀ q : Fin 64, f (Fin.castAdd 64 q) * (if h : 64 ≤ (Fin.castAdd 64 q).val then W ⟨(Fin.castAdd 64 q).val - 64, by omega⟩ else 0) = 0 := fun q => by
    rw [dif_neg (show ¬ 64 ≤ (Fin.castAdd 64 q).val by simp), mul_zero]
  have h2 : ∀ q : Fin 64, f (Fin.natAdd 64 q) * (if h : 64 ≤ (Fin.natAdd 64 q).val then W ⟨(Fin.natAdd 64 q).val - 64, by omega⟩ else 0)
      = f ⟨64 + q.val, by omega⟩ * W q := fun q => by
    rw [dif_pos (show 64 ≤ (Fin.natAdd 64 q).val by simp)]
    refine congrArg₂ (· * ·) rfl (congrArg W (Fin.ext ?_))
    simp
  simp only [h1, h2, Finset.sum_const_zero, zero_add]

end Cert.Project

end
-- ==== Proof.Project.StepBlocks.lean ====
/-
  What each window of the projections' step holds at its one point: its argument, sliced, reshaped and padded by the host
  operations in front of the call.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Proof.Gen.Kernel6Ideal.Value
public import proofs.«01_k».proof.Proof.Project.Math

@[expose] public section

set_option maxRecDepth 16384

noncomputable section

namespace Cert.Project.Step

open Idealize.ShloMosaic Idealize.ShloMosaic.TcCoe Idealize.SL.Sem Cert.Kernel6Ideal Cert.Kernel6Ideal.Gen

variable (m : (ℓ : Loc nD τ sig) → Buf (Elt Ideal) ℓ) (c : Dev nD)

/-- Every window's block is its whole array: its block index is zero. -/
theorem idx1 : ∀ t : Fin cfg0.N, win0_1.index t = ![0, 0, 0, 0] :=
  (by decide +kernel : ∀ t : Fin grid0.N, _)

theorem idxA : ∀ t : Fin cfg0.N, win0_0.index t = ![0, 0] ∧ win0_2.index t = ![0, 0] ∧ win0_3.index t = ![0, 0] ∧ win0_4.index t = ![0, 0] ∧ win0_5.index t = ![0, 0] :=
  (by decide +kernel : ∀ t : Fin grid0.N, _)

theorem idxB : ∀ t : Fin cfg0.N, win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

theorem idxC : ∀ t : Fin cfg0.N, win0_12.index t = ![0, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

theorem idxD : ∀ t : Fin cfg0.N, win0_18.index t = ![0, 0] ∧ win0_19.index t = ![0, 0] ∧ win0_20.index t = ![0, 0] ∧ win0_21.index t = ![0, 0] :=
  (by decide +kernel : ∀ t : Fin grid0.N, _)

theorem idxE : ∀ t : Fin cfg0.N, win0_22.index t = ![0, 0] ∧ win0_23.index t = ![0, 0] ∧ win0_24.index t = ![0, 0] ∧ win0_25.index t = ![0, 0] :=
  (by decide +kernel : ∀ t : Fin grid0.N, _)

/-- The integer zero as a float. -/
theorem sitofp_zero : (FloatOps.sitofp (F := Ideal) FTy.f32 (0#32) : EReal) = 0 := by
  show (((0#32 : BitVec 32).toInt : ℝ) : EReal) = 0
  simp

/-- Rows of zeros below. -/
theorem padBelow (a : FVec Ideal S1x64x512 .f32) (q : Fin 128) (j : Fin 512) :
    (truncf .bf16 (pad S128x512 ![0, 0] ![64, 0] ![0, 0] (shapeCast S64x512 a shapeCasts_S1x64x512_S64x512)
      (sitofp .f32 (constantI S_ 32 0#32) : FVec Ideal S_ .f32) pads_S64x512_S128x512_0640_000 h_S_) bitsLt_bf16_f32 : FVec Ideal S128x512 .bf16) (ix2 q j)
      = if h : q.val < 64 then a (ix3 0 ⟨q.val, h⟩ j) else (0 : EReal) := by
  pointwise
  rw [sitofp_zero]

/-- Rows of zeros above. -/
theorem padAbove (a : FVec Ideal S1x64x512 .f32) (q : Fin 128) (j : Fin 512) :
    (truncf .bf16 (pad S128x512 ![64, 0] ![0, 0] ![0, 0] (shapeCast S64x512 a shapeCasts_S1x64x512_S64x512)
      (sitofp .f32 (constantI S_ 32 0#32) : FVec Ideal S_ .f32) pads_S64x512_S128x512_6400_000 h_S_) bitsLt_bf16_f32 : FVec Ideal S128x512 .bf16) (ix2 q j)
      = if h : 64 ≤ q.val then a (ix3 0 ⟨q.val - 64, by omega⟩ j) else (0 : EReal) := by
  pointwise
  rw [sitofp_zero]
  by_cases h : 64 ≤ q.val
  · rw [dif_pos h, dif_pos ⟨h, by omega⟩]
  · rw [dif_neg h, dif_neg (fun hh => h hh.1)]

theorem blk0 (t : Fin cfg0.N) (q : Fin 128) (d : Fin 1024) : iblk m c 0 t (ix2 q d) = (m ((c.tc : Thread nD τ).loc main_arg0) : FVec Ideal S128x1024 .f32) (ix2 q d) := by
  blk_ext! [iblk, V, idxA t]

theorem blk1 (t : Fin cfg0.N) (l : Fin 6) (q : Fin 128) (d : Fin 1024) : iblk m c 1 t (ix4 0 l q d) = (m ((c.tc : Thread nD τ).loc main_arg1) : FVec Ideal S1x6x128x1024 .f32) (ix4 0 l q d) := by
  blk_ext! [iblk, V, idx1 t]

theorem V15 (l : Fin 4) (d : Fin 1024) :
    (V m c main_v15 : FVec Ideal S4x1024 .f32) (ix2 l d)
      = (m ((c.tc : Thread nD τ).loc main_arg2) : FVec Ideal S2x4x1024 .f32) (ix3 0 l d) := by
  simp only [V, hostOps0, hostOps0_1, hostOps0_2, hostOps0_3, hostOps0_4, List.flatten_cons, List.flatten_nil, List.append_nil, List.cons_append, List.nil_append]
  after_results
  pointwise

theorem blk2 (t : Fin cfg0.N) (l : Fin 4) (d : Fin 1024) :
    iblk m c 2 t (ix2 l d) = (m ((c.tc : Thread nD τ).loc main_arg2) : FVec Ideal S2x4x1024 .f32) (ix3 0 l d) := by
  refine Eq.trans ?_ (V15 m c l d)
  blk_ext! [iblk, idxA t]

theorem V17 (d : Fin 1024) (j : Fin 3328) :
    (V m c main_v17 : FVec Ideal S1024x3328 .bf16) (ix2 d j)
      = (m ((c.tc : Thread nD τ).loc main_arg3) : FVec Ideal S1x1024x3328 .f32) (ix3 0 d j) := by
  simp only [V, hostOps0, hostOps0_1, hostOps0_2, hostOps0_3, hostOps0_4, List.flatten_cons, List.flatten_nil, List.append_nil, List.cons_append, List.nil_append]
  after_results
  pointwise

theorem blk3 (t : Fin cfg0.N) (d : Fin 1024) (j : Fin 3328) :
    iblk m c 3 t (ix2 d j) = (m ((c.tc : Thread nD τ).loc main_arg3) : FVec Ideal S1x1024x3328 .f32) (ix3 0 d j) := by
  refine Eq.trans ?_ (V17 m c d j)
  blk_ext! [iblk, idxA t]

theorem V0 (l : Fin 3) (j : Fin 512) :
    (V m c main_v0 : FVec Ideal S3x512 .f32) (ix2 l j)
      = (m ((c.tc : Thread nD τ).loc main_arg4) : FVec Ideal S1x3x512 .f32) (ix3 0 l j) := by
  simp only [V, hostOps0, hostOps0_1, hostOps0_2, hostOps0_3, hostOps0_4, List.flatten_cons, List.flatten_nil, List.append_nil, List.cons_append, List.nil_append]
  after_results
  pointwise

theorem blk4 (t : Fin cfg0.N) (l : Fin 3) (j : Fin 512) :
    iblk m c 4 t (ix2 l j) = (m ((c.tc : Thread nD τ).loc main_arg4) : FVec Ideal S1x3x512 .f32) (ix3 0 l j) := by
  refine Eq.trans ?_ (V0 m c l j)
  blk_ext! [iblk, idxA t]

theorem blk5 (t : Fin cfg0.N) (j : Fin 1792) : iblk m c 5 t (ix2 0 j) = (m ((c.tc : Thread nD τ).loc main_arg5) : FVec Ideal S1x1792 .f32) (ix2 0 j) := by
  blk_ext! [iblk, V, idxA t]

theorem blk6 (t : Fin cfg0.N) (j : Fin 512) : iblk m c 6 t (ix2 0 j) = (m ((c.tc : Thread nD τ).loc main_arg6) : FVec Ideal S1x512 .f32) (ix2 0 j) := by
  blk_ext! [iblk, V, idxB t]

theorem V3 (q : Fin 128) (j : Fin 512) :
    (V m c main_v3 : FVec Ideal S128x512 .bf16) (ix2 q j)
      = if h : q.val < 64 then (m ((c.tc : Thread nD τ).loc main_arg7) : FVec Ideal S1x64x512 .f32) (ix3 0 ⟨q.val, h⟩ j) else (0 : EReal) := by
  simp only [V, hostOps0, hostOps0_1, hostOps0_2, hostOps0_3, hostOps0_4, List.flatten_cons, List.flatten_nil, List.append_nil, List.cons_append, List.nil_append]
  after_results
  exact padBelow _ q j

theorem blk7 (t : Fin cfg0.N) (q : Fin 128) (j : Fin 512) :
    iblk m c 7 t (ix2 q j) = if h : q.val < 64 then (m ((c.tc : Thread nD τ).loc main_arg7) : FVec Ideal S1x64x512 .f32) (ix3 0 ⟨q.val, h⟩ j) else (0 : EReal) := by
  refine Eq.trans ?_ (V3 m c q j)
  blk_ext! [iblk, idxB t]

theorem blk8 (t : Fin cfg0.N) (j : Fin 512) : iblk m c 8 t (ix2 0 j) = (m ((c.tc : Thread nD τ).loc main_arg8) : FVec Ideal S1x512 .f32) (ix2 0 j) := by
  blk_ext! [iblk, V, idxB t]

theorem V6 (q : Fin 128) (j : Fin 512) :
    (V m c main_v6 : FVec Ideal S128x512 .bf16) (ix2 q j)
      = if h : 64 ≤ q.val then (m ((c.tc : Thread nD τ).loc main_arg9) : FVec Ideal S1x64x512 .f32) (ix3 0 ⟨q.val - 64, by omega⟩ j) else (0 : EReal) := by
  simp only [V, hostOps0, hostOps0_1, hostOps0_2, hostOps0_3, hostOps0_4, List.flatten_cons, List.flatten_nil, List.append_nil, List.cons_append, List.nil_append]
  after_results
  exact padAbove _ q j

theorem blk9 (t : Fin cfg0.N) (q : Fin 128) (j : Fin 512) :
    iblk m c 9 t (ix2 q j) = if h : 64 ≤ q.val then (m ((c.tc : Thread nD τ).loc main_arg9) : FVec Ideal S1x64x512 .f32) (ix3 0 ⟨q.val - 64, by omega⟩ j) else (0 : EReal) := by
  refine Eq.trans ?_ (V6 m c q j)
  blk_ext! [iblk, idxB t]

theorem V8 (q : Fin 128) (j : Fin 512) :
    (V m c main_v8 : FVec Ideal S128x512 .bf16) (ix2 q j)
      = (m ((c.tc : Thread nD τ).loc main_arg10) : FVec Ideal S1x128x512 .f32) (ix3 0 q j) := by
  simp only [V, hostOps0, hostOps0_1, hostOps0_2, hostOps0_3, hostOps0_4, List.flatten_cons, List.flatten_nil, List.append_nil, List.cons_append, List.nil_append]
  after_results
  pointwise

theorem blk10 (t : Fin cfg0.N) (q : Fin 128) (j : Fin 512) :
    iblk m c 10 t (ix2 q j) = (m ((c.tc : Thread nD τ).loc main_arg10) : FVec Ideal S1x128x512 .f32) (ix3 0 q j) := by
  refine Eq.trans ?_ (V8 m c q j)
  blk_ext! [iblk, idxB t]

theorem blk12 (t : Fin cfg0.N) (j : Fin 512) : iblk m c 12 t (ix2 0 j) = (m ((c.tc : Thread nD τ).loc main_arg12) : FVec Ideal S1x512 .f32) (ix2 0 j) := by
  blk_ext! [iblk, V, idxC t]

theorem V10 (q : Fin 128) (j : Fin 512) :
    (V m c main_v10 : FVec Ideal S128x512 .f32) (ix2 q j)
      = (m ((c.tc : Thread nD τ).loc main_arg13) : FVec Ideal S1x128x2x512 .f32) (ix4 0 q 0 j) := by
  simp only [V, hostOps0, hostOps0_1, hostOps0_2, hostOps0_3, hostOps0_4, List.flatten_cons, List.flatten_nil, List.append_nil, List.cons_append, List.nil_append]
  after_results
  pointwise

theorem blk13 (t : Fin cfg0.N) (q : Fin 128) (j : Fin 512) :
    iblk m c 13 t (ix2 q j) = (m ((c.tc : Thread nD τ).loc main_arg13) : FVec Ideal S1x128x2x512 .f32) (ix4 0 q 0 j) := by
  refine Eq.trans ?_ (V10 m c q j)
  blk_ext! [iblk, idxC t]

theorem V12 (q : Fin 128) (j : Fin 512) :
    (V m c main_v12 : FVec Ideal S128x512 .f32) (ix2 q j)
      = (m ((c.tc : Thread nD τ).loc main_arg13) : FVec Ideal S1x128x2x512 .f32) (ix4 0 q 1 j) := by
  simp only [V, hostOps0, hostOps0_1, hostOps0_2, hostOps0_3, hostOps0_4, List.flatten_cons, List.flatten_nil, List.append_nil, List.cons_append, List.nil_append]
  after_results
  pointwise

theorem blk14 (t : Fin cfg0.N) (q : Fin 128) (j : Fin 512) :
    iblk m c 14 t (ix2 q j) = (m ((c.tc : Thread nD τ).loc main_arg13) : FVec Ideal S1x128x2x512 .f32) (ix4 0 q 1 j) := by
  refine Eq.trans ?_ (V12 m c q j)
  blk_ext! [iblk, idxC t]

theorem V13 (q : Fin 128) (j : Fin 1792) :
    (V m c main_v13 : FVec Ideal S128x1792 .f32) (ix2 q j)
      = (m ((c.tc : Thread nD τ).loc main_arg14) : FVec Ideal S1x128x1792 .f32) (ix3 0 q j) := by
  simp only [V, hostOps0, hostOps0_1, hostOps0_2, hostOps0_3, hostOps0_4, List.flatten_cons, List.flatten_nil, List.append_nil, List.cons_append, List.nil_append]
  after_results
  pointwise

theorem blk15 (t : Fin cfg0.N) (q : Fin 128) (j : Fin 1792) :
    iblk m c 15 t (ix2 q j) = (m ((c.tc : Thread nD τ).loc main_arg14) : FVec Ideal S1x128x1792 .f32) (ix3 0 q j) := by
  refine Eq.trans ?_ (V13 m c q j)
  blk_ext! [iblk, idxC t]

end Cert.Project.Step

end
-- ==== Proof.Project.StepPoint.lean ====
/-
  One point of the projections' step: each output block, row by row, from the blocks of the arguments.
-/
module

public import Idealize.ShloMosaic.Lib.Pipeline.ValueKit
public import Idealize.ShloMosaic.Lib.Pipeline.ValueKit.Acc
public import Idealize.ShloMosaic.Lib.Claim
public import proofs.«01_k».proof.Proof.Gen.Kernel6Ideal.Value
public import proofs.«01_k».proof.Proof.Project.Math

@[expose] public section

set_option maxRecDepth 16384

noncomputable section

namespace Cert.Project.Step

open Idealize.ShloMosaic Cert.Kernel6Ideal Cert.Kernel6Ideal.Gen

variable (x0 : Vec Ideal S128x1024 .f32) (x1 : Vec Ideal S1x6x128x1024 .f32) (x2 : Vec Ideal S4x1024 .f32) (x3 : Vec Ideal S1024x3328 .bf16) (x4 : Vec Ideal S3x512 .f32) (x5 : Vec Ideal S1x1792 .f32) (x6 : Vec Ideal S1x512 .f32) (x7 : Vec Ideal S128x512 .bf16) (x8 : Vec Ideal S1x512 .f32) (x9 : Vec Ideal S128x512 .bf16) (x10 : Vec Ideal S128x512 .bf16) (x11 : Vec Ideal S1x512 .f32) (x12 : Vec Ideal S1x512 .f32) (x13 : Vec Ideal S128x512 .f32) (x14 : Vec Ideal S128x512 .f32) (x15 : Vec Ideal S128x1792 .f32)

/-- A row of the block through the combined projection. -/
def blockProj (q : Fin 128) : Fin 3328 → EReal :=
  proj (input (fun d => x0 (ix2 q d)) (fun d => x2 (ix2 0 d)) (fun d => x1 (ix4 0 1 q d)) (fun d => x1 (ix4 0 0 q d))) (fun d j => x3 (ix2 d j))

theorem b25 (q : Fin 128) (j : Fin 1792) : out0_25 x0 x1 x2 x3 x4 x5 x6 x7 x8 x9 x10 x11 x12 x13 x14 x15 (ix2 q j)
   = second (blockProj x0 x1 x2 x3 q) j := by
  unfold_out out0_25
  frame_out
  unfold_payloads
  pointwise [second, blockProj, proj, input, Cert.Final.scale]

theorem b24 (q : Fin 128) (j : Fin 512) : out0_24 x0 x1 x2 x3 x4 x5 x6 x7 x8 x9 x10 x11 x12 x13 x14 x15 (ix2 q j)
   = gated (blockProj x0 x1 x2 x3 q) j := by
  unfold_out out0_24
  frame_out
  unfold_payloads
  pointwise [gated, blockProj, proj, input, Cert.Final.scale]

theorem b16 (q : Fin 128) (j : Fin 512) : out0_16 x0 x1 x2 x3 x4 x5 x6 x7 x8 x9 x10 x11 x12 x13 x14 x15 (ix2 q j)
   = mixed (blockProj x0 x1 x2 x3 q) (fun j => x13 (ix2 q j)) (fun j => x14 (ix2 q j)) (fun j => x4 (ix2 0 j)) (fun j => x4 (ix2 1 j)) (fun j => x4 (ix2 2 j)) j := by
  unfold_out out0_16
  frame_out
  unfold_payloads
  pointwise [mixed, gated, blockProj, proj, input, Cert.Final.scale]

/-- A row of the block moved toward the previous position. -/
def xm (q : Fin 128) : Fin 1792 → EReal := shifted (blockProj x0 x1 x2 x3 q) (fun j => x15 (ix2 q j)) (fun j => x5 (ix2 0 j))

theorem b17 (q : Fin 128) (j : Fin 512) : out0_17 x0 x1 x2 x3 x4 x5 x6 x7 x8 x9 x10 x11 x12 x13 x14 x15 (ix2 q j)
   = xm x0 x1 x2 x3 x5 x15 q ⟨j.val, by omega⟩ := by
  unfold_out out0_17
  frame_out
  unfold_payloads
  pointwise [xm, shifted, second, blockProj, proj, input, Cert.Final.scale]

theorem b20 (q : Fin 128) (j : Fin 512) : out0_20 x0 x1 x2 x3 x4 x5 x6 x7 x8 x9 x10 x11 x12 x13 x14 x15 (ix2 q j)
   = xm x0 x1 x2 x3 x5 x15 q ⟨1024 + j.val, by omega⟩ := by
  unfold_out out0_20
  frame_out
  unfold_payloads
  pointwise [xm, shifted, second, blockProj, proj, input, Cert.Final.scale]

theorem b23 (q : Fin 128) (j : Fin 512) : out0_23 x0 x1 x2 x3 x4 x5 x6 x7 x8 x9 x10 x11 x12 x13 x14 x15 (ix2 q j)
   = gate (xm x0 x1 x2 x3 x5 x15 q) (fun q j => x10 (ix2 q j)) j := by
  unfold_out out0_23
  frame_out
  unfold_payloads
  pointwise [gate, xm, shifted, second, blockProj, proj, input, Cert.Final.scale]

/-- The in-context rate, against the padded weights. -/
def rate2 (xm : Fin 1792 → EReal) (a0 : Fin 512 → EReal) (W : Fin 128 → Fin 512 → EReal) (j : Fin 512) : EReal :=
  Ideal.logistic (a0 j + ∑ q : Fin 128, xm ⟨1536 + q.val, by omega⟩ * W q j)

/-- The decay's argument, against the padded weights. -/
def decay2 (xm : Fin 1792 → EReal) (w0 : Fin 512 → EReal) (W : Fin 128 → Fin 512 → EReal) (j : Fin 512) : EReal :=
  w0 j + ∑ q : Fin 128, Ideal.tanh (xm ⟨1536 + q.val, by omega⟩) * W q j

theorem b22 (q : Fin 128) (j : Fin 512) : out0_22 x0 x1 x2 x3 x4 x5 x6 x7 x8 x9 x10 x11 x12 x13 x14 x15 (ix2 q j)
   = rate2 (xm x0 x1 x2 x3 x5 x15 q) (fun j => x8 (ix2 0 j)) (fun q j => x9 (ix2 q j)) j := by
  unfold_out out0_22
  frame_out
  unfold_payloads
  pointwise [rate2, xm, shifted, second, blockProj, proj, input, Cert.Final.scale]

theorem b19 (q : Fin 128) (j : Fin 512) : out0_19 x0 x1 x2 x3 x4 x5 x6 x7 x8 x9 x10 x11 x12 x13 x14 x15 (ix2 q j)
   = key (xm x0 x1 x2 x3 x5 x15 q) (rate2 (xm x0 x1 x2 x3 x5 x15 q) (fun j => x8 (ix2 0 j)) (fun q j => x9 (ix2 q j))) (fun j => x12 (ix2 0 j)) j := by
  unfold_out out0_19
  frame_out
  unfold_payloads
  pointwise [key, rate2, xm, shifted, second, blockProj, proj, input, Cert.Final.scale]

theorem b18 (q : Fin 128) (j : Fin 512) : out0_18 x0 x1 x2 x3 x4 x5 x6 x7 x8 x9 x10 x11 x12 x13 x14 x15 (ix2 q j)
   = logDecay (decay2 (xm x0 x1 x2 x3 x5 x15 q) (fun j => x6 (ix2 0 j)) (fun q j => x7 (ix2 q j)) j) := by
  unfold_out out0_18
  frame_out
  unfold_payloads
  pointwise [logDecay, softplus, decay2, xm, shifted, second, blockProj, proj, input, Cert.Final.scale]

/-- Padded weights give the rate: the zero rows meet the decay's columns. -/
theorem rate2_padded (xm : Fin 1792 → EReal) (a0 : Fin 512 → EReal) (W : Fin 64 → Fin 512 → EReal) :
    rate2 xm a0 (fun q j => if h : 64 ≤ q.val then W ⟨q.val - 64, by omega⟩ j else 0) = rate xm a0 W := by
  funext j
  unfold rate2 rate
  refine congrArg Ideal.logistic (congrArg (a0 j + ·) ((sum_above (fun q => xm ⟨1536 + q.val, by omega⟩) (fun q => W q j)).trans
    (Finset.sum_congr rfl fun q _ => congrArg (fun i => xm i * W q j) (Fin.ext ?_))))
  show 1536 + (64 + q.val) = 1600 + q.val
  omega

/-- Padded weights give the decay's argument: the zero rows meet the rate's columns. -/
theorem decay2_padded (xm : Fin 1792 → EReal) (w0 : Fin 512 → EReal) (W : Fin 64 → Fin 512 → EReal) (j : Fin 512) :
    decay2 xm w0 (fun q j => if h : q.val < 64 then W ⟨q.val, h⟩ j else 0) j = decayArg xm w0 W j := by
  unfold decay2 decayArg
  exact congrArg (w0 j + ·) (sum_below (fun q => Ideal.tanh (xm ⟨1536 + q.val, by omega⟩)) (fun q => W q j))

end Cert.Project.Step

end
-- ==== Proof.Project.StepReference.lean ====
/-
  The projections' step as the reference computes it, row by row.
-/
module

public import Idealize.ShloMosaic.Lib.Tactic.CleanTypes
public import Idealize.ShloMosaic.Lib.Claim
public import proofs.«01_k».proof.Proof.Gen.Reference6Ideal.Run
public import proofs.«01_k».proof.Proof.Project.Math

@[expose] public section

set_option maxRecDepth 16384

noncomputable section

namespace Cert.Project.Step

open Idealize.ShloMosaic Idealize.ShloMosaic.TcCoe Idealize.SL.Sem Cert.Reference6Ideal Cert.Reference6Ideal.Gen

variable (a0 : FVec Ideal S128x1024 .f32) (a1 : FVec Ideal S1x6x128x1024 .f32) (a2 : FVec Ideal S2x4x1024 .f32) (a3 : FVec Ideal S1x1024x3328 .f32) (a4 : FVec Ideal S1x3x512 .f32) (a5 : FVec Ideal S1x1792 .f32) (a6 : FVec Ideal S1x512 .f32) (a7 : FVec Ideal S1x64x512 .f32) (a8 : FVec Ideal S1x512 .f32) (a9 : FVec Ideal S1x64x512 .f32) (a10 : FVec Ideal S1x128x512 .f32) (a11 : FVec Ideal S1x512 .f32) (a12 : FVec Ideal S1x512 .f32) (a13 : FVec Ideal S1x128x2x512 .f32) (a14 : FVec Ideal S1x128x1792 .f32)

/-- A row through the combined projection. -/
def rowProj (q : Fin 128) : Fin 3328 → EReal :=
  proj (input (fun d => a0 (ix2 q d)) (fun d => a2 (ix3 0 0 d)) (fun d => a1 (ix4 0 1 q d)) (fun d => a1 (ix4 0 0 q d)))
    (fun d j => a3 (ix3 0 d j))

/-- A row moved toward the previous position. -/
def rowShifted (q : Fin 128) : Fin 1792 → EReal :=
  shifted (rowProj a0 a1 a2 a3 q) (fun j => a14 (ix3 0 q j)) (fun j => a5 (ix2 0 j))

/-- The receptance of a row. -/
def rowR (q : Fin 128) (j : Fin 512) : EReal := rowShifted a0 a1 a2 a3 a5 a14 q ⟨j.val, by omega⟩

/-- The value of a row. -/
def rowV (q : Fin 128) (j : Fin 512) : EReal := rowShifted a0 a1 a2 a3 a5 a14 q ⟨1024 + j.val, by omega⟩

/-- The first mixer's output. -/
def rowMixed (q : Fin 128) : Fin 512 → EReal :=
  mixed (rowProj a0 a1 a2 a3 q) (fun j => a13 (ix4 0 q 0 j)) (fun j => a13 (ix4 0 q 1 j)) (fun j => a4 (ix3 0 0 j))
    (fun j => a4 (ix3 0 1 j)) (fun j => a4 (ix3 0 2 j))

/-- The in-context rate of a row. -/
def rowRate (q : Fin 128) : Fin 512 → EReal :=
  rate (rowShifted a0 a1 a2 a3 a5 a14 q) (fun j => a8 (ix2 0 j)) (fun i j => a9 (ix3 0 i j))

/-- The logarithm of a row's decay. -/
def rowDecay (q : Fin 128) (j : Fin 512) : EReal :=
  logDecay (decayArg (rowShifted a0 a1 a2 a3 a5 a14 q) (fun j => a6 (ix2 0 j)) (fun i j => a7 (ix3 0 i j)) j)

/-- The output gate of a row. -/
def rowGate (q : Fin 128) : Fin 512 → EReal := gate (rowShifted a0 a1 a2 a3 a5 a14 q) (fun i j => a10 (ix3 0 i j))

/-- The key of a row. -/
def rowKey (q : Fin 128) : Fin 512 → EReal :=
  key (rowShifted a0 a1 a2 a3 a5 a14 q) (rowRate a0 a1 a2 a3 a5 a8 a9 a14 q) (fun j => a12 (ix2 0 j))

/-- The rows through the combined projection. -/
def projArr : FVec Ideal S128x3328 .f32 :=
  (Host.dotGeneral dot_S128x1024_S1024x3328_S128x3328_1_0_0_1_n_n none (addf (mulf (mulf (mulf a0 (broadcastInDim S128x1024 ![0, 1] bcast_S128x1_S128x1024_0_1 (Host.rsqrt (addf (Host.divf (broadcastInDim S128x1 ![0] bcast_S128_S128x1_0 (Host.reduceAdd (mulf a0 a0) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ (extractStridedSlice S1x1x1024 ![0, 0, 0] a2 slices_S2x4x1024_S1x1x1024_0_0_0) shapeCasts_S1x1x1024_S1024)))) (addf (broadcastInDim S128x1024 ![] bcast_S_S128x1024 (constant S_ .f32 0x3F800000#32)) (shapeCast _ (extractStridedSlice S1x1x128x1024 ![0, 1, 0, 0] a1 slices_S1x6x128x1024_S1x1x128x1024_0_1_0_0) shapeCasts_S1x1x128x1024_S128x1024))) (shapeCast _ (extractStridedSlice S1x1x128x1024 ![0, 0, 0, 0] a1 slices_S1x6x128x1024_S1x1x128x1024_0_0_0_0) shapeCasts_S1x1x128x1024_S128x1024)) (shapeCast _ a3 shapeCasts_S1x1024x3328_S1024x3328))

theorem projArr_at (q : Fin 128) (j : Fin 3328) : projArr a0 a1 a2 a3 (ix2 q j) = rowProj a0 a1 a2 a3 q j := by
  unfold projArr
  pointwise [rowProj, proj, input, Cert.Final.scale]

/-- The second mixer's columns moved toward the previous position. -/
def shiftedArr : FVec Ideal S128x1792 .f32 :=
  (addf (extractStridedSlice S128x1792 ![0, 1536] (projArr a0 a1 a2 a3) slices_S128x3328_S128x1792_0_1536) (mulf (subf (shapeCast _ a14 shapeCasts_S1x128x1792_S128x1792) (extractStridedSlice S128x1792 ![0, 1536] (projArr a0 a1 a2 a3) slices_S128x3328_S128x1792_0_1536)) (broadcastInDim S128x1792 ![0, 1] bcast_S1x1792_S128x1792_0_1 (broadcastInDim S1x1792 ![1] bcast_S1792_S1x1792_1 (shapeCast _ a5 shapeCasts_S1x1792_S1792)))))

theorem shiftedArr_at (q : Fin 128) (j : Fin 1792) : shiftedArr a0 a1 a2 a3 a5 a14 (ix2 q j) = rowShifted a0 a1 a2 a3 a5 a14 q j := by
  unfold shiftedArr
  pointwise [projArr_at, rowShifted, shifted, second]

/-- The decay's argument, negated. -/
def decayArr : FVec Ideal S128x512 .f32 :=
  (Host.negf (addf (broadcastInDim S128x512 ![0, 1] bcast_S1x512_S128x512_0_1 (broadcastInDim S1x512 ![1] bcast_S512_S1x512_1 (shapeCast _ a6 shapeCasts_S1x512_S512))) (Host.dotGeneral dot_S128x64_S64x512_S128x512_1_0_0_1_n_n none (Host.tanh (extractStridedSlice S128x64 ![0, 1536] (shiftedArr a0 a1 a2 a3 a5 a14) slices_S128x1792_S128x64_0_1536)) (shapeCast _ a7 shapeCasts_S1x64x512_S64x512))))

theorem decayArr_at (q : Fin 128) (j : Fin 512) : decayArr a0 a1 a2 a3 a5 a6 a7 a14 (ix2 q j)
    = 0 - decayArg (rowShifted a0 a1 a2 a3 a5 a14 q) (fun j => a6 (ix2 0 j)) (fun i j => a7 (ix3 0 i j)) j := by
  unfold decayArr
  pointwise [shiftedArr_at, decayArg]
  exact (zero_sub _).symm

/-- The in-context rates. -/
def rateArr : FVec Ideal S128x512 .f32 :=
  Host.divf (broadcastInDim S128x512 ![] bcast_S_S128x512 (constant S_ .f32 0x3F800000#32)) (addf (broadcastInDim S128x512 ![] bcast_S_S128x512 (constant S_ .f32 0x3F800000#32)) (Host.exp (Host.negf (addf (broadcastInDim S128x512 ![0, 1] bcast_S1x512_S128x512_0_1 (broadcastInDim S1x512 ![1] bcast_S512_S1x512_1 (shapeCast _ a8 shapeCasts_S1x512_S512))) (Host.dotGeneral dot_S128x64_S64x512_S128x512_1_0_0_1_n_n none (extractStridedSlice S128x64 ![0, 1600] (shiftedArr a0 a1 a2 a3 a5 a14) slices_S128x1792_S128x64_0_1600) (shapeCast _ a9 shapeCasts_S1x64x512_S64x512))))))

theorem rateArr_at (q : Fin 128) (j : Fin 512) : rateArr a0 a1 a2 a3 a5 a8 a9 a14 (ix2 q j) = rowRate a0 a1 a2 a3 a5 a8 a9 a14 q j := by
  unfold rateArr
  pointwise [shiftedArr_at, rowRate, rate]
  rfl

theorem ref_mixed (q : Fin 128) (j : Fin 512) :
    (truncf .bf16 (mulf (extractStridedSlice S128x512 ![0, 512] (projArr a0 a1 a2 a3) slices_S128x3328_S128x512_0_512) (addf (addf (mulf (shapeCast _ (extractStridedSlice S1x128x1x512 ![0, 0, 0, 0] a13 slices_S1x128x2x512_S1x128x1x512_0_0_0_0) shapeCasts_S1x128x1x512_S128x512) (broadcastInDim S128x512 ![0, 1] bcast_S1x512_S128x512_0_1 (broadcastInDim S1x512 ![1] bcast_S512_S1x512_1 (shapeCast _ (extractStridedSlice S1x512 ![0, 0] (shapeCast _ a4 shapeCasts_S1x3x512_S3x512) slices_S3x512_S1x512_0_0) shapeCasts_S1x512_S512)))) (mulf (shapeCast _ (extractStridedSlice S1x128x1x512 ![0, 0, 1, 0] a13 slices_S1x128x2x512_S1x128x1x512_0_0_1_0) shapeCasts_S1x128x1x512_S128x512) (broadcastInDim S128x512 ![0, 1] bcast_S1x512_S128x512_0_1 (broadcastInDim S1x512 ![1] bcast_S512_S1x512_1 (shapeCast _ (extractStridedSlice S1x512 ![1, 0] (shapeCast _ a4 shapeCasts_S1x3x512_S3x512) slices_S3x512_S1x512_1_0) shapeCasts_S1x512_S512))))) (mulf (mulf (extractStridedSlice S128x512 ![0, 1024] (projArr a0 a1 a2 a3) slices_S128x3328_S128x512_0_1024) (extractStridedSlice S128x512 ![0, 0] (projArr a0 a1 a2 a3) slices_S128x3328_S128x512_0_0)) (broadcastInDim S128x512 ![0, 1] bcast_S1x512_S128x512_0_1 (broadcastInDim S1x512 ![1] bcast_S512_S1x512_1 (shapeCast _ (extractStridedSlice S1x512 ![2, 0] (shapeCast _ a4 shapeCasts_S1x3x512_S3x512) slices_S3x512_S1x512_2_0) shapeCasts_S1x512_S512)))))) bitsLt_bf16_f32 : FVec Ideal S128x512 .bf16) (ix2 q j)
      = rowMixed a0 a1 a2 a3 a4 a13 q j := by
  pointwise [projArr_at, rowMixed, mixed, gated]

theorem ref_r (q : Fin 128) (j : Fin 512) :
    (extractStridedSlice S128x512 ![0, 0] (shiftedArr a0 a1 a2 a3 a5 a14) slices_S128x1792_S128x512_0_0 : FVec Ideal S128x512 .f32) (ix2 q j)
      = rowR a0 a1 a2 a3 a5 a14 q j := by
  pointwise [shiftedArr_at, rowR]

theorem ref_decay (q : Fin 128) (j : Fin 512) :
    (Host.negf (Host.exp (subf (Host.negf (select (cmpf .une (subf (decayArr a0 a1 a2 a3 a5 a6 a7 a14) (broadcastInDim S128x512 ![] bcast_S_S128x512 (constant S_ .f32 0x00000000#32))) (subf (decayArr a0 a1 a2 a3 a5 a6 a7 a14) (broadcastInDim S128x512 ![] bcast_S_S128x512 (constant S_ .f32 0x00000000#32)))) (addf (decayArr a0 a1 a2 a3 a5 a6 a7 a14) (broadcastInDim S128x512 ![] bcast_S_S128x512 (constant S_ .f32 0x00000000#32))) (addf (maximumf (decayArr a0 a1 a2 a3 a5 a6 a7 a14) (broadcastInDim S128x512 ![] bcast_S_S128x512 (constant S_ .f32 0x00000000#32))) (Host.log1p (Host.exp (Host.negf (Host.absf (subf (decayArr a0 a1 a2 a3 a5 a6 a7 a14) (broadcastInDim S128x512 ![] bcast_S_S128x512 (constant S_ .f32 0x00000000#32)))))))))) (broadcastInDim S128x512 ![] bcast_S_S128x512 (constant S_ .f32 0x3F000000#32)))) : FVec Ideal S128x512 .f32) (ix2 q j)
      = rowDecay a0 a1 a2 a3 a5 a6 a7 a14 q j := by
  pointwise [decayArr_at, rowDecay]
  rw [if_neg (fun h => h rfl)]
  exact (logDecay_eq _).symm

theorem ref_key (q : Fin 128) (j : Fin 512) :
    (mulf (extractStridedSlice S128x512 ![0, 512] (shiftedArr a0 a1 a2 a3 a5 a14) slices_S128x1792_S128x512_0_512) (addf (broadcastInDim S128x512 ![] bcast_S_S128x512 (constant S_ .f32 0x3F800000#32)) (mulf (subf (rateArr a0 a1 a2 a3 a5 a8 a9 a14) (broadcastInDim S128x512 ![] bcast_S_S128x512 (constant S_ .f32 0x3F800000#32))) (broadcastInDim S128x512 ![0, 1] bcast_S1x512_S128x512_0_1 (broadcastInDim S1x512 ![1] bcast_S512_S1x512_1 (shapeCast _ a12 shapeCasts_S1x512_S512))))) : FVec Ideal S128x512 .f32) (ix2 q j)
      = rowKey a0 a1 a2 a3 a5 a8 a9 a12 a14 q j := by
  pointwise [shiftedArr_at, rateArr_at, rowKey, key]

theorem ref_v (q : Fin 128) (j : Fin 512) :
    (extractStridedSlice S128x512 ![0, 1024] (shiftedArr a0 a1 a2 a3 a5 a14) slices_S128x1792_S128x512_0_1024 : FVec Ideal S128x512 .f32) (ix2 q j)
      = rowV a0 a1 a2 a3 a5 a14 q j := by
  pointwise [shiftedArr_at, rowV]

theorem ref_gate (q : Fin 128) (j : Fin 512) :
    (Host.dotGeneral dot_S128x128_S128x512_S128x512_1_0_0_1_n_n none (Host.divf (broadcastInDim S128x128 ![] bcast_S_S128x128 (constant S_ .f32 0x3F800000#32)) (addf (broadcastInDim S128x128 ![] bcast_S_S128x128 (constant S_ .f32 0x3F800000#32)) (Host.exp (Host.negf (extractStridedSlice S128x128 ![0, 1664] (shiftedArr a0 a1 a2 a3 a5 a14) slices_S128x1792_S128x128_0_1664))))) (shapeCast _ a10 shapeCasts_S1x128x512_S128x512) : FVec Ideal S128x512 .f32) (ix2 q j)
      = rowGate a0 a1 a2 a3 a5 a10 a14 q j := by
  pointwise [shiftedArr_at, rowGate, gate]
  rfl

theorem ref_gated (q : Fin 128) (j : Fin 512) :
    (mulf (extractStridedSlice S128x512 ![0, 1024] (projArr a0 a1 a2 a3) slices_S128x3328_S128x512_0_1024) (extractStridedSlice S128x512 ![0, 0] (projArr a0 a1 a2 a3) slices_S128x3328_S128x512_0_0) : FVec Ideal S128x512 .f32) (ix2 q j)
      = gated (rowProj a0 a1 a2 a3 q) j := by
  pointwise [projArr_at, gated]

theorem ref_second (q : Fin 128) (j : Fin 1792) :
    (extractStridedSlice S128x1792 ![0, 1536] (projArr a0 a1 a2 a3) slices_S128x3328_S128x1792_0_1536 : FVec Ideal S128x1792 .f32) (ix2 q j)
      = second (rowProj a0 a1 a2 a3 q) j := by
  pointwise [projArr_at, second]

end Cert.Project.Step

end
-- ==== Proof.Project.StepArrays.lean ====
/-
  The arrays that the projections' step leaves: each is its one block.
-/
module

public import proofs.«01_k».proof.Proof.Project.StepBlocks
public import proofs.«01_k».proof.Proof.Project.StepPoint
public import proofs.«01_k».proof.Proof.Project.StepReference

@[expose] public section

set_option maxRecDepth 16384

noncomputable section

namespace Cert.Project.Step

open Idealize.ShloMosaic Idealize.ShloMosaic.TcCoe Idealize.SL.Sem Cert.Kernel6Ideal Cert.Kernel6Ideal.Gen

variable (m : (ℓ : Loc nD τ sig) → Buf (Elt Ideal) ℓ) (c : Dev nD)

/-- A row of the blocks through the projection, from the arguments. -/
theorem blockProj_eq (t : Fin cfg0.N) (q : Fin 128) : blockProj (iblk m c 0 t) (iblk m c 1 t) (iblk m c 2 t) (iblk m c 3 t) q
    = rowProj (m ((c.tc : Thread nD τ).loc main_arg0)) (m ((c.tc : Thread nD τ).loc main_arg1)) (m ((c.tc : Thread nD τ).loc main_arg2)) (m ((c.tc : Thread nD τ).loc main_arg3)) q := by
  unfold blockProj rowProj
  simp only [blk0, blk1, blk2, blk3]

/-- A shifted row of the blocks, from the arguments. -/
theorem xm_eq (t : Fin cfg0.N) (q : Fin 128) :
    xm (iblk m c 0 t) (iblk m c 1 t) (iblk m c 2 t) (iblk m c 3 t) (iblk m c 5 t) (iblk m c 15 t) q
    = rowShifted (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg14)) q := by
  unfold xm rowShifted
  rw [blockProj_eq]
  simp only [blk5, blk15]

theorem final16 : (dats m 0 c).arrAt 16 cfg0.N = fun i : S128x512.Idx =>
    rowMixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13)) (i 0) (i 1) := by
  refine (dats m 0 c).arrAt_eq_of_covers 16 _ (by decide +kernel) fun t hf y => ?_
  blk_simp
  rw [after0_16]
  obtain ⟨q, j, rfl⟩ : ∃ (q : Fin 128) (j : Fin 512), y = ix2 q j := ⟨y 0, y 1, eq_ix2 y⟩
  have e0 : (win0_16.blk t).view.emb (ix2 q j) 0 = q := by
    refine Fin.ext ?_; blk_simp [idxC t]
  have e1 : (win0_16.blk t).view.emb (ix2 q j) 1 = j := by
    refine Fin.ext ?_; blk_simp [idxC t]
  refine (b16 _ _ _ _ _ _ _ _ _ _ _ _ _ _ _ _ q j).trans ?_
  rw [e0, e1]
  simp only [rowMixed, blockProj_eq, blk4, blk13, blk14]

theorem final17 : (dats m 0 c).arrAt 17 cfg0.N = fun i : S128x512.Idx =>
    rowR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg14)) (i 0) (i 1) := by
  refine (dats m 0 c).arrAt_eq_of_covers 17 _ (by decide +kernel) fun t hf y => ?_
  blk_simp
  rw [after0_17]
  obtain ⟨q, j, rfl⟩ : ∃ (q : Fin 128) (j : Fin 512), y = ix2 q j := ⟨y 0, y 1, eq_ix2 y⟩
  have e0 : (win0_17.blk t).view.emb (ix2 q j) 0 = q := by
    refine Fin.ext ?_; blk_simp [idxC t]
  have e1 : (win0_17.blk t).view.emb (ix2 q j) 1 = j := by
    refine Fin.ext ?_; blk_simp [idxC t]
  refine (b17 _ _ _ _ _ _ _ _ _ _ _ _ _ _ _ _ q j).trans ?_
  rw [e0, e1]
  simp only [rowR, xm_eq]

theorem final18 : (dats m 0 c).arrAt 18 cfg0.N = fun i : S128x512.Idx =>
    rowDecay (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg14)) (i 0) (i 1) := by
  refine (dats m 0 c).arrAt_eq_of_covers 18 _ (by decide +kernel) fun t hf y => ?_
  blk_simp
  rw [after0_18]
  obtain ⟨q, j, rfl⟩ : ∃ (q : Fin 128) (j : Fin 512), y = ix2 q j := ⟨y 0, y 1, eq_ix2 y⟩
  have e0 : (win0_18.blk t).view.emb (ix2 q j) 0 = q := by
    refine Fin.ext ?_; blk_simp [idxD t]
  have e1 : (win0_18.blk t).view.emb (ix2 q j) 1 = j := by
    refine Fin.ext ?_; blk_simp [idxD t]
  refine (b18 _ _ _ _ _ _ _ _ _ _ _ _ _ _ _ _ q j).trans ?_
  rw [e0, e1]
  simp only [rowDecay, xm_eq, blk6, blk7]
  exact congrArg logDecay (decay2_padded _ _ (fun i j => (m ((c.tc : Thread nD τ).loc main_arg7) : FVec Ideal S1x64x512 .f32) (ix3 0 i j)) j)

theorem final19 : (dats m 0 c).arrAt 19 cfg0.N = fun i : S128x512.Idx =>
    rowKey (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg14)) (i 0) (i 1) := by
  refine (dats m 0 c).arrAt_eq_of_covers 19 _ (by decide +kernel) fun t hf y => ?_
  blk_simp
  rw [after0_19]
  obtain ⟨q, j, rfl⟩ : ∃ (q : Fin 128) (j : Fin 512), y = ix2 q j := ⟨y 0, y 1, eq_ix2 y⟩
  have e0 : (win0_19.blk t).view.emb (ix2 q j) 0 = q := by
    refine Fin.ext ?_; blk_simp [idxD t]
  have e1 : (win0_19.blk t).view.emb (ix2 q j) 1 = j := by
    refine Fin.ext ?_; blk_simp [idxD t]
  refine (b19 _ _ _ _ _ _ _ _ _ _ _ _ _ _ _ _ q j).trans ?_
  rw [e0, e1]
  simp only [rowKey, rowRate, xm_eq, blk8, blk9, blk12]
  exact congrArg (fun a => key _ a _ j) (rate2_padded _ _ (fun i j => (m ((c.tc : Thread nD τ).loc main_arg9) : FVec Ideal S1x64x512 .f32) (ix3 0 i j)))

theorem final20 : (dats m 0 c).arrAt 20 cfg0.N = fun i : S128x512.Idx =>
    rowV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg14)) (i 0) (i 1) := by
  refine (dats m 0 c).arrAt_eq_of_covers 20 _ (by decide +kernel) fun t hf y => ?_
  blk_simp
  rw [after0_20]
  obtain ⟨q, j, rfl⟩ : ∃ (q : Fin 128) (j : Fin 512), y = ix2 q j := ⟨y 0, y 1, eq_ix2 y⟩
  have e0 : (win0_20.blk t).view.emb (ix2 q j) 0 = q := by
    refine Fin.ext ?_; blk_simp [idxD t]
  have e1 : (win0_20.blk t).view.emb (ix2 q j) 1 = j := by
    refine Fin.ext ?_; blk_simp [idxD t]
  refine (b20 _ _ _ _ _ _ _ _ _ _ _ _ _ _ _ _ q j).trans ?_
  rw [e0, e1]
  simp only [rowV, xm_eq]

theorem final22 : (dats m 0 c).arrAt 22 cfg0.N = fun i : S128x512.Idx =>
    rowRate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg14)) (i 0) (i 1) := by
  refine (dats m 0 c).arrAt_eq_of_covers 22 _ (by decide +kernel) fun t hf y => ?_
  blk_simp
  rw [after0_22]
  obtain ⟨q, j, rfl⟩ : ∃ (q : Fin 128) (j : Fin 512), y = ix2 q j := ⟨y 0, y 1, eq_ix2 y⟩
  have e0 : (win0_22.blk t).view.emb (ix2 q j) 0 = q := by
    refine Fin.ext ?_; blk_simp [idxE t]
  have e1 : (win0_22.blk t).view.emb (ix2 q j) 1 = j := by
    refine Fin.ext ?_; blk_simp [idxE t]
  refine (b22 _ _ _ _ _ _ _ _ _ _ _ _ _ _ _ _ q j).trans ?_
  rw [e0, e1]
  simp only [rowRate, xm_eq, blk8, blk9]
  exact congrFun (rate2_padded _ _ (fun i j => (m ((c.tc : Thread nD τ).loc main_arg9) : FVec Ideal S1x64x512 .f32) (ix3 0 i j))) j

theorem final23 : (dats m 0 c).arrAt 23 cfg0.N = fun i : S128x512.Idx =>
    rowGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg10)) (m ((c.tc : Thread nD τ).loc main_arg14)) (i 0) (i 1) := by
  refine (dats m 0 c).arrAt_eq_of_covers 23 _ (by decide +kernel) fun t hf y => ?_
  blk_simp
  rw [after0_23]
  obtain ⟨q, j, rfl⟩ : ∃ (q : Fin 128) (j : Fin 512), y = ix2 q j := ⟨y 0, y 1, eq_ix2 y⟩
  have e0 : (win0_23.blk t).view.emb (ix2 q j) 0 = q := by
    refine Fin.ext ?_; blk_simp [idxE t]
  have e1 : (win0_23.blk t).view.emb (ix2 q j) 1 = j := by
    refine Fin.ext ?_; blk_simp [idxE t]
  refine (b23 _ _ _ _ _ _ _ _ _ _ _ _ _ _ _ _ q j).trans ?_
  rw [e0, e1]
  simp only [rowGate, xm_eq, blk10]

theorem final24 : (dats m 0 c).arrAt 24 cfg0.N = fun i : S128x512.Idx =>
    gated (rowProj (m ((c.tc : Thread nD τ).loc main_arg0)) (m ((c.tc : Thread nD τ).loc main_arg1)) (m ((c.tc : Thread nD τ).loc main_arg2)) (m ((c.tc : Thread nD τ).loc main_arg3)) (i 0)) (i 1) := by
  refine (dats m 0 c).arrAt_eq_of_covers 24 _ (by decide +kernel) fun t hf y => ?_
  blk_simp
  rw [after0_24]
  obtain ⟨q, j, rfl⟩ : ∃ (q : Fin 128) (j : Fin 512), y = ix2 q j := ⟨y 0, y 1, eq_ix2 y⟩
  have e0 : (win0_24.blk t).view.emb (ix2 q j) 0 = q := by
    refine Fin.ext ?_; blk_simp [idxE t]
  have e1 : (win0_24.blk t).view.emb (ix2 q j) 1 = j := by
    refine Fin.ext ?_; blk_simp [idxE t]
  refine (b24 _ _ _ _ _ _ _ _ _ _ _ _ _ _ _ _ q j).trans ?_
  rw [e0, e1]
  rw [blockProj_eq]

theorem final25 : (dats m 0 c).arrAt 25 cfg0.N = fun i : S128x1792.Idx =>
    second (rowProj (m ((c.tc : Thread nD τ).loc main_arg0)) (m ((c.tc : Thread nD τ).loc main_arg1)) (m ((c.tc : Thread nD τ).loc main_arg2)) (m ((c.tc : Thread nD τ).loc main_arg3)) (i 0)) (i 1) := by
  refine (dats m 0 c).arrAt_eq_of_covers 25 _ (by decide +kernel) fun t hf y => ?_
  blk_simp
  rw [after0_25]
  obtain ⟨q, j, rfl⟩ : ∃ (q : Fin 128) (j : Fin 1792), y = ix2 q j := ⟨y 0, y 1, eq_ix2 y⟩
  have e0 : (win0_25.blk t).view.emb (ix2 q j) 0 = q := by
    refine Fin.ext ?_; blk_simp [idxE t]
  have e1 : (win0_25.blk t).view.emb (ix2 q j) 1 = j := by
    refine Fin.ext ?_; blk_simp [idxE t]
  refine (b25 _ _ _ _ _ _ _ _ _ _ _ _ _ _ _ _ q j).trans ?_
  rw [e0, e1]
  rw [blockProj_eq]

end Cert.Project.Step

end
-- ==== Proof.Project.Step.lean ====
/-
  The claims about the projections in front of the first trunk layer's mixers, for the decoding tokens.
-/
module

public import proofs.«01_k».proof.Defs
public import proofs.«01_k».proof.Proof.Gen.Kernel6.Frame
public import proofs.«01_k».proof.Proof.Project.StepArrays

@[expose] public section

set_option maxRecDepth 16384

noncomputable section

namespace Cert.Project.Step

open Idealize.ShloMosaic Idealize.ShloMosaic.TcCoe Idealize.SL.Sem

theorem frame : Cert.quiescent_Kernel6 := fun m ρ _ => Cert.Kernel6.Gen.frame m ρ

theorem frameIdeal : Cert.quiescent_Kernel6Ideal := fun m ρ _ => Cert.Kernel6Ideal.Gen.frame m ρ

/-- The reference is host operations only: it keeps its arguments and declares no semaphore. -/
theorem frameReference : Cert.quiescent_Reference6Ideal := fun m ρ _ =>
  (θ_run Cert.Reference6Ideal.defs _ _).mono (fun r h => ⟨fun c => (h c).2.2.2.2.2.2.2.2.2, sem_eq_zero_of_no_sems (by decide) r.2⟩)
    (Cert.Reference6Ideal.Value.run (F := Ideal) m ρ)

theorem preserves : Cert.preserves_Kernel6_Kernel6Ideal := trivial

set_option maxHeartbeats 1600000 in
/-- Both runs end with the same nine arrays. -/
theorem algebraic : Cert.algebraic_Kernel6Ideal_Reference6Ideal := by
  intro m ρ m' ρ' _ hagree
  refine ⟨fun c => (Cert.Kernel6Ideal.Gen.dats m 0 c).arrAt 16 Cert.Kernel6Ideal.cfg0.N,
    fun c => (Cert.Kernel6Ideal.Gen.dats m 0 c).arrAt 17 Cert.Kernel6Ideal.cfg0.N,
    fun c => (Cert.Kernel6Ideal.Gen.dats m 0 c).arrAt 18 Cert.Kernel6Ideal.cfg0.N,
    fun c => (Cert.Kernel6Ideal.Gen.dats m 0 c).arrAt 19 Cert.Kernel6Ideal.cfg0.N,
    fun c => (Cert.Kernel6Ideal.Gen.dats m 0 c).arrAt 20 Cert.Kernel6Ideal.cfg0.N,
    fun c => (Cert.Kernel6Ideal.Gen.dats m 0 c).arrAt 22 Cert.Kernel6Ideal.cfg0.N,
    fun c => (Cert.Kernel6Ideal.Gen.dats m 0 c).arrAt 23 Cert.Kernel6Ideal.cfg0.N,
    fun c => (Cert.Kernel6Ideal.Gen.dats m 0 c).arrAt 24 Cert.Kernel6Ideal.cfg0.N,
    fun c => (Cert.Kernel6Ideal.Gen.dats m 0 c).arrAt 25 Cert.Kernel6Ideal.cfg0.N, ?_, ?_⟩
  · exact (θ_run Cert.Kernel6Ideal.defs _ _).mono (fun r h c =>
      let ⟨h0, h1, h2, h3, h4, _, h6, h7, h8, h9, hk⟩ := h c
      ⟨h0, h1, h2, h3, h4, h6, h7, h8, h9, hk⟩) (Cert.Kernel6Ideal.Value.run_blocks m ρ)
  refine (θ_run Cert.Reference6Ideal.defs _ _).mono (fun r h c => ?_) (Cert.Reference6Ideal.Value.run (F := Ideal) m' ρ')
  obtain ⟨h16, h17, h18, h19, h20, h22, h23, h24, h25, hk⟩ := h c
  obtain ⟨e0, e1, e2, e3, e4, e5, e6, e7, e8, e9, e10, e11, e12, e13, e14⟩ := hagree c
  refine ⟨h16.trans ?_, h17.trans ?_, h18.trans ?_, h19.trans ?_, h20.trans ?_, h22.trans ?_, h23.trans ?_, h24.trans ?_, h25.trans ?_, hk⟩
  · refine Eq.trans ?_ (final16 m c).symm
    funext i
    obtain ⟨q, j, rfl⟩ : ∃ (q : Fin 128) (j : Fin 512), i = ix2 q j := ⟨i 0, i 1, eq_ix2 i⟩
    refine (ref_mixed _ _ _ _ _ _ q j).trans ?_
    rw [e0, e1, e2, e3, e4, e13]
    rfl
  · refine Eq.trans ?_ (final17 m c).symm
    funext i
    obtain ⟨q, j, rfl⟩ : ∃ (q : Fin 128) (j : Fin 512), i = ix2 q j := ⟨i 0, i 1, eq_ix2 i⟩
    refine (ref_r _ _ _ _ _ _ q j).trans ?_
    rw [e0, e1, e2, e3, e5, e14]
    rfl
  · refine Eq.trans ?_ (final18 m c).symm
    funext i
    obtain ⟨q, j, rfl⟩ : ∃ (q : Fin 128) (j : Fin 512), i = ix2 q j := ⟨i 0, i 1, eq_ix2 i⟩
    refine (ref_decay _ _ _ _ _ _ _ _ q j).trans ?_
    rw [e0, e1, e2, e3, e5, e6, e7, e14]
    rfl
  · refine Eq.trans ?_ (final19 m c).symm
    funext i
    obtain ⟨q, j, rfl⟩ : ∃ (q : Fin 128) (j : Fin 512), i = ix2 q j := ⟨i 0, i 1, eq_ix2 i⟩
    refine (ref_key _ _ _ _ _ _ _ _ _ q j).trans ?_
    rw [e0, e1, e2, e3, e5, e8, e9, e12, e14]
    rfl
  · refine Eq.trans ?_ (final20 m c).symm
    funext i
    obtain ⟨q, j, rfl⟩ : ∃ (q : Fin 128) (j : Fin 512), i = ix2 q j := ⟨i 0, i 1, eq_ix2 i⟩
    refine (ref_v _ _ _ _ _ _ q j).trans ?_
    rw [e0, e1, e2, e3, e5, e14]
    rfl
  · refine Eq.trans ?_ (final22 m c).symm
    funext i
    obtain ⟨q, j, rfl⟩ : ∃ (q : Fin 128) (j : Fin 512), i = ix2 q j := ⟨i 0, i 1, eq_ix2 i⟩
    refine (rateArr_at _ _ _ _ _ _ _ _ q j).trans ?_
    rw [e0, e1, e2, e3, e5, e8, e9, e14]
    rfl
  · refine Eq.trans ?_ (final23 m c).symm
    funext i
    obtain ⟨q, j, rfl⟩ : ∃ (q : Fin 128) (j : Fin 512), i = ix2 q j := ⟨i 0, i 1, eq_ix2 i⟩
    refine (ref_gate _ _ _ _ _ _ _ q j).trans ?_
    rw [e0, e1, e2, e3, e5, e10, e14]
    rfl
  · refine Eq.trans ?_ (final24 m c).symm
    funext i
    obtain ⟨q, j, rfl⟩ : ∃ (q : Fin 128) (j : Fin 512), i = ix2 q j := ⟨i 0, i 1, eq_ix2 i⟩
    refine (ref_gated _ _ _ _ q j).trans ?_
    rw [e0, e1, e2, e3]
    rfl
  · refine Eq.trans ?_ (final25 m c).symm
    funext i
    obtain ⟨q, j, rfl⟩ : ∃ (q : Fin 128) (j : Fin 1792), i = ix2 q j := ⟨i 0, i 1, eq_ix2 i⟩
    refine (ref_second _ _ _ _ q j).trans ?_
    rw [e0, e1, e2, e3]
    rfl

end Cert.Project.Step

end
-- ==== Proof.Project.PromptPoint.lean ====
/-
  One point of the projections on the prompts: which rows its blocks are, and the last eight rows of the block that the
  two tail outputs hold.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Proof.Gen.Kernel7Ideal.Value
public import proofs.«01_k».proof.Proof.Project.Math

@[expose] public section

set_option maxRecDepth 16384

noncomputable section

namespace Cert.Project.Prompt

open Idealize.ShloMosaic Idealize.ShloMosaic.TcCoe Idealize.SL.Sem Cert.Kernel7Ideal Cert.Kernel7Ideal.Gen

variable (m : (ℓ : Loc nD τ sig) → Buf (Elt Ideal) ℓ) (c : Dev nD)

/-- The windows' block indices: four blocks of 512 rows to a prompt. -/
theorem idx : ∀ t : Fin cfg0.N,
    win0_0.index t = ![t.val, 0] ∧ win0_1.index t = ![t.val / 4, 0, 0, 0] ∧ win0_2.index t = ![0, 0] ∧ win0_3.index t = ![0, 0] :=
  (by decide +kernel : ∀ t : Fin grid0.N, _)

theorem idxTail : ∀ t : Fin cfg0.N, win0_21.index t = ![t.val / 4, 0] ∧ win0_22.index t = ![t.val / 4, 0] :=
  (by decide +kernel : ∀ t : Fin grid0.N, _)

/-- The tails are written back after the last block of a prompt. -/
theorem flush21 : ∀ t : Fin cfg0.N, (cfg0.win 21).flush t = true → t.val % 4 = 3 :=
  (by decide +kernel : ∀ t : Fin grid0.N, _)

theorem flush22 : ∀ t : Fin cfg0.N, (cfg0.win 22).flush t = true → t.val % 4 = 3 :=
  (by decide +kernel : ∀ t : Fin grid0.N, _)

theorem lt32 (t : Fin cfg0.N) : t.val < 32 := by
  have := t.isLt; have : cfg0.N = 32 := rfl; omega

theorem blk0 (t : Fin cfg0.N) (q : Fin 512) (d : Fin 1024) :
    iblk m c 0 t (ix2 q d) = (m ((c.tc : Thread nD τ).loc main_arg0) : FVec Ideal S16384x1024 .f32) (ix2 ⟨t.val * 512 + q.val, by have := lt32 t; omega⟩ d) := by
  blk_ext! [iblk, V, idx t]

theorem blk1 (t : Fin cfg0.N) (l : Fin 6) (d : Fin 1024) :
    iblk m c 1 t (ix4 0 l 0 d) = (m ((c.tc : Thread nD τ).loc main_arg1) : FVec Ideal S8x6x1x1024 .f32) (ix4 ⟨t.val / 4, by have := lt32 t; omega⟩ l 0 d) := by
  blk_ext! [iblk, V, idx t]

theorem Vgain (l : Fin 4) (d : Fin 1024) :
    (V m c main_v10 : FVec Ideal S4x1024 .f32) (ix2 l d) = (m ((c.tc : Thread nD τ).loc main_arg2) : FVec Ideal S2x4x1024 .f32) (ix3 0 l d) := by
  simp only [V, hostOps0, hostOps0_1, hostOps0_2, hostOps0_3, hostOps0_4, List.flatten_cons, List.flatten_nil, List.append_nil, List.cons_append, List.nil_append]
  after_results
  pointwise

theorem blk2 (t : Fin cfg0.N) (l : Fin 4) (d : Fin 1024) :
    iblk m c 2 t (ix2 l d) = (m ((c.tc : Thread nD τ).loc main_arg2) : FVec Ideal S2x4x1024 .f32) (ix3 0 l d) := by
  refine Eq.trans ?_ (Vgain m c l d)
  blk_ext! [iblk, idx t]

theorem Vweights (d : Fin 1024) (j : Fin 3328) :
    (V m c main_v12 : FVec Ideal S1024x3328 .bf16) (ix2 d j) = (m ((c.tc : Thread nD τ).loc main_arg3) : FVec Ideal S1x1024x3328 .f32) (ix3 0 d j) := by
  simp only [V, hostOps0, hostOps0_1, hostOps0_2, hostOps0_3, hostOps0_4, List.flatten_cons, List.flatten_nil, List.append_nil, List.cons_append, List.nil_append]
  after_results
  pointwise

theorem blk3 (t : Fin cfg0.N) (d : Fin 1024) (j : Fin 3328) :
    iblk m c 3 t (ix2 d j) = (m ((c.tc : Thread nD τ).loc main_arg3) : FVec Ideal S1x1024x3328 .f32) (ix3 0 d j) := by
  refine Eq.trans ?_ (Vweights m c d j)
  blk_ext! [iblk, idx t]

/-- A row of the block through the combined projection. -/
def blockProj (x0 : Vec Ideal S512x1024 .f32) (x1 : Vec Ideal S1x6x1x1024 .f32) (x2 : Vec Ideal S4x1024 .f32) (x3 : Vec Ideal S1024x3328 .bf16)
    (q : Fin 512) : Fin 3328 → EReal :=
  proj (input (fun d => x0 (ix2 q d)) (fun d => x2 (ix2 0 d)) (fun d => x1 (ix4 0 1 0 d)) (fun d => x1 (ix4 0 0 0 d))) (fun d j => x3 (ix2 d j))

/-- Past a prompt's first block, the first tail holds the last eight gated rows. -/
theorem b21 (t : Fin cfg0.N) (h : ¬ t.val % 4 = 0) (q : Fin 8) (j : Fin 512) :
    (outsAt0 m c t.val t.isLt).2.2.2.2.2.2.2.2.1 (ix2 q j)
      = gated (blockProj (iblk m c 0 t) (iblk m c 1 t) (iblk m c 2 t) (iblk m c 3 t) ⟨504 + q.val, by omega⟩) j := by
  rw [outsAt0_B m c t h]
  dsimp only
  unfold out0_B_21
  frame_out
  unfold_payloads
  pointwise [gated, blockProj, proj, input, Cert.Final.scale]

/-- Past a prompt's first block, the second tail holds the last eight rows of the second mixer's columns. -/
theorem b22 (t : Fin cfg0.N) (h : ¬ t.val % 4 = 0) (q : Fin 8) (j : Fin 1792) :
    (outsAt0 m c t.val t.isLt).2.2.2.2.2.2.2.2.2.1 (ix2 q j)
      = second (blockProj (iblk m c 0 t) (iblk m c 1 t) (iblk m c 2 t) (iblk m c 3 t) ⟨504 + q.val, by omega⟩) j := by
  rw [outsAt0_B m c t h]
  dsimp only
  unfold out0_B_22
  frame_out
  unfold_payloads
  pointwise [second, blockProj, proj, input, Cert.Final.scale]

end Cert.Project.Prompt

end
-- ==== Proof.Project.PromptReference.lean ====
/-
  The last eight rows of every prompt through the combined projection, as the reference computes them.
-/
module

public import Idealize.ShloMosaic.Lib.Tactic.CleanTypes
public import Idealize.ShloMosaic.Lib.Claim
public import proofs.«01_k».proof.Proof.Gen.Reference7Ideal.Run
public import proofs.«01_k».proof.Proof.Project.Math

@[expose] public section

set_option maxRecDepth 16384

noncomputable section

namespace Cert.Project.Prompt

open Idealize.ShloMosaic Idealize.ShloMosaic.TcCoe Idealize.SL.Sem Cert.Reference7Ideal Cert.Reference7Ideal.Gen

variable (a0 : FVec Ideal S16384x1024 .f32) (a1 : FVec Ideal S8x6x1x1024 .f32) (a2 : FVec Ideal S2x4x1024 .f32) (a3 : FVec Ideal S1x1024x3328 .f32)

/-- Position `s` of prompt `b` through the combined projection. -/
def rowProj (b : Fin 8) (s : Fin 2048) : Fin 3328 → EReal :=
  proj (input (fun d => a0 (ix2 ⟨b.val * 2048 + s.val, by omega⟩ d)) (fun d => a2 (ix3 0 0 d)) (fun d => a1 (ix4 b 1 0 d)) (fun d => a1 (ix4 b 0 0 d)))
    (fun d j => a3 (ix3 0 d j))

/-- Row `r` of the tails: prompt `r / 8`, the last eight of its 2048 positions. -/
def tailProj (r : Fin 64) : Fin 3328 → EReal := rowProj a0 a1 a2 a3 ⟨r.val / 8, by omega⟩ ⟨2040 + r.val % 8, by omega⟩

/-- The rows through the combined projection. -/
def projArr : FVec Ideal S8x2048x3328 .f32 :=
  (Host.dotGeneral dot_S8x2048x1024_S1024x3328_S8x2048x3328_2_0_01_1_n_n none (addf (mulf (mulf (mulf (shapeCast _ a0 shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ a0 shapeCasts_S16384x1024_S8x2048x1024) (shapeCast _ a0 shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1x1024 ![0, 0, 0] a2 slices_S2x4x1024_S1x1x1024_0_0_0) shapeCasts_S1x1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S8x1x1x1024 ![0, 1, 0, 0] a1 slices_S8x6x1x1024_S8x1x1x1024_0_1_0_0) shapeCasts_S8x1x1x1024_S8x1x1024)))) (broadcastInDim S8x2048x1024 ![0, 1, 2] bcast_S8x1x1024_S8x2048x1024_0_1_2 (shapeCast _ (extractStridedSlice S8x1x1x1024 ![0, 0, 0, 0] a1 slices_S8x6x1x1024_S8x1x1x1024_0_0_0_0) shapeCasts_S8x1x1x1024_S8x1x1024))) (shapeCast _ a3 shapeCasts_S1x1024x3328_S1024x3328))

theorem projArr_at (b : Fin 8) (s : Fin 2048) (j : Fin 3328) : projArr a0 a1 a2 a3 (ix3 b s j) = rowProj a0 a1 a2 a3 b s j := by
  unfold projArr
  pointwise [rowProj, proj, input, Cert.Final.scale]

/-- The tail of the first mixer. -/
theorem ref_gated (r : Fin 64) (j : Fin 512) :
    (shapeCast _ (extractStridedSlice S8x8x512 ![0, 2040, 0] (mulf (extractStridedSlice S8x2048x512 ![0, 0, 1024] (projArr a0 a1 a2 a3) slices_S8x2048x3328_S8x2048x512_0_0_1024) (extractStridedSlice S8x2048x512 ![0, 0, 0] (projArr a0 a1 a2 a3) slices_S8x2048x3328_S8x2048x512_0_0_0)) slices_S8x2048x512_S8x8x512_0_2040_0) shapeCasts_S8x8x512_S64x512 : FVec Ideal S64x512 .f32) (ix2 r j)
      = gated (tailProj a0 a1 a2 a3 r) j := by
  pointwise [projArr_at, gated, tailProj]

/-- The tail of the second mixer. -/
theorem ref_second (r : Fin 64) (j : Fin 1792) :
    (shapeCast _ (extractStridedSlice S8x8x1792 ![0, 2040, 0] (extractStridedSlice S8x2048x1792 ![0, 0, 1536] (projArr a0 a1 a2 a3) slices_S8x2048x3328_S8x2048x1792_0_0_1536) slices_S8x2048x1792_S8x8x1792_0_2040_0) shapeCasts_S8x8x1792_S64x1792 : FVec Ideal S64x1792 .f32) (ix2 r j)
      = second (tailProj a0 a1 a2 a3 r) j := by
  pointwise [projArr_at, second, tailProj]

end Cert.Project.Prompt

end
-- ==== Proof.Project.Prompt.lean ====
/-
  The claims about the projections in front of the first trunk layer's mixers, for the prompts: the two mixers' carried
  tails.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Defs
public import proofs.«01_k».proof.Proof.Gen.Kernel7.Frame
public import proofs.«01_k».proof.Proof.Project.PromptPoint
public import proofs.«01_k».proof.Proof.Project.PromptReference

@[expose] public section

set_option maxRecDepth 16384

noncomputable section

namespace Cert.Project.Prompt

open Idealize.ShloMosaic Idealize.ShloMosaic.TcCoe Idealize.SL.Sem

section Kernel

open Cert.Kernel7Ideal Cert.Kernel7Ideal.Gen

variable (m : (ℓ : Loc nD τ sig) → Buf (Elt Ideal) ℓ) (c : Dev nD)

/-- The row of a tail array that row `q` of point `t`'s tail block is. -/
def tailRow (t : Fin cfg0.N) (q : Fin 8) : Fin 64 := ⟨t.val / 4 * 8 + q.val, by have := lt32 t; omega⟩

/-- The last eight rows of a prompt's last block, from the arguments. -/
theorem blockProj_eq (t : Fin cfg0.N) (h : t.val % 4 = 3) (q : Fin 8) :
    blockProj (iblk m c 0 t) (iblk m c 1 t) (iblk m c 2 t) (iblk m c 3 t) ⟨504 + q.val, by omega⟩
      = tailProj (m ((c.tc : Thread nD τ).loc main_arg0)) (m ((c.tc : Thread nD τ).loc main_arg1)) (m ((c.tc : Thread nD τ).loc main_arg2)) (m ((c.tc : Thread nD τ).loc main_arg3)) (tailRow t q) := by
  have ht := lt32 t
  unfold blockProj tailProj rowProj
  simp only [blk0, blk1, blk2, blk3]
  have hb : (tailRow t q).val / 8 = t.val / 4 := by unfold tailRow; dsimp only; omega
  have hs : (tailRow t q).val % 8 = q.val := by unfold tailRow; dsimp only; omega
  have hr : t.val * 512 + (504 + q.val) = t.val / 4 * 2048 + (2040 + q.val) := by omega
  simp only [hb, hs, hr]

theorem final21 : (dats m 0 c).arrAt 21 cfg0.N = fun i : S64x512.Idx =>
    gated (tailProj (m ((c.tc : Thread nD τ).loc main_arg0)) (m ((c.tc : Thread nD τ).loc main_arg1)) (m ((c.tc : Thread nD τ).loc main_arg2)) (m ((c.tc : Thread nD τ).loc main_arg3)) (i 0)) (i 1) := by
  refine (dats m 0 c).arrAt_eq_of_covers 21 _ (by decide +kernel) fun t hf y => ?_
  have h3 := flush21 t hf
  have ht := lt32 t
  blk_simp
  rw [after0_21]
  obtain ⟨q, j, rfl⟩ : ∃ (q : Fin 8) (j : Fin 512), y = ix2 q j := ⟨y 0, y 1, eq_ix2 y⟩
  have e0 : (win0_21.blk t).view.emb (ix2 q j) 0 = tailRow t q := by
    refine Fin.ext ?_; unfold tailRow; blk_simp [idxTail t]
  have e1 : (win0_21.blk t).view.emb (ix2 q j) 1 = j := by
    refine Fin.ext ?_; blk_simp [idxTail t]
  refine (b21 m c t (by omega) q j).trans ?_
  rw [e0, e1]
  rw [blockProj_eq m c t h3 q]

theorem final22 : (dats m 0 c).arrAt 22 cfg0.N = fun i : S64x1792.Idx =>
    second (tailProj (m ((c.tc : Thread nD τ).loc main_arg0)) (m ((c.tc : Thread nD τ).loc main_arg1)) (m ((c.tc : Thread nD τ).loc main_arg2)) (m ((c.tc : Thread nD τ).loc main_arg3)) (i 0)) (i 1) := by
  refine (dats m 0 c).arrAt_eq_of_covers 22 _ (by decide +kernel) fun t hf y => ?_
  have h3 := flush22 t hf
  have ht := lt32 t
  blk_simp
  rw [after0_22]
  obtain ⟨q, j, rfl⟩ : ∃ (q : Fin 8) (j : Fin 1792), y = ix2 q j := ⟨y 0, y 1, eq_ix2 y⟩
  have e0 : (win0_22.blk t).view.emb (ix2 q j) 0 = tailRow t q := by
    refine Fin.ext ?_; unfold tailRow; blk_simp [idxTail t]
  have e1 : (win0_22.blk t).view.emb (ix2 q j) 1 = j := by
    refine Fin.ext ?_; blk_simp [idxTail t]
  refine (b22 m c t (by omega) q j).trans ?_
  rw [e0, e1]
  rw [blockProj_eq m c t h3 q]

end Kernel

theorem frame : Cert.quiescent_Kernel7 := fun m ρ _ => Cert.Kernel7.Gen.frame m ρ

theorem frameIdeal : Cert.quiescent_Kernel7Ideal := fun m ρ _ => Cert.Kernel7Ideal.Gen.frame m ρ

/-- The reference is host operations only: it keeps its arguments and declares no semaphore. -/
theorem frameReference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem preserves : Cert.preserves_Kernel7_Kernel7Ideal := trivial

set_option maxHeartbeats 1600000 in
/-- Both runs end with the same two tails. -/
theorem algebraic : Cert.algebraic_Kernel7Ideal_Reference7Ideal := by
  intro m ρ m' ρ' _ hagree
  refine ⟨fun c => (Cert.Kernel7Ideal.Gen.dats m 0 c).arrAt 21 Cert.Kernel7Ideal.cfg0.N,
    fun c => (Cert.Kernel7Ideal.Gen.dats m 0 c).arrAt 22 Cert.Kernel7Ideal.cfg0.N, ?_, ?_⟩
  · exact (θ_run Cert.Kernel7Ideal.defs _ _).mono (fun r h c =>
      let ⟨_, _, _, _, _, _, _, _, h8, h9, hk⟩ := h c
      ⟨h8, h9, hk⟩) (Cert.Kernel7Ideal.Value.run_blocks m ρ)
  refine (θ_run Cert.Reference7Ideal.defs _ _).mono (fun r h c => ?_) (Cert.Reference7Ideal.Value.run (F := Ideal) m' ρ')
  obtain ⟨h21, h22, hk⟩ := h c
  obtain ⟨e0, e1, e2, e3, _⟩ := hagree c
  refine ⟨h21.trans ?_, h22.trans ?_, hk⟩
  · refine Eq.trans ?_ (final21 m c).symm
    funext i
    obtain ⟨q, j, rfl⟩ : ∃ (q : Fin 64) (j : Fin 512), i = ix2 q j := ⟨i 0, i 1, eq_ix2 i⟩
    refine (ref_gated _ _ _ _ q j).trans ?_
    rw [e0, e1, e2, e3]
    rfl
  · refine Eq.trans ?_ (final22 m c).symm
    funext i
    obtain ⟨q, j, rfl⟩ : ∃ (q : Fin 64) (j : Fin 1792), i = ix2 q j := ⟨i 0, i 1, eq_ix2 i⟩
    refine (ref_second _ _ _ _ q j).trans ?_
    rw [e0, e1, e2, e3]
    rfl

end Cert.Project.Prompt

end
-- ==== Proof.Gate.Blocks.lean ====
/-
  What each window of the gated mixer on the samples holds at its one point: its argument, sliced, reshaped and repeated by
  the host operations in front of the call.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Proof.Gen.Kernel8Ideal.Value

@[expose] public section

set_option maxRecDepth 16384

noncomputable section

namespace Cert.Gate

open Idealize.ShloMosaic Idealize.ShloMosaic.TcCoe Idealize.SL.Sem Cert.Kernel8Ideal Cert.Kernel8Ideal.Gen

variable (m : (ℓ : Loc nD τ sig) → Buf (Elt Ideal) ℓ) (c : Dev nD)

/-- Every window's block is its whole array, but for the mixture's output, whose samples lie behind the prompts. -/
theorem idxA : ∀ t : Fin cfg0.N, win0_0.index t = ![0, 0] ∧ win0_1.index t = ![128, 0] ∧ win0_3.index t = ![0, 0] ∧ win0_5.index t = ![0, 0] ∧ win0_6.index t = ![0, 0] :=
  (by decide +kernel : ∀ t : Fin grid0.N, _)

theorem idxB : ∀ t : Fin cfg0.N, win0_2.index t = ![0, 0, 0, 0] ∧ win0_4.index t = ![0, 0, 0, 0] :=
  (by decide +kernel : ∀ t : Fin grid0.N, _)

theorem idxC : ∀ t : Fin cfg0.N, win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

theorem idxD : ∀ t : Fin cfg0.N, win0_15.index t = ![0, 0] ∧ win0_18.index t = ![0, 0] :=
  (by decide +kernel : ∀ t : Fin grid0.N, _)

theorem blk0 (t : Fin cfg0.N) (q : Fin 128) (d : Fin 1024) :
    iblk m c 0 t (ix2 q d) = (m ((c.tc : Thread nD τ).loc main_arg0) : FVec Ideal S128x1024 .f32) (ix2 q d) := by
  blk_ext! [iblk, V, idxA t]

theorem blk1 (t : Fin cfg0.N) (q : Fin 128) (d : Fin 1024) :
    iblk m c 1 t (ix2 q d) = (m ((c.tc : Thread nD τ).loc main_arg1) : FVec Ideal S16896x1024 .f32) (ix2 ⟨16384 + q.val, by omega⟩ d) := by
  blk_ext! [iblk, V, idxA t]

theorem blk2 (t : Fin cfg0.N) (i : Fin 6) (q : Fin 128) (d : Fin 1024) :
    iblk m c 2 t (ix4 0 i q d) = (m ((c.tc : Thread nD τ).loc main_arg2) : FVec Ideal S1x6x128x1024 .f32) (ix4 0 i q d) := by
  blk_ext! [iblk, V, idxB t]

theorem blk3 (t : Fin cfg0.N) (i : Fin 4) (d : Fin 1024) :
    iblk m c 3 t (ix2 i d) = (m ((c.tc : Thread nD τ).loc main_arg4) : FVec Ideal S2x4x1024 .f32) (ix3 0 i d) := by
  blk_ext! [iblk, V, idxA t]

theorem blk4 (t : Fin cfg0.N) (i : Fin 6) (q : Fin 128) (d : Fin 1024) :
    iblk m c 4 t (ix4 0 i q d) = (m ((c.tc : Thread nD τ).loc main_arg3) : FVec Ideal S1x6x128x1024 .f32) (ix4 0 i q d) := by
  blk_ext! [iblk, V, idxB t]

theorem blk5 (t : Fin cfg0.N) (i : Fin 4) (d : Fin 1024) :
    iblk m c 5 t (ix2 i d) = (m ((c.tc : Thread nD τ).loc main_arg4) : FVec Ideal S2x4x1024 .f32) (ix3 1 i d) := by
  blk_ext! [iblk, V, idxA t]

theorem blk6 (t : Fin cfg0.N) (d : Fin 1024) (j : Fin 2048) :
    iblk m c 6 t (ix2 d j) = (m ((c.tc : Thread nD τ).loc main_arg5) : FVec Ideal S1x1024x2048 .f32) (ix3 0 d j) := by
  blk_ext! [iblk, V, idxA t]

theorem blk7 (t : Fin cfg0.N) (j : Fin 2048) :
    iblk m c 7 t (ix2 0 j) = (m ((c.tc : Thread nD τ).loc main_arg6) : FVec Ideal S1x2048 .f32) (ix2 0 j) := by
  blk_ext! [iblk, V, idxC t]

theorem blk8 (t : Fin cfg0.N) (d : Fin 1024) :
    iblk m c 8 t (ix2 0 d) = (m ((c.tc : Thread nD τ).loc main_arg7) : FVec Ideal S1x1024 .f32) (ix2 0 d) := by
  blk_ext! [iblk, V, idxC t]

theorem blk9 (t : Fin cfg0.N) (d : Fin 1024) :
    iblk m c 9 t (ix2 0 d) = (m ((c.tc : Thread nD τ).loc main_arg8) : FVec Ideal S1x1024 .f32) (ix2 0 d) := by
  blk_ext! [iblk, V, idxC t]

/-- The weight of a position's group, repeated over the group's lanes. -/
theorem blk10 (t : Fin cfg0.N) (d : Fin 1024) :
    iblk m c 10 t (ix2 0 d) = (m ((c.tc : Thread nD τ).loc main_arg9) : FVec Ideal S1x8x128x128 .f32) (ix4 0 ⟨d.val / 128, by omega⟩ 0 0) := by
  blk_ext! [iblk, V, idxC t]

/-- The bias of a position's group, repeated over the group's lanes. -/
theorem blk11 (t : Fin cfg0.N) (d : Fin 1024) :
    iblk m c 11 t (ix2 0 d) = (m ((c.tc : Thread nD τ).loc main_arg10) : FVec Ideal S1x8x128 .f32) (ix3 0 ⟨d.val / 128, by omega⟩ 0) := by
  blk_ext! [iblk, V, idxC t]

theorem blk12 (t : Fin cfg0.N) (d e : Fin 1024) :
    iblk m c 12 t (ix2 d e) = (m ((c.tc : Thread nD τ).loc main_arg11) : FVec Ideal S1x1024x1024 .f32) (ix3 0 d e) := by
  blk_ext! [iblk, V, idxC t]

end Cert.Gate

end
-- ==== Proof.Gate.Math.lean ====
/-
  The gated mixer of the second trunk layer for one position of a chunk, over the extended reals: the residual that closes
  the first layer, the modulated norm, the two halves of the hidden row, the layer norm of the second half, the gate, and the
  residual of the mixer itself.
-/
module

public import proofs.«01_k».proof.Proof.Project.Math

@[expose] public section

noncomputable section

namespace Cert.Gate

open Idealize.ShloMosaic

/-- The smooth rectifier in its form with a hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- The same with the cube grouped the other way. -/
theorem gelu_eq (x : EReal) : gelu x
    = x * (Ideal.ofBits .f32 0x3F000000#32 * (1 + Ideal.tanh (Ideal.ofBits .f32 0x3F4C422A#32 * (x + Ideal.ofBits .f32 0x3D372713#32 * (x * x * x))))) := by
  unfold gelu
  rw [mul_comm x (x * x)]

/-- One unit of the hidden row. -/
def hidden (h : Fin 1024 → EReal) (W : Fin 1024 → Fin 2048 → EReal) (b : Fin 2048 → EReal) (j : Fin 2048) : EReal :=
  gelu ((∑ d : Fin 1024, h d * W d j) + b j)

/-- The mean of a row. -/
def mean (v : Fin 1024 → EReal) : EReal := Ideal.div (∑ l : Fin 1024, v l) (Ideal.ofBits .f32 0x44800000#32)

/-- The reciprocal deviation of a row. -/
def spread (v : Fin 1024 → EReal) : EReal :=
  Ideal.rsqrt (Ideal.div (∑ l : Fin 1024, (v l - mean v) * (v l - mean v)) (Ideal.ofBits .f32 0x44800000#32)
    + Ideal.ofBits .f32 0x358637BD#32)

/-- A row, normalised. -/
def norm (v gain bias : Fin 1024 → EReal) (d : Fin 1024) : EReal := (v d - mean v) * spread v * gain d + bias d

/-- The gated row through the output projection. -/
def out (u v ws bs : Fin 1024 → EReal) (W : Fin 1024 → Fin 1024 → EReal) (e : Fin 1024) : EReal :=
  ∑ d : Fin 1024, u d * (v d * ws d + bs d) * W d e

/-- The first half of a hidden row. -/
def left (z : Fin 2048 → EReal) (d : Fin 1024) : EReal := z ⟨d.val, by omega⟩

/-- The second half of a hidden row. -/
def right (z : Fin 2048 → EReal) (d : Fin 1024) : EReal := z ⟨1024 + d.val, by omega⟩

end Cert.Gate

end
-- ==== Proof.Gate.Point.lean ====
/-
  One point of the gated mixer on the samples: the kernel's stages one after the other, and from them its two output blocks,
  row by row.
-/
module

public import Idealize.ShloMosaic.Lib.Pipeline.ValueKit
public import Idealize.ShloMosaic.Lib.Pipeline.ValueKit.Acc
public import Idealize.ShloMosaic.Lib.Claim
public import proofs.«01_k».proof.Proof.Gen.Kernel8Ideal.Value
public import proofs.«01_k».proof.Proof.Gate.Math

@[expose] public section

set_option maxRecDepth 16384

noncomputable section

namespace Cert.Gate

open Idealize.ShloMosaic Idealize.ShloMosaic.TcCoe Idealize.SL.Sem Cert.Kernel8Ideal Cert.Kernel8Ideal.Gen

section Stages

/-- The row that enters the mixer. -/
theorem pay2_at (v0 : Vec Ideal S128x1024 .f32) (v1 : Vec Ideal S1x1x128x1024 .f32) (v3 : Vec Ideal S128x1024 .f32)
    (v4 : Vec Ideal S1x1024 .f32) (q : Fin 128) (d : Fin 1024) :
    k0_pay2 v0 v1 v3 v4 (ix2 q d)
      = Cert.Final.residual (fun d => v0 (ix2 q d)) (fun d => v1 (ix4 0 0 q d)) (fun d => v3 (ix2 q d)) (fun d => v4 (ix2 0 d)) d := by
  unfold k0_pay2
  pointwise [Cert.Final.residual, Cert.Final.scale]

/-- The same row, normalised. -/
theorem pay3_at (v0 : Vec Ideal S128x1024 .f32) (v1 : Vec Ideal S1x1x128x1024 .f32) (v3 : Vec Ideal S128x1024 .f32)
    (v4 v20 : Vec Ideal S1x1024 .f32) (q : Fin 128) (d : Fin 1024) :
    k0_pay3 v0 v1 v3 v4 v20 (ix2 q d)
      = k0_pay2 v0 v1 v3 v4 (ix2 q d) * Cert.Final.scale (fun d => k0_pay2 v0 v1 v3 v4 (ix2 q d)) * v20 (ix2 0 d) := by
  unfold k0_pay3
  pointwise [Cert.Final.scale]

theorem pay4_at (v34 : Vec Ideal S1x1x128x1024 .f32) (q : Fin 128) (d : Fin 1024) :
    k0_pay4 v34 (ix2 q d) = v34 (ix4 0 0 q d) := by
  unfold k0_pay4
  pointwise

variable (v33 v35 : FVec Ideal S128x1024 .f32) (v39 : Vec Ideal S1x1x128x1024 .f32) (v43 : Vec Ideal S1024x2048 .bf16)
  (v46 : Vec Ideal S1x2048 .f32)

/-- The hidden row. -/
def stageHidden (q : Fin 128) : Fin 2048 → EReal :=
  hidden (fun d => v33 (ix2 q d) * (1 + v35 (ix2 q d)) + v39 (ix4 0 0 q d)) (fun d j => v43 (ix2 d j)) (fun j => v46 (ix2 0 j))

theorem pay5_at (q : Fin 128) (j : Fin 2048) : k0_pay5 v33 v35 v39 v43 v46 (ix2 q j) = stageHidden v33 v35 v39 v43 v46 q j := by
  unfold k0_pay5
  pointwise [stageHidden, hidden, gelu]

theorem pay6_at (q : Fin 128) (d : Fin 1024) :
    k0_pay6 v33 v35 v39 v43 v46 (ix2 q d) = left (stageHidden v33 v35 v39 v43 v46 q) d := by
  unfold k0_pay6
  pointwise [pay5_at, left]

theorem pay7_at (q : Fin 128) (d : Fin 1024) :
    k0_pay7 v33 v35 v39 v43 v46 (ix2 q d) = right (stageHidden v33 v35 v39 v43 v46 q) d := by
  unfold k0_pay7
  pointwise [pay5_at, right]

theorem pay8_at (q : Fin 128) :
    k0_pay8 v33 v35 v39 v43 v46 (ix2 q 0) = mean (right (stageHidden v33 v35 v39 v43 v46 q)) := by
  unfold k0_pay8
  pointwise [pay7_at, mean]

theorem pay10_at (q : Fin 128) (d : Fin 1024) :
    k0_pay10 v33 v35 v39 v43 v46 (ix2 q d)
      = right (stageHidden v33 v35 v39 v43 v46 q) d - mean (right (stageHidden v33 v35 v39 v43 v46 q)) := by
  unfold k0_pay10
  pointwise [pay7_at, pay8_at]

theorem pay11_at (v83 v87 : Vec Ideal S1x1024 .f32) (q : Fin 128) (d : Fin 1024) :
    k0_pay11 (k0_pay9 v33 v35 v39 v43 v46) (k0_pay10 v33 v35 v39 v43 v46) v83 v87 (ix2 q d)
      = norm (right (stageHidden v33 v35 v39 v43 v46 q)) (fun d => v83 (ix2 0 d)) (fun d => v87 (ix2 0 d)) d := by
  unfold k0_pay11 k0_pay9
  pointwise [pay7_at, pay8_at, pay10_at, norm, spread]

/-- The mixer's output row. -/
def stageOut (v83 v87 v92 v96 : Vec Ideal S1x1024 .f32) (v102 : Vec Ideal S1024x1024 .bf16) (q : Fin 128) : Fin 1024 → EReal :=
  out (left (stageHidden v33 v35 v39 v43 v46 q))
    (norm (right (stageHidden v33 v35 v39 v43 v46 q)) (fun d => v83 (ix2 0 d)) (fun d => v87 (ix2 0 d)))
    (fun d => v92 (ix2 0 d)) (fun d => v96 (ix2 0 d)) (fun d e => v102 (ix2 d e))

theorem pay12_at (v83 v87 v92 v96 : Vec Ideal S1x1024 .f32) (v102 : Vec Ideal S1024x1024 .bf16) (q : Fin 128) (e : Fin 1024) :
    k0_pay12 (k0_pay6 v33 v35 v39 v43 v46) (k0_pay9 v33 v35 v39 v43 v46) (k0_pay10 v33 v35 v39 v43 v46) v83 v87 v92 v96 v102 (ix2 q e)
      = stageOut v33 v35 v39 v43 v46 v83 v87 v92 v96 v102 q e := by
  unfold k0_pay12
  pointwise [pay6_at, pay11_at, stageOut, out]

theorem pay16_at (v19 : FVec Ideal S128x1024 .f32) (v83 v87 v92 v96 : Vec Ideal S1x1024 .f32) (v102 : Vec Ideal S1024x1024 .bf16)
    (v105 : Vec Ideal S1x1x128x1024 .f32) (v107 : Vec Ideal S1x1024 .f32) (q : Fin 128) (d : Fin 1024) :
    k0_pay16 v19
      (k0_pay12 (k0_pay6 v33 v35 v39 v43 v46) (k0_pay9 v33 v35 v39 v43 v46) (k0_pay10 v33 v35 v39 v43 v46) v83 v87 v92 v96 v102)
      (k0_pay13 v105) (k0_pay14 v107)
      (k0_pay15 (k0_pay6 v33 v35 v39 v43 v46) (k0_pay9 v33 v35 v39 v43 v46) (k0_pay10 v33 v35 v39 v43 v46) v83 v87 v92 v96 v102)
      (Scalar.ofBits .f32 0x358637BD#32) (ix2 q d)
      = Cert.Final.residual (fun d => v19 (ix2 q d)) (fun d => v105 (ix4 0 0 q d)) (stageOut v33 v35 v39 v43 v46 v83 v87 v92 v96 v102 q)
          (fun d => v107 (ix2 0 d)) d := by
  unfold k0_pay16 k0_pay15 k0_pay13 k0_pay14
  pointwise [pay12_at, Cert.Final.residual, Cert.Final.scale]

end Stages

section Blocks

variable (x0 x1 : Vec Ideal S128x1024 .f32) (x2 : Vec Ideal S1x6x128x1024 .f32) (x3 : Vec Ideal S4x1024 .f32)
  (x4 : Vec Ideal S1x6x128x1024 .f32) (x5 : Vec Ideal S4x1024 .f32) (x6 : Vec Ideal S1024x2048 .bf16) (x7 : Vec Ideal S1x2048 .f32)
  (x8 x9 x10 x11 : Vec Ideal S1x1024 .f32) (x12 : Vec Ideal S1024x1024 .bf16)

/-- The row that enters the mixer, from the blocks. -/
def blockRow (q : Fin 128) : Fin 1024 → EReal :=
  Cert.Final.residual (fun d => x0 (ix2 q d)) (fun d => x2 (ix4 0 5 q d)) (fun d => x1 (ix2 q d)) (fun d => x3 (ix2 3 d))

/-- The hidden row, from the blocks. -/
def blockHidden (q : Fin 128) : Fin 2048 → EReal :=
  hidden (Cert.Project.input (blockRow x0 x1 x2 x3 q) (fun d => x5 (ix2 0 d)) (fun d => x4 (ix4 0 1 q d)) (fun d => x4 (ix4 0 0 q d)))
    (fun d j => x6 (ix2 d j)) (fun j => x7 (ix2 0 j))

/-- The second half of the hidden row, normalised, from the blocks. -/
def blockChunk (q : Fin 128) : Fin 1024 → EReal :=
  norm (right (blockHidden x0 x1 x2 x3 x4 x5 x6 x7 q)) (fun d => x8 (ix2 0 d)) (fun d => x9 (ix2 0 d))

/-- The row that leaves the mixer, from the blocks. -/
def blockOut (q : Fin 128) : Fin 1024 → EReal :=
  Cert.Final.residual (blockRow x0 x1 x2 x3 q) (fun d => x4 (ix4 0 2 q d))
    (out (left (blockHidden x0 x1 x2 x3 x4 x5 x6 x7 q)) (blockChunk x0 x1 x2 x3 x4 x5 x6 x7 x8 x9 q) (fun d => x10 (ix2 0 d))
      (fun d => x11 (ix2 0 d)) (fun d e => x12 (ix2 d e)))
    (fun d => x5 (ix2 1 d))

end Blocks

variable (m : (ℓ : Loc nD τ sig) → Buf (Elt Ideal) ℓ) (c : Dev nD)

theorem b18 (t : Fin cfg0.N) (q : Fin 128) (d : Fin 1024) : (outsAt0 m c t).2.2.2 (ix2 q d)
    = blockChunk (iblk m c 0 t) (iblk m c 1 t) (iblk m c 2 t) (iblk m c 3 t) (iblk m c 4 t) (iblk m c 5 t) (iblk m c 6 t) (iblk m c 7 t)
        (iblk m c 8 t) (iblk m c 9 t) q d := by
  unfold outsAt0
  dsimp only
  unfold out0_A_18
  frame_out
  refine (pay11_at _ _ _ _ _ _ _ q d).trans ?_
  unfold blockChunk stageHidden blockHidden
  pointwise [pay3_at, pay2_at, pay4_at, blockRow, Cert.Project.input]
  rfl

theorem b15 (t : Fin cfg0.N) (q : Fin 128) (d : Fin 1024) : (outsAt0 m c t).1 (ix2 q d)
    = blockOut (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) q d := by
  unfold outsAt0
  dsimp only
  unfold out0_A_15
  frame_out
  refine (pay16_at _ _ _ _ _ _ _ _ _ _ _ _ _ q d).trans ?_
  unfold blockOut stageOut blockChunk stageHidden blockHidden
  pointwise [pay3_at, pay2_at, pay4_at, blockRow, Cert.Project.input]
  rfl

end Cert.Gate

end
-- ==== Proof.Gate.Reference.lean ====
/-
  The gated mixer on the samples as the reference computes it, row by row.
-/
module

public import Idealize.ShloMosaic.Lib.Tactic.CleanTypes
public import Idealize.ShloMosaic.Lib.Claim
public import proofs.«01_k».proof.Proof.Gen.Reference8Ideal.Run
public import proofs.«01_k».proof.Proof.Gate.Math

@[expose] public section

set_option maxRecDepth 16384

noncomputable section

namespace Cert.Gate

open Idealize.ShloMosaic Idealize.ShloMosaic.TcCoe Idealize.SL.Sem Cert.Reference8Ideal Cert.Reference8Ideal.Gen

variable (a0 : FVec Ideal S128x1024 .f32) (a1 : FVec Ideal S16896x1024 .f32) (a2 a3 : FVec Ideal S1x6x128x1024 .f32)
  (a4 : FVec Ideal S2x4x1024 .f32) (a5 : FVec Ideal S1x1024x2048 .f32) (a6 : FVec Ideal S1x2048 .f32) (a7 a8 : FVec Ideal S1x1024 .f32)
  (a9 : FVec Ideal S1x8x128x128 .f32) (a10 : FVec Ideal S1x8x128 .f32) (a11 : FVec Ideal S1x1024x1024 .f32)

/-- The row that enters the mixer. -/
def rowIn (q : Fin 128) : Fin 1024 → EReal :=
  Cert.Final.residual (fun d => a0 (ix2 q d)) (fun d => a2 (ix4 0 5 q d)) (fun d => a1 (ix2 ⟨16384 + q.val, by omega⟩ d)) (fun d => a4 (ix3 0 3 d))

/-- The hidden row. -/
def rowHidden (q : Fin 128) : Fin 2048 → EReal :=
  hidden (Cert.Project.input (rowIn a0 a1 a2 a4 q) (fun d => a4 (ix3 1 0 d)) (fun d => a3 (ix4 0 1 q d)) (fun d => a3 (ix4 0 0 q d)))
    (fun d j => a5 (ix3 0 d j)) (fun j => a6 (ix2 0 j))

/-- The second half of the hidden row, normalised. -/
def rowChunk (q : Fin 128) : Fin 1024 → EReal :=
  norm (right (rowHidden a0 a1 a2 a3 a4 a5 a6 q)) (fun d => a7 (ix2 0 d)) (fun d => a8 (ix2 0 d))

/-- The gated row through the output projection. -/
def rowGated (q : Fin 128) : Fin 1024 → EReal :=
  out (left (rowHidden a0 a1 a2 a3 a4 a5 a6 q)) (rowChunk a0 a1 a2 a3 a4 a5 a6 a7 a8 q) (fun d => a9 (ix4 0 ⟨d.val / 128, by omega⟩ 0 0))
    (fun d => a10 (ix3 0 ⟨d.val / 128, by omega⟩ 0)) (fun d e => a11 (ix3 0 d e))

/-- The row that leaves the mixer. -/
def rowOut (q : Fin 128) : Fin 1024 → EReal :=
  Cert.Final.residual (rowIn a0 a1 a2 a4 q) (fun d => a3 (ix4 0 2 q d)) (rowGated a0 a1 a2 a3 a4 a5 a6 a7 a8 a9 a10 a11 q)
    (fun d => a4 (ix3 1 1 d))

/-- The mixture's output on the samples. -/
def mixOut : FVec Ideal S128x1024 .f32 :=
  extractStridedSlice S128x1024 ![16384, 0] a1 slices_S16896x1024_S128x1024_16384_0

theorem mixOut_at (q : Fin 128) (d : Fin 1024) : mixOut a1 (ix2 q d) = a1 (ix2 ⟨16384 + q.val, by omega⟩ d) := by
  unfold mixOut
  pointwise

/-- The rows that enter the mixer. -/
def rowArr : FVec Ideal S128x1024 .f32 :=
  addf a0 (mulf (shapeCast _ (extractStridedSlice S1x1x128x1024 ![0, 5, 0, 0] a2 slices_S1x6x128x1024_S1x1x128x1024_0_5_0_0) shapeCasts_S1x1x128x1024_S128x1024) (mulf (mulf (mixOut a1) (broadcastInDim S128x1024 ![0, 1] bcast_S128x1_S128x1024_0_1 (Host.rsqrt (addf (Host.divf (broadcastInDim S128x1 ![0] bcast_S128_S128x1_0 (Host.reduceAdd (mulf (mixOut a1) (mixOut a1)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ (extractStridedSlice S1x1x1024 ![0, 3, 0] a4 slices_S2x4x1024_S1x1x1024_0_3_0) shapeCasts_S1x1x1024_S1024)))))

theorem rowArr_at (q : Fin 128) (d : Fin 1024) : rowArr a0 a1 a2 a4 (ix2 q d) = rowIn a0 a1 a2 a4 q d := by
  unfold rowArr
  pointwise [mixOut_at, rowIn, Cert.Final.residual, Cert.Final.scale]

/-- The hidden rows before the rectifier. -/
def linearArr : FVec Ideal S128x2048 .f32 :=
  addf (Host.dotGeneral dot_S128x1024_S1024x2048_S128x2048_1_0_0_1_n_n none (addf (mulf (mulf (mulf (rowArr a0 a1 a2 a4) (broadcastInDim S128x1024 ![0, 1] bcast_S128x1_S128x1024_0_1 (Host.rsqrt (addf (Host.divf (broadcastInDim S128x1 ![0] bcast_S128_S128x1_0 (Host.reduceAdd (mulf (rowArr a0 a1 a2 a4) (rowArr a0 a1 a2 a4)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ (extractStridedSlice S1x1x1024 ![1, 0, 0] a4 slices_S2x4x1024_S1x1x1024_1_0_0) shapeCasts_S1x1x1024_S1024)))) (addf (broadcastInDim S128x1024 ![] bcast_S_S128x1024 (constant S_ .f32 0x3F800000#32)) (shapeCast _ (extractStridedSlice S1x1x128x1024 ![0, 1, 0, 0] a3 slices_S1x6x128x1024_S1x1x128x1024_0_1_0_0) shapeCasts_S1x1x128x1024_S128x1024))) (shapeCast _ (extractStridedSlice S1x1x128x1024 ![0, 0, 0, 0] a3 slices_S1x6x128x1024_S1x1x128x1024_0_0_0_0) shapeCasts_S1x1x128x1024_S128x1024)) (shapeCast _ a5 shapeCasts_S1x1024x2048_S1024x2048)) (broadcastInDim S128x2048 ![0, 1] bcast_S1x2048_S128x2048_0_1 (broadcastInDim S1x2048 ![1] bcast_S2048_S1x2048_1 (shapeCast _ a6 shapeCasts_S1x2048_S2048)))

theorem linearArr_at (q : Fin 128) (j : Fin 2048) : linearArr a0 a1 a2 a3 a4 a5 a6 (ix2 q j) = (∑ d : Fin 1024, Cert.Project.input (rowIn a0 a1 a2 a4 q) (fun d => a4 (ix3 1 0 d)) (fun d => a3 (ix4 0 1 q d))
      (fun d => a3 (ix4 0 0 q d)) d * a5 (ix3 0 d j)) + a6 (ix2 0 j) := by
  unfold linearArr
  pointwise [rowArr_at, Cert.Project.input, Cert.Final.scale]

/-- The hidden rows. -/
def hiddenArr : FVec Ideal S128x2048 .f32 :=
  mulf (linearArr a0 a1 a2 a3 a4 a5 a6) (mulf (broadcastInDim S128x2048 ![] bcast_S_S128x2048 (constant S_ .f32 0x3F000000#32)) (addf (broadcastInDim S128x2048 ![] bcast_S_S128x2048 (constant S_ .f32 0x3F800000#32)) (Host.tanh (mulf (broadcastInDim S128x2048 ![] bcast_S_S128x2048 (constant S_ .f32 0x3F4C422A#32)) (addf (linearArr a0 a1 a2 a3 a4 a5 a6) (mulf (broadcastInDim S128x2048 ![] bcast_S_S128x2048 (constant S_ .f32 0x3D372713#32)) (mulf (mulf (linearArr a0 a1 a2 a3 a4 a5 a6) (linearArr a0 a1 a2 a3 a4 a5 a6)) (linearArr a0 a1 a2 a3 a4 a5 a6))))))))

theorem hiddenArr_at (q : Fin 128) (j : Fin 2048) : hiddenArr a0 a1 a2 a3 a4 a5 a6 (ix2 q j) = rowHidden a0 a1 a2 a3 a4 a5 a6 q j := by
  unfold hiddenArr
  pointwise [linearArr_at, rowHidden, hidden, gelu_eq]

/-- Their second halves. -/
def rightArr : FVec Ideal S128x1024 .f32 :=
  extractStridedSlice S128x1024 ![0, 1024] (hiddenArr a0 a1 a2 a3 a4 a5 a6) slices_S128x2048_S128x1024_0_1024

theorem rightArr_at (q : Fin 128) (d : Fin 1024) : rightArr a0 a1 a2 a3 a4 a5 a6 (ix2 q d) = right (rowHidden a0 a1 a2 a3 a4 a5 a6 q) d := by
  unfold rightArr
  pointwise [hiddenArr_at, right]

/-- The means of the second halves. -/
def meanArr : FVec Ideal S128x1 .f32 :=
  Host.divf (broadcastInDim S128x1 ![0] bcast_S128_S128x1_0 (Host.reduceAdd (rightArr a0 a1 a2 a3 a4 a5 a6) (constant S_ .f32 0x00000000#32) reducesTo_S128x1024_S128_d1 h_S_)) (broadcastInDim S128x1 ![] bcast_S_S128x1 (constant S_ .f32 0x44800000#32))

theorem meanArr_at (q : Fin 128) : meanArr a0 a1 a2 a3 a4 a5 a6 (ix2 q 0) = mean (right (rowHidden a0 a1 a2 a3 a4 a5 a6 q)) := by
  unfold meanArr
  pointwise [rightArr_at, mean]

/-- The second halves less their means. -/
def devArr : FVec Ideal S128x1024 .f32 :=
  subf (rightArr a0 a1 a2 a3 a4 a5 a6) (broadcastInDim S128x1024 ![0, 1] bcast_S128x1_S128x1024_0_1 (meanArr a0 a1 a2 a3 a4 a5 a6))

theorem devArr_at (q : Fin 128) (d : Fin 1024) : devArr a0 a1 a2 a3 a4 a5 a6 (ix2 q d) = right (rowHidden a0 a1 a2 a3 a4 a5 a6 q) d - mean (right (rowHidden a0 a1 a2 a3 a4 a5 a6 q)) := by
  unfold devArr
  pointwise [rightArr_at, meanArr_at]

/-- The second halves, normalised. -/
def chunkArr : FVec Ideal S128x1024 .f32 :=
  addf (mulf (mulf (subf (rightArr a0 a1 a2 a3 a4 a5 a6) (broadcastInDim S128x1024 ![0, 1] bcast_S128x1_S128x1024_0_1 (meanArr a0 a1 a2 a3 a4 a5 a6))) (broadcastInDim S128x1024 ![0, 1] bcast_S128x1_S128x1024_0_1 (Host.rsqrt (addf (Host.divf (broadcastInDim S128x1 ![0] bcast_S128_S128x1_0 (Host.reduceAdd (mulf (devArr a0 a1 a2 a3 a4 a5 a6) (devArr a0 a1 a2 a3 a4 a5 a6)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ a7 shapeCasts_S1x1024_S1024)))) (broadcastInDim S128x1024 ![0, 1] bcast_S1x1024_S128x1024_0_1 (broadcastInDim S1x1024 ![1] bcast_S1024_S1x1024_1 (shapeCast _ a8 shapeCasts_S1x1024_S1024)))

theorem chunkArr_at (q : Fin 128) (d : Fin 1024) : chunkArr a0 a1 a2 a3 a4 a5 a6 a7 a8 (ix2 q d) = rowChunk a0 a1 a2 a3 a4 a5 a6 a7 a8 q d := by
  unfold chunkArr
  pointwise [rightArr_at, meanArr_at, devArr_at, rowChunk, norm, spread]

/-- The gated rows through the output projection. -/
def outArr : FVec Ideal S128x1024 .f32 :=
  Host.dotGeneral dot_S128x1024_S1024x1024_S128x1024_1_0_0_1_n_n none (mulf (extractStridedSlice S128x1024 ![0, 0] (hiddenArr a0 a1 a2 a3 a4 a5 a6) slices_S128x2048_S128x1024_0_0) (shapeCast _ (addf (mulf (shapeCast _ (chunkArr a0 a1 a2 a3 a4 a5 a6 a7 a8) shapeCasts_S128x1024_S128x8x128) (broadcastInDim S128x8x128 ![0, 1, 2] bcast_S1x8x1_S128x8x128_0_1_2 (broadcastInDim S1x8x1 ![1, 2] bcast_S8x1_S1x8x1_1_2 (broadcastInDim S8x1 ![0] bcast_S8_S8x1_0 (shapeCast _ (extractStridedSlice S1x8x1x1 ![0, 0, 0, 0] a9 slices_S1x8x128x128_S1x8x1x1_0_0_0_0) shapeCasts_S1x8x1x1_S8))))) (broadcastInDim S128x8x128 ![0, 1, 2] bcast_S1x8x1_S128x8x128_0_1_2 (broadcastInDim S1x8x1 ![1, 2] bcast_S8x1_S1x8x1_1_2 (broadcastInDim S8x1 ![0] bcast_S8_S8x1_0 (shapeCast _ (extractStridedSlice S1x8x1 ![0, 0, 0] a10 slices_S1x8x128_S1x8x1_0_0_0) shapeCasts_S1x8x1_S8))))) shapeCasts_S128x8x128_S128x1024)) (shapeCast _ a11 shapeCasts_S1x1024x1024_S1024x1024)

theorem outArr_at (q : Fin 128) (e : Fin 1024) : outArr a0 a1 a2 a3 a4 a5 a6 a7 a8 a9 a10 a11 (ix2 q e) = rowGated a0 a1 a2 a3 a4 a5 a6 a7 a8 a9 a10 a11 q e := by
  unfold outArr
  pointwise [hiddenArr_at, chunkArr_at, rowGated, out, left]

/-- The rows that leave the mixer. -/
theorem ref_out (q : Fin 128) (d : Fin 1024) :
    (addf (rowArr a0 a1 a2 a4) (mulf (shapeCast _ (extractStridedSlice S1x1x128x1024 ![0, 2, 0, 0] a3 slices_S1x6x128x1024_S1x1x128x1024_0_2_0_0) shapeCasts_S1x1x128x1024_S128x1024) (mulf (mulf (outArr a0 a1 a2 a3 a4 a5 a6 a7 a8 a9 a10 a11) (broadcastInDim S128x1024 ![0, 1] bcast_S128x1_S128x1024_0_1 (Host.rsqrt (addf (Host.divf (broadcastInDim S128x1 ![0] bcast_S128_S128x1_0 (Host.reduceAdd (mulf (outArr a0 a1 a2 a3 a4 a5 a6 a7 a8 a9 a10 a11) (outArr a0 a1 a2 a3 a4 a5 a6 a7 a8 a9 a10 a11)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ (extractStridedSlice S1x1x1024 ![1, 1, 0] a4 slices_S2x4x1024_S1x1x1024_1_1_0) shapeCasts_S1x1x1024_S1024))))) : FVec Ideal S128x1024 .f32) (ix2 q d)
      = rowOut a0 a1 a2 a3 a4 a5 a6 a7 a8 a9 a10 a11 q d := by
  pointwise [rowArr_at, outArr_at, rowOut, Cert.Final.residual, Cert.Final.scale]

end Cert.Gate

end
-- ==== Proof.Gate.Claims.lean ====
/-
  The claims about the gated mixer of the second trunk layer, for the decoding tokens.
-/
module

public import proofs.«01_k».proof.Defs
public import proofs.«01_k».proof.Proof.Gen.Kernel8.Frame
public import proofs.«01_k».proof.Proof.Gate.Blocks
public import proofs.«01_k».proof.Proof.Gate.Point
public import proofs.«01_k».proof.Proof.Gate.Reference

@[expose] public section

set_option maxRecDepth 16384

noncomputable section

namespace Cert.Gate

open Idealize.ShloMosaic Idealize.ShloMosaic.TcCoe Idealize.SL.Sem

section Arrays

open Cert.Kernel8Ideal Cert.Kernel8Ideal.Gen

variable (m : (ℓ : Loc nD τ sig) → Buf (Elt Ideal) ℓ) (c : Dev nD)

theorem blockRow_eq (t : Fin cfg0.N) (q : Fin 128) : blockRow (iblk m c 0 t) (iblk m c 1 t) (iblk m c 2 t) (iblk m c 3 t) q
    = rowIn (m ((c.tc : Thread nD τ).loc main_arg0)) (m ((c.tc : Thread nD τ).loc main_arg1)) (m ((c.tc : Thread nD τ).loc main_arg2)) (m ((c.tc : Thread nD τ).loc main_arg4)) q := by
  unfold blockRow rowIn
  simp only [blk0, blk1, blk2, blk3]

theorem blockHidden_eq (t : Fin cfg0.N) (q : Fin 128) :
    blockHidden (iblk m c 0 t) (iblk m c 1 t) (iblk m c 2 t) (iblk m c 3 t) (iblk m c 4 t) (iblk m c 5 t) (iblk m c 6 t) (iblk m c 7 t) q
    = rowHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) q := by
  unfold blockHidden rowHidden
  rw [blockRow_eq]
  simp only [blk4, blk5, blk6, blk7]

theorem blockChunk_eq (t : Fin cfg0.N) (q : Fin 128) :
    blockChunk (iblk m c 0 t) (iblk m c 1 t) (iblk m c 2 t) (iblk m c 3 t) (iblk m c 4 t) (iblk m c 5 t) (iblk m c 6 t) (iblk m c 7 t)
      (iblk m c 8 t) (iblk m c 9 t) q
    = rowChunk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) q := by
  unfold blockChunk rowChunk
  rw [blockHidden_eq]
  simp only [blk8, blk9]

theorem blockOut_eq (t : Fin cfg0.N) (q : Fin 128) :
    blockOut (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) q
    = rowOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) q := by
  unfold blockOut rowOut rowGated
  rw [blockHidden_eq, blockChunk_eq, blockRow_eq]
  simp only [blk4, blk5, blk10, blk11, blk12]

theorem final15 : (dats m 0 c).arrAt 15 cfg0.N = fun i : S128x1024.Idx => rowOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) := by
  refine (dats m 0 c).arrAt_eq_of_covers 15 _ (by decide +kernel) fun t hf y => ?_
  blk_simp
  rw [after0_15]
  obtain ⟨q, d, rfl⟩ : ∃ (q : Fin 128) (d : Fin 1024), y = ix2 q d := ⟨y 0, y 1, eq_ix2 y⟩
  have e0 : (win0_15.blk t).view.emb (ix2 q d) 0 = q := by
    refine Fin.ext ?_; blk_simp [idxD t]
  have e1 : (win0_15.blk t).view.emb (ix2 q d) 1 = d := by
    refine Fin.ext ?_; blk_simp [idxD t]
  refine (b15 m c t q d).trans ?_
  rw [e0, e1, blockOut_eq]

theorem final18 : (dats m 0 c).arrAt 18 cfg0.N = fun i : S128x1024.Idx => rowChunk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1) := by
  refine (dats m 0 c).arrAt_eq_of_covers 18 _ (by decide +kernel) fun t hf y => ?_
  blk_simp
  rw [after0_18]
  obtain ⟨q, d, rfl⟩ : ∃ (q : Fin 128) (d : Fin 1024), y = ix2 q d := ⟨y 0, y 1, eq_ix2 y⟩
  have e0 : (win0_18.blk t).view.emb (ix2 q d) 0 = q := by
    refine Fin.ext ?_; blk_simp [idxD t]
  have e1 : (win0_18.blk t).view.emb (ix2 q d) 1 = d := by
    refine Fin.ext ?_; blk_simp [idxD t]
  refine (b18 m c t q d).trans ?_
  rw [e0, e1, blockChunk_eq]

end Arrays

theorem frame : Cert.quiescent_Kernel8 := fun m ρ _ => Cert.Kernel8.Gen.frame m ρ

theorem frameIdeal : Cert.quiescent_Kernel8Ideal := fun m ρ _ => Cert.Kernel8Ideal.Gen.frame m ρ

/-- The reference is host operations only: it keeps its arguments and declares no semaphore. -/
theorem frameReference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem preserves : Cert.preserves_Kernel8_Kernel8Ideal := trivial

set_option maxHeartbeats 1600000 in
/-- Both runs end with the same two arrays. -/
theorem algebraic : Cert.algebraic_Kernel8Ideal_Reference8Ideal := by
  intro m ρ m' ρ' _ hagree
  refine ⟨fun c => (Cert.Kernel8Ideal.Gen.dats m 0 c).arrAt 15 Cert.Kernel8Ideal.cfg0.N,
    fun c => (Cert.Kernel8Ideal.Gen.dats m 0 c).arrAt 18 Cert.Kernel8Ideal.cfg0.N, ?_, ?_⟩
  · exact (θ_run Cert.Kernel8Ideal.defs _ _).mono (fun r h c =>
      let ⟨h0, _, _, h3, hk⟩ := h c
      ⟨h0, h3, hk⟩) (Cert.Kernel8Ideal.Value.run_blocks m ρ)
  refine (θ_run Cert.Reference8Ideal.defs _ _).mono (fun r h c => ?_) (Cert.Reference8Ideal.Value.run (F := Ideal) m' ρ')
  obtain ⟨h15, h18, hk⟩ := h c
  obtain ⟨e0, e1, e2, e3, e4, e5, e6, e7, e8, e9, e10, e11, _⟩ := hagree c
  refine ⟨h15.trans ?_, h18.trans ?_, hk⟩
  · refine Eq.trans ?_ (final15 m c).symm
    funext i
    obtain ⟨q, d, rfl⟩ : ∃ (q : Fin 128) (d : Fin 1024), i = ix2 q d := ⟨i 0, i 1, eq_ix2 i⟩
    refine (ref_out (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)) (m' ((c.tc : Thread Cert.Reference8Ideal.nD Cert.Reference8Ideal.τ).loc Cert.Reference8Ideal.main_arg7)) (m' ((c.tc : Thread Cert.Reference8Ideal.nD Cert.Reference8Ideal.τ).loc Cert.Reference8Ideal.main_arg8)) (m' ((c.tc : Thread Cert.Reference8Ideal.nD Cert.Reference8Ideal.τ).loc Cert.Reference8Ideal.main_arg9)) (m' ((c.tc : Thread Cert.Reference8Ideal.nD Cert.Reference8Ideal.τ).loc Cert.Reference8Ideal.main_arg10)) (m' ((c.tc : Thread Cert.Reference8Ideal.nD Cert.Reference8Ideal.τ).loc Cert.Reference8Ideal.main_arg11)) q d).trans ?_
    rw [e0, e1, e2, e3, e4, e5, e6, e7, e8, e9, e10, e11]
    rfl
  · refine Eq.trans ?_ (final18 m c).symm
    funext i
    obtain ⟨q, d, rfl⟩ : ∃ (q : Fin 128) (d : Fin 1024), i = ix2 q d := ⟨i 0, i 1, eq_ix2 i⟩
    refine (chunkArr_at (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)) (m' ((c.tc : Thread Cert.Reference8Ideal.nD Cert.Reference8Ideal.τ).loc Cert.Reference8Ideal.main_arg7)) (m' ((c.tc : Thread Cert.Reference8Ideal.nD Cert.Reference8Ideal.τ).loc Cert.Reference8Ideal.main_arg8)) q d).trans ?_
    rw [e0, e1, e2, e3, e4, e5, e6, e7, e8]
    rfl

end Cert.Gate

end
-- ==== Proof.Modulation.Claims.lean ====
/-
  The modulation of both trunk layers: every condition through a smooth gate, a product with the layer's weights, and a bias;
  for the prompts' eight conditions and the samples' 128, in blocks of 512 columns.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Defs
public import proofs.«01_k».proof.Proof.Gen.Kernel9.Frame
public import proofs.«01_k».proof.Proof.Gen.Kernel9Ideal.Value
public import proofs.«01_k».proof.Proof.Gen.Reference9Ideal.Run

@[expose] public section

set_option maxRecDepth 16384

noncomputable section

namespace Cert.Modulation

open Idealize.ShloMosaic Idealize.ShloMosaic.TcCoe Idealize.SL.Sem

/-- One column of a condition's modulation. -/
def column (x w : Fin 1024 → EReal) (b : EReal) : EReal := (∑ d : Fin 1024, x d * Ideal.logistic (x d) * w d) + b

section Reference

open Cert.Reference9Ideal Cert.Reference9Ideal.Gen

/-- The conditions: the prompts' eight, then the samples' 128. -/
def cond (a0 : FVec Ideal S8x1024 .f32) (a1 : FVec Ideal S128x1024 .f32) (r : Fin 136) (d : Fin 1024) : EReal :=
  if h : r.val < 8 then a0 (ix2 ⟨r.val, h⟩ d) else a1 (ix2 ⟨r.val - 8, by omega⟩ d)

/-- The modulation of layer `l`, condition `r`, column `j`. -/
def value (a0 : FVec Ideal S8x1024 .f32) (a1 : FVec Ideal S128x1024 .f32) (a2 : FVec Ideal S2x1024x6144 .f32) (a3 : FVec Ideal S2x6144 .f32)
    (l : Fin 2) (r : Fin 136) (j : Fin 6144) : EReal :=
  column (cond a0 a1 r) (fun d => a2 (ix3 l d j)) (a3 (ix2 l j))

/-- The gate as the reference writes it. -/
theorem logistic_eq (x : EReal) : Ideal.div 1 (1 + Ideal.exp (-x)) = Ideal.logistic x := rfl

variable (a0 : FVec Ideal S8x1024 .f32) (a1 : FVec Ideal S128x1024 .f32) (a2 : FVec Ideal S2x1024x6144 .f32) (a3 : FVec Ideal S2x6144 .f32)

/-- The conditions in one array. -/
def condArr : FVec Ideal S136x1024 .f32 :=
  concatenate S136x1024 0 [⟨S8x1024, a0⟩, ⟨S128x1024, a1⟩] concatenates_S8x1024_S128x1024_S136x1024_d0

theorem condArr_at (r : Fin 136) (d : Fin 1024) : condArr a0 a1 (ix2 r d) = cond a0 a1 r d := by
  unfold condArr
  pointwise [cond]

/-- The first layer's modulation. -/
def layer0Arr : FVec Ideal S136x6144 .f32 :=
  addf (Host.dotGeneral dot_S136x1024_S1024x6144_S136x6144_1_0_0_1_n_n none (mulf (condArr a0 a1) (Host.divf (broadcastInDim S136x1024 ![] bcast_S_S136x1024 (constant S_ .f32 0x3F800000#32)) (addf (broadcastInDim S136x1024 ![] bcast_S_S136x1024 (constant S_ .f32 0x3F800000#32)) (Host.exp (Host.negf (condArr a0 a1)))))) (shapeCast _ (extractStridedSlice S1x1024x6144 ![0, 0, 0] a2 slices_S2x1024x6144_S1x1024x6144_0_0_0) shapeCasts_S1x1024x6144_S1024x6144)) (broadcastInDim S136x6144 ![0, 1] bcast_S1x6144_S136x6144_0_1 (broadcastInDim S1x6144 ![1] bcast_S6144_S1x6144_1 (shapeCast _ (extractStridedSlice S1x6144 ![0, 0] a3 slices_S2x6144_S1x6144_0_0) shapeCasts_S1x6144_S6144)))

theorem layer0Arr_at (r : Fin 136) (j : Fin 6144) : layer0Arr a0 a1 a2 a3 (ix2 r j) = value a0 a1 a2 a3 0 r j := by
  unfold layer0Arr
  pointwise [condArr_at, value, column, logistic_eq]

/-- The second layer's modulation. -/
def layer1Arr : FVec Ideal S136x6144 .f32 :=
  addf (Host.dotGeneral dot_S136x1024_S1024x6144_S136x6144_1_0_0_1_n_n none (mulf (condArr a0 a1) (Host.divf (broadcastInDim S136x1024 ![] bcast_S_S136x1024 (constant S_ .f32 0x3F800000#32)) (addf (broadcastInDim S136x1024 ![] bcast_S_S136x1024 (constant S_ .f32 0x3F800000#32)) (Host.exp (Host.negf (condArr a0 a1)))))) (shapeCast _ (extractStridedSlice S1x1024x6144 ![1, 0, 0] a2 slices_S2x1024x6144_S1x1024x6144_1_0_0) shapeCasts_S1x1024x6144_S1024x6144)) (broadcastInDim S136x6144 ![0, 1] bcast_S1x6144_S136x6144_0_1 (broadcastInDim S1x6144 ![1] bcast_S6144_S1x6144_1 (shapeCast _ (extractStridedSlice S1x6144 ![1, 0] a3 slices_S2x6144_S1x6144_1_0) shapeCasts_S1x6144_S6144)))

theorem layer1Arr_at (r : Fin 136) (j : Fin 6144) : layer1Arr a0 a1 a2 a3 (ix2 r j) = value a0 a1 a2 a3 1 r j := by
  unfold layer1Arr
  pointwise [condArr_at, value, column, logistic_eq]

/-- The reference at an index. -/
theorem ref_at (l : Fin 2) (r : Fin 136) (j : Fin 6144) :
    (concatenate S2x136x6144 0 [⟨S1x136x6144, (broadcastInDim S1x136x6144 ![1, 2] bcast_S136x6144_S1x136x6144_1_2 (layer0Arr a0 a1 a2 a3))⟩, ⟨S1x136x6144, (broadcastInDim S1x136x6144 ![1, 2] bcast_S136x6144_S1x136x6144_1_2 (layer1Arr a0 a1 a2 a3))⟩] concatenates_S1x136x6144_S1x136x6144_S2x136x6144_d0 : FVec Ideal S2x136x6144 .f32) (ix3 l r j)
      = value a0 a1 a2 a3 l r j := by
  pointwise [layer0Arr_at, layer1Arr_at]
  by_cases h : l.val < 1
  · rw [dif_pos h]
    obtain rfl : l = 0 := Fin.ext (by show l.val = 0; omega)
    rfl
  · rw [dif_neg h]
    obtain rfl : l = 1 := Fin.ext (by show l.val = 1; omega)
    rfl

end Reference

section Kernel

open Cert.Kernel9Ideal Cert.Kernel9Ideal.Gen

/-- One point's output block. -/
theorem block_at (x0 : Vec Ideal S136x1024 .f32) (x1 : Vec Ideal S1x1024x512 .f32) (x2 : Vec Ideal S1x1x512 .f32)
    (r : Fin 136) (j : Fin 512) :
    out0_3 x0 x1 x2 (ix3 0 r j) = column (fun d => x0 (ix2 r d)) (fun d => x1 (ix3 0 d j)) (x2 (ix3 0 0 j)) := by
  unfold out0_3
  frame_out
  unfold_payloads
  pointwise [column]

variable (m : (ℓ : Loc nD τ sig) → Buf (Elt Ideal) ℓ) (c : Dev nD)

/-- The windows' block indices: twelve blocks of columns to a layer. -/
theorem idx : ∀ t : Fin cfg0.N,
    win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

theorem lt24 (t : Fin cfg0.N) : t.val < 24 := by
  have := t.isLt; have : cfg0.N = 24 := rfl; omega

/-- The layer of point `t`. -/
def layer (t : Fin cfg0.N) : Fin 2 := ⟨t.val / 12, by have := lt24 t; omega⟩

/-- The column of the whole array that column `j` of point `t`'s block is. -/
def col (t : Fin cfg0.N) (j : Fin 512) : Fin 6144 := ⟨t.val % 12 * 512 + j.val, by omega⟩

theorem V0 (r : Fin 136) (d : Fin 1024) :
    (V m c main_v0 : FVec Ideal S136x1024 .f32) (ix2 r d) = cond (m ((c.tc : Thread nD τ).loc main_arg0)) (m ((c.tc : Thread nD τ).loc main_arg1)) r d := by
  simp only [V, hostOps0, List.flatten_cons, List.flatten_nil, List.append_nil, List.cons_append, List.nil_append]
  after_results
  pointwise [cond]

theorem blk0 (t : Fin cfg0.N) (r : Fin 136) (d : Fin 1024) :
    iblk m c 0 t (ix2 r d) = cond (m ((c.tc : Thread nD τ).loc main_arg0)) (m ((c.tc : Thread nD τ).loc main_arg1)) r d := by
  refine Eq.trans ?_ (V0 m c r d)
  blk_ext! [iblk, idx t]

theorem blk1 (t : Fin cfg0.N) (d : Fin 1024) (j : Fin 512) :
    iblk m c 1 t (ix3 0 d j) = (m ((c.tc : Thread nD τ).loc main_arg2) : FVec Ideal S2x1024x6144 .f32) (ix3 (layer t) d (col t j)) := by
  unfold layer col
  blk_ext! [iblk, V, idx t]

theorem blk2 (t : Fin cfg0.N) (j : Fin 512) :
    iblk m c 2 t (ix3 0 0 j) = (m ((c.tc : Thread nD τ).loc main_arg3) : FVec Ideal S2x6144 .f32) (ix2 (layer t) (col t j)) := by
  unfold layer col
  blk_ext! [iblk, V, idx t]

theorem final : (dats m 0 c).arrAt 3 cfg0.N = fun i : S2x136x6144.Idx =>
    value (m ((c.tc : Thread nD τ).loc main_arg0)) (m ((c.tc : Thread nD τ).loc main_arg1)) (m ((c.tc : Thread nD τ).loc main_arg2)) (m ((c.tc : Thread nD τ).loc main_arg3)) (i 0) (i 1) (i 2) := by
  refine (dats m 0 c).arrAt_eq_of_covers 3 _ (by decide +kernel) fun t hf y => ?_
  blk_simp
  rw [after0_3]
  obtain ⟨z, r, j, rfl⟩ : ∃ (z : Fin 1) (r : Fin 136) (j : Fin 512), y = ix3 z r j := ⟨y 0, y 1, y 2, eq_ix3 y⟩
  obtain rfl : z = 0 := Subsingleton.elim _ _
  have e0 : (win0_3.blk t).view.emb (ix3 0 r j) 0 = layer t := by
    refine Fin.ext ?_; unfold layer; blk_simp [idx t]; simp
  have e1 : (win0_3.blk t).view.emb (ix3 0 r j) 1 = r := by
    refine Fin.ext ?_; blk_simp [idx t]
  have e2 : (win0_3.blk t).view.emb (ix3 0 r j) 2 = col t j := by
    refine Fin.ext ?_; unfold col; blk_simp [idx t]
  refine (block_at _ _ _ r j).trans ?_
  rw [e0, e1, e2]
  simp only [value, blk0, blk1, blk2]

end Kernel

theorem frame : Cert.quiescent_Kernel9 := fun m ρ _ => Cert.Kernel9.Gen.frame m ρ

theorem frameIdeal : Cert.quiescent_Kernel9Ideal := fun m ρ _ => Cert.Kernel9Ideal.Gen.frame m ρ

/-- The reference is host operations only: it keeps its arguments and declares no semaphore. -/
theorem frameReference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves : Cert.preserves_Kernel9_Kernel9Ideal := trivial

set_option maxHeartbeats 1600000 in
/-- Both runs end with the same modulation. -/
theorem algebraic : Cert.algebraic_Kernel9Ideal_Reference9Ideal := by
  intro m ρ m' ρ' _ hagree
  refine ⟨fun c => (Cert.Kernel9Ideal.Gen.dats m 0 c).arrAt 3 Cert.Kernel9Ideal.cfg0.N, Cert.Kernel9Ideal.Value.run_blocks m ρ, ?_⟩
  refine (θ_run Cert.Reference9Ideal.defs _ _).mono (fun r h c => ⟨(h c).1.trans ?_, (h c).2⟩)
    (Cert.Reference9Ideal.Value.run (F := Ideal) m' ρ')
  obtain ⟨e0, e1, e2, e3⟩ := hagree c
  refine Eq.trans ?_ (final m c).symm
  funext i
  obtain ⟨l, q, j, rfl⟩ : ∃ (l : Fin 2) (q : Fin 136) (j : Fin 6144), i = ix3 l q j := ⟨i 0, i 1, i 2, eq_ix3 i⟩
  refine (ref_at _ _ _ _ l q j).trans ?_
  rw [e0, e1, e2, e3]
  rfl

end Cert.Modulation

end
-- ==== Proof.Output.Math.lean ====
/-
  The end of the first trunk layer, for one row of one group, over the extended reals: the two halves' outputs side by side,
  through the output projection, normalised, gated and added to the row.
-/
module

public import Idealize.ShloMosaic.Lib.Pointwise
public import proofs.«01_k».proof.Proof.Final.Math

@[expose] public section

noncomputable section

namespace Cert.Output

open Idealize.ShloMosaic

/-- The two halves' outputs side by side. -/
def both (ya yb : Fin 512 → EReal) (d : Fin 1024) : EReal :=
  if h : d.val < 512 then ya ⟨d.val, h⟩ else yb ⟨d.val - 512, by omega⟩

/-- The projection of a row of both halves. -/
def project (ya yb : Fin 512 → EReal) (w : Fin 1024 → Fin 1024 → EReal) (e : Fin 1024) : EReal :=
  ∑ d : Fin 1024, both ya yb d * w d e

/-- The same, each half against its own rows of the weights. -/
def halves (ya yb : Fin 512 → EReal) (wa wb : Fin 512 → Fin 1024 → EReal) (e : Fin 1024) : EReal :=
  (∑ d : Fin 512, ya d * wa d e) + ∑ d : Fin 512, yb d * wb d e

/-- A sum over 1024 places is the sum over the first 512 plus the sum over the last 512. -/
theorem halves_eq (ya yb : Fin 512 → EReal) (w : Fin 1024 → Fin 1024 → EReal) :
    halves ya yb (fun d => w ⟨d.val, by omega⟩) (fun d => w ⟨512 + d.val, by omega⟩) = project ya yb w := by
  funext e
  refine Eq.symm ((Fin.sum_univ_add (a := 512) (b := 512) fun d : Fin 1024 => both ya yb d * w d e).trans ?_)
  unfold halves
  congr 1

end Cert.Output

end
-- ==== Proof.Output.Prompt.lean ====
/-
  The end of the first trunk layer on the rows of the prompts: 16384 rows in 32 blocks, four to a prompt, each against the
  gate of its prompt.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Output.Math

@[expose] public section

set_option maxRecDepth 16384

noncomputable section

namespace Cert.Output.Prompt

open Idealize.ShloMosaic Idealize.ShloMosaic.TcCoe Idealize.SL.Sem

section Reference

open Cert.Reference10Ideal Cert.Reference10Ideal.Gen

/-- Row `r` of the projection. -/
def projRow (a0 : FVec Ideal S16384x512 .bf16) (a1 : FVec Ideal S16384x512 .bf16) (a5 : FVec Ideal S1x1024x1024 .f32) (r : Fin 16384) : Fin 1024 → EReal :=
  project (fun d => a0 (ix2 r d)) (fun d => a1 (ix2 r d)) (fun d e => a5 (ix3 0 d e))

/-- Row `r` of the result. -/
def outRow (a0 : FVec Ideal S16384x512 .bf16) (a1 : FVec Ideal S16384x512 .bf16) (a2 : FVec Ideal S16384x1024 .f32) (a3 : FVec Ideal S8x6x1x1024 .f32)
    (a4 : FVec Ideal S2x4x1024 .f32) (a5 : FVec Ideal S1x1024x1024 .f32)
    (r : Fin 16384) : Fin 1024 → EReal :=
  Cert.Final.residual (fun d => a2 (ix2 r d)) (fun d => a3 (ix4 ⟨r.val / 2048, by omega⟩ 2 0 d)) (projRow a0 a1 a5 r) (fun d => a4 (ix3 0 1 d))

variable (a0 : FVec Ideal S16384x512 .bf16) (a1 : FVec Ideal S16384x512 .bf16) (a2 : FVec Ideal S16384x1024 .f32) (a3 : FVec Ideal S8x6x1x1024 .f32)
    (a4 : FVec Ideal S2x4x1024 .f32) (a5 : FVec Ideal S1x1024x1024 .f32)

/-- The projection as an array. -/
def projArr : FVec Ideal S8x2048x1024 .f32 :=
  Host.dotGeneral dot_S8x2048x1024_S1024x1024_S8x2048x1024_2_0_01_1_n_n none (shapeCast _ (extf .f32 (concatenate S16384x1024 1 [⟨S16384x512, a0⟩, ⟨S16384x512, a1⟩] concatenates_S16384x512_S16384x512_S16384x1024_d1) bitsLt_bf16_f32) shapeCasts_S16384x1024_S8x2048x1024) (shapeCast _ a5 shapeCasts_S1x1024x1024_S1024x1024)

/-- The row at position `s` of prompt `b`. -/
def rowAt (b : Fin 8) (s : Fin 2048) : Fin 16384 := ⟨b.val * 2048 + s.val, by omega⟩

theorem rowAt_eq (r : Fin 16384) (h : r.val / 2048 < 8) (h' : r.val % 2048 < 2048) : rowAt ⟨r.val / 2048, h⟩ ⟨r.val % 2048, h'⟩ = r :=
  Fin.ext (Nat.div_add_mod' r.val 2048)

theorem projArr_at (b : Fin 8) (s : Fin 2048) (e : Fin 1024) :
    projArr a0 a1 a5 (ix3 b s e) = projRow a0 a1 a5 (rowAt b s) e := by
  unfold projArr
  pointwise [projRow, project, both, rowAt]

/-- The end of the layer at row `r`, for any projection. -/
theorem rest_at (p : FVec Ideal S8x2048x1024 .f32) (r : Fin 16384) (d : Fin 1024) :
    (shapeCast _ (addf (shapeCast _ a2 shapeCasts_S16384x1024_S8x2048x1024) (mulf (broadcastInDim S8x2048x1024 ![0, 1, 2] bcast_S8x1x1024_S8x2048x1024_0_1_2 (shapeCast _ (extractStridedSlice S8x1x1x1024 ![0, 2, 0, 0] a3 slices_S8x6x1x1024_S8x1x1x1024_0_2_0_0) shapeCasts_S8x1x1x1024_S8x1x1024)) (mulf (mulf p (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf p p) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1x1024 ![0, 1, 0] a4 slices_S2x4x1024_S1x1x1024_0_1_0) shapeCasts_S1x1x1024_S1024)))))) shapeCasts_S8x2048x1024_S16384x1024 : FVec Ideal S16384x1024 .f32) (ix2 r d)
      = Cert.Final.residual (fun d => a2 (ix2 r d)) (fun d => a3 (ix4 ⟨r.val / 2048, by omega⟩ 2 0 d))
          (fun e => p (ix3 ⟨r.val / 2048, by omega⟩ ⟨r.val % 2048, by omega⟩ e)) (fun d => a4 (ix3 0 1 d)) d := by
  pointwise [Cert.Final.residual, Cert.Final.scale]

/-- The projection at row `r`. -/
theorem projArr_row (r : Fin 16384) : (fun e => projArr a0 a1 a5 (ix3 ⟨r.val / 2048, by omega⟩ ⟨r.val % 2048, by omega⟩ e)) = projRow a0 a1 a5 r := by
  funext e
  rw [projArr_at, rowAt_eq]

/-- The reference at an index. -/
theorem ref_at (r : Fin 16384) (d : Fin 1024) :
    (shapeCast _ (addf (shapeCast _ a2 shapeCasts_S16384x1024_S8x2048x1024) (mulf (broadcastInDim S8x2048x1024 ![0, 1, 2] bcast_S8x1x1024_S8x2048x1024_0_1_2 (shapeCast _ (extractStridedSlice S8x1x1x1024 ![0, 2, 0, 0] a3 slices_S8x6x1x1024_S8x1x1x1024_0_2_0_0) shapeCasts_S8x1x1x1024_S8x1x1024)) (mulf (mulf (projArr a0 a1 a5) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (projArr a0 a1 a5) (projArr a0 a1 a5)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1x1024 ![0, 1, 0] a4 slices_S2x4x1024_S1x1x1024_0_1_0) shapeCasts_S1x1x1024_S1024)))))) shapeCasts_S8x2048x1024_S16384x1024 : FVec Ideal S16384x1024 .f32) (ix2 r d)
      = outRow a0 a1 a2 a3 a4 a5 r d := by
  refine (rest_at a2 a3 a4 (projArr a0 a1 a5) r d).trans ?_
  rw [projArr_row]
  rfl

end Reference

section Kernel

open Cert.Kernel10Ideal Cert.Kernel10Ideal.Gen

/-- The first stored value, from what the point loads. -/
theorem stage_at (v0 : Vec Ideal S512x512 .bf16) (v1 : Vec Ideal S512x1024 .bf16) (v4 : Vec Ideal S512x512 .bf16) (v5 : Vec Ideal S512x1024 .bf16)
    (v9 : Vec Ideal S512x1024 .f32) (v10 : Vec Ideal S1x1x1x1024 .f32) (v12 : Vec Ideal S1x1024 .f32) (q : Fin 512) (d : Fin 1024) :
    k0_pay2 v0 v1 v4 v5 v9 v10 v12 (ix2 q d)
      = Cert.Final.residual (fun d => v9 (ix2 q d)) (fun d => v10 (ix4 0 0 0 d))
          (halves (fun d => v0 (ix2 q d)) (fun d => v4 (ix2 q d)) (fun d e => v1 (ix2 d e)) (fun d e => v5 (ix2 d e)))
          (fun d => v12 (ix2 0 d)) d := by
  unfold k0_pay2
  pointwise [Cert.Final.residual, Cert.Final.scale, halves]

/-- One row of one point's output block. -/
def blockOut (x0 x1 : Vec Ideal S512x512 .bf16) (x2 : Vec Ideal S512x1024 .f32) (x3 : Vec Ideal S1x6x1x1024 .f32) (x4 : Vec Ideal S4x1024 .f32)
    (x5 : Vec Ideal S1024x1024 .bf16) (q : Fin 512) : Fin 1024 → EReal :=
  Cert.Final.residual (fun d => x2 (ix2 q d)) (fun d => x3 (ix4 0 2 0 d))
    (project (fun d => x0 (ix2 q d)) (fun d => x1 (ix2 q d)) (fun d e => x5 (ix2 d e))) (fun d => x4 (ix2 1 d))

variable (m : (ℓ : Loc nD τ sig) → Buf (Elt Ideal) ℓ) (c : Dev nD)

theorem b8 (t : Fin cfg0.N) (q : Fin 512) (d : Fin 1024) : (outsAt0 m c t).1 (ix2 q d)
    = blockOut (iblk m c 0 t) (iblk m c 1 t) (iblk m c 2 t) (iblk m c 3 t) (iblk m c 4 t) (iblk m c 5 t) q d := by
  unfold outsAt0
  dsimp only
  unfold out0_A_8
  frame_out
  refine (stage_at _ _ _ _ _ _ _ q d).trans ?_
  unfold blockOut
  rw [← halves_eq]
  pointwise [Cert.Final.residual, Cert.Final.scale, halves]

/-- The windows' block indices. -/
theorem idx : ∀ t : Fin cfg0.N,
    win0_0.index t = ![t.val, 0] ∧ win0_1.index t = ![t.val, 0] ∧ win0_2.index t = ![t.val, 0]
    ∧ win0_3.index t = ![t.val / 4, 0, 0, 0] :=
  (by decide +kernel : ∀ t : Fin grid0.N, _)

theorem idxB : ∀ t : Fin cfg0.N,
    win0_4.index t = ![0, 0] ∧ win0_5.index t = ![0, 0] ∧ win0_8.index t = ![t.val, 0] :=
  (by decide +kernel : ∀ t : Fin grid0.N, _)

/-- The row of the whole array that row `q` of point `t`'s block is. -/
def row (t : Fin cfg0.N) (q : Fin 512) : Fin 16384 :=
  ⟨t.val * 512 + q.val, by have := t.isLt; have : cfg0.N = 32 := rfl; omega⟩

theorem blk0 (t : Fin cfg0.N) (q : Fin 512) (d : Fin 512) :
    iblk m c 0 t (ix2 q d) = (m ((c.tc : Thread nD τ).loc main_arg0) : FVec Ideal S16384x512 .bf16) (ix2 (row t q) d) := by
  unfold row
  blk_ext! [iblk, V, idx t]

theorem blk1 (t : Fin cfg0.N) (q : Fin 512) (d : Fin 512) :
    iblk m c 1 t (ix2 q d) = (m ((c.tc : Thread nD τ).loc main_arg1) : FVec Ideal S16384x512 .bf16) (ix2 (row t q) d) := by
  unfold row
  blk_ext! [iblk, V, idx t]

theorem blk2 (t : Fin cfg0.N) (q : Fin 512) (d : Fin 1024) :
    iblk m c 2 t (ix2 q d) = (m ((c.tc : Thread nD τ).loc main_arg2) : FVec Ideal S16384x1024 .f32) (ix2 (row t q) d) := by
  unfold row
  blk_ext! [iblk, V, idx t]

theorem blk3 (t : Fin cfg0.N) (q : Fin 512) (d : Fin 1024) :
    iblk m c 3 t (ix4 0 2 0 d) = (m ((c.tc : Thread nD τ).loc main_arg3) : FVec Ideal S8x6x1x1024 .f32) (ix4 ⟨(row t q).val / 2048, by omega⟩ 2 0 d) := by
  unfold row
  have := t.isLt
  blk_ext! [iblk, V, idx t]

theorem Vgain (d : Fin 1024) :
    (V m c main_v1 : FVec Ideal S4x1024 .f32) (ix2 1 d) = (m ((c.tc : Thread nD τ).loc main_arg4) : FVec Ideal S2x4x1024 .f32) (ix3 0 1 d) := by
  simp only [V, hostOps0, List.flatten_cons, List.flatten_nil, List.append_nil, List.cons_append, List.nil_append]
  after_results
  pointwise

theorem blk4 (t : Fin cfg0.N) (d : Fin 1024) :
    iblk m c 4 t (ix2 1 d) = (m ((c.tc : Thread nD τ).loc main_arg4) : FVec Ideal S2x4x1024 .f32) (ix3 0 1 d) := by
  refine Eq.trans ?_ (Vgain m c d)
  blk_ext! [iblk, idxB t]

theorem Vweights (d e : Fin 1024) :
    (V m c main_v3 : FVec Ideal S1024x1024 .bf16) (ix2 d e) = (m ((c.tc : Thread nD τ).loc main_arg5) : FVec Ideal S1x1024x1024 .f32) (ix3 0 d e) := by
  simp only [V, hostOps0, List.flatten_cons, List.flatten_nil, List.append_nil, List.cons_append, List.nil_append]
  after_results
  pointwise

theorem blk5 (t : Fin cfg0.N) (d e : Fin 1024) :
    iblk m c 5 t (ix2 d e) = (m ((c.tc : Thread nD τ).loc main_arg5) : FVec Ideal S1x1024x1024 .f32) (ix3 0 d e) := by
  refine Eq.trans ?_ (Vweights m c d e)
  blk_ext! [iblk, idxB t]

theorem final : (dats m 0 c).arrAt 8 cfg0.N = fun i : S16384x1024.Idx =>
    outRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  refine (dats m 0 c).arrAt_eq_of_covers 8 _ (by decide +kernel) fun t hf y => ?_
  blk_simp
  rw [after0_8]
  obtain ⟨q, d, rfl⟩ : ∃ (q : Fin 512) (d : Fin 1024), y = ix2 q d := ⟨y 0, y 1, eq_ix2 y⟩
  have e0 : (win0_8.blk t).view.emb (ix2 q d) 0 = row t q := by
    refine Fin.ext ?_; unfold row; blk_simp [idxB t]
  have e1 : (win0_8.blk t).view.emb (ix2 q d) 1 = d := by
    refine Fin.ext ?_; blk_simp [idxB t]
  refine (b8 m c t q d).trans ?_
  rw [e0, e1]
  simp only [blockOut, outRow, projRow, blk0, blk1, blk2, blk3 m c t q, blk4, blk5]

end Kernel

theorem frame : Cert.quiescent_Kernel10 := fun m ρ _ => Cert.Kernel10.Gen.frame m ρ

theorem frameIdeal : Cert.quiescent_Kernel10Ideal := fun m ρ _ => Cert.Kernel10Ideal.Gen.frame m ρ

/-- The reference is host operations only: it keeps its arguments and declares no semaphore. -/
theorem frameReference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem preserves : Cert.preserves_Kernel10_Kernel10Ideal := trivial

set_option maxHeartbeats 1600000 in
/-- Both runs end with the same rows. -/
theorem algebraic : Cert.algebraic_Kernel10Ideal_Reference10Ideal := by
  intro m ρ m' ρ' _ hagree
  refine ⟨fun c => (Cert.Kernel10Ideal.Gen.dats m 0 c).arrAt 8 Cert.Kernel10Ideal.cfg0.N, ?_, ?_⟩
  · exact (θ_run Cert.Kernel10Ideal.defs _ _).mono (fun r h c =>
      let ⟨h0, _, _, hk⟩ := h c
      ⟨h0, hk⟩) (Cert.Kernel10Ideal.Value.run_blocks m ρ)
  refine (θ_run Cert.Reference10Ideal.defs _ _).mono (fun r h c => ⟨(h c).1.trans ?_, (h c).2⟩)
    (Cert.Reference10Ideal.Value.run (F := Ideal) m' ρ')
  obtain ⟨e0, e1, e2, e3, e4, e5, _⟩ := hagree c
  refine Eq.trans ?_ (final m c).symm
  funext i
  obtain ⟨q, d, rfl⟩ : ∃ (q : Fin 16384) (d : Fin 1024), i = ix2 q d := ⟨i 0, i 1, eq_ix2 i⟩
  refine (ref_at (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) q d).trans ?_
  rw [e0, e1, e2, e3, e4, e5]
  rfl

end Cert.Output.Prompt

end
-- ==== Proof.Output.Sample.lean ====
/-
  The end of the first trunk layer on the rows of the samples: 128 rows, each against its own gate.
-/
module

public import Idealize.ShloMosaic.Lib.Tactic.CleanTypes
public import Idealize.ShloMosaic.Lib.Pipeline.ValueKit
public import Idealize.ShloMosaic.Lib.Pipeline.ValueKit.Acc
public import Idealize.ShloMosaic.Lib.Claim
public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Output.Math

@[expose] public section

set_option maxRecDepth 16384

noncomputable section

namespace Cert.Output.Sample

open Idealize.ShloMosaic Idealize.ShloMosaic.TcCoe Idealize.SL.Sem

section Reference

open Cert.Reference11Ideal Cert.Reference11Ideal.Gen

/-- Row `r` of the projection. -/
def projRow (a0 : FVec Ideal S128x512 .bf16) (a1 : FVec Ideal S1024x1x64 .f32) (a5 : FVec Ideal S1x1024x1024 .f32) (r : Fin 128) : Fin 1024 → EReal :=
  project (fun d => a0 (ix2 r d)) (fun d => a1 (ix3 ⟨r.val * 8 + d.val / 64, by omega⟩ 0 ⟨d.val % 64, by omega⟩)) (fun d e => a5 (ix3 0 d e))

/-- Row `r` of the result. -/
def outRow (a0 : FVec Ideal S128x512 .bf16) (a1 : FVec Ideal S1024x1x64 .f32) (a2 : FVec Ideal S128x1024 .f32) (a3 : FVec Ideal S1x6x128x1024 .f32)
    (a4 : FVec Ideal S2x4x1024 .f32) (a5 : FVec Ideal S1x1024x1024 .f32)
    (r : Fin 128) : Fin 1024 → EReal :=
  Cert.Final.residual (fun d => a2 (ix2 r d)) (fun d => a3 (ix4 0 2 r d)) (projRow a0 a1 a5 r) (fun d => a4 (ix3 0 1 d))

variable (a0 : FVec Ideal S128x512 .bf16) (a1 : FVec Ideal S1024x1x64 .f32) (a2 : FVec Ideal S128x1024 .f32) (a3 : FVec Ideal S1x6x128x1024 .f32)
    (a4 : FVec Ideal S2x4x1024 .f32) (a5 : FVec Ideal S1x1024x1024 .f32)

/-- The projection as an array. -/
def projArr : FVec Ideal S128x1024 .f32 :=
  Host.dotGeneral dot_S128x1024_S1024x1024_S128x1024_1_0_0_1_n_n none (concatenate S128x1024 1 [⟨S128x512, (extf .f32 a0 bitsLt_bf16_f32)⟩, ⟨S128x512, (shapeCast _ a1 shapeCasts_S1024x1x64_S128x512)⟩] concatenates_S128x512_S128x512_S128x1024_d1) (shapeCast _ a5 shapeCasts_S1x1024x1024_S1024x1024)

theorem projArr_at (q : Fin 128) (e : Fin 1024) : projArr a0 a1 a5 (ix2 q e) = projRow a0 a1 a5 q e := by
  unfold projArr
  pointwise [projRow, project, both]

/-- The reference at an index. -/
theorem ref_at (r : Fin 128) (d : Fin 1024) :
    (addf a2 (mulf (shapeCast _ (extractStridedSlice S1x1x128x1024 ![0, 2, 0, 0] a3 slices_S1x6x128x1024_S1x1x128x1024_0_2_0_0) shapeCasts_S1x1x128x1024_S128x1024) (mulf (mulf (projArr a0 a1 a5) (broadcastInDim S128x1024 ![0, 1] bcast_S128x1_S128x1024_0_1 (Host.rsqrt (addf (Host.divf (broadcastInDim S128x1 ![0] bcast_S128_S128x1_0 (Host.reduceAdd (mulf (projArr a0 a1 a5) (projArr a0 a1 a5)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ (extractStridedSlice S1x1x1024 ![0, 1, 0] a4 slices_S2x4x1024_S1x1x1024_0_1_0) shapeCasts_S1x1x1024_S1024))))) : FVec Ideal S128x1024 .f32) (ix2 r d)
      = outRow a0 a1 a2 a3 a4 a5 r d := by
  pointwise [projArr_at, outRow, Cert.Final.residual, Cert.Final.scale]

end Reference

section Kernel

open Cert.Kernel11Ideal Cert.Kernel11Ideal.Gen

/-- The first stored value, from what the point loads. -/
theorem stage_at (v0 : Vec Ideal S128x512 .bf16) (v1 : Vec Ideal S512x1024 .bf16) (v4 : Vec Ideal S128x512 .bf16) (v5 : Vec Ideal S512x1024 .bf16)
    (v9 : Vec Ideal S128x1024 .f32) (v10 : Vec Ideal S1x1x128x1024 .f32) (v12 : Vec Ideal S1x1024 .f32) (q : Fin 128) (d : Fin 1024) :
    k0_pay2 v0 v1 v4 v5 v9 v10 v12 (ix2 q d)
      = Cert.Final.residual (fun d => v9 (ix2 q d)) (fun d => v10 (ix4 0 0 q d))
          (halves (fun d => v0 (ix2 q d)) (fun d => v4 (ix2 q d)) (fun d e => v1 (ix2 d e)) (fun d e => v5 (ix2 d e)))
          (fun d => v12 (ix2 0 d)) d := by
  unfold k0_pay2
  pointwise [Cert.Final.residual, Cert.Final.scale, halves]

/-- One row of one point's output block. -/
def blockOut (x0 x1 : Vec Ideal S128x512 .bf16) (x2 : Vec Ideal S128x1024 .f32) (x3 : Vec Ideal S1x6x128x1024 .f32) (x4 : Vec Ideal S4x1024 .f32)
    (x5 : Vec Ideal S1024x1024 .bf16) (q : Fin 128) : Fin 1024 → EReal :=
  Cert.Final.residual (fun d => x2 (ix2 q d)) (fun d => x3 (ix4 0 2 q d))
    (project (fun d => x0 (ix2 q d)) (fun d => x1 (ix2 q d)) (fun d e => x5 (ix2 d e))) (fun d => x4 (ix2 1 d))

variable (m : (ℓ : Loc nD τ sig) → Buf (Elt Ideal) ℓ) (c : Dev nD)

theorem b8 (t : Fin cfg0.N) (q : Fin 128) (d : Fin 1024) : (outsAt0 m c t).1 (ix2 q d)
    = blockOut (iblk m c 0 t) (iblk m c 1 t) (iblk m c 2 t) (iblk m c 3 t) (iblk m c 4 t) (iblk m c 5 t) q d := by
  unfold outsAt0
  dsimp only
  unfold out0_A_8
  frame_out
  refine (stage_at _ _ _ _ _ _ _ q d).trans ?_
  unfold blockOut
  rw [← halves_eq]
  pointwise [Cert.Final.residual, Cert.Final.scale, halves]

/-- The windows' block indices. -/
theorem idx : ∀ t : Fin cfg0.N,
    win0_0.index t = ![t.val, 0] ∧ win0_1.index t = ![t.val, 0] ∧ win0_2.index t = ![t.val, 0]
    ∧ win0_3.index t = ![0, 0, 0, 0] :=
  (by decide +kernel : ∀ t : Fin grid0.N, _)

theorem idxB : ∀ t : Fin cfg0.N,
    win0_4.index t = ![0, 0] ∧ win0_5.index t = ![0, 0] ∧ win0_8.index t = ![t.val, 0] :=
  (by decide +kernel : ∀ t : Fin grid0.N, _)

/-- The row of the whole array that row `q` of point `t`'s block is. -/
def row (t : Fin cfg0.N) (q : Fin 128) : Fin 128 :=
  ⟨t.val * 128 + q.val, by have := t.isLt; have : cfg0.N = 1 := rfl; omega⟩

theorem blk0 (t : Fin cfg0.N) (q : Fin 128) (d : Fin 512) :
    iblk m c 0 t (ix2 q d) = (m ((c.tc : Thread nD τ).loc main_arg0) : FVec Ideal S128x512 .bf16) (ix2 (row t q) d) := by
  unfold row
  blk_ext! [iblk, V, idx t]

theorem V1 (q : Fin 128) (d : Fin 512) :
    (V m c main_v1 : FVec Ideal S128x512 .bf16) (ix2 q d)
      = (m ((c.tc : Thread nD τ).loc main_arg1) : FVec Ideal S1024x1x64 .f32) (ix3 ⟨q.val * 8 + d.val / 64, by omega⟩ 0 ⟨d.val % 64, by omega⟩) := by
  simp only [V, hostOps0, List.flatten_cons, List.flatten_nil, List.append_nil, List.cons_append, List.nil_append]
  after_results
  pointwise

theorem blk1 (t : Fin cfg0.N) (q : Fin 128) (d : Fin 512) :
    iblk m c 1 t (ix2 q d)
      = (m ((c.tc : Thread nD τ).loc main_arg1) : FVec Ideal S1024x1x64 .f32) (ix3 ⟨(row t q).val * 8 + d.val / 64, by omega⟩ 0 ⟨d.val % 64, by omega⟩) := by
  refine Eq.trans ?_ (V1 m c (row t q) d)
  unfold row
  blk_ext! [iblk, idx t]

theorem blk2 (t : Fin cfg0.N) (q : Fin 128) (d : Fin 1024) :
    iblk m c 2 t (ix2 q d) = (m ((c.tc : Thread nD τ).loc main_arg2) : FVec Ideal S128x1024 .f32) (ix2 (row t q) d) := by
  unfold row
  blk_ext! [iblk, V, idx t]

theorem blk3 (t : Fin cfg0.N) (q : Fin 128) (d : Fin 1024) :
    iblk m c 3 t (ix4 0 2 q d) = (m ((c.tc : Thread nD τ).loc main_arg3) : FVec Ideal S1x6x128x1024 .f32) (ix4 0 2 (row t q) d) := by
  unfold row
  blk_ext! [iblk, V, idx t]

theorem Vgain (d : Fin 1024) :
    (V m c main_v3 : FVec Ideal S4x1024 .f32) (ix2 1 d) = (m ((c.tc : Thread nD τ).loc main_arg4) : FVec Ideal S2x4x1024 .f32) (ix3 0 1 d) := by
  simp only [V, hostOps0, List.flatten_cons, List.flatten_nil, List.append_nil, List.cons_append, List.nil_append]
  after_results
  pointwise

theorem blk4 (t : Fin cfg0.N) (d : Fin 1024) :
    iblk m c 4 t (ix2 1 d) = (m ((c.tc : Thread nD τ).loc main_arg4) : FVec Ideal S2x4x1024 .f32) (ix3 0 1 d) := by
  refine Eq.trans ?_ (Vgain m c d)
  blk_ext! [iblk, idxB t]

theorem Vweights (d e : Fin 1024) :
    (V m c main_v5 : FVec Ideal S1024x1024 .bf16) (ix2 d e) = (m ((c.tc : Thread nD τ).loc main_arg5) : FVec Ideal S1x1024x1024 .f32) (ix3 0 d e) := by
  simp only [V, hostOps0, List.flatten_cons, List.flatten_nil, List.append_nil, List.cons_append, List.nil_append]
  after_results
  pointwise

theorem blk5 (t : Fin cfg0.N) (d e : Fin 1024) :
    iblk m c 5 t (ix2 d e) = (m ((c.tc : Thread nD τ).loc main_arg5) : FVec Ideal S1x1024x1024 .f32) (ix3 0 d e) := by
  refine Eq.trans ?_ (Vweights m c d e)
  blk_ext! [iblk, idxB t]

theorem final : (dats m 0 c).arrAt 8 cfg0.N = fun i : S128x1024.Idx =>
    outRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  refine (dats m 0 c).arrAt_eq_of_covers 8 _ (by decide +kernel) fun t hf y => ?_
  blk_simp
  rw [after0_8]
  obtain ⟨q, d, rfl⟩ : ∃ (q : Fin 128) (d : Fin 1024), y = ix2 q d := ⟨y 0, y 1, eq_ix2 y⟩
  have e0 : (win0_8.blk t).view.emb (ix2 q d) 0 = row t q := by
    refine Fin.ext ?_; unfold row; blk_simp [idxB t]
  have e1 : (win0_8.blk t).view.emb (ix2 q d) 1 = d := by
    refine Fin.ext ?_; blk_simp [idxB t]
  refine (b8 m c t q d).trans ?_
  rw [e0, e1]
  simp only [blockOut, outRow, projRow, blk0, blk1, blk2, blk3 m c t q, blk4, blk5]

end Kernel

theorem frame : Cert.quiescent_Kernel11 := fun m ρ _ => Cert.Kernel11.Gen.frame m ρ

theorem frameIdeal : Cert.quiescent_Kernel11Ideal := fun m ρ _ => Cert.Kernel11Ideal.Gen.frame m ρ

/-- The reference is host operations only: it keeps its arguments and declares no semaphore. -/
theorem frameReference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem preserves : Cert.preserves_Kernel11_Kernel11Ideal := trivial

set_option maxHeartbeats 1600000 in
/-- Both runs end with the same rows. -/
theorem algebraic : Cert.algebraic_Kernel11Ideal_Reference11Ideal := by
  intro m ρ m' ρ' _ hagree
  refine ⟨fun c => (Cert.Kernel11Ideal.Gen.dats m 0 c).arrAt 8 Cert.Kernel11Ideal.cfg0.N, ?_, ?_⟩
  · exact (θ_run Cert.Kernel11Ideal.defs _ _).mono (fun r h c =>
      let ⟨h0, _, _, hk⟩ := h c
      ⟨h0, hk⟩) (Cert.Kernel11Ideal.Value.run_blocks m ρ)
  refine (θ_run Cert.Reference11Ideal.defs _ _).mono (fun r h c => ⟨(h c).1.trans ?_, (h c).2⟩)
    (Cert.Reference11Ideal.Value.run (F := Ideal) m' ρ')
  obtain ⟨e0, e1, e2, e3, e4, e5, _⟩ := hagree c
  refine Eq.trans ?_ (final m c).symm
  funext i
  obtain ⟨q, d, rfl⟩ : ∃ (q : Fin 128) (d : Fin 1024), i = ix2 q d := ⟨i 0, i 1, eq_ix2 i⟩
  refine (ref_at (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) q d).trans ?_
  rw [e0, e1, e2, e3, e4, e5]
  rfl

end Cert.Output.Sample

end
-- ==== Proof.lean ====
/-
  The claims, call by call: the decoding step of the recurrence, the feed-forward of the experts in both layers, the closing
  residual on prompts and samples, and the calls that make the carried states.
-/
module

public import proofs.«01_k».proof.Proof.Step.Claims
public import proofs.«01_k».proof.Proof.Experts.Claims
public import proofs.«01_k».proof.Proof.Experts.ClaimsSecond
public import proofs.«01_k».proof.Proof.Final.Prompt
public import proofs.«01_k».proof.Proof.Final.Sample
public import proofs.«01_k».proof.Proof.Project.Step
public import proofs.«01_k».proof.Proof.Project.Prompt
public import proofs.«01_k».proof.Proof.Gate.Claims
public import proofs.«01_k».proof.Proof.Modulation.Claims
public import proofs.«01_k».proof.Proof.Output.Prompt
public import proofs.«01_k».proof.Proof.Output.Sample
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Pre_tables_in_range
public import proofs.«01_k».proof.Proof.Gen.On_rows_in_use
public import proofs.«01_k».proof.Defs
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_tables_in_range.Gen.facts, Cert.On_rows_in_use.Gen.facts,
  Cert.Step.frame, Cert.Step.frameIdeal, Cert.Step.frameReference,
  Cert.Experts.frame, Cert.Experts.frameIdeal, Cert.Experts.frameReference,
  Cert.Experts.Second.frame, Cert.Experts.Second.frameIdeal, Cert.Experts.Second.frameReference,
  Cert.Final.Prompt.frame, Cert.Final.Prompt.frameIdeal, Cert.Final.Prompt.frameReference,
  Cert.Final.Sample.frame, Cert.Final.Sample.frameIdeal, Cert.Final.Sample.frameReference,
  Cert.Project.Step.frame, Cert.Project.Step.frameIdeal, Cert.Project.Step.frameReference,
  Cert.Project.Prompt.frame, Cert.Project.Prompt.frameIdeal, Cert.Project.Prompt.frameReference,
  Cert.Gate.frame, Cert.Gate.frameIdeal, Cert.Gate.frameReference,
  Cert.Modulation.frame, Cert.Modulation.frameIdeal, Cert.Modulation.frameReference,
  Cert.Output.Prompt.frame, Cert.Output.Prompt.frameIdeal, Cert.Output.Prompt.frameReference,
  Cert.Output.Sample.frame, Cert.Output.Sample.frameIdeal, Cert.Output.Sample.frameReference,
  Cert.Step.preserves, Cert.Step.algebraic,
  Cert.Experts.preserves, Cert.Experts.algebraic,
  Cert.Experts.Second.preserves, Cert.Experts.Second.algebraic,
  Cert.Final.Prompt.preserves, Cert.Final.Prompt.algebraic,
  Cert.Final.Sample.preserves, Cert.Final.Sample.algebraic,
  Cert.Project.Step.preserves, Cert.Project.Step.algebraic,
  Cert.Project.Prompt.preserves, Cert.Project.Prompt.algebraic,
  Cert.Gate.preserves, Cert.Gate.algebraic,
  Cert.Modulation.preserves, Cert.Modulation.algebraic,
  Cert.Output.Prompt.preserves, Cert.Output.Prompt.algebraic,
  Cert.Output.Sample.preserves, Cert.Output.Sample.algebraic⟩

end Cert.Proof

end
